-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "scale" .f32 0x3DB504F3#32 (((Real.sqrt 128)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)) (v3 : (c : Dev Cert.KernelIdeal.nD) → Buf (Elt Ideal) ((c.tc : Thread Cert.KernelIdeal.nD Cert.KernelIdeal.τ).loc Cert.KernelIdeal.main_v49_3)) (v4 : (c : Dev Cert.KernelIdeal.nD) → Buf (Elt Ideal) ((c.tc : Thread Cert.KernelIdeal.nD Cert.KernelIdeal.τ).loc Cert.KernelIdeal.main_v49_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_v49_3) = v3 c
          ∧ r.2.mem ((c.tc : Thread Cert.KernelIdeal.nD Cert.KernelIdeal.τ).loc Cert.KernelIdeal.main_v49_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_v28) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v18) = v1 c
          ∧ r.2.mem ((c.tc : Thread Cert.Reference11Ideal.nD Cert.Reference11Ideal.τ).loc Cert.Reference11Ideal.main_v31) = v2 c
          ∧ r.2.mem ((c.tc : Thread Cert.Reference11Ideal.nD Cert.Reference11Ideal.τ).loc Cert.Reference11Ideal.main_v32) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_v9) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  IdealRules.named_const.Statement Cert.Kernel17Ideal.κ "c1" .f32 0x3FC48605#32 (((5463681 / 8388608)⁻¹ : ℝ) : EReal)
  ∧ IdealRules.named_const.Statement Cert.Kernel17Ideal.κ "c2" .f32 0x42C8E6D3#32 (((2672307 / 268435456)⁻¹ : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v7) = v2 c
          ∧ r.2.mem ((c.tc : Thread Cert.Reference17Ideal.nD Cert.Reference17Ideal.τ).loc Cert.Reference17Ideal.main_v13) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  IdealRules.named_const.Statement Cert.Kernel18Ideal.κ "c1" .f32 0x3FC48605#32 (((5463681 / 8388608)⁻¹ : ℝ) : EReal)
  ∧ IdealRules.named_const.Statement Cert.Kernel18Ideal.κ "c2" .f32 0x42C8E6D3#32 (((2672307 / 268435456)⁻¹ : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite16 : Cert.Pre_finite16.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite16 (hKernel16Ideal := hKernel16Ideal) (hReference16Ideal := hReference16Ideal) (hPre_finite16 := hPre_finite16)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S4096x7168 : Shape := ⟨2, ![4096, 7168]⟩
abbrev S8x4096 : Shape := ⟨2, ![8, 4096]⟩
abbrev S4096x1024 : Shape := ⟨2, ![4096, 1024]⟩
abbrev S_ : Shape := ⟨0, ![]⟩

class Facts : Prop where
  slices_S4096x7168_S4096x1024_0_2048 : S4096x7168.Slices ![0, 2048] S4096x1024
  bitsLt_bf16_f32 : FTy.bits .bf16 < FTy.bits .f32
  slices_S4096x7168_S4096x1024_0_3072 : S4096x7168.Slices ![0, 3072] S4096x1024
  slices_S4096x7168_S4096x1024_0_4096 : S4096x7168.Slices ![0, 4096] S4096x1024
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg1 : FVec F S8x4096 .f32) (main_v17 : IVec S4096x1024 1) (main_v19 : IVec S4096x1024 1) : IVec S_ 1 :=
  let main_v20 : IVec S4096x1024 1 := andi main_v19 main_v17
  let main_c : IVec S_ 1 := constantI S_ 1 1#1
  let main_v21 : IVec S_ 1 := (fun x v => Host.reduce IntOp.andi x v reducesTo_S4096x1024_S_d0_1 h_S_) main_v20 main_c
  let main_v22 : FVec F S8x4096 .f32 := Host.absf main_arg1
  let main_cst_3 : FVec F S_ .f32 := constant S_ .f32 0x7F800000#32
  let main_v23 : FVec F S8x4096 .f32 := broadcastInDim S8x4096 ![] bcast_S_S8x4096 main_cst_3
  let main_v24 : IVec S8x4096 1 := cmpf .olt main_v22 main_v23
  let main_c_4 : IVec S_ 1 := constantI S_ 1 1#1
  let main_v25 : IVec S_ 1 := (fun x v => Host.reduce IntOp.andi x v reducesTo_S8x4096_S_d0_1 h_S_) main_v24 main_c_4
  let main_v26 : IVec S_ 1 := andi main_v21 main_v25
  main_v26

def fn {F : FTy → Type} [FloatOps F] (main_arg0 : FVec F S4096x7168 .bf16) (main_arg1 : FVec F S8x4096 .f32) (main_arg2 : FVec F S4096x1024 .f32) : IVec S_ 1 :=
  let main_v0 : FVec F S4096x1024 .bf16 := (extractStridedSlice S4096x1024 ![0, 2048] · slices_S4096x7168_S4096x1024_0_2048) main_arg0
  let main_v1 : FVec F S4096x1024 .f32 := (extf .f32 · bitsLt_bf16_f32) main_v0
  let main_v2 : FVec F S4096x1024 .bf16 := (extractStridedSlice S4096x1024 ![0, 3072] · slices_S4096x7168_S4096x1024_0_3072) main_arg0
  let main_v3 : FVec F S4096x1024 .f32 := (extf .f32 · bitsLt_bf16_f32) main_v2
  let main_v4 : FVec F S4096x1024 .bf16 := (extractStridedSlice S4096x1024 ![0, 4096] · slices_S4096x7168_S4096x1024_0_4096) main_arg0
  let main_v5 : FVec F S4096x1024 .f32 := (extf .f32 · bitsLt_bf16_f32) main_v4
  let main_v6 : FVec F S4096x1024 .f32 := Host.absf main_v1
  let main_cst : FVec F S_ .f32 := constant S_ .f32 0x7F800000#32
  let main_v7 : FVec F S4096x1024 .f32 := broadcastInDim S4096x1024 ![] bcast_S_S4096x1024 main_cst
  let main_v8 : IVec S4096x1024 1 := cmpf .olt main_v6 main_v7
  let main_v9 : FVec F S4096x1024 .f32 := Host.absf main_v3
  let main_cst_0 : FVec F S_ .f32 := constant S_ .f32 0x7F800000#32
  let main_v10 : FVec F S4096x1024 .f32 := broadcastInDim S4096x1024 ![] bcast_S_S4096x1024 main_cst_0
  let main_v11 : IVec S4096x1024 1 := cmpf .olt main_v9 main_v10
  let main_v12 : FVec F S4096x1024 .f32 := Host.absf main_v5
  let main_cst_1 : FVec F S_ .f32 := constant S_ .f32 0x7F800000#32
  let main_v13 : FVec F S4096x1024 .f32 := broadcastInDim S4096x1024 ![] bcast_S_S4096x1024 main_cst_1
  let main_v14 : IVec S4096x1024 1 := cmpf .olt main_v12 main_v13
  let main_v15 : FVec F S4096x1024 .f32 := Host.absf main_arg2
  let main_cst_2 : FVec F S_ .f32 := constant S_ .f32 0x7F800000#32
  let main_v16 : FVec F S4096x1024 .f32 := broadcastInDim S4096x1024 ![] bcast_S_S4096x1024 main_cst_2
  let main_v17 : IVec S4096x1024 1 := cmpf .olt main_v15 main_v16
  let main_v18 : IVec S4096x1024 1 := andi main_v8 main_v11
  let main_v19 : IVec S4096x1024 1 := andi main_v18 main_v14
  fn_part1 (F := F) main_arg1 main_v17 main_v19
-- ==== Pre_finite16.lean ====
abbrev S4096x2816 : Shape := ⟨2, ![4096, 2816]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel

variable [Facts]

def fn {F : FTy → Type} [FloatOps F] (main_arg0 : FVec F S4096x2816 .bf16) (main_arg1 : FVec F S4096x2816 .bf16) (main_arg2 : FVec F S4096x2816 .bf16) : IVec S_ 1 :=
  let main_v0 : FVec F S4096x2816 .f32 := (extf .f32 · bitsLt_bf16_f32) main_arg1
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S4096x2816 .f32 := (extf .f32 · bitsLt_bf16_f32) main_arg2
  let main_v5 : FVec F S4096x2816 .f32 := Host.absf main_v4
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  let main_v8 : IVec S4096x2816 1 := andi main_v3 main_v7
  let main_c : IVec S_ 1 := constantI S_ 1 1#1
  let main_v9 : IVec S_ 1 := (fun x v => Host.reduce IntOp.andi x v reducesTo_S4096x2816_S_d0_1 h_S_) main_v8 main_c
  main_v9
-- ==== Kernel.lean ====
abbrev S4096x7168 : Shape := ⟨2, ![4096, 7168]⟩
abbrev S8x4096 : Shape := ⟨2, ![8, 4096]⟩
abbrev S4096x1024 : Shape := ⟨2, ![4096, 1024]⟩
abbrev S4096x8x128 : Shape := ⟨3, ![4096, 8, 128]⟩
abbrev S8x4096x128 : Shape := ⟨3, ![8, 4096, 128]⟩
abbrev S_ : Shape := ⟨0, ![]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x1x512 : Shape := ⟨4, ![8, 8, 1, 512]⟩
abbrev S512x128 : Shape := ⟨2, ![512, 128]⟩
abbrev S4096x128 : Shape := ⟨2, ![4096, 128]⟩
abbrev S1x1x1x512 : Shape := ⟨4, ![1, 1, 1, 512]⟩
abbrev S1x4096x1 : Shape := ⟨3, ![1, 4096, 1]⟩
abbrev S8x128x512 : Shape := ⟨3, ![8, 128, 512]⟩
abbrev S4096x512 : Shape := ⟨2, ![4096, 512]⟩
abbrev S128x512 : Shape := ⟨2, ![128, 512]⟩
abbrev S1x128x512 : Shape := ⟨3, ![1, 128, 512]⟩
abbrev S512 : Shape := ⟨1, ![512]⟩
abbrev S1x512 : Shape := ⟨2, ![1, 512]⟩
abbrev S512x512 : Shape := ⟨2, ![512, 512]⟩

abbrev nBuf : Space → Nat
  | .hbm => 65
  | .vmem => 34
  | .smem => 0
  | _ => 0

abbrev bufTy : (tb : Table) → Fin (tcTables nBuf tb) → BufTy
  | .hbm, ⟨0, _⟩ => ⟨S4096x7168, .bf16⟩
  | .hbm, ⟨1, _⟩ => ⟨S8x4096, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x8x128, .f32⟩
  | .hbm, ⟨10, _⟩ => ⟨S8x4096x128, .f32⟩
  | .hbm, ⟨11, _⟩ => ⟨S_, .f32⟩
  | .hbm, ⟨12, _⟩ => ⟨S_, .f32⟩
  | .hbm, ⟨13, _⟩ => ⟨S8x4096x128, .f32⟩
  | .hbm, ⟨14, _⟩ => ⟨S8x4096x128, .f32⟩
  | .hbm, ⟨15, _⟩ => ⟨S4096x8x128, .f32⟩
  | .hbm, ⟨16, _⟩ => ⟨S8x4096x128, .f32⟩
  | .hbm, ⟨17, _⟩ => ⟨S4096x8x128, .f32⟩
  | .hbm, ⟨18, _⟩ => ⟨S8x4096x128, .f32⟩
  | .hbm, ⟨19, _⟩ => ⟨S8x4096x4096, .f32⟩
  | .hbm, ⟨20, _⟩ => ⟨S8x4096x1, .f32⟩
  | .hbm, ⟨21, _⟩ => ⟨S8x4096x4096, .f32⟩
  | .hbm, ⟨22, _⟩ => ⟨S8x4096x4096, .f32⟩
  | .hbm, ⟨23, _⟩ => ⟨S8x1x4096, .f32⟩
  | .hbm, ⟨24, _⟩ => ⟨S8x4096x4096, .f32⟩
  | .hbm, ⟨25, _⟩ => ⟨S8x4096x4096, .f32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S8x4096x4096, .i1⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S8x4096x4096, .f32⟩
  | .hbm, ⟨47, _⟩ => ⟨S8x4096x4096, .f32⟩
  | .hbm, ⟨48, _⟩ => ⟨S8x4096x128, .f32⟩
  | .hbm, ⟨49, _⟩ => ⟨S4096x8x128, .f32⟩
  | .hbm, ⟨50, _⟩ => ⟨S4096x1024, .f32⟩
  | .hbm, ⟨51, _⟩ => ⟨S8x4096x1, .f32⟩
  | .hbm, ⟨52, _⟩ => ⟨S8x4096x1, .f32⟩
  | .hbm, ⟨53, _⟩ => ⟨S_, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S8x8x1x512, .f32⟩
  | .hbm, ⟨58, _⟩ => ⟨S8x4096x1, .f32⟩
  | .hbm, ⟨59, _⟩ => ⟨S8x8x1x512, .f32⟩
  | .hbm, ⟨60, _⟩ => ⟨S4096x1024, .bf16⟩
  | .hbm, ⟨61, _⟩ => ⟨S4096x1024, .bf16⟩
  | .hbm, ⟨62, _⟩ => ⟨S4096x1024, .bf16⟩
  | .hbm, ⟨63, _⟩ => ⟨S8x8x1x512, .f32⟩
  | .hbm, ⟨64, _⟩ => ⟨S8x4096x1, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x1x1x512, .f32⟩
  | .local _ .vmem, ⟨11, _⟩ => ⟨S1x1x1x512, .f32⟩
  | .local _ .vmem, ⟨12, _⟩ => ⟨S1x4096x1, .f32⟩
  | .local _ .vmem, ⟨13, _⟩ => ⟨S1x4096x1, .f32⟩
  | .local _ .vmem, ⟨14, _⟩ => ⟨S1x1x1x512, .f32⟩
  | .local _ .vmem, ⟨15, _⟩ => ⟨S1x1x1x512, .f32⟩
  | .local _ .vmem, ⟨16, _⟩ => ⟨S512x128, .bf16⟩
  | .local _ .vmem, ⟨17, _⟩ => ⟨S512x128, .bf16⟩
  | .local _ .vmem, ⟨18, _⟩ => ⟨S4096x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .bf16⟩
  | .local _ .vmem, ⟨22, _⟩ => ⟨S1x1x1x512, .f32⟩
  | .local _ .vmem, ⟨23, _⟩ => ⟨S1x1x1x512, .f32⟩
  | .local _ .vmem, ⟨24, _⟩ => ⟨S1x4096x1, .f32⟩
  | .local _ .vmem, ⟨25, _⟩ => ⟨S1x4096x1, .f32⟩
  | .local _ .vmem, ⟨26, _⟩ => ⟨S4096x128, .bf16⟩
  | .local _ .vmem, ⟨27, _⟩ => ⟨S8x128x512, .bf16⟩
  | .local _ .vmem, ⟨28, _⟩ => ⟨S4096x128, .bf16⟩
  | .local _ .vmem, ⟨29, _⟩ => ⟨S4096x512, .f32⟩
  | .local _ .vmem, ⟨30, _⟩ => ⟨S4096x128, .f32⟩
  | .local _ .vmem, ⟨31, _⟩ => ⟨S4096x128, .f32⟩
  | .local _ .vmem, ⟨32, _⟩ => ⟨S4096x128, .f32⟩
  | .local _ .vmem, ⟨33, _⟩ => ⟨S128x512, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49_0 : Ref sig .tc := ⟨.hbm, 60, rfl⟩
abbrev main_v49_1 : Ref sig .tc := ⟨.hbm, 61, rfl⟩
abbrev main_v49_2 : Ref sig .tc := ⟨.hbm, 62, rfl⟩
abbrev main_v49_3 : Ref sig .tc := ⟨.hbm, 63, rfl⟩
abbrev main_v49_4 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_20 : BitVec 32 := 0#32
  let arg1 : BitVec 32 := BitVec.ofNat 32 (i 1).val
  let c1_i32 : BitVec 32 := 1#32
  let v27 : BitVec 32 := Scalar.muli arg1 c1_i32
  let v29 : BitVec 32 := Scalar.subi v27 c0_i32_20
  let c1_i32_21 : BitVec 32 := 1#32
  let v31 : BitVec 32 := Scalar.divsi v29 c1_i32_21
  let v32 : BitVec 32 := Scalar.muli v31 c1_i32_21
  let v33 : BitVec 32 := Scalar.addi c0_i32_20 v32
  let c1_i32_22 : BitVec 32 := 1#32
  ⟨c0_i32_20, v33, c1_i32_22⟩
def k0_mult1 (i : grid0.Coords) (k0_t1 : Fin (k0_t1_loop i).trips) : BitVec 32 :=
  let c0_i32_20 : BitVec 32 := 0#32
  let c1_i32_22 : BitVec 32 := 1#32
  let arg23 : BitVec 32 := Scf.iv c0_i32_20 c1_i32_22 k0_t1
  let c512_i32_59 : BitVec 32 := 512#32
  let v118 : BitVec 32 := Scalar.muli arg23 c512_i32_59
  v118
def k0_off1 (i : grid0.Coords) (k0_t1 : Fin (k0_t1_loop i).trips) : Fin 2 → Nat :=
  let c0_i32_20 : BitVec 32 := 0#32
  let c1_i32_22 : BitVec 32 := 1#32
  let arg23 : BitVec 32 := Scf.iv c0_i32_20 c1_i32_22 k0_t1
  let c512_i32_59 : BitVec 32 := 512#32
  let v118 : BitVec 32 := Scalar.muli arg23 c512_i32_59
  let v119 : BitVec 32 := v118
  let v120 : Index := Scalar.indexCast v119
  let c0_60 : Index := 0#32
  ![v120.toNat, 0]
def k0_off2 (i : grid0.Coords) (k0_t1 : Fin (k0_t1_loop i).trips) : Fin 2 → Nat :=
  let c0_i32_20 : BitVec 32 := 0#32
  let c1_i32_22 : BitVec 32 := 1#32
  let arg23 : BitVec 32 := Scf.iv c0_i32_20 c1_i32_22 k0_t1
  let c512_i32_59 : BitVec 32 := 512#32
  let v118 : BitVec 32 := Scalar.muli arg23 c512_i32_59
  let v119 : BitVec 32 := v118
  let v123 : Index := Scalar.indexCast v119
  let c0_62 : Index := 0#32
  ![v123.toNat, 0]
def k0_off3 (i : grid0.Coords) (k0_t1 : Fin (k0_t1_loop i).trips) : Fin 3 → Nat :=
  let c0_i32_20 : BitVec 32 := 0#32
  let c1_i32_22 : BitVec 32 := 1#32
  let arg23 : BitVec 32 := Scf.iv c0_i32_20 c1_i32_22 k0_t1
  let v154 : Index := Scalar.indexCast arg23
  let c0_73 : Index := 0#32
  let c0_74 : Index := 0#32
  ![v154.toNat, 0, 0]
@[reducible] def k0_t2_loop (i : grid0.Coords) : Scf.Loop 32 :=
  let c0_i32_20 : BitVec 32 := 0#32
  let arg1 : BitVec 32 := BitVec.ofNat 32 (i 1).val
  let c1_i32 : BitVec 32 := 1#32
  let v27 : BitVec 32 := Scalar.muli arg1 c1_i32
  let v29 : BitVec 32 := Scalar.subi v27 c0_i32_20
  let c1_i32_21 : BitVec 32 := 1#32
  let v31 : BitVec 32 := Scalar.divsi v29 c1_i32_21
  let v32 : BitVec 32 := Scalar.muli v31 c1_i32_21
  let v33 : BitVec 32 := Scalar.addi c0_i32_20 v32
  let v30 : BitVec 32 := Scalar.addi c0_i32_20 v29
  let c1_i32_23 : BitVec 32 := 1#32
  ⟨v33, v30, c1_i32_23⟩
def k0_mult2 (i : grid0.Coords) (k0_t2 : Fin (k0_t2_loop i).trips) : BitVec 32 :=
  let c0_i32_20 : BitVec 32 := 0#32
  let arg1 : BitVec 32 := BitVec.ofNat 32 (i 1).val
  let c1_i32 : BitVec 32 := 1#32
  let v27 : BitVec 32 := Scalar.muli arg1 c1_i32
  let v29 : BitVec 32 := Scalar.subi v27 c0_i32_20
  let c1_i32_21 : BitVec 32 := 1#32
  let v31 : BitVec 32 := Scalar.divsi v29 c1_i32_21
  let v32 : BitVec 32 := Scalar.muli v31 c1_i32_21
  let v33 : BitVec 32 := Scalar.addi c0_i32_20 v32
  let c1_i32_23 : BitVec 32 := 1#32
  let arg23 : BitVec 32 := Scf.iv v33 c1_i32_23 k0_t2
  let c512_i32_59 : BitVec 32 := 512#32
  let v118 : BitVec 32 := Scalar.muli arg23 c512_i32_59
  v118
def k0_off4 (i : grid0.Coords) (k0_t2 : Fin (k0_t2_loop i).trips) : Fin 2 → Nat :=
  let c0_i32_20 : BitVec 32 := 0#32
  let arg1 : BitVec 32 := BitVec.ofNat 32 (i 1).val
  let c1_i32 : BitVec 32 := 1#32
  let v27 : BitVec 32 := Scalar.muli arg1 c1_i32
  let v29 : BitVec 32 := Scalar.subi v27 c0_i32_20
  let c1_i32_21 : BitVec 32 := 1#32
  let v31 : BitVec 32 := Scalar.divsi v29 c1_i32_21
  let v32 : BitVec 32 := Scalar.muli v31 c1_i32_21
  let v33 : BitVec 32 := Scalar.addi c0_i32_20 v32
  let c1_i32_23 : BitVec 32 := 1#32
  let arg23 : BitVec 32 := Scf.iv v33 c1_i32_23 k0_t2
  let c512_i32_59 : BitVec 32 := 512#32
  let v118 : BitVec 32 := Scalar.muli arg23 c512_i32_59
  let v119 : BitVec 32 := v118
  let v120 : Index := Scalar.indexCast v119
  let c0_60 : Index := 0#32
  ![v120.toNat, 0]
def k0_off5 (i : grid0.Coords) (k0_t2 : Fin (k0_t2_loop i).trips) : Fin 2 → Nat :=
  let c0_i32_20 : BitVec 32 := 0#32
  let arg1 : BitVec 32 := BitVec.ofNat 32 (i 1).val
  let c1_i32 : BitVec 32 := 1#32
  let v27 : BitVec 32 := Scalar.muli arg1 c1_i32
  let v29 : BitVec 32 := Scalar.subi v27 c0_i32_20
  let c1_i32_21 : BitVec 32 := 1#32
  let v31 : BitVec 32 := Scalar.divsi v29 c1_i32_21
  let v32 : BitVec 32 := Scalar.muli v31 c1_i32_21
  let v33 : BitVec 32 := Scalar.addi c0_i32_20 v32
  let c1_i32_23 : BitVec 32 := 1#32
  let arg23 : BitVec 32 := Scf.iv v33 c1_i32_23 k0_t2
  let c512_i32_59 : BitVec 32 := 512#32
  let v118 : BitVec 32 := Scalar.muli arg23 c512_i32_59
  let v119 : BitVec 32 := v118
  let v123 : Index := Scalar.indexCast v119
  let c0_62 : Index := 0#32
  ![v123.toNat, 0]
def k0_off6 (i : grid0.Coords) (k0_t2 : Fin (k0_t2_loop i).trips) : Fin 3 → Nat :=
  let c0_i32_20 : BitVec 32 := 0#32
  let arg1 : BitVec 32 := BitVec.ofNat 32 (i 1).val
  let c1_i32 : BitVec 32 := 1#32
  let v27 : BitVec 32 := Scalar.muli arg1 c1_i32
  let v29 : BitVec 32 := Scalar.subi v27 c0_i32_20
  let c1_i32_21 : BitVec 32 := 1#32
  let v31 : BitVec 32 := Scalar.divsi v29 c1_i32_21
  let v32 : BitVec 32 := Scalar.muli v31 c1_i32_21
  let v33 : BitVec 32 := Scalar.addi c0_i32_20 v32
  let c1_i32_23 : BitVec 32 := 1#32
  let arg23 : BitVec 32 := Scf.iv v33 c1_i32_23 k0_t2
  let v154 : Index := Scalar.indexCast arg23
  let c0_73 : Index := 0#32
  let c0_74 : Index := 0#32
  ![v154.toNat, 0, 0]
def k0_mult3 (i : grid0.Coords) : BitVec 32 :=
  let arg1 : BitVec 32 := BitVec.ofNat 32 (i 1).val
  let c1_i32_24 : BitVec 32 := 1#32
  let v36 : BitVec 32 := Scalar.muli arg1 c1_i32_24
  let c0_i32_25 : BitVec 32 := 0#32
  let v37 : BitVec 32 := Scalar.addi v36 c0_i32_25
  let c512_i32 : BitVec 32 := 512#32
  let v38 : BitVec 32 := Scalar.muli v37 c512_i32
  v38
def k0_off7 (i : grid0.Coords) : Fin 2 → Nat :=
  let arg1 : BitVec 32 := BitVec.ofNat 32 (i 1).val
  let c1_i32_24 : BitVec 32 := 1#32
  let v36 : BitVec 32 := Scalar.muli arg1 c1_i32_24
  let c0_i32_25 : BitVec 32 := 0#32
  let v37 : BitVec 32 := Scalar.addi v36 c0_i32_25
  let c512_i32 : BitVec 32 := 512#32
  let v38 : BitVec 32 := Scalar.muli v37 c512_i32
  let v39 : BitVec 32 := v38
  let v40 : Index := Scalar.indexCast v39
  let c0_26 : Index := 0#32
  ![v40.toNat, 0]
def k0_off8 (i : grid0.Coords) : Fin 2 → Nat :=
  let arg1 : BitVec 32 := BitVec.ofNat 32 (i 1).val
  let c1_i32_24 : BitVec 32 := 1#32
  let v36 : BitVec 32 := Scalar.muli arg1 c1_i32_24
  let c0_i32_25 : BitVec 32 := 0#32
  let v37 : BitVec 32 := Scalar.addi v36 c0_i32_25
  let c512_i32 : BitVec 32 := 512#32
  let v38 : BitVec 32 := Scalar.muli v37 c512_i32
  let v39 : BitVec 32 := v38
  let v43 : Index := Scalar.indexCast v39
  let c0_28 : Index := 0#32
  ![v43.toNat, 0]
def k0_off9 (i : grid0.Coords) : Fin 3 → Nat :=
  let arg1 : BitVec 32 := BitVec.ofNat 32 (i 1).val
  let c1_i32_24 : BitVec 32 := 1#32
  let v36 : BitVec 32 := Scalar.muli arg1 c1_i32_24
  let c0_i32_25 : BitVec 32 := 0#32
  let v37 : BitVec 32 := Scalar.addi v36 c0_i32_25
  let v81 : Index := Scalar.indexCast v37
  let c0_41 : Index := 0#32
  let c0_42 : Index := 0#32
  ![v81.toNat, 0, 0]
def k0_cond2 (i : grid0.Coords) : BitVec 1 :=
  let arg1 : BitVec 32 := BitVec.ofNat 32 (i 1).val
  let c7_i32 : BitVec 32 := 7#32
  let v115 : BitVec 1 := Scalar.cmpi .eq arg1 c7_i32
  let v116 : BitVec 32 := Scalar.extui v115
  let c0_i32_58 : BitVec 32 := 0#32
  let v117 : BitVec 1 := Scalar.cmpi .ne v116 c0_i32_58
  v117

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4096x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "scale" => some (((Real.sqrt 128)⁻¹ : ℝ) : EReal)
  | "scale_log2e" => some (((Real.sqrt 128)⁻¹ * (Real.log 2)⁻¹ : ℝ) : EReal)
  | _ => none
-- ==== ReferenceIdeal.lean ====
abbrev S4096x7168 : Shape := ⟨2, ![4096, 7168]⟩
abbrev S8x4096 : Shape := ⟨2, ![8, 4096]⟩
abbrev S4096x1024 : Shape := ⟨2, ![4096, 1024]⟩
abbrev S4096x8x128 : Shape := ⟨3, ![4096, 8, 128]⟩
abbrev S8x4096x128 : Shape := ⟨3, ![8, 4096, 128]⟩
abbrev S_ : Shape := ⟨0, ![]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x8x1x512 : Shape := ⟨4, ![8, 8, 1, 512]⟩

abbrev nBuf : Space → Nat
  | .hbm => 129
  | .vmem => 0
  | .smem => 0
  | _ => 0

abbrev hbmTy0_0 (i : Nat) : BufTy := match i % 128 with
  | 0 => ⟨S4096x7168, .bf16⟩
  | 1 => ⟨S8x4096, .f32⟩
  | 2 => ⟨S4096x1024, .f32⟩
  | 3 => ⟨S4096x1024, .bf16⟩
  | 4 => ⟨S4096x1024, .f32⟩
  | 5 => ⟨S4096x1024, .bf16⟩
  | 6 => ⟨S4096x1024, .f32⟩
  | 7 => ⟨S4096x1024, .bf16⟩
  | 8 => ⟨S4096x1024, .f32⟩
  | 9 => ⟨S4096x8x128, .f32⟩
  | 10 => ⟨S8x4096x128, .f32⟩
  | 11 => ⟨S_, .f32⟩
  | 12 => ⟨S_, .f32⟩
  | 13 => ⟨S8x4096x128, .f32⟩
  | 14 => ⟨S8x4096x128, .f32⟩
  | 15 => ⟨S4096x8x128, .f32⟩
  | 16 => ⟨S8x4096x128, .f32⟩
  | 17 => ⟨S4096x8x128, .f32⟩
  | 18 => ⟨S8x4096x128, .f32⟩
  | 19 => ⟨S8x4096x4096, .f32⟩
  | 20 => ⟨S8x4096x1, .f32⟩
  | 21 => ⟨S8x4096x4096, .f32⟩
  | 22 => ⟨S8x4096x4096, .f32⟩
  | 23 => ⟨S8x1x4096, .f32⟩
  | 24 => ⟨S8x4096x4096, .f32⟩
  | 25 => ⟨S8x4096x4096, .f32⟩
  | 26 => ⟨S4096, .i32⟩
  | 27 => ⟨S1x4096, .i32⟩
  | 28 => ⟨S4096x1, .i32⟩
  | 29 => ⟨S4096x4096, .i32⟩
  | 30 => ⟨S4096x4096, .i32⟩
  | 31 => ⟨S4096x4096, .i1⟩
  | 32 => ⟨S_, .f32⟩
  | 33 => ⟨S_, .f32⟩
  | 34 => ⟨S8x4096x4096, .i1⟩
  | 35 => ⟨S8x4096x4096, .f32⟩
  | 36 => ⟨S8x4096x4096, .f32⟩
  | 37 => ⟨S_, .f32⟩
  | 38 => ⟨S8x4096x4096, .f32⟩
  | 39 => ⟨S_, .f32⟩
  | 40 => ⟨S8x4096, .f32⟩
  | 41 => ⟨S8x4096x1, .f32⟩
  | 42 => ⟨S8x4096x4096, .f32⟩
  | 43 => ⟨S8x4096x4096, .i1⟩
  | 44 => ⟨S8x4096x4096, .f32⟩
  | 45 => ⟨S_, .f32⟩
  | 46 => ⟨S8x4096, .f32⟩
  | 47 => ⟨S_, .f32⟩
  | 48 => ⟨S8x4096, .f32⟩
  | 49 => ⟨S8x4096, .f32⟩
  | 50 => ⟨S_, .f32⟩
  | 51 => ⟨S8x4096, .f32⟩
  | 52 => ⟨S8x4096, .i1⟩
  | 53 => ⟨S_, .f32⟩
  | 54 => ⟨S8x4096, .f32⟩
  | 55 => ⟨S8x4096, .i1⟩
  | 56 => ⟨S_, .f32⟩
  | 57 => ⟨S8x4096, .f32⟩
  | 58 => ⟨S_, .f32⟩
  | 59 => ⟨S8x4096, .f32⟩
  | 60 => ⟨S_, .f32⟩
  | 61 => ⟨S8x4096, .f32⟩
  | 62 => ⟨S8x4096, .f32⟩
  | 63 => ⟨S8x4096, .f32⟩
  | 64 => ⟨S8x4096x1, .f32⟩
  | 65 => ⟨S8x4096x4096, .f32⟩
  | 66 => ⟨S8x4096x4096, .f32⟩
  | 67 => ⟨S8x4096x4096, .f32⟩
  | 68 => ⟨S_, .f32⟩
  | 69 => ⟨S8x4096, .f32⟩
  | 70 => ⟨S8x4096x1, .f32⟩
  | 71 => ⟨S8x4096x4096, .f32⟩
  | 72 => ⟨S8x4096x4096, .f32⟩
  | 73 => ⟨S8x4096x1, .f32⟩
  | 74 => ⟨S_, .f32⟩
  | 75 => ⟨S8x4096x1, .f32⟩
  | 76 => ⟨S8x4096x1, .f32⟩
  | 77 => ⟨S8x4096x128, .f32⟩
  | 78 => ⟨S4096x8x128, .f32⟩
  | 79 => ⟨S4096x1024, .f32⟩
  | 80 => ⟨S4096x8x128, .f32⟩
  | 81 => ⟨S8x4096x128, .f32⟩
  | 82 => ⟨S8x128x4096, .f32⟩
  | 83 => ⟨S8x4096x128, .f32⟩
  | 84 => ⟨S8x4096x4096, .f32⟩
  | 85 => ⟨S8x4096x4096, .f32⟩
  | 86 => ⟨S8x4096x4096, .f32⟩
  | 87 => ⟨S8x4096x4096, .f32⟩
  | 88 => ⟨S_, .f32⟩
  | 89 => ⟨S8x4096, .f32⟩
  | 90 => ⟨S8x4096x1, .f32⟩
  | 91 => ⟨S8x4096x1, .f32⟩
  | 92 => ⟨S8x4096x4096, .f32⟩
  | 93 => ⟨S8x4096x4096, .f32⟩
  | 94 => ⟨S_, .f32⟩
  | 95 => ⟨S8x4096, .f32⟩
  | 96 => ⟨S8x4096x4096, .f32⟩
  | 97 => ⟨S8x4096x4096, .f32⟩
  | 98 => ⟨S8x4096x4096, .f32⟩
  | 99 => ⟨S_, .f32⟩
  | 100 => ⟨S8x4096x4096, .f32⟩
  | 101 => ⟨S8x4096x4096, .f32⟩
  | 102 => ⟨S8x4096x4096, .f32⟩
  | 103 => ⟨S_, .f32⟩
  | 104 => ⟨S8x4096, .f32⟩
  | 105 => ⟨S8x1x4096, .f32⟩
  | 106 => ⟨S_, .f32⟩
  | 107 => ⟨S8x4096, .f32⟩
  | 108 => ⟨S_, .f32⟩
  | 109 => ⟨S8x4096, .f32⟩
  | 110 => ⟨S8x4096x1, .f32⟩
  | 111 => ⟨S_, .f32⟩
  | 112 => ⟨S8x4096, .f32⟩
  | 113 => ⟨S8x4096x128, .f32⟩
  | 114 => ⟨S8x4096x128, .f32⟩
  | 115 => ⟨S4096x8x128, .f32⟩
  | 116 => ⟨S4096x1024, .f32⟩
  | 117 => ⟨S4096x8x128, .f32⟩
  | 118 => ⟨S4096x1024, .f32⟩
  | 119 => ⟨S8x4096x128, .f32⟩
  | 120 => ⟨S8x4096x128, .f32⟩
  | 121 => ⟨S4096x8x128, .f32⟩
  | 122 => ⟨S4096x1024, .f32⟩
  | 123 => ⟨S4096x1024, .bf16⟩
  | 124 => ⟨S4096x1024, .bf16⟩
  | 125 => ⟨S4096x1024, .bf16⟩
  | 126 => ⟨S8x8x1x512, .f32⟩
  | 127 => ⟨S8x4096x1, .f32⟩
  | _ => ⟨S4096x7168, .bf16⟩

abbrev hbmTy0_1 (i : Nat) : BufTy := match i % 128 with
  | 0 => ⟨S8x4096x1, .f32⟩
  | _ => ⟨S4096x7168, .bf16⟩

abbrev hbmTy (i : Nat) : BufTy := match i / 128 with
  | 0 => hbmTy0_0 i
  | 1 => hbmTy0_1 i
  | _ => ⟨S4096x7168, .bf16⟩

abbrev bufTy : (tb : Table) → Fin (tcTables nBuf tb) → BufTy
  | .hbm, ⟨i, _⟩ => hbmTy i
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_v28_1 : Ref sig .tc := ⟨.hbm, 34, rfl⟩
abbrev main_call0_v2 : Ref sig .tc := ⟨.hbm, 35, rfl⟩
abbrev main_v28_0 : Ref sig .tc := ⟨.hbm, 36, rfl⟩
abbrev main_call0_cst : Ref sig .tc := ⟨.hbm, 37, rfl⟩
abbrev main_v28_2 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_11 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_12 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_call1_cst : Ref sig .tc := ⟨.hbm, 99, rfl⟩
abbrev main_call1_v0 : Ref sig .tc := ⟨.hbm, 100, rfl⟩
abbrev main_v77 : Ref sig .tc := ⟨.hbm, 101, rfl⟩
abbrev main_v78 : Ref sig .tc := ⟨.hbm, 102, rfl⟩
abbrev main_cst_13 : Ref sig .tc := ⟨.hbm, 103, rfl⟩
abbrev main_v79 : Ref sig .tc := ⟨.hbm, 104, rfl⟩
abbrev main_v80 : Ref sig .tc := ⟨.hbm, 105, rfl⟩
abbrev main_cst_14 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S1x2816x1024 : Shape := ⟨3, ![1, 2816, 1024]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x1024 : Shape := ⟨2, ![4096, 1024]⟩
abbrev S1024x7176 : Shape := ⟨2, ![1024, 7176]⟩
abbrev S7176x1024 : Shape := ⟨2, ![7176, 1024]⟩
abbrev S4096x7168 : Shape := ⟨2, ![4096, 7168]⟩
abbrev S512x1024 : Shape := ⟨2, ![512, 1024]⟩
abbrev S1792x1024 : Shape := ⟨2, ![1792, 1024]⟩
abbrev S512x1792 : Shape := ⟨2, ![512, 1792]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x7176, .f32⟩
  | .hbm, ⟨2, _⟩ => ⟨S7176x1024, .f32⟩
  | .hbm, ⟨3, _⟩ => ⟨S7176x1024, .bf16⟩
  | .hbm, ⟨4, _⟩ => ⟨S4096x7168, .bf16⟩
  | .local _ .vmem, ⟨0, _⟩ => ⟨S512x1024, .bf16⟩
  | .local _ .vmem, ⟨1, _⟩ => ⟨S512x1024, .bf16⟩
  | .local _ .vmem, ⟨2, _⟩ => ⟨S1792x1024, .bf16⟩
  | .local _ .vmem, ⟨3, _⟩ => ⟨S1792x1024, .bf16⟩
  | .local _ .vmem, ⟨4, _⟩ => ⟨S512x1792, .bf16⟩
  | .local _ .vmem, ⟨5, _⟩ => ⟨S512x1792, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S1024x7176 : Shape := ⟨2, ![1024, 7176]⟩
abbrev S4096x7176 : Shape := ⟨2, ![4096, 7176]⟩
abbrev S4096x7168 : Shape := ⟨2, ![4096, 7168]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x7176, .f32⟩
  | .hbm, ⟨2, _⟩ => ⟨S4096x1024, .f32⟩
  | .hbm, ⟨3, _⟩ => ⟨S4096x7176, .f32⟩
  | .hbm, ⟨4, _⟩ => ⟨S4096x7168, .f32⟩
  | .hbm, ⟨5, _⟩ => ⟨S4096x7168, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S4096x2048 : Shape := ⟨2, ![4096, 2048]⟩
abbrev S4096x1024 : Shape := ⟨2, ![4096, 1024]⟩
abbrev S1x7168x1024 : Shape := ⟨3, ![1, 7168, 1024]⟩
abbrev S1024x1024 : Shape := ⟨2, ![1024, 1024]⟩
abbrev S1x1024x1024 : Shape := ⟨3, ![1, 1024, 1024]⟩

abbrev nBuf : Space → Nat
  | .hbm => 7
  | .vmem => 15
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x2048, .bf16⟩
  | .hbm, ⟨5, _⟩ => ⟨S4096x1024, .bf16⟩
  | .hbm, ⟨6, _⟩ => ⟨S1x7168x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![7, 4], ![false, false]⟩

def k0_cond16 (i : grid0.Coords) : BitVec 1 :=
  let arg1 : BitVec 32 := BitVec.ofNat 32 (i 1).val
  let c3_i32_9 : BitVec 32 := 3#32
  let v25 : BitVec 1 := Scalar.cmpi .eq arg1 c3_i32_9
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c2_i32 : BitVec 32 := 2#32
  let v1 : BitVec 1 := Scalar.cmpi .sge arg0 c2_i32
  let c3_i32 : BitVec 32 := 3#32
  let v2 : BitVec 32 := Scalar.select v1 c3_i32 arg1
  let c0_i32_0 : BitVec 32 := 0#32
  let v3 : BitVec 32 := Scalar.select v0 c0_i32_0 v2
  let c0_i32_1 : BitVec 32 := 0#32
  let v4 : BitVec 32 := Scalar.subi arg0 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c3_i32 : BitVec 32 := 3#32
  let v1 : BitVec 1 := Scalar.cmpi .sge arg0 c3_i32
  let c3_i32_0 : BitVec 32 := 3#32
  let v2 : BitVec 32 := Scalar.select v1 c3_i32_0 arg1
  let c0_i32 : BitVec 32 := 0#32
  let v3 : BitVec 32 := Scalar.select v0 c0_i32 v2
  let c2_i32_1 : BitVec 32 := 2#32
  let v4 : BitVec 32 := Scalar.subi arg0 c2_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c4_i32 : BitVec 32 := 4#32
  let v1 : BitVec 1 := Scalar.cmpi .sge arg0 c4_i32
  let c3_i32_0 : BitVec 32 := 3#32
  let v2 : BitVec 32 := Scalar.select v1 c3_i32_0 arg1
  let c0_i32 : BitVec 32 := 0#32
  let v3 : BitVec 32 := Scalar.select v0 c0_i32 v2
  let c3_i32_1 : BitVec 32 := 3#32
  let v4 : BitVec 32 := Scalar.subi arg0 c3_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c5_i32 : BitVec 32 := 5#32
  let v1 : BitVec 1 := Scalar.cmpi .sge arg0 c5_i32
  let c3_i32 : BitVec 32 := 3#32
  let v2 : BitVec 32 := Scalar.select v1 c3_i32 arg1
  let c0_i32 : BitVec 32 := 0#32
  let v3 : BitVec 32 := Scalar.select v0 c0_i32 v2
  let c4_i32_0 : BitVec 32 := 4#32
  let v4 : BitVec 32 := Scalar.subi arg0 c4_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .slt arg0 c5_i32
  let c7_i32 : BitVec 32 := 7#32
  let v1 : BitVec 1 := Scalar.cmpi .sge arg0 c7_i32
  let c3_i32 : BitVec 32 := 3#32
  let v2 : BitVec 32 := Scalar.select v1 c3_i32 arg1
  let c0_i32 : BitVec 32 := 0#32
  let v3 : BitVec 32 := Scalar.select v0 c0_i32 v2
  let c5_i32_0 : BitVec 32 := 5#32
  let v4 : BitVec 32 := Scalar.subi arg0 c5_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S4096x2048 : Shape := ⟨2, ![4096, 2048]⟩
abbrev S4096x1024 : Shape := ⟨2, ![4096, 1024]⟩
abbrev S_ : Shape := ⟨0, ![]⟩
abbrev S1024x7168 : Shape := ⟨2, ![1024, 7168]⟩
abbrev S4096x7168 : Shape := ⟨2, ![4096, 7168]⟩
abbrev S7168x1024 : Shape := ⟨2, ![7168, 1024]⟩
abbrev S1x7168x1024 : Shape := ⟨3, ![1, 7168, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x2048, .bf16⟩
  | .hbm, ⟨5, _⟩ => ⟨S4096x1024, .bf16⟩
  | .hbm, ⟨6, _⟩ => ⟨S_, .f32⟩
  | .hbm, ⟨7, _⟩ => ⟨S1024x7168, .f32⟩
  | .hbm, ⟨8, _⟩ => ⟨S4096x2048, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x2048, .f32⟩
  | .hbm, ⟨13, _⟩ => ⟨S4096x1024, .f32⟩
  | .hbm, ⟨14, _⟩ => ⟨S4096x7168, .f32⟩
  | .hbm, ⟨15, _⟩ => ⟨S4096x2048, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2048, .f32⟩
  | .hbm, ⟨20, _⟩ => ⟨S_, .f32⟩
  | .hbm, ⟨21, _⟩ => ⟨S4096x7168, .f32⟩
  | .hbm, ⟨22, _⟩ => ⟨S_, .f32⟩
  | .hbm, ⟨23, _⟩ => ⟨S4096x7168, .f32⟩
  | .hbm, ⟨24, _⟩ => ⟨S4096x7168, .f32⟩
  | .hbm, ⟨25, _⟩ => ⟨S_, .f32⟩
  | .hbm, ⟨26, _⟩ => ⟨S4096x7168, .f32⟩
  | .hbm, ⟨27, _⟩ => ⟨S4096x7168, .f32⟩
  | .hbm, ⟨28, _⟩ => ⟨S_, .f32⟩
  | .hbm, ⟨29, _⟩ => ⟨S4096x7168, .f32⟩
  | .hbm, ⟨30, _⟩ => ⟨S4096x7168, .f32⟩
  | .hbm, ⟨31, _⟩ => ⟨S_, .f32⟩
  | .hbm, ⟨32, _⟩ => ⟨S4096x7168, .f32⟩
  | .hbm, ⟨33, _⟩ => ⟨S4096x7168, .f32⟩
  | .hbm, ⟨34, _⟩ => ⟨S7168x1024, .f32⟩
  | .hbm, ⟨35, _⟩ => ⟨S1024x7168, .f32⟩
  | .hbm, ⟨36, _⟩ => ⟨S7168x1024, .f32⟩
  | .hbm, ⟨37, _⟩ => ⟨S7168x1024, .bf16⟩
  | .hbm, ⟨38, _⟩ => ⟨S1x7168x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x2816 : Shape := ⟨2, ![4096, 2816]⟩
abbrev S4096x1024 : Shape := ⟨2, ![4096, 1024]⟩
abbrev S1x2816x1024 : Shape := ⟨3, ![1, 2816, 1024]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩
abbrev S1x2816x1024 : Shape := ⟨3, ![1, 2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S1x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S1024x2816, .bf16⟩
  | .hbm, ⟨4, _⟩ => ⟨S1024x2816, .f32⟩
  | .hbm, ⟨5, _⟩ => ⟨S4096x2816, .f32⟩
  | .hbm, ⟨6, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]
-- ==== Reference10Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel11.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x1408 : Shape := ⟨2, ![512, 1408]⟩
abbrev S1408x1024 : Shape := ⟨2, ![1408, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 19
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x2816, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1408x1024, .bf16⟩
  | .local _ .vmem, ⟨5, _⟩ => ⟨S1408x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1408, .bf16⟩
  | .local _ .vmem, ⟨17, _⟩ => ⟨S512x1408, .bf16⟩
  | .local _ .vmem, ⟨18, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v23 : BitVec 1 := Scalar.cmpi .eq arg2 c1_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]
-- ==== Reference11Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S2816x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | .hbm, ⟨52, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel13.lean ====
abbrev S4096x1024 : Shape := ⟨2, ![4096, 1024]⟩
abbrev S1024x7176 : Shape := ⟨2, ![1024, 7176]⟩
abbrev S7176x1024 : Shape := ⟨2, ![7176, 1024]⟩
abbrev S8x1024 : Shape := ⟨2, ![8, 1024]⟩
abbrev S8x4096 : Shape := ⟨2, ![8, 4096]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x7176, .f32⟩
  | .hbm, ⟨2, _⟩ => ⟨S7176x1024, .f32⟩
  | .hbm, ⟨3, _⟩ => ⟨S7176x1024, .bf16⟩
  | .hbm, ⟨4, _⟩ => ⟨S8x1024, .bf16⟩
  | .hbm, ⟨5, _⟩ => ⟨S8x4096, .f32⟩
  | .local _ .vmem, ⟨0, _⟩ => ⟨S8x1024, .bf16⟩
  | .local _ .vmem, ⟨1, _⟩ => ⟨S1024x1024, .bf16⟩
  | .local _ .vmem, ⟨2, _⟩ => ⟨S1024x1024, .bf16⟩
  | .local _ .vmem, ⟨3, _⟩ => ⟨S8x1024, .f32⟩
  | .local _ .vmem, ⟨4, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S8x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x7176 : Shape := ⟨2, ![1024, 7176]⟩
abbrev S4096x7176 : Shape := ⟨2, ![4096, 7176]⟩
abbrev S4096x8 : Shape := ⟨2, ![4096, 8]⟩
abbrev S8x4096 : Shape := ⟨2, ![8, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x7176, .f32⟩
  | .hbm, ⟨2, _⟩ => ⟨S4096x1024, .f32⟩
  | .hbm, ⟨3, _⟩ => ⟨S4096x7176, .f32⟩
  | .hbm, ⟨4, _⟩ => ⟨S4096x8, .f32⟩
  | .hbm, ⟨5, _⟩ => ⟨S8x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8x4096 : Shape := ⟨2, ![8, 4096]⟩
abbrev S4096x1024 : Shape := ⟨2, ![4096, 1024]⟩
abbrev S8x1024 : Shape := ⟨2, ![8, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x4096, .bf16⟩
  | .hbm, ⟨1, _⟩ => ⟨S4096x1024, .bf16⟩
  | .hbm, ⟨2, _⟩ => ⟨S8x1024, .bf16⟩
  | .local _ .vmem, ⟨0, _⟩ => ⟨S8x1024, .bf16⟩
  | .local _ .vmem, ⟨1, _⟩ => ⟨S8x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x1024, .bf16⟩
  | .local _ .vmem, ⟨5, _⟩ => ⟨S8x1024, .f32⟩
  | _, _ => ⟨S8x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S8x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S8x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8x4096 : Shape := ⟨2, ![8, 4096]⟩
abbrev S4096x1024 : Shape := ⟨2, ![4096, 1024]⟩
abbrev S_ : Shape := ⟨0, ![]⟩
abbrev S1024x8 : Shape := ⟨2, ![1024, 8]⟩
abbrev S4096x8 : Shape := ⟨2, ![4096, 8]⟩
abbrev S8x1024 : Shape := ⟨2, ![8, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x4096, .bf16⟩
  | .hbm, ⟨1, _⟩ => ⟨S4096x1024, .bf16⟩
  | .hbm, ⟨2, _⟩ => ⟨S_, .f32⟩
  | .hbm, ⟨3, _⟩ => ⟨S1024x8, .f32⟩
  | .hbm, ⟨4, _⟩ => ⟨S4096x1024, .f32⟩
  | .hbm, ⟨5, _⟩ => ⟨S4096x8, .f32⟩
  | .hbm, ⟨6, _⟩ => ⟨S8x4096, .f32⟩
  | .hbm, ⟨7, _⟩ => ⟨S4096x8, .f32⟩
  | .hbm, ⟨8, _⟩ => ⟨S8x1024, .f32⟩
  | .hbm, ⟨9, _⟩ => ⟨S1024x8, .f32⟩
  | .hbm, ⟨10, _⟩ => ⟨S8x1024, .f32⟩
  | .hbm, ⟨11, _⟩ => ⟨S8x1024, .bf16⟩
  | _, _ => ⟨S8x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel15.lean ====
abbrev S8x4096 : Shape := ⟨2, ![8, 4096]⟩
abbrev S8x1024 : Shape := ⟨2, ![8, 1024]⟩
abbrev S4096x1024 : Shape := ⟨2, ![4096, 1024]⟩
abbrev S8x512 : Shape := ⟨2, ![8, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8x4096, .bf16⟩
  | .hbm, ⟨1, _⟩ => ⟨S8x1024, .bf16⟩
  | .hbm, ⟨2, _⟩ => ⟨S4096x1024, .f32⟩
  | .local _ .vmem, ⟨0, _⟩ => ⟨S8x512, .bf16⟩
  | .local _ .vmem, ⟨1, _⟩ => ⟨S8x512, .bf16⟩
  | .local _ .vmem, ⟨2, _⟩ => ⟨S8x1024, .bf16⟩
  | .local _ .vmem, ⟨3, _⟩ => ⟨S512x1024, .f32⟩
  | .local _ .vmem, ⟨4, _⟩ => ⟨S512x1024, .f32⟩
  | _, _ => ⟨S8x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S8x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S8x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8x4096 : Shape := ⟨2, ![8, 4096]⟩
abbrev S8x1024 : Shape := ⟨2, ![8, 1024]⟩
abbrev S_ : Shape := ⟨0, ![]⟩
abbrev S4096x1024 : Shape := ⟨2, ![4096, 1024]⟩
abbrev S1024x8 : Shape := ⟨2, ![1024, 8]⟩
abbrev S4096x8 : Shape := ⟨2, ![4096, 8]⟩

abbrev nBuf : Space → Nat
  | .hbm => 10
  | .vmem => 0
  | .smem => 0
  | _ => 0

abbrev bufTy : (tb : Table) → Fin (tcTables nBuf tb) → BufTy
  | .hbm, ⟨0, _⟩ => ⟨S8x4096, .bf16⟩
  | .hbm, ⟨1, _⟩ => ⟨S8x1024, .bf16⟩
  | .hbm, ⟨2, _⟩ => ⟨S_, .f32⟩
  | .hbm, ⟨3, _⟩ => ⟨S4096x1024, .f32⟩
  | .hbm, ⟨4, _⟩ => ⟨S1024x8, .bf16⟩
  | .hbm, ⟨5, _⟩ => ⟨S1024x8, .f32⟩
  | .hbm, ⟨6, _⟩ => ⟨S4096x8, .f32⟩
  | .hbm, ⟨7, _⟩ => ⟨S8x4096, .f32⟩
  | .hbm, ⟨8, _⟩ => ⟨S4096x8, .f32⟩
  | .hbm, ⟨9, _⟩ => ⟨S4096x1024, .f32⟩
  | _, _ => ⟨S8x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x2816 : Shape := ⟨2, ![4096, 2816]⟩
abbrev S256x2816 : Shape := ⟨2, ![256, 2816]⟩

abbrev nBuf : Space → Nat
  | .hbm => 5
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S4096x2816 : Shape := ⟨2, ![4096, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x2816, .bf16⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .bf16⟩
  | .hbm, ⟨27, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Kernel17.lean ====
abbrev S2x704x1024 : Shape := ⟨3, ![2, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel17Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference17Ideal.lean ====
abbrev S2x704x1024 : Shape := ⟨3, ![2, 704, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S1x704x1024, .f32⟩
  | .hbm, ⟨6, _⟩ => ⟨S1x704x1024, .f32⟩
  | .hbm, ⟨7, _⟩ => ⟨S2x704x1024, .f32⟩
  | .hbm, ⟨8, _⟩ => ⟨S_, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel18.lean ====
abbrev S2048x128 : Shape := ⟨2, ![2048, 128]⟩

abbrev nBuf : Space → Nat
  | .hbm => 7
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel18Ideal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== Reference18Ideal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Softmax.lean ====
module

public import Idealize.ShloMosaic.Lib.Claim
public import Idealize.ShloMosaic.Lib.ValueIdx
public import Idealize.ShloMosaic.Lib.WordCmp
public import Idealize.ShloMosaic.PureOps.Ideal.Laws

@[expose] public section

/-! # The attention of one head and its gradients, as formulas over the extended reals

`Ins` are the values of one head: queries, keys and values, the gradient `G` of the head's output, and the sums `C` of
the logarithms of the forget gates. The definitions below are the forward pass of one head in the order in which it is
computed (scores, their maximum in a row, exponentials, the sum of a row, output, logarithm of the sum), then the
gradients as reverse differentiation of these lines states them. -/

noncomputable section

namespace Cert.Attention

open Idealize.ShloMosaic

/-- The values of one head that the attention and its gradients are computed from. -/
structure Ins where
  /-- the queries -/
  Q : Fin 4096 → Fin 128 → EReal
  /-- the keys -/
  K : Fin 4096 → Fin 128 → EReal
  /-- the values -/
  V : Fin 4096 → Fin 128 → EReal
  /-- the gradient of the output -/
  G : Fin 4096 → Fin 128 → EReal
  /-- the sums of the logarithms of the gates -/
  C : Fin 4096 → EReal

namespace Ins

variable (I : Ins)

/-- the root of the head's width, by which the queries are divided -/
def root : EReal := Ideal.sqrt ((128 : ℝ) : EReal)

/-- The masked score of key `s` in row `t`. -/
def score (t s : Fin 4096) : EReal :=
  if s.val ≤ t.val then ∑ d, Ideal.div (I.Q t d) root * I.K s d + I.C t - I.C s else ⊥

/-- The largest score of row `t`. -/
def top (t : Fin 4096) : EReal := Finset.univ.fold max ⊥ (fun s => I.score t s)

/-- The exponential of a score, against the largest one. -/
def e (t s : Fin 4096) : EReal := Ideal.exp (I.score t s - I.top t)

/-- The sum of the exponentials of row `t`. -/
def l (t : Fin 4096) : EReal := ∑ s, I.e t s

/-- The output of the head. -/
def o (t : Fin 4096) (d : Fin 128) : EReal := ∑ s, Ideal.div (I.e t s) (I.l t) * I.V s d

/-- The base-2 logarithm of the sum of the exponentials of the scores of row `t`. -/
def lse (t : Fin 4096) : EReal := Ideal.div (I.top t + Ideal.log (I.l t)) (Ideal.log ((2 : ℝ) : EReal))

/-- The gradient of the softmax weight of key `s` in row `t`. -/
def dP (t s : Fin 4096) : EReal := ∑ d, I.G t d * I.V s d

/-- The gradient of the masked score. -/
def dS (t s : Fin 4096) : EReal :=
  if s.val ≤ t.val then
    (Ideal.div (I.dP t s) (I.l t) + -∑ j, I.dP t j * Ideal.div 1 (I.l t * I.l t) * I.e t j) * I.e t s
  else 0

end Ins

/-- Head `h` of the three arguments: the projections `A` (queries from column 2048, keys from 3072, values from 4096), the
sums `B` of the gates and the gradient `D` of the output. -/
def headIns (A : Fin 4096 → Fin 7168 → EReal) (B : Fin 8 → Fin 4096 → EReal) (D : Fin 4096 → Fin 1024 → EReal)
    (h : Fin 8) : Ins where
  Q t d := A t ⟨2048 + (h.val * 128 + d.val), by omega⟩
  K t d := A t ⟨3072 + (h.val * 128 + d.val), by omega⟩
  V t d := A t ⟨4096 + (h.val * 128 + d.val), by omega⟩
  G t d := D t ⟨h.val * 128 + d.val, by omega⟩
  C t := B h t

/-- The word of the constant 128. -/
theorem bits_128 : Ideal.ofBits .f32 0x43000000#32 = ((128 : ℝ) : EReal) := by
  simp [Ideal.ofBits, Ideal.ieee, -EReal.coe_mul]; norm_num

/-- The word of the constant 2. -/
theorem bits_two : Ideal.ofBits .f32 0x40000000#32 = ((2 : ℝ) : EReal) := by
  simp [Ideal.ofBits, Ideal.ieee, -EReal.coe_mul]; norm_num

/-- The word of the constant 1. -/
theorem bits_one : Ideal.ofBits .f32 0x3F800000#32 = (1 : EReal) := by
  simp [Ideal.ofBits, Ideal.ieee, -EReal.coe_mul]; norm_num

/-- The word of minus infinity. -/
theorem bits_bot : Ideal.ofBits .f32 0xFF800000#32 = (⊥ : EReal) := by
  simp [Ideal.ofBits, Ideal.ieee]

/-- The comparison of two positions selects by their order. -/
theorem select_le (s t : Fin 4096) (x y : EReal) :
    Scalar.select (IntOp.cmpi CmpIPredicate.sle (BitVec.ofNat 32 s.val) (BitVec.ofNat 32 t.val)) x y
      = if s.val ≤ t.val then x else y := by
  rw [WordCmp.cmpi_sle_ofNat (by omega) (by omega)]
  by_cases h : s.val ≤ t.val <;> simp [h, Scalar.select]

end Cert.Attention

end
-- ==== Proof.KernelHost.lean ====
module

public import Idealize.ShloMosaic.Lib.Claim
public import Idealize.ShloMosaic.Lib.Pointwise
public import proofs.«01_k».proof.Proof.Gen.KernelIdeal.Frame
public import proofs.«01_k».proof.Proof.Softmax

@[expose] public section

/-! # What the host prepares for the kernel, read as the formulas of one head

The host lines before the call compute the forward attention: the saved output `o` and the base-2 logarithm of the sums
of the exponentials are read here as `Ins.o` and `Ins.lse`; the sums of the gates are laid out twice, by row and by
column. -/

set_option maxRecDepth 16384
set_option maxHeartbeats 4000000

noncomputable section

namespace Cert.KernelIdeal.AttnBwd

open Idealize.ShloMosaic Idealize.ShloMosaic.TcCoe Idealize.ShloMosaic.Tactic
open Cert.KernelIdeal.Gen Cert.Attention

variable (m : (ℓ : Loc nD τ sig) → Buf (Elt Ideal) ℓ) (c : Dev nD)
variable (W : Valuation τ sig (Elt Ideal))

/-- Head `h` of the arguments. -/
abbrev ins (h : Fin 8) : Ins :=
  headIns (fun t d => (m ((c : Thread nD τ).loc main_arg0) : Vec Ideal S4096x7168 .bf16) (ix2 t d))
    (fun a t => (m ((c : Thread nD τ).loc main_arg1) : Vec Ideal S8x4096 .f32) (ix2 a t))
    (fun t d => (m ((c : Thread nD τ).loc main_arg2) : Vec Ideal S4096x1024 .f32) (ix2 t d)) h

/-- A line of operations made of two runs from the first into the second. -/
theorem after_append (l l' : List (HloOp τ sig (Elt Ideal))) (W : Valuation τ sig (Elt Ideal)) :
    StableHlo.after (l ++ l') W = StableHlo.after l' (StableHlo.after l W) := by
  induction l generalizing W with
  | nil => rfl
  | cons op l ih => exact ih _

/-- The contents after the scores are computed and masked. -/
abbrev scored : Valuation τ sig (Elt Ideal) :=
  StableHlo.after (hostOps0_1 (F := Ideal)) (StableHlo.after (hostOps0 (F := Ideal)) (fun b => m (c, b)))

/-- The contents at the call: the three stretches of host lines one after the other. -/
theorem entry_eq (b : Ref sig .tc) :
    V m c b = StableHlo.after (hostOps0_2 (F := Ideal)) (scored m c) (Proc.devRef .tc b) := by
  show StableHlo.after (hostOps0 ++ (hostOps0_1 ++ (hostOps0_2 ++ []))) _ _ = _
  rw [after_append, after_append, List.append_nil]

/-- The masked scores. -/
theorem scored_eq (h : Fin 8) (t s : Fin 4096) :
    (scored m c (Proc.devRef .tc main_v28) : Vec Ideal S8x4096x4096 .f32) (ix3 h t s) = (ins m c h).score t s := by
  unfold scored hostOps0_1 hostOps0
  simp only [StableHlo.after_cons, StableHlo.after_nil]
  after_results_simp
  simp -implicitDefEqProofs only [StableHlo.TRef.toBuf, StableHlo.TRef.ofBuf, cast_cast, cast_eq]
  pointwise
  rw [select_le, bits_128]
  have hb : FloatOps.ofBits (F := Ideal) .f32 0xFF800000#32 = (⊥ : EReal) := bits_bot
  simp only [id_eq, constant, hb]
  rfl

/-- The values of one head. -/
theorem values_eq (h : Fin 8) (t : Fin 4096) (d : Fin 128) :
    (scored m c (Proc.devRef .tc main_v14) : Vec Ideal S8x4096x128 .f32) (ix3 h t d) = (ins m c h).V t d := by
  unfold scored hostOps0_1 hostOps0
  simp only [StableHlo.after_cons, StableHlo.after_nil]
  after_results_simp
  pointwise
  rfl

/-- The saved output from the masked scores and the values. -/
theorem out_of_scored (h : Fin 8) (t : Fin 4096) (d : Fin 128) (S : Fin 4096 → EReal) (U : Fin 4096 → EReal)
    (hS : ∀ s, (W (Proc.devRef .tc main_v28) : Vec Ideal S8x4096x4096 .f32) (ix3 h t s) = S s)
    (hU : ∀ s, (W (Proc.devRef .tc main_v14) : Vec Ideal S8x4096x128 .f32) (ix3 h s d) = U s) :
    (StableHlo.after (hostOps0_2 (F := Ideal)) W (Proc.devRef .tc main_v40) : Vec Ideal S4096x1024 .f32)
        (ix2 t ⟨h.val * 128 + d.val, by omega⟩)
      = ∑ s, Ideal.div (Ideal.exp (S s - Finset.univ.fold max ⊥ S))
          (∑ j, Ideal.exp (S j - Finset.univ.fold max ⊥ S)) * U s := by
  unfold hostOps0_2
  simp only [StableHlo.after_cons, StableHlo.after_nil]
  after_results_simp
  pointwise
  simp only [hS, hU, bits_bot]

/-- The saved output of the head. -/
theorem out_eq (h : Fin 8) (t : Fin 4096) (d : Fin 128) :
    (V m c main_v40 : Vec Ideal S4096x1024 .f32) (ix2 t ⟨h.val * 128 + d.val, by omega⟩) = (ins m c h).o t d := by
  rw [entry_eq]
  exact out_of_scored (scored m c) h t d (fun s => (ins m c h).score t s) (fun s => (ins m c h).V s d)
    (fun s => scored_eq m c h t s) (fun s => values_eq m c h s d)

/-- A column of the sums cut into blocks of a row each. -/
theorem rows_of_column (y : Vec Ideal S8x4096x1 .f32) (h b : Fin 8) (r : Fin 512) :
    shapeCast S8x8x1x512 y shapeCasts_S8x4096x1_S8x8x1x512 (ix4 h b 0 r)
      = y (ix3 h ⟨b.val * 512 + r.val, by omega⟩ 0) := by
  pointwise

/-- The maximum over the last axis, read at an index. -/
theorem reduce_max (y : Vec Ideal S8x4096x4096 .f32) (v : Vec Ideal S_ .f32) (h : Fin 8) (t : Fin 4096) :
    Host.reduce (FloatOps.maximumf (F := Ideal) (φ := .f32)) y v reducesTo_S8x4096x4096_S8x4096_d2 h_S_ (ix2 h t)
      = Finset.univ.fold max (v ix0) (fun s => y (ix3 h t s)) := by
  pointwise
  rw [show Shape.Idx.first h_S_ = ix0 from funext fun a => a.elim0]

/-- The logarithm of the sums, from the maxima and the sums. -/
theorem lse_point (M L : Vec Ideal S8x4096 .f32) (h : Fin 8) (t : Fin 4096) :
    Host.divf (addf (broadcastInDim S8x4096x1 ![0, 1] bcast_S8x4096_S8x4096x1_0_1 M)
          (Host.log (broadcastInDim S8x4096x1 ![0, 1] bcast_S8x4096_S8x4096x1_0_1 L)))
        (broadcastInDim S8x4096x1 ![] bcast_S_S8x4096x1 (Host.log (constant (F := Ideal) S_ FTy.f32 0x40000000#32)))
        (ix3 h t 0)
      = Ideal.div (M (ix2 h t) + Ideal.log (L (ix2 h t))) (Ideal.log ((2 : ℝ) : EReal)) := by
  pointwise
  rw [bits_two]

/-- The sum of the exponentials of a row, from the scores and the maxima. -/
theorem sum_point (X : Vec Ideal S8x4096x4096 .f32) (M : Vec Ideal S8x4096 .f32) (h : Fin 8) (t : Fin 4096) :
    Host.reduceAdd (Host.exp (subf X (broadcastInDim S8x4096x4096 ![0, 1, 2] bcast_S8x4096x1_S8x4096x4096_0_1_2
          (broadcastInDim S8x4096x1 ![0, 1] bcast_S8x4096_S8x4096x1_0_1 M))))
        (constant (F := Ideal) S_ FTy.f32 0#32) reducesTo_S8x4096x4096_S8x4096_d2 h_S_ (ix2 h t)
      = ∑ j, Ideal.exp (X (ix3 h t j) - M (ix2 h t)) := by
  pointwise

/-- The saved logarithm from the masked scores. -/
theorem lse_of_scored (h b : Fin 8) (r : Fin 512) (S : Fin 4096 → EReal)
    (hS : ∀ s, (W (Proc.devRef .tc main_v28) : Vec Ideal S8x4096x4096 .f32)
      (ix3 h ⟨b.val * 512 + r.val, by omega⟩ s) = S s) :
    (StableHlo.after (hostOps0_2 (F := Ideal)) W (Proc.devRef .tc main_v46) : Vec Ideal S8x8x1x512 .f32) (ix4 h b 0 r)
      = Ideal.div (Finset.univ.fold max ⊥ S + Ideal.log (∑ j, Ideal.exp (S j - Finset.univ.fold max ⊥ S)))
          (Ideal.log ((2 : ℝ) : EReal)) := by
  unfold hostOps0_2
  simp only [StableHlo.after_cons, StableHlo.after_nil]
  after_results_simp
  have hb : FloatOps.ofBits (F := Ideal) .f32 0xFF800000#32 = (⊥ : EReal) := bits_bot
  refine (rows_of_column _ h b r).trans ((lse_point _ _ h _).trans ?_)
  rw [sum_point, reduce_max]
  simp only [hS, constant, hb]

/-- The saved logarithm of the head. -/
theorem lse_eq (h b : Fin 8) (r : Fin 512) :
    (V m c main_v46 : Vec Ideal S8x8x1x512 .f32) (ix4 h b 0 r)
      = (ins m c h).lse ⟨b.val * 512 + r.val, by omega⟩ := by
  rw [entry_eq]
  exact lse_of_scored (scored m c) h b r _ (fun s => scored_eq m c h _ s)

/-- The sums of the gates, one column for a head. -/
theorem col_eq (h : Fin 8) (s : Fin 4096) :
    (V m c main_v47 : Vec Ideal S8x4096x1 .f32) (ix3 h s 0) = (ins m c h).C s := by
  rw [entry_eq]
  unfold hostOps0_2
  simp only [StableHlo.after_cons, StableHlo.after_nil]
  after_results_simp
  pointwise
  rfl

/-- The sums of the gates, one row for a block of queries. -/
theorem row_eq (h b : Fin 8) (r : Fin 512) :
    (V m c main_v48 : Vec Ideal S8x8x1x512 .f32) (ix4 h b 0 r) = (ins m c h).C ⟨b.val * 512 + r.val, by omega⟩ := by
  rw [entry_eq]
  unfold hostOps0_2
  simp only [StableHlo.after_cons, StableHlo.after_nil]
  after_results_simp
  pointwise
  rfl

end Cert.KernelIdeal.AttnBwd

end
-- ==== Proof.BlockLoop.lean ====
module

public import proofs.«01_k».proof.Proof.Gen.KernelIdeal.Loops
public import Idealize.ShloMosaic.Lib.VecWindow

@[expose] public section

set_option maxRecDepth 8192
set_option maxHeartbeats 4000000

noncomputable section

namespace Cert.KernelIdeal.AttnBwd

open Idealize.ShloMosaic Idealize.ShloMosaic.TcCoe Idealize.ShloMosaic.Tactic
open Cert.KernelIdeal.Gen

variable {F : FTy → Type} [FloatOps F] [Named F]

/-- The loop over the key blocks before the diagonal makes as many trips as the query block's number. -/
theorem trips_t1 : ∀ i : grid0.Coords, (k0_t1_loop i).trips = (i 1).val := by decide +kernel
theorem trips_t2 : ∀ i : grid0.Coords, (k0_t2_loop i).trips = 0 := by decide +kernel
theorem off1_eq : ∀ (i : grid0.Coords) (k : Fin (k0_t1_loop i).trips), k0_off1 i k = ![512 * k.val, 0] := by decide +kernel
theorem off2_eq : ∀ (i : grid0.Coords) (k : Fin (k0_t1_loop i).trips), k0_off2 i k = ![512 * k.val, 0] := by decide +kernel
theorem off3_eq : ∀ (i : grid0.Coords) (k : Fin (k0_t1_loop i).trips), k0_off3 i k = ![k.val, 0, 0] := by decide +kernel
theorem off7_eq : ∀ i : grid0.Coords, k0_off7 i = ![512 * (i 1).val, 0] := by decide +kernel
theorem off8_eq : ∀ i : grid0.Coords, k0_off8 i = ![512 * (i 1).val, 0] := by decide +kernel
theorem off9_eq : ∀ i : grid0.Coords, k0_off9 i = ![(i 1).val, 0, 0] := by decide +kernel

/-! ## One key block at a time, on plain vectors -/

/-- Rows `512 n … 512 n + 511` of an array of 4096 rows of 128 lie inside it. -/
theorem rows128 (n : Fin 8) : ∀ a, (![512 * n.val, 0] : Fin 2 → Nat) a + S512x128.size a ≤ S4096x128.size a := by
  revert n; decide +kernel

/-- Rows `512 n … 512 n + 511` of an array of 4096 rows of 512 lie inside it. -/
theorem rows512 (n : Fin 8) : ∀ a, (![512 * n.val, 0] : Fin 2 → Nat) a + S512x512.size a ≤ S4096x512.size a := by
  revert n; decide +kernel

/-- Plane `n` of a stack of eight lies inside it. -/
theorem plane (n : Fin 8) : ∀ a, (![n.val, 0, 0] : Fin 3 → Nat) a + S1x128x512.size a ≤ S8x128x512.size a := by
  revert n; decide +kernel

/-- Block `n` of 512 rows of 128. -/
def rowsOf {e : EltTy} (x : Vec F S4096x128 e) (n : Fin 8) : Vec F S512x128 e := VecWindow.window x ![512 * n.val, 0] S512x128.size (rows128 n)

/-- Block `n` of 512 rows of 512. -/
def rowsOfWide (x : Vec F S4096x512 .f32) (n : Fin 8) : Vec F S512x512 .f32 := VecWindow.window x ![512 * n.val, 0] S512x512.size (rows512 n)

/-- Plane `n` of the transposed keys. -/
def planeOf (x : Vec F S8x128x512 .bf16) (n : Fin 8) : Vec F S1x128x512 .bf16 := VecWindow.window x ![n.val, 0, 0] S1x128x512.size (plane n)

/-- An array of 4096 rows with block `n` replaced. -/
def putRows {e : EltTy} (x : Vec F S4096x128 e) (n : Fin 8) (w : Vec F S512x128 e) : Vec F S4096x128 e := VecWindow.put x ![512 * n.val, 0] S512x128.size w

/-- What one grid point carries from key block to key block: the gradients of the keys, the values and the keys' cumulated
    gates (these over all rows), that of the queries (transposed), and the column sums of the score gradient. -/
structure Bufs (F : FTy → Type) [FloatOps F] where
  dk : Vec F S4096x128 .f32
  dv : Vec F S4096x128 .f32
  dck : Vec F S4096x128 .f32
  dqt : Vec F S128x512 .f32
  acc : FVec F S1x512 .f32

/-- What a grid point reads: the keys, their transposed blocks, the values, the gates spread over lanes, and the
    query block's own rows: scaled queries, cotangent, row products, and exponent offsets. -/
structure Reads (F : FTy → Type) [FloatOps F] where
  kb : Vec F S4096x128 .bf16
  kt : Vec F S8x128x512 .bf16
  vb : Vec F S4096x128 .bf16
  ckb : Vec F S4096x512 .f32
  q : FVec F S512x128 .bf16
  go : FVec F S512x128 .bf16
  del : FVec F S1x512 .f32
  lse : FVec F S1x512 .f32

/-- The score gradient of key block `n`, below the diagonal. -/
def dsOf (r : Reads F) (n : Fin 8) : FVec F S512x512 .f32 :=
  k0_pay17 r.q r.go r.del r.lse (rowsOf r.kb n) (rowsOfWide r.ckb n) (rowsOf r.vb n)

/-- One key block below the diagonal. -/
def blockStep (r : Reads F) (n : Fin 8) (s : Bufs F) : Bufs F where
  dk := putRows s.dk n (k0_pay19 r.q r.go r.del r.lse (rowsOf r.kb n) (rowsOfWide r.ckb n) (rowsOf r.vb n) (rowsOf s.dk n))
  dv := putRows s.dv n (k0_pay16 r.q r.go r.lse (rowsOf r.kb n) (rowsOfWide r.ckb n) (rowsOf s.dv n))
  dck := putRows s.dck n (k0_pay39 (dsOf r n) (rowsOf s.dck n))
  dqt := k0_pay38 s.dqt (k0_pay20 r.q r.go r.del r.lse (rowsOf r.kb n) (rowsOfWide r.ckb n) (rowsOf r.vb n) (planeOf r.kt n))
  acc := k0_pay40 s.acc (dsOf r n)

/-- The first `j` key blocks. -/
def blocks (r : Reads F) (s : Bufs F) : ℕ → Bufs F
  | 0 => s
  | j + 1 => if h : j < 8 then blockStep r ⟨j, h⟩ (blocks r s j) else blocks r s j

/-! ## The loop's memory, as the clean steps -/

section Loop

variable (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x1x512 .f32) (harg7 : arg7.IsWhole) (arg8 : Memref sig .tc .vmem S1x4096x1 .f32) (harg8 : arg8.IsWhole) (arg9 : Memref sig .tc .vmem S1x1x1x512 .f32) (harg9 : arg9.IsWhole) (arg10 : Memref sig .tc .vmem S512x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S1x1x1x512 .f32) (harg13 : arg13.IsWhole) (arg14 : Memref sig .tc .vmem S1x4096x1 .f32) (harg14 : arg14.IsWhole) (arg15 : Memref sig .tc .vmem S4096x128 .bf16) (harg15 : arg15.IsWhole) (arg16 : Memref sig .tc .vmem S8x128x512 .bf16) (harg16 : arg16.IsWhole) (arg17 : Memref sig .tc .vmem S4096x128 .bf16) (harg17 : arg17.IsWhole) (arg18 : Memref sig .tc .vmem S4096x512 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S4096x128 .f32) (harg21 : arg21.IsWhole) (arg22 : Memref sig .tc .vmem S128x512 .f32) (harg22 : arg22.IsWhole) (arg1 : BitVec 32) (v7 : FVec F S512x128 .bf16) (v9 : FVec F S512x128 .bf16) (v15 : FVec F S1x512 .f32) (v22 : FVec F S1x512 .f32) (v28 : FVec F S1x512 .f32) (c0_i32_20 : BitVec 32) (v29 : BitVec 32) (X_arg15 : BufTy.Contents (Elt F) arg15.view.ty) (X_arg16 : BufTy.Contents (Elt F) arg16.view.ty) (X_arg17 : BufTy.Contents (Elt F) arg17.view.ty) (X_arg18 : BufTy.Contents (Elt F) arg18.view.ty)
variable (G19 : BufTy.Contents (Elt F) arg19.view.ty) (G20 : BufTy.Contents (Elt F) arg20.view.ty) (G21 : BufTy.Contents (Elt F) arg21.view.ty) (G22 : BufTy.Contents (Elt F) arg22.view.ty) (init : FVec F S1x512 .f32)

/-- What the loop reads, as plain vectors. -/
def loopReads : Reads F where
  kb := arg15.view.read (Elt F) X_arg15
  kt := arg16.view.read (Elt F) X_arg16
  vb := arg17.view.read (Elt F) X_arg17
  ckb := arg18.view.read (Elt F) X_arg18
  q := v7
  go := v9
  del := v15
  lse := v22

/-- What the loop writes, as plain vectors. -/
def loopWrites : Bufs F where
  dk := arg19.view.read (Elt F) G19
  dv := arg20.view.read (Elt F) G20
  dck := arg21.view.read (Elt F) G21
  dqt := arg22.view.read (Elt F) G22
  acc := init

/-- One trip, from any contents, is one clean step. -/
theorem trip_eq (k : Fin (k0_t1_loop i).trips) (h8 : k.val < 8) :
    loopWrites arg19 arg20 arg21 arg22
        (arg19.view.writes (Elt F) G19 (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 k init G19 G20 G21 G22).1)
        (arg20.view.writes (Elt F) G20 (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 k init G19 G20 G21 G22).2.1)
        (arg21.view.writes (Elt F) G21 (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 k init G19 G20 G21 G22).2.2.1)
        (arg22.view.writes (Elt F) G22 (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 k init G19 G20 G21 G22).2.2.2)
        (tripR_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 k init G19 G20 G21 G22)
      = blockStep (loopReads (F := F) arg15 arg16 arg17 arg18 v7 v9 v15 v22 X_arg15 X_arg16 X_arg17 X_arg18) ⟨k.val, h8⟩
          (loopWrites arg19 arg20 arg21 arg22 G19 G20 G21 G22 init) := by
  have e1 := off1_eq i k
  have e2 := off2_eq i k
  have e3 := off3_eq i k
  have r15 : View.readAt (Elt F) arg15.view (Rect.unit (s := S4096x128) (k0_off1 i k) S512x128.size (k0_off1_inb i k)).toLoadRect X_arg15 = rowsOf (arg15.view.read (Elt F) X_arg15) ⟨k.val, h8⟩ := View.readAt_unit _ _ _ e1 _
  have r16 : View.readAt (Elt F) arg16.view (Rect.unit (s := S8x128x512) (k0_off3 i k) S1x128x512.size (k0_off3_inb i k)).toLoadRect X_arg16 = planeOf (arg16.view.read (Elt F) X_arg16) ⟨k.val, h8⟩ := View.readAt_unit _ _ _ e3 _
  have r17 : View.readAt (Elt F) arg17.view (Rect.unit (s := S4096x128) (k0_off1 i k) S512x128.size (k0_off1_inb i k)).toLoadRect X_arg17 = rowsOf (arg17.view.read (Elt F) X_arg17) ⟨k.val, h8⟩ := View.readAt_unit _ _ _ e1 _
  have r18 : View.readAt (Elt F) arg18.view (Rect.unit (s := S4096x512) (k0_off2 i k) S512x512.size (k0_off2_inb i k)).toLoadRect X_arg18 = rowsOfWide (arg18.view.read (Elt F) X_arg18) ⟨k.val, h8⟩ := View.readAt_unit _ _ _ e2 _
  have r19 : View.readAt (Elt F) arg19.view (Rect.unit (s := S4096x128) (k0_off1 i k) S512x128.size (k0_off1_inb i k)).toLoadRect G19 = rowsOf (arg19.view.read (Elt F) G19) ⟨k.val, h8⟩ := View.readAt_unit _ _ _ e1 _
  have r20 : View.readAt (Elt F) arg20.view (Rect.unit (s := S4096x128) (k0_off1 i k) S512x128.size (k0_off1_inb i k)).toLoadRect G20 = rowsOf (arg20.view.read (Elt F) G20) ⟨k.val, h8⟩ := View.readAt_unit _ _ _ e1 _
  have r21 : View.readAt (Elt F) arg21.view (Rect.unit (s := S4096x128) (k0_off1 i k) S512x128.size (k0_off1_inb i k)).toLoadRect G21 = rowsOf (arg21.view.read (Elt F) G21) ⟨k.val, h8⟩ := View.readAt_unit _ _ _ e1 _
  have r22 : View.readAt (Elt F) arg22.view (Rect.unit (s := S128x512) ![0, 0] S128x512.size inb_S128x512_S128x512_0_0).toLoadRect G22 = arg22.view.read (Elt F) G22 := View.readAt_full _ _ _
  unfold loopWrites tripR_k0_t1 tripL_k0_t1 trip_k0_t1
  dsimp only
  unfold blockStep dsOf loopReads
  dsimp only
  rw [← r15, ← r16, ← r17, ← r18, ← r19, ← r20, ← r21, ← r22]
  congr 1
  · exact View.read_writes_cons_put _ _ _ _ _ e1
  · exact View.read_writes_cons_put _ _ _ _ _ e1
  · exact View.read_writes_cons_put _ _ _ _ _ e1
  · exact View.read_writes_full _ _ _ _ _

/-- The loop's state before a trip, read as plain vectors. -/
def loopBufs (j : ℕ) : Bufs F :=
  loopWrites arg19 arg20 arg21 arg22
    (arg19.view.writes (Elt F) G19 (st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 G19 G20 G21 G22 init j).2.1)
    (arg20.view.writes (Elt F) G20 (st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 G19 G20 G21 G22 init j).2.2.1)
    (arg21.view.writes (Elt F) G21 (st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 G19 G20 G21 G22 init j).2.2.2.1)
    (arg22.view.writes (Elt F) G22 (st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 G19 G20 G21 G22 init j).2.2.2.2)
    (st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 G19 G20 G21 G22 init j).1

/-- Each trip is one clean step. -/
theorem loopBufs_succ (j : ℕ) (h : j < (k0_t1_loop i).trips) (h8 : j < 8) :
    loopBufs 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 G19 G20 G21 G22 init (j + 1)
      = blockStep (loopReads (F := F) arg15 arg16 arg17 arg18 v7 v9 v15 v22 X_arg15 X_arg16 X_arg17 X_arg18) ⟨j, h8⟩ (loopBufs 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 G19 G20 G21 G22 init j) := by
  unfold loopBufs
  rw [show j + 1 = (⟨j, h⟩ : Fin (k0_t1_loop i).trips).val + 1 from rfl, st_k0_t1_succ]
  dsimp only
  generalize st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 G19 G20 G21 G22 init j = s
  rw [View.writes_append, View.writes_append, View.writes_append, View.writes_append]
  exact trip_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 _ _ _ _ _ ⟨j, h⟩ h8

/-- After `j` trips the loop's memory is the clean steps' result. -/
theorem loopBufs_eq (j : ℕ) (h : j ≤ (i 1).val) :
    loopBufs 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 G19 G20 G21 G22 init j
      = blocks (loopReads (F := F) arg15 arg16 arg17 arg18 v7 v9 v15 v22 X_arg15 X_arg16 X_arg17 X_arg18) (loopWrites arg19 arg20 arg21 arg22 G19 G20 G21 G22 init) j := by
  have h8 : (i 1).val < 8 := (i 1).isLt
  induction j with
  | zero => rfl
  | succ j ih =>
    rw [loopBufs_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 G19 G20 G21 G22 init j (by rw [trips_t1]; omega) (by omega), ih (by omega)]
    show _ = dite _ _ _
    rw [dif_pos (by omega : j < 8)]

end Loop

end Cert.KernelIdeal.AttnBwd
-- ==== Proof.PointMem.lean ====
module

public import proofs.«01_k».proof.Proof.BlockLoop
public import Idealize.ShloMosaic.Lib.VecWindow

@[expose] public section

set_option maxRecDepth 8192
set_option maxHeartbeats 4000000

noncomputable section

namespace Cert.KernelIdeal.AttnBwd

open Idealize.ShloMosaic Idealize.ShloMosaic.TcCoe Idealize.ShloMosaic.Tactic
open Cert.KernelIdeal.Gen

variable {F : FTy → Type} [FloatOps F] [Named F]

/-! ## The diagonal block -/

/-- The score gradient of the diagonal block: entries above the diagonal are zero. -/
def dsDiag (r : Reads F) (n : Fin 8) : FVec F S512x512 .f32 :=
  k0_pay46 r.q r.go r.del r.lse (rowsOf r.kb n) (rowsOfWide r.ckb n) (rowsOf r.vb n)

/-- The diagonal block. -/
def diagStep (r : Reads F) (n : Fin 8) (s : Bufs F) : Bufs F where
  dk := putRows s.dk n (k0_pay48 r.q (k0_pay47 r.q r.go r.del r.lse (rowsOf r.kb n) (rowsOfWide r.ckb n) (rowsOf r.vb n)) (rowsOf s.dk n))
  dv := putRows s.dv n (k0_pay45 r.q r.go r.lse (rowsOf r.kb n) (rowsOfWide r.ckb n) (rowsOf s.dv n))
  dck := putRows s.dck n (k0_pay50 (dsDiag r n) (rowsOf s.dck n))
  dqt := k0_pay49 (k0_pay47 r.q r.go r.del r.lse (rowsOf r.kb n) (rowsOfWide r.ckb n) (rowsOf r.vb n)) s.dqt (planeOf r.kt n)
  acc := k0_pay51 s.acc (dsDiag r n)

/-- One grid point on plain vectors: the key blocks before the diagonal, then the diagonal. -/
def point (r : Reads F) (n : Fin 8) (s : Bufs F) : Bufs F := diagStep r n (blocks r s n.val)

section Diag

variable (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x1x512 .f32) (harg7 : arg7.IsWhole) (arg8 : Memref sig .tc .vmem S1x4096x1 .f32) (harg8 : arg8.IsWhole) (arg9 : Memref sig .tc .vmem S1x1x1x512 .f32) (harg9 : arg9.IsWhole) (arg10 : Memref sig .tc .vmem S512x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S1x1x1x512 .f32) (harg13 : arg13.IsWhole) (arg14 : Memref sig .tc .vmem S1x4096x1 .f32) (harg14 : arg14.IsWhole) (arg15 : Memref sig .tc .vmem S4096x128 .bf16) (harg15 : arg15.IsWhole) (arg16 : Memref sig .tc .vmem S8x128x512 .bf16) (harg16 : arg16.IsWhole) (arg17 : Memref sig .tc .vmem S4096x128 .bf16) (harg17 : arg17.IsWhole) (arg18 : Memref sig .tc .vmem S4096x512 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S4096x128 .f32) (harg21 : arg21.IsWhole) (arg22 : Memref sig .tc .vmem S128x512 .f32) (harg22 : arg22.IsWhole) (arg1 : BitVec 32) (v7 : FVec F S512x128 .bf16) (v9 : FVec F S512x128 .bf16) (v15 : FVec F S1x512 .f32) (v22 : FVec F S1x512 .f32) (v28 : FVec F S1x512 .f32) (c0_i32_20 : BitVec 32) (v29 : BitVec 32) (X_arg15 : BufTy.Contents (Elt F) arg15.view.ty) (X_arg16 : BufTy.Contents (Elt F) arg16.view.ty) (X_arg17 : BufTy.Contents (Elt F) arg17.view.ty) (X_arg18 : BufTy.Contents (Elt F) arg18.view.ty)
variable (G19 : BufTy.Contents (Elt F) arg19.view.ty) (G20 : BufTy.Contents (Elt F) arg20.view.ty) (G21 : BufTy.Contents (Elt F) arg21.view.ty) (G22 : BufTy.Contents (Elt F) arg22.view.ty) (init : FVec F S1x512 .f32)

/-- The diagonal block's stores, from any contents, are the clean step. -/
theorem diag_eq :
    loopWrites arg19 arg20 arg21 arg22
        (arg19.view.writes (Elt F) G19 [⟨Rect.unit (s := S4096x128) (k0_off7 i) S512x128.size (k0_off7_inb i), k0_pay48 v7 (k0_pay47 v7 v9 v15 v22 (View.readAt (Elt F) arg15.view (Rect.unit (s := S4096x128) (k0_off7 i) S512x128.size (k0_off7_inb i)).toLoadRect X_arg15) (View.readAt (Elt F) arg18.view (Rect.unit (s := S4096x512) (k0_off8 i) S512x512.size (k0_off8_inb i)).toLoadRect X_arg18) (View.readAt (Elt F) arg17.view (Rect.unit (s := S4096x128) (k0_off7 i) S512x128.size (k0_off7_inb i)).toLoadRect X_arg17)) (View.readAt (Elt F) arg19.view (Rect.unit (s := S4096x128) (k0_off7 i) S512x128.size (k0_off7_inb i)).toLoadRect G19)⟩])
        (arg20.view.writes (Elt F) G20 [⟨Rect.unit (s := S4096x128) (k0_off7 i) S512x128.size (k0_off7_inb i), k0_pay45 v7 v9 v22 (View.readAt (Elt F) arg15.view (Rect.unit (s := S4096x128) (k0_off7 i) S512x128.size (k0_off7_inb i)).toLoadRect X_arg15) (View.readAt (Elt F) arg18.view (Rect.unit (s := S4096x512) (k0_off8 i) S512x512.size (k0_off8_inb i)).toLoadRect X_arg18) (View.readAt (Elt F) arg20.view (Rect.unit (s := S4096x128) (k0_off7 i) S512x128.size (k0_off7_inb i)).toLoadRect G20)⟩])
        (arg21.view.writes (Elt F) G21 [⟨Rect.unit (s := S4096x128) (k0_off7 i) S512x128.size (k0_off7_inb i), k0_pay50 (k0_pay46 v7 v9 v15 v22 (View.readAt (Elt F) arg15.view (Rect.unit (s := S4096x128) (k0_off7 i) S512x128.size (k0_off7_inb i)).toLoadRect X_arg15) (View.readAt (Elt F) arg18.view (Rect.unit (s := S4096x512) (k0_off8 i) S512x512.size (k0_off8_inb i)).toLoadRect X_arg18) (View.readAt (Elt F) arg17.view (Rect.unit (s := S4096x128) (k0_off7 i) S512x128.size (k0_off7_inb i)).toLoadRect X_arg17)) (View.readAt (Elt F) arg21.view (Rect.unit (s := S4096x128) (k0_off7 i) S512x128.size (k0_off7_inb i)).toLoadRect G21)⟩])
        (arg22.view.writes (Elt F) G22 [⟨Rect.unit (s := S128x512) ![0, 0] S128x512.size inb_S128x512_S128x512_0_0, k0_pay49 (k0_pay47 v7 v9 v15 v22 (View.readAt (Elt F) arg15.view (Rect.unit (s := S4096x128) (k0_off7 i) S512x128.size (k0_off7_inb i)).toLoadRect X_arg15) (View.readAt (Elt F) arg18.view (Rect.unit (s := S4096x512) (k0_off8 i) S512x512.size (k0_off8_inb i)).toLoadRect X_arg18) (View.readAt (Elt F) arg17.view (Rect.unit (s := S4096x128) (k0_off7 i) S512x128.size (k0_off7_inb i)).toLoadRect X_arg17)) (View.readAt (Elt F) arg22.view (Rect.unit (s := S128x512) ![0, 0] S128x512.size inb_S128x512_S128x512_0_0).toLoadRect G22) (View.readAt (Elt F) arg16.view (Rect.unit (s := S8x128x512) (k0_off9 i) S1x128x512.size (k0_off9_inb i)).toLoadRect X_arg16)⟩])
        (k0_pay51 init (k0_pay46 v7 v9 v15 v22 (View.readAt (Elt F) arg15.view (Rect.unit (s := S4096x128) (k0_off7 i) S512x128.size (k0_off7_inb i)).toLoadRect X_arg15) (View.readAt (Elt F) arg18.view (Rect.unit (s := S4096x512) (k0_off8 i) S512x512.size (k0_off8_inb i)).toLoadRect X_arg18) (View.readAt (Elt F) arg17.view (Rect.unit (s := S4096x128) (k0_off7 i) S512x128.size (k0_off7_inb i)).toLoadRect X_arg17)))
      = diagStep (loopReads (F := F) arg15 arg16 arg17 arg18 v7 v9 v15 v22 X_arg15 X_arg16 X_arg17 X_arg18) (i 1) (loopWrites arg19 arg20 arg21 arg22 G19 G20 G21 G22 init) := by
  have e7 := off7_eq i
  have e8 := off8_eq i
  have e9 := off9_eq i
  have r15 : (View.readAt (Elt F) arg15.view (Rect.unit (s := S4096x128) (k0_off7 i) S512x128.size (k0_off7_inb i)).toLoadRect X_arg15) = rowsOf (arg15.view.read (Elt F) X_arg15) (i 1) := View.readAt_unit _ _ _ e7 _
  have r16 : (View.readAt (Elt F) arg16.view (Rect.unit (s := S8x128x512) (k0_off9 i) S1x128x512.size (k0_off9_inb i)).toLoadRect X_arg16) = planeOf (arg16.view.read (Elt F) X_arg16) (i 1) := View.readAt_unit _ _ _ e9 _
  have r17 : (View.readAt (Elt F) arg17.view (Rect.unit (s := S4096x128) (k0_off7 i) S512x128.size (k0_off7_inb i)).toLoadRect X_arg17) = rowsOf (arg17.view.read (Elt F) X_arg17) (i 1) := View.readAt_unit _ _ _ e7 _
  have r18 : (View.readAt (Elt F) arg18.view (Rect.unit (s := S4096x512) (k0_off8 i) S512x512.size (k0_off8_inb i)).toLoadRect X_arg18) = rowsOfWide (arg18.view.read (Elt F) X_arg18) (i 1) := View.readAt_unit _ _ _ e8 _
  have r19 : (View.readAt (Elt F) arg19.view (Rect.unit (s := S4096x128) (k0_off7 i) S512x128.size (k0_off7_inb i)).toLoadRect G19) = rowsOf (arg19.view.read (Elt F) G19) (i 1) := View.readAt_unit _ _ _ e7 _
  have r20 : (View.readAt (Elt F) arg20.view (Rect.unit (s := S4096x128) (k0_off7 i) S512x128.size (k0_off7_inb i)).toLoadRect G20) = rowsOf (arg20.view.read (Elt F) G20) (i 1) := View.readAt_unit _ _ _ e7 _
  have r21 : (View.readAt (Elt F) arg21.view (Rect.unit (s := S4096x128) (k0_off7 i) S512x128.size (k0_off7_inb i)).toLoadRect G21) = rowsOf (arg21.view.read (Elt F) G21) (i 1) := View.readAt_unit _ _ _ e7 _
  have r22 : (View.readAt (Elt F) arg22.view (Rect.unit (s := S128x512) ![0, 0] S128x512.size inb_S128x512_S128x512_0_0).toLoadRect G22) = arg22.view.read (Elt F) G22 := View.readAt_full _ _ _
  unfold loopWrites diagStep dsDiag loopReads
  dsimp only
  rw [← r15, ← r16, ← r17, ← r18, ← r19, ← r20, ← r21, ← r22]
  congr 1
  · exact View.read_writes_cons_put _ _ _ _ _ e7
  · exact View.read_writes_cons_put _ _ _ _ _ e7
  · exact View.read_writes_cons_put _ _ _ _ _ e7
  · exact View.read_writes_full _ _ _ _ _

/-- The loop's stores and then the diagonal's, from any contents, are the clean point. -/
theorem point_eq (st : FVec F S1x512 .f32 × List (View.Piece (Elt F) S4096x128 .f32) × List (View.Piece (Elt F) S4096x128 .f32) × List (View.Piece (Elt F) S4096x128 .f32) × List (View.Piece (Elt F) S128x512 .f32))
    (hst : st = st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 G19 G20 G21 G22 init (k0_t1_loop i).trips) :
    loopWrites arg19 arg20 arg21 arg22
        (arg19.view.writes (Elt F) (arg19.view.writes (Elt F) G19 st.2.1) [⟨Rect.unit (s := S4096x128) (k0_off7 i) S512x128.size (k0_off7_inb i), k0_pay48 v7 (k0_pay47 v7 v9 v15 v22 (View.readAt (Elt F) arg15.view (Rect.unit (s := S4096x128) (k0_off7 i) S512x128.size (k0_off7_inb i)).toLoadRect X_arg15) (View.readAt (Elt F) arg18.view (Rect.unit (s := S4096x512) (k0_off8 i) S512x512.size (k0_off8_inb i)).toLoadRect X_arg18) (View.readAt (Elt F) arg17.view (Rect.unit (s := S4096x128) (k0_off7 i) S512x128.size (k0_off7_inb i)).toLoadRect X_arg17)) (View.readAt (Elt F) arg19.view (Rect.unit (s := S4096x128) (k0_off7 i) S512x128.size (k0_off7_inb i)).toLoadRect (arg19.view.writes (Elt F) G19 st.2.1))⟩])
        (arg20.view.writes (Elt F) (arg20.view.writes (Elt F) G20 st.2.2.1) [⟨Rect.unit (s := S4096x128) (k0_off7 i) S512x128.size (k0_off7_inb i), k0_pay45 v7 v9 v22 (View.readAt (Elt F) arg15.view (Rect.unit (s := S4096x128) (k0_off7 i) S512x128.size (k0_off7_inb i)).toLoadRect X_arg15) (View.readAt (Elt F) arg18.view (Rect.unit (s := S4096x512) (k0_off8 i) S512x512.size (k0_off8_inb i)).toLoadRect X_arg18) (View.readAt (Elt F) arg20.view (Rect.unit (s := S4096x128) (k0_off7 i) S512x128.size (k0_off7_inb i)).toLoadRect (arg20.view.writes (Elt F) G20 st.2.2.1))⟩])
        (arg21.view.writes (Elt F) (arg21.view.writes (Elt F) G21 st.2.2.2.1) [⟨Rect.unit (s := S4096x128) (k0_off7 i) S512x128.size (k0_off7_inb i), k0_pay50 (k0_pay46 v7 v9 v15 v22 (View.readAt (Elt F) arg15.view (Rect.unit (s := S4096x128) (k0_off7 i) S512x128.size (k0_off7_inb i)).toLoadRect X_arg15) (View.readAt (Elt F) arg18.view (Rect.unit (s := S4096x512) (k0_off8 i) S512x512.size (k0_off8_inb i)).toLoadRect X_arg18) (View.readAt (Elt F) arg17.view (Rect.unit (s := S4096x128) (k0_off7 i) S512x128.size (k0_off7_inb i)).toLoadRect X_arg17)) (View.readAt (Elt F) arg21.view (Rect.unit (s := S4096x128) (k0_off7 i) S512x128.size (k0_off7_inb i)).toLoadRect (arg21.view.writes (Elt F) G21 st.2.2.2.1))⟩])
        (arg22.view.writes (Elt F) (arg22.view.writes (Elt F) G22 st.2.2.2.2) [⟨Rect.unit (s := S128x512) ![0, 0] S128x512.size inb_S128x512_S128x512_0_0, k0_pay49 (k0_pay47 v7 v9 v15 v22 (View.readAt (Elt F) arg15.view (Rect.unit (s := S4096x128) (k0_off7 i) S512x128.size (k0_off7_inb i)).toLoadRect X_arg15) (View.readAt (Elt F) arg18.view (Rect.unit (s := S4096x512) (k0_off8 i) S512x512.size (k0_off8_inb i)).toLoadRect X_arg18) (View.readAt (Elt F) arg17.view (Rect.unit (s := S4096x128) (k0_off7 i) S512x128.size (k0_off7_inb i)).toLoadRect X_arg17)) (View.readAt (Elt F) arg22.view (Rect.unit (s := S128x512) ![0, 0] S128x512.size inb_S128x512_S128x512_0_0).toLoadRect (arg22.view.writes (Elt F) G22 st.2.2.2.2)) (View.readAt (Elt F) arg16.view (Rect.unit (s := S8x128x512) (k0_off9 i) S1x128x512.size (k0_off9_inb i)).toLoadRect X_arg16)⟩])
        (k0_pay51 st.1 (k0_pay46 v7 v9 v15 v22 (View.readAt (Elt F) arg15.view (Rect.unit (s := S4096x128) (k0_off7 i) S512x128.size (k0_off7_inb i)).toLoadRect X_arg15) (View.readAt (Elt F) arg18.view (Rect.unit (s := S4096x512) (k0_off8 i) S512x512.size (k0_off8_inb i)).toLoadRect X_arg18) (View.readAt (Elt F) arg17.view (Rect.unit (s := S4096x128) (k0_off7 i) S512x128.size (k0_off7_inb i)).toLoadRect X_arg17)))
      = point (loopReads (F := F) arg15 arg16 arg17 arg18 v7 v9 v15 v22 X_arg15 X_arg16 X_arg17 X_arg18) (i 1) (loopWrites arg19 arg20 arg21 arg22 G19 G20 G21 G22 init) := by
  rw [diag_eq]
  unfold point
  rw [← loopBufs_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 X_arg15 X_arg16 X_arg17 X_arg18 G19 G20 G21 G22 init (i 1).val (le_refl _), ← trips_t1 i, hst]
  rfl

/-- The second loop makes no trips, so it leaves its carried value and no stores. -/
theorem st_t2_none (n : ℕ) (hn : n = 0) (c' : BitVec 32) (acc0 : FVec F S1x512 .f32) :
    st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v7 v9 v15 v22 v28 c0_i32_20 v29 c' X_arg15 X_arg16 X_arg17 X_arg18 G19 G20 G21 G22 acc0 n = (acc0, [], [], [], []) := by
  subst hn; rfl

end Diag

end Cert.KernelIdeal.AttnBwd
-- ==== Proof.Reads.lean ====
module

public import proofs.«01_k».proof.Proof.PointMem
public import Idealize.ShloMosaic.Lib.VecWindow
public import Idealize.ShloMosaic.Lib.Pointwise

@[expose] public section

set_option maxRecDepth 8192
set_option maxHeartbeats 4000000

noncomputable section

namespace Cert.KernelIdeal.AttnBwd

open Idealize.ShloMosaic Idealize.ShloMosaic.TcCoe Idealize.ShloMosaic.Tactic
open Cert.KernelIdeal.Gen

variable {F : FTy → Type} [FloatOps F] [Named F]

/-- What a grid point reads, from the scratch arrays and the blocks it is handed. -/
def readsOf (kb : Vec F S4096x128 .bf16) (kt : Vec F S8x128x512 .bf16) (vb : Vec F S4096x128 .bf16) (ckb : Vec F S4096x512 .f32)
    (x0 : Vec F S512x128 .bf16) (x3 x4 : Vec F S512x128 .f32) (x5 x7 : Vec F S1x1x1x512 .f32) : Reads F :=
  ⟨kb, kt, vb, ckb, k0_pay32 x0, k0_pay33 x3, k0_pay34 x3 x4, k0_pay35 x7 x5⟩

/-- The keys cut into eight blocks of 512 rows, each turned over. -/
def planes (x1 : Vec F S4096x128 .bf16) : Vec F S8x128x512 .bf16 :=
  fun y => FloatOps.truncf .bf16 bitsLt_bf16_f32 (FloatOps.extf .f32 bitsLt_bf16_f32 (x1 (ix2 ⟨512 * (y 0).val + (y 2).val, by have h0 : (y 0).val < 8 := (y 0).isLt; have h2 : (y 2).val < 512 := (y 2).isLt; omega⟩ (y 1))))

end Cert.KernelIdeal.AttnBwd
-- ==== Proof.Pay.lean ====
module

public import proofs.«01_k».proof.Proof.Reads
public import Idealize.ShloMosaic.Lib.WordCmp

/-! The body's vector operations read at one index, over the extended reals. -/

@[expose] public section

set_option maxRecDepth 16384
set_option maxHeartbeats 4000000

noncomputable section

namespace Cert.KernelIdeal.AttnBwd

open Idealize.ShloMosaic Idealize.ShloMosaic.TcCoe Idealize.ShloMosaic.Tactic
open Cert.KernelIdeal.Gen

/-- The weight of key row `s` and query row `r` of one block pair, without the causal mask. -/
theorem pay15_apply (q : FVec Ideal S512x128 .bf16) (lse : FVec Ideal S1x512 .f32) (k : Vec Ideal S512x128 .bf16) (g : Vec Ideal S512x512 .f32) (s r : Fin 512) :
    k0_pay15 q lse k g (ix2 s r) = Ideal.exp2 (∑ d : Fin 128, k (ix2 s d) * q (ix2 r d) - g (ix2 s r) + lse (ix2 0 r)) := by
  pointwise [k0_pay15]
  rfl

/-- The value gradient's block: the weights against the output's gradient. -/
theorem pay16_apply (q go : FVec Ideal S512x128 .bf16) (lse : FVec Ideal S1x512 .f32) (k : Vec Ideal S512x128 .bf16) (g : Vec Ideal S512x512 .f32) (o : Vec Ideal S512x128 .f32) (s : Fin 512) (d : Fin 128) :
    k0_pay16 q go lse k g o (ix2 s d) = o (ix2 s d) + ∑ r : Fin 512, k0_pay15 q lse k g (ix2 s r) * go (ix2 r d) := by
  pointwise [k0_pay16]

/-- The score gradient. -/
theorem pay17_apply (q go : FVec Ideal S512x128 .bf16) (del lse : FVec Ideal S1x512 .f32) (k : Vec Ideal S512x128 .bf16) (g : Vec Ideal S512x512 .f32) (v : Vec Ideal S512x128 .bf16) (s r : Fin 512) :
    k0_pay17 q go del lse k g v (ix2 s r) = k0_pay15 q lse k g (ix2 s r) * (∑ d : Fin 128, v (ix2 s d) * go (ix2 r d) - del (ix2 0 r)) := by
  pointwise [k0_pay17]

/-- The key gradient's block: the score gradient against the scaled queries. -/
theorem pay19_apply (q go : FVec Ideal S512x128 .bf16) (del lse : FVec Ideal S1x512 .f32) (k : Vec Ideal S512x128 .bf16) (g : Vec Ideal S512x512 .f32) (v : Vec Ideal S512x128 .bf16) (o : Vec Ideal S512x128 .f32) (s : Fin 512) (d : Fin 128) :
    k0_pay19 q go del lse k g v o (ix2 s d) = o (ix2 s d) + ∑ r : Fin 512, k0_pay17 q go del lse k g v (ix2 s r) * q (ix2 r d) := by
  pointwise [k0_pay19, k0_pay18]

/-- The query gradient's share of one key block, transposed. -/
theorem pay38_apply (q go : FVec Ideal S512x128 .bf16) (del lse : FVec Ideal S1x512 .f32) (k : Vec Ideal S512x128 .bf16) (g : Vec Ideal S512x512 .f32) (v : Vec Ideal S512x128 .bf16) (t : Vec Ideal S1x128x512 .bf16) (o : Vec Ideal S128x512 .f32) (d : Fin 128) (r : Fin 512) :
    k0_pay38 o (k0_pay20 q go del lse k g v t) (ix2 d r) = o (ix2 d r) + ∑ s : Fin 512, t (ix3 0 d s) * k0_pay17 q go del lse k g v (ix2 s r) := by
  pointwise [k0_pay38, k0_pay20, k0_pay18]

/-- The row sums of the score gradient, folded onto 128 lanes. -/
theorem pay39_apply (x : FVec Ideal S512x512 .f32) (o : Vec Ideal S512x128 .f32) (s : Fin 512) (l : Fin 128) :
    k0_pay39 x o (ix2 s l) = o (ix2 s l) + (x (ix2 s ⟨l.val, by omega⟩) + x (ix2 s ⟨128 + l.val, by omega⟩) + x (ix2 s ⟨256 + l.val, by omega⟩) + x (ix2 s ⟨384 + l.val, by omega⟩)) := by
  pointwise [k0_pay39]

/-- The column sums of the score gradient. -/
theorem pay40_apply (x : FVec Ideal S512x512 .f32) (o : FVec Ideal S1x512 .f32) (r : Fin 512) :
    k0_pay40 o x (ix2 0 r) = o (ix2 0 r) + ∑ s : Fin 512, x (ix2 s r) := by
  pointwise [k0_pay40]

/-- The mask's comparison of two row numbers. -/
theorem select_le (s r : Fin 512) (a b : EReal) :
    Scalar.select (IntOp.cmpi CmpIPredicate.sge (BitVec.ofNat 32 r.val) (IntOp.addi (BitVec.ofNat 32 s.val) 0#32)) a b
      = if s ≤ r then a else b := by
  have ha : IntOp.addi (BitVec.ofNat 32 s.val) 0#32 = BitVec.ofNat 32 s.val := BitVec.add_zero _
  rw [ha, WordCmp.cmpi_sge_ofNat (by have := r.isLt; omega) (by have := s.isLt; omega)]
  by_cases h : s ≤ r
  · rw [if_pos h, decide_eq_true (Fin.le_def.mp h)]; rfl
  · rw [if_neg h, decide_eq_false (fun h' => h (Fin.le_def.mpr h'))]; rfl

/-- The weight on the diagonal block: none where the key comes after the query. -/
theorem pay44_apply (q : FVec Ideal S512x128 .bf16) (lse : FVec Ideal S1x512 .f32) (k : Vec Ideal S512x128 .bf16) (g : Vec Ideal S512x512 .f32) (s r : Fin 512) :
    k0_pay44 q lse k g (ix2 s r) = if s ≤ r then k0_pay15 q lse k g (ix2 s r) else 0 := by
  rw [pay15_apply]
  pointwise [k0_pay44]
  exact select_le s r _ _

/-- The value gradient's diagonal block. -/
theorem pay45_apply (q go : FVec Ideal S512x128 .bf16) (lse : FVec Ideal S1x512 .f32) (k : Vec Ideal S512x128 .bf16) (g : Vec Ideal S512x512 .f32) (o : Vec Ideal S512x128 .f32) (s : Fin 512) (d : Fin 128) :
    k0_pay45 q go lse k g o (ix2 s d) = o (ix2 s d) + ∑ r : Fin 512, k0_pay44 q lse k g (ix2 s r) * go (ix2 r d) := by
  pointwise [k0_pay45]

/-- The score gradient on the diagonal block. -/
theorem pay46_apply (q go : FVec Ideal S512x128 .bf16) (del lse : FVec Ideal S1x512 .f32) (k : Vec Ideal S512x128 .bf16) (g : Vec Ideal S512x512 .f32) (v : Vec Ideal S512x128 .bf16) (s r : Fin 512) :
    k0_pay46 q go del lse k g v (ix2 s r) = k0_pay44 q lse k g (ix2 s r) * (∑ d : Fin 128, v (ix2 s d) * go (ix2 r d) - del (ix2 0 r)) := by
  pointwise [k0_pay46]

/-- The key gradient's diagonal block. -/
theorem pay48_apply (q go : FVec Ideal S512x128 .bf16) (del lse : FVec Ideal S1x512 .f32) (k : Vec Ideal S512x128 .bf16) (g : Vec Ideal S512x512 .f32) (v : Vec Ideal S512x128 .bf16) (o : Vec Ideal S512x128 .f32) (s : Fin 512) (d : Fin 128) :
    k0_pay48 q (k0_pay47 q go del lse k g v) o (ix2 s d) = o (ix2 s d) + ∑ r : Fin 512, k0_pay46 q go del lse k g v (ix2 s r) * q (ix2 r d) := by
  pointwise [k0_pay48, k0_pay47]

/-- The query gradient's share of the diagonal block, transposed. -/
theorem pay49_apply (q go : FVec Ideal S512x128 .bf16) (del lse : FVec Ideal S1x512 .f32) (k : Vec Ideal S512x128 .bf16) (g : Vec Ideal S512x512 .f32) (v : Vec Ideal S512x128 .bf16) (t : Vec Ideal S1x128x512 .bf16) (o : Vec Ideal S128x512 .f32) (d : Fin 128) (r : Fin 512) :
    k0_pay49 (k0_pay47 q go del lse k g v) o t (ix2 d r) = o (ix2 d r) + ∑ s : Fin 512, t (ix3 0 d s) * k0_pay46 q go del lse k g v (ix2 s r) := by
  pointwise [k0_pay49, k0_pay47]

/-- The row sums of the diagonal block's score gradient, folded onto 128 lanes. -/
theorem pay50_apply (x : FVec Ideal S512x512 .f32) (o : Vec Ideal S512x128 .f32) (s : Fin 512) (l : Fin 128) :
    k0_pay50 x o (ix2 s l) = o (ix2 s l) + (x (ix2 s ⟨l.val, by omega⟩) + x (ix2 s ⟨128 + l.val, by omega⟩) + x (ix2 s ⟨256 + l.val, by omega⟩) + x (ix2 s ⟨384 + l.val, by omega⟩)) := by
  pointwise [k0_pay50]

/-- The column sums of the diagonal block's score gradient. -/
theorem pay51_apply (x : FVec Ideal S512x512 .f32) (o : FVec Ideal S1x512 .f32) (r : Fin 512) :
    k0_pay51 o x (ix2 0 r) = o (ix2 0 r) + ∑ s : Fin 512, x (ix2 s r) := by
  pointwise [k0_pay51]

/-- A head's accumulators start at zero. -/
theorem pay29_apply (s : Fin 4096) (d : Fin 128) : k0_pay29 (F := Ideal) (ix2 s d) = 0 := by pointwise [k0_pay29]
theorem pay30_apply (s : Fin 4096) (d : Fin 128) : k0_pay30 (F := Ideal) (ix2 s d) = 0 := by pointwise [k0_pay30]
theorem pay31_apply (s : Fin 4096) (d : Fin 128) : k0_pay31 (F := Ideal) (ix2 s d) = 0 := by pointwise [k0_pay31]
/-- A point's accumulators start at zero. -/
theorem pay36_apply (d : Fin 128) (r : Fin 512) : k0_pay36 (F := Ideal) (ix2 d r) = 0 := by pointwise [k0_pay36]
theorem pay37_apply (r : Fin 512) : k0_pay37 (F := Ideal) (ix2 0 r) = 0 := by pointwise [k0_pay37]

/-- The real number each named constant stands for. -/
theorem log2e_eq : (Named.named κ "log2e" 0x3FB8AA3B#32 : Ideal .f32) = (((Real.log 2)⁻¹ : ℝ) : EReal) :=
  IdealRules.named_const.ideal_named_scalar _ _ _ _ rfl
theorem ln2_eq : (Named.named κ "ln2" 0x3F317218#32 : Ideal .f32) = ((Real.log 2 : ℝ) : EReal) :=
  IdealRules.named_const.ideal_named_scalar _ _ _ _ rfl
theorem scale_eq : (Named.named κ "scale" 0x3DB504F3#32 : Ideal .f32) = (((Real.sqrt 128)⁻¹ : ℝ) : EReal) :=
  IdealRules.named_const.ideal_named_scalar _ _ _ _ rfl
theorem scale_log2e_eq : (Named.named κ "scale_log2e" 0x3E0293EE#32 : Ideal .f32) = (((Real.sqrt 128)⁻¹ * (Real.log 2)⁻¹ : ℝ) : EReal) :=
  IdealRules.named_const.ideal_named_scalar _ _ _ _ rfl

/-- The keys and values are staged unchanged. -/
theorem pay5_apply (x : Vec Ideal S4096x128 .bf16) (s : Fin 4096) (d : Fin 128) : k0_pay5 x (ix2 s d) = x (ix2 s d) := by
  pointwise [k0_pay5]
theorem pay6_apply (x : Vec Ideal S4096x128 .bf16) (s : Fin 4096) (d : Fin 128) : k0_pay6 x (ix2 s d) = x (ix2 s d) := by
  pointwise [k0_pay6]

/-- The gate column in base two, spread over 512 lanes. -/
theorem pay7_apply (x : Vec Ideal S1x4096x1 .f32) (s : Fin 4096) (r : Fin 512) :
    k0_pay7 x (ix2 s r) = x (ix3 0 s 0) * (((Real.log 2)⁻¹ : ℝ) : EReal) := by
  pointwise [k0_pay7]
  rw [log2e_eq]

/-- The queries, scaled and turned to base two. -/
theorem pay32_apply (x : Vec Ideal S512x128 .bf16) (r : Fin 512) (d : Fin 128) :
    k0_pay32 x (ix2 r d) = x (ix2 r d) * (((Real.sqrt 128)⁻¹ * (Real.log 2)⁻¹ : ℝ) : EReal) := by
  pointwise [k0_pay32]
  rw [scale_log2e_eq]
theorem pay33_apply (x : Vec Ideal S512x128 .f32) (r : Fin 512) (d : Fin 128) : k0_pay33 x (ix2 r d) = x (ix2 r d) := by
  pointwise [k0_pay33]

/-- The row products of the output's gradient and the saved output. -/
theorem pay34_apply (x y : Vec Ideal S512x128 .f32) (r : Fin 512) :
    k0_pay34 x y (ix2 0 r) = ∑ d : Fin 128, x (ix2 r d) * y (ix2 r d) := by
  pointwise [k0_pay34]

/-- The exponent's row offset: the query's gate sum less the saved logarithm, in base two. -/
theorem pay35_apply (x y : Vec Ideal S1x1x1x512 .f32) (r : Fin 512) :
    k0_pay35 x y (ix2 0 r) = x (ix4 0 0 0 r) * (((Real.log 2)⁻¹ : ℝ) : EReal) - y (ix4 0 0 0 r) := by
  pointwise [k0_pay35]
  rw [log2e_eq]

/-- The transposed keys, block by block. -/
theorem planes_apply (x : Vec Ideal S4096x128 .bf16) (b : Fin 8) (d : Fin 128) (s : Fin 512) :
    planes x (ix3 b d s) = x (ix2 ⟨512 * b.val + s.val, by omega⟩ d) := rfl

/-- What is written back of each gradient. -/
theorem pay52_apply (x : Vec Ideal S128x512 .f32) (r : Fin 512) (d : Fin 128) :
    k0_pay52 x (ix2 r d) = x (ix2 d r) * (((Real.sqrt 128)⁻¹ : ℝ) : EReal) := by
  pointwise [k0_pay52]
  rw [scale_eq]
theorem pay1_apply (x : FVec Ideal S1x512 .f32) (r : Fin 512) : k0_pay1 x (ix4 0 0 0 r) = x (ix2 0 r) := by
  pointwise [k0_pay1]
theorem pay2_apply (x : Vec Ideal S4096x128 .f32) (s : Fin 4096) (d : Fin 128) :
    k0_pay2 x (ix2 s d) = x (ix2 s d) * ((Real.log 2 : ℝ) : EReal) := by
  pointwise [k0_pay2]
  rw [ln2_eq]
theorem pay3_apply (x : Vec Ideal S4096x128 .f32) (s : Fin 4096) (d : Fin 128) : k0_pay3 x (ix2 s d) = x (ix2 s d) := by
  pointwise [k0_pay3]
theorem pay4_apply (x : Vec Ideal S4096x128 .f32) (s : Fin 4096) : k0_pay4 x (ix3 0 s 0) = ∑ l : Fin 128, x (ix2 s l) := by
  pointwise [k0_pay4]

end Cert.KernelIdeal.AttnBwd
-- ==== Proof.PointValue.lean ====
module

public import proofs.«01_k».proof.Proof.Pay

/-! The gradients after one grid point, over the extended reals: each is what it was plus the point's sum over its queries. -/

@[expose] public section

set_option maxRecDepth 16384
set_option maxHeartbeats 4000000

noncomputable section

namespace Cert.KernelIdeal.AttnBwd

open Idealize.ShloMosaic Idealize.ShloMosaic.TcCoe Idealize.ShloMosaic.Tactic
open Cert.KernelIdeal.Gen

/-- Row `x` of block `b`, among 4096 rows. -/
abbrev rowAt (b : Fin 8) (x : Fin 512) : Fin 4096 := ⟨512 * b.val + x.val, by omega⟩

/-- Every row is a row of a block. -/
theorem exists_rowAt (s : Fin 4096) : ∃ b x, s = rowAt b x :=
  ⟨⟨s.val / 512, by omega⟩, ⟨s.val % 512, by omega⟩, Fin.ext (by show s.val = 512 * (s.val / 512) + s.val % 512; omega)⟩

theorem rowsOf_apply {e : EltTy} (x : Vec Ideal S4096x128 e) (n : Fin 8) (s : Fin 512) (d : Fin 128) :
    rowsOf x n (ix2 s d) = x (ix2 (rowAt n s) d) := by
  unfold rowsOf VecWindow.window
  apply congrArg x
  funext a
  apply Fin.ext
  fin_cases a <;> simp [Rect.emb_apply, rowAt]

theorem rowsOfWide_apply (x : Vec Ideal S4096x512 .f32) (n : Fin 8) (s : Fin 512) (r : Fin 512) :
    rowsOfWide x n (ix2 s r) = x (ix2 (rowAt n s) r) := by
  unfold rowsOfWide VecWindow.window
  apply congrArg x
  funext a
  apply Fin.ext
  fin_cases a <;> simp [Rect.emb_apply, rowAt]

theorem planeOf_apply (x : Vec Ideal S8x128x512 .bf16) (n : Fin 8) (d : Fin 128) (s : Fin 512) :
    planeOf x n (ix3 0 d s) = x (ix3 n d s) := by
  unfold planeOf VecWindow.window
  apply congrArg x
  funext a
  apply Fin.ext
  fin_cases a <;> simp [Rect.emb_apply]

theorem putRows_apply_same {e : EltTy} (x : Vec Ideal S4096x128 e) (n : Fin 8) (w : Vec Ideal S512x128 e) (s : Fin 512) (d : Fin 128) :
    putRows x n w (ix2 (rowAt n s) d) = w (ix2 s d) := by
  have h : rowsOf (putRows x n w) n = w := VecWindow.window_put_same x ![512 * n.val, 0] S512x128.size (rows128 n) w
  exact (rowsOf_apply (putRows x n w) n s d).symm.trans (congrFun h (ix2 s d))

theorem putRows_apply_other {e : EltTy} (x : Vec Ideal S4096x128 e) (n b : Fin 8) (hb : b ≠ n) (w : Vec Ideal S512x128 e) (s : Fin 512) (d : Fin 128) :
    putRows x n w (ix2 (rowAt b s) d) = x (ix2 (rowAt b s) d) := by
  have h : rowsOf (putRows x n w) b = rowsOf x b :=
    VecWindow.window_put_of_disjoint x ![512 * n.val, 0] S512x128.size ![512 * b.val, 0] S512x128.size (rows128 b) w (0 : Fin 2) (by
      have hv : b.val ≠ n.val := fun h => hb (Fin.ext h)
      show 512 * b.val + 512 ≤ 512 * n.val ∨ 512 * n.val + 512 ≤ 512 * b.val
      omega)
  exact (rowsOf_apply (putRows x n w) b s d).symm.trans ((congrFun h (ix2 s d)).trans (rowsOf_apply x b s d))

/-- The weight of key row `s` and query row `r` of the point's block, without the causal mask. -/
def weight (R : Reads Ideal) (s : Fin 4096) (r : Fin 512) : EReal :=
  Ideal.exp2 (∑ d : Fin 128, R.kb (ix2 s d) * R.q (ix2 r d) - R.ckb (ix2 s r) + R.lse (ix2 0 r))

/-- The weight with the causal mask, the point being the `n`-th block of queries. -/
def masked (R : Reads Ideal) (n : Fin 8) (s : Fin 4096) (r : Fin 512) : EReal :=
  if s.val ≤ (rowAt n r).val then weight R s r else 0

/-- The score gradient. -/
def grad (R : Reads Ideal) (n : Fin 8) (s : Fin 4096) (r : Fin 512) : EReal :=
  masked R n s r * (∑ d : Fin 128, R.vb (ix2 s d) * R.go (ix2 r d) - R.del (ix2 0 r))

/-- Four entries of a row of the score gradient, 128 apart. -/
def fold4 (R : Reads Ideal) (n : Fin 8) (s : Fin 4096) (l : Fin 128) : EReal :=
  grad R n s ⟨l.val, by omega⟩ + grad R n s ⟨128 + l.val, by omega⟩ + grad R n s ⟨256 + l.val, by omega⟩
    + grad R n s ⟨384 + l.val, by omega⟩

/-- Keys of a later block than the queries have no weight. -/
theorem masked_later (R : Reads Ideal) (n b : Fin 8) (h : n < b) (x r : Fin 512) : masked R n (rowAt b x) r = 0 := by
  unfold masked
  rw [if_neg]
  have := Fin.lt_def.mp h
  show ¬(512 * b.val + x.val ≤ 512 * n.val + r.val)
  omega

theorem grad_later (R : Reads Ideal) (n b : Fin 8) (h : n < b) (x r : Fin 512) : grad R n (rowAt b x) r = 0 := by
  unfold grad
  rw [masked_later R n b h, zero_mul]

/-- The block products' weights are the masked weights: below the diagonal, and on it. -/
theorem pay15_masked (R : Reads Ideal) (n b : Fin 8) (h : b < n) (x r : Fin 512) :
    k0_pay15 R.q R.lse (rowsOf R.kb b) (rowsOfWide R.ckb b) (ix2 x r) = masked R n (rowAt b x) r := by
  rw [pay15_apply]
  unfold masked
  rw [if_pos (by
    have := Fin.lt_def.mp h
    show 512 * b.val + x.val ≤ 512 * n.val + r.val
    omega)]
  simp only [rowsOf_apply, rowsOfWide_apply]
  rfl

theorem pay44_masked (R : Reads Ideal) (n : Fin 8) (x r : Fin 512) :
    k0_pay44 R.q R.lse (rowsOf R.kb n) (rowsOfWide R.ckb n) (ix2 x r) = masked R n (rowAt n x) r := by
  rw [pay44_apply, pay15_apply]
  unfold masked
  simp only [rowsOf_apply, rowsOfWide_apply]
  by_cases h : x ≤ r
  · rw [if_pos h, if_pos (by have := Fin.le_def.mp h; show 512 * n.val + x.val ≤ 512 * n.val + r.val; omega)]
    rfl
  · rw [if_neg h, if_neg (by
      have := fun h' => h (Fin.le_def.mpr h')
      show ¬(512 * n.val + x.val ≤ 512 * n.val + r.val)
      omega)]

/-- The same of the score gradient. -/
theorem pay17_grad (R : Reads Ideal) (n b : Fin 8) (h : b < n) (x r : Fin 512) :
    k0_pay17 R.q R.go R.del R.lse (rowsOf R.kb b) (rowsOfWide R.ckb b) (rowsOf R.vb b) (ix2 x r) = grad R n (rowAt b x) r := by
  rw [pay17_apply, pay15_masked R n b h]
  unfold grad
  simp only [rowsOf_apply]

theorem pay46_grad (R : Reads Ideal) (n : Fin 8) (x r : Fin 512) :
    k0_pay46 R.q R.go R.del R.lse (rowsOf R.kb n) (rowsOfWide R.ckb n) (rowsOf R.vb n) (ix2 x r) = grad R n (rowAt n x) r := by
  rw [pay46_apply, pay44_masked R n]
  unfold grad
  simp only [rowsOf_apply]

/-- What the step over key block `b` does to the buffers, at point `n`. -/
structure Step (R : Reads Ideal) (n b : Fin 8) (s s' : Bufs Ideal) : Prop where
  dk : ∀ x d, s'.dk (ix2 (rowAt b x) d) = s.dk (ix2 (rowAt b x) d) + ∑ r : Fin 512, grad R n (rowAt b x) r * R.q (ix2 r d)
  dv : ∀ x d, s'.dv (ix2 (rowAt b x) d) = s.dv (ix2 (rowAt b x) d) + ∑ r : Fin 512, masked R n (rowAt b x) r * R.go (ix2 r d)
  dck : ∀ x l, s'.dck (ix2 (rowAt b x) l) = s.dck (ix2 (rowAt b x) l) + fold4 R n (rowAt b x) l
  dk' : ∀ a, a ≠ b → ∀ x d, s'.dk (ix2 (rowAt a x) d) = s.dk (ix2 (rowAt a x) d)
  dv' : ∀ a, a ≠ b → ∀ x d, s'.dv (ix2 (rowAt a x) d) = s.dv (ix2 (rowAt a x) d)
  dck' : ∀ a, a ≠ b → ∀ x l, s'.dck (ix2 (rowAt a x) l) = s.dck (ix2 (rowAt a x) l)
  dqt : ∀ d r, s'.dqt (ix2 d r) = s.dqt (ix2 d r) + ∑ x : Fin 512, R.kt (ix3 b d x) * grad R n (rowAt b x) r
  acc : ∀ r, s'.acc (ix2 0 r) = s.acc (ix2 0 r) + ∑ x : Fin 512, grad R n (rowAt b x) r

/-- A key block below the diagonal. -/
theorem step_below (R : Reads Ideal) (n b : Fin 8) (h : b < n) (s : Bufs Ideal) : Step R n b s (blockStep R b s) where
  dk x d := by
    unfold blockStep
    dsimp only
    rw [putRows_apply_same, pay19_apply, rowsOf_apply]
    simp only [pay17_grad R n b h]
  dv x d := by
    unfold blockStep
    dsimp only
    rw [putRows_apply_same, pay16_apply, rowsOf_apply]
    simp only [pay15_masked R n b h]
  dck x l := by
    unfold blockStep dsOf
    dsimp only
    rw [putRows_apply_same, pay39_apply, rowsOf_apply]
    simp only [pay17_grad R n b h]
    rfl
  dk' a ha x d := by
    unfold blockStep
    exact putRows_apply_other _ _ _ ha _ _ _
  dv' a ha x d := by
    unfold blockStep
    exact putRows_apply_other _ _ _ ha _ _ _
  dck' a ha x l := by
    unfold blockStep
    exact putRows_apply_other _ _ _ ha _ _ _
  dqt d r := by
    unfold blockStep
    dsimp only
    rw [pay38_apply]
    simp only [pay17_grad R n b h, planeOf_apply]
  acc r := by
    unfold blockStep dsOf
    dsimp only
    rw [pay40_apply]
    simp only [pay17_grad R n b h]

/-- The key block on the diagonal. -/
theorem step_diag (R : Reads Ideal) (n : Fin 8) (s : Bufs Ideal) : Step R n n s (diagStep R n s) where
  dk x d := by
    unfold diagStep
    dsimp only
    rw [putRows_apply_same, pay48_apply, rowsOf_apply]
    simp only [pay46_grad R n]
  dv x d := by
    unfold diagStep
    dsimp only
    rw [putRows_apply_same, pay45_apply, rowsOf_apply]
    simp only [pay44_masked R n]
  dck x l := by
    unfold diagStep dsDiag
    dsimp only
    rw [putRows_apply_same, pay50_apply, rowsOf_apply]
    simp only [pay46_grad R n]
    rfl
  dk' a ha x d := by
    unfold diagStep
    exact putRows_apply_other _ _ _ ha _ _ _
  dv' a ha x d := by
    unfold diagStep
    exact putRows_apply_other _ _ _ ha _ _ _
  dck' a ha x l := by
    unfold diagStep
    exact putRows_apply_other _ _ _ ha _ _ _
  dqt d r := by
    unfold diagStep
    dsimp only
    rw [pay49_apply]
    simp only [pay46_grad R n, planeOf_apply]
  acc r := by
    unfold diagStep dsDiag
    dsimp only
    rw [pay51_apply]
    simp only [pay46_grad R n]

/-- One more of eight summands. -/
theorem sum_upto_succ (f : Fin 8 → EReal) (j : ℕ) (h : j < 8) :
    (∑ b : Fin 8, if b.val < j + 1 then f b else 0) = (∑ b : Fin 8, if b.val < j then f b else 0) + f ⟨j, h⟩ := by
  have e : f ⟨j, h⟩ = ∑ b : Fin 8, if b = ⟨j, h⟩ then f b else 0 := by
    rw [Finset.sum_ite_eq' Finset.univ (⟨j, h⟩ : Fin 8) f, if_pos (Finset.mem_univ _)]
  rw [e, ← Finset.sum_add_distrib]
  refine Finset.sum_congr rfl fun b _ => ?_
  by_cases h1 : b.val < j
  · rw [if_pos h1, if_pos (by omega), if_neg (fun hb => by rw [hb] at h1; exact absurd h1 (lt_irrefl _)), add_zero]
  · by_cases h2 : b.val = j
    · rw [if_neg h1, if_pos (by omega), if_pos (Fin.ext h2), zero_add]
    · rw [if_neg h1, if_neg (by omega), if_neg (fun hb => h2 (congrArg Fin.val hb)), add_zero]

/-- The buffers after the steps over the first `j` key blocks. -/
structure Upto (R : Reads Ideal) (n : Fin 8) (j : ℕ) (s s' : Bufs Ideal) : Prop where
  dk : ∀ b x d, s'.dk (ix2 (rowAt b x) d) = s.dk (ix2 (rowAt b x) d) + if b.val < j then ∑ r : Fin 512, grad R n (rowAt b x) r * R.q (ix2 r d) else 0
  dv : ∀ b x d, s'.dv (ix2 (rowAt b x) d) = s.dv (ix2 (rowAt b x) d) + if b.val < j then ∑ r : Fin 512, masked R n (rowAt b x) r * R.go (ix2 r d) else 0
  dck : ∀ b x l, s'.dck (ix2 (rowAt b x) l) = s.dck (ix2 (rowAt b x) l) + if b.val < j then fold4 R n (rowAt b x) l else 0
  dqt : ∀ d r, s'.dqt (ix2 d r) = s.dqt (ix2 d r) + ∑ b : Fin 8, if b.val < j then ∑ x : Fin 512, R.kt (ix3 b d x) * grad R n (rowAt b x) r else 0
  acc : ∀ r, s'.acc (ix2 0 r) = s.acc (ix2 0 r) + ∑ b : Fin 8, if b.val < j then ∑ x : Fin 512, grad R n (rowAt b x) r else 0

/-- One step more. -/
theorem Upto.step {R : Reads Ideal} {n : Fin 8} {j : ℕ} (h : j < 8) {s s' s'' : Bufs Ideal} (u : Upto R n j s s')
    (t : Step R n ⟨j, h⟩ s' s'') : Upto R n (j + 1) s s'' where
  dk b x d := by
    by_cases hb : b = ⟨j, h⟩
    · subst hb
      rw [t.dk, u.dk, if_neg (lt_irrefl j), if_pos (Nat.lt_succ_self j), add_zero]
    · have hv : b.val ≠ j := fun hv => hb (Fin.ext hv)
      rw [t.dk' b hb, u.dk]
      simp only [show (b.val < j + 1) = (b.val < j) from propext (by omega)]
  dv b x d := by
    by_cases hb : b = ⟨j, h⟩
    · subst hb
      rw [t.dv, u.dv, if_neg (lt_irrefl j), if_pos (Nat.lt_succ_self j), add_zero]
    · have hv : b.val ≠ j := fun hv => hb (Fin.ext hv)
      rw [t.dv' b hb, u.dv]
      simp only [show (b.val < j + 1) = (b.val < j) from propext (by omega)]
  dck b x l := by
    by_cases hb : b = ⟨j, h⟩
    · subst hb
      rw [t.dck, u.dck, if_neg (lt_irrefl j), if_pos (Nat.lt_succ_self j), add_zero]
    · have hv : b.val ≠ j := fun hv => hb (Fin.ext hv)
      rw [t.dck' b hb, u.dck]
      simp only [show (b.val < j + 1) = (b.val < j) from propext (by omega)]
  dqt d r := by
    rw [t.dqt, u.dqt, sum_upto_succ (fun b => ∑ x : Fin 512, R.kt (ix3 b d x) * grad R n (rowAt b x) r) j h, add_assoc]
  acc r := by
    rw [t.acc, u.acc, sum_upto_succ (fun b => ∑ x : Fin 512, grad R n (rowAt b x) r) j h, add_assoc]

/-- The loop over the key blocks below the diagonal. -/
theorem upto_blocks (R : Reads Ideal) (n : Fin 8) (s : Bufs Ideal) : ∀ j, j ≤ n.val → Upto R n j s (blocks R s j)
  | 0, _ => by
    constructor <;> intros <;> simp [blocks]
  | j + 1, h => by
    have h8 : j < 8 := by omega
    have e : blocks R s (j + 1) = blockStep R ⟨j, h8⟩ (blocks R s j) := by rw [blocks, dif_pos h8]
    rw [e]
    exact (upto_blocks R n s j (by omega)).step h8 (step_below R n ⟨j, h8⟩ (Fin.lt_def.mpr h) _)

/-- The buffers after a whole point. -/
structure After (R : Reads Ideal) (n : Fin 8) (s s' : Bufs Ideal) : Prop where
  dk : ∀ a d, s'.dk (ix2 a d) = s.dk (ix2 a d) + ∑ r : Fin 512, grad R n a r * R.q (ix2 r d)
  dv : ∀ a d, s'.dv (ix2 a d) = s.dv (ix2 a d) + ∑ r : Fin 512, masked R n a r * R.go (ix2 r d)
  dck : ∀ a l, s'.dck (ix2 a l) = s.dck (ix2 a l) + fold4 R n a l
  dqt : ∀ d r, s'.dqt (ix2 d r) = s.dqt (ix2 d r) + ∑ b : Fin 8, ∑ x : Fin 512, R.kt (ix3 b d x) * grad R n (rowAt b x) r
  acc : ∀ r, s'.acc (ix2 0 r) = s.acc (ix2 0 r) + ∑ b : Fin 8, ∑ x : Fin 512, grad R n (rowAt b x) r

/-- A grid point adds to each gradient its queries' share; key blocks after the diagonal, which it never visits, have none. -/
theorem after_point (R : Reads Ideal) (n : Fin 8) (s : Bufs Ideal) : After R n s (point R n s) := by
  have u : Upto R n (n.val + 1) s (point R n s) := (upto_blocks R n s n.val le_rfl).step n.isLt (step_diag R n _)
  refine ⟨fun a d => ?_, fun a d => ?_, fun a l => ?_, fun d r => ?_, fun r => ?_⟩
  · obtain ⟨b, x, rfl⟩ := exists_rowAt a
    rw [u.dk]
    by_cases h : b.val < n.val + 1
    · rw [if_pos h]
    · rw [if_neg h]
      simp only [grad_later R n b (Fin.lt_def.mpr (by omega)), zero_mul, Finset.sum_const_zero]
  · obtain ⟨b, x, rfl⟩ := exists_rowAt a
    rw [u.dv]
    by_cases h : b.val < n.val + 1
    · rw [if_pos h]
    · rw [if_neg h]
      simp only [masked_later R n b (Fin.lt_def.mpr (by omega)), zero_mul, Finset.sum_const_zero]
  · obtain ⟨b, x, rfl⟩ := exists_rowAt a
    rw [u.dck]
    by_cases h : b.val < n.val + 1
    · rw [if_pos h]
    · rw [if_neg h]
      unfold fold4
      simp only [grad_later R n b (Fin.lt_def.mpr (by omega)), add_zero]
  · rw [u.dqt]
    congr 1
    refine Finset.sum_congr rfl fun b _ => ?_
    by_cases h : b.val < n.val + 1
    · rw [if_pos h]
    · rw [if_neg h]
      simp only [grad_later R n b (Fin.lt_def.mpr (by omega)), mul_zero, Finset.sum_const_zero]
  · rw [u.acc]
    congr 1
    refine Finset.sum_congr rfl fun b _ => ?_
    by_cases h : b.val < n.val + 1
    · rw [if_pos h]
    · rw [if_neg h]
      simp only [grad_later R n b (Fin.lt_def.mpr (by omega)), Finset.sum_const_zero]

end Cert.KernelIdeal.AttnBwd
-- ==== Proof.Blocks.lean ====
module

public import Idealize.ShloMosaic.Lib.Pipeline.ValueKit
public import Idealize.ShloMosaic.Lib.Pointwise
public import proofs.«01_k».proof.Proof.Gen.KernelIdeal.Frame

/-! What each input block of the kernel holds at grid point `t = 8 h + i` (head `h`, block `i` of 512 tokens), as a
reading of the array the block is cut from. -/

@[expose] public section

set_option maxRecDepth 8192
set_option maxHeartbeats 4000000

noncomputable section

namespace Cert.KernelIdeal.AttnBwd

open Idealize.ShloMosaic Idealize.ShloMosaic.TcCoe Idealize.ShloMosaic.Tactic
open Cert.KernelIdeal.Gen

variable {F : FTy → Type} [FloatOps F] [Named F]

/-- There are 64 grid points. -/
theorem point_lt (t : Fin cfg0.N) : t.val < 64 := Nat.lt_of_lt_of_eq t.isLt N_0

/-- The first grid coordinate is the head. -/
theorem coord0 (t : Fin cfg0.N) : (grid0.coords t 0).val = t.val / 8 := by
  have ht := point_lt t
  have e : (grid0.coords t 0).val = t.val / 8 % 8 := Pipeline.Grid.coords_val t 0 (by decide) rfl
  omega

/-- The second grid coordinate is the block of 512 tokens. -/
theorem coord1 (t : Fin cfg0.N) : (grid0.coords t 1).val = t.val % 8 := by
  have e : (grid0.coords t 1).val = t.val / 1 % 8 := Pipeline.Grid.coords_val t 1 (by decide) rfl
  omega

/-- Which block each input window stages at a grid point. -/
theorem index0 : ∀ t : Fin cfg0.N, win0_0.index t = ![t.val % 8, 16 + t.val / 8] :=
  (by decide +kernel : ∀ t : Fin grid0.N, _)
theorem index1 : ∀ t : Fin cfg0.N, win0_1.index t = ![0, 24 + t.val / 8] :=
  (by decide +kernel : ∀ t : Fin grid0.N, _)
theorem index2 : ∀ t : Fin cfg0.N, win0_2.index t = ![0, 32 + t.val / 8] :=
  (by decide +kernel : ∀ t : Fin grid0.N, _)
theorem index3 : ∀ t : Fin cfg0.N, win0_3.index t = ![t.val % 8, t.val / 8] :=
  (by decide +kernel : ∀ t : Fin grid0.N, _)
theorem index4 : ∀ t : Fin cfg0.N, win0_4.index t = ![t.val % 8, t.val / 8] :=
  (by decide +kernel : ∀ t : Fin grid0.N, _)
theorem index5 : ∀ t : Fin cfg0.N, win0_5.index t = ![t.val / 8, t.val % 8, 0, 0] :=
  (by decide +kernel : ∀ t : Fin grid0.N, _)
theorem index6 : ∀ t : Fin cfg0.N, win0_6.index t = ![t.val / 8, 0, 0] :=
  (by decide +kernel : ∀ t : Fin grid0.N, _)
theorem index7 : ∀ t : Fin cfg0.N, win0_7.index t = ![t.val / 8, t.val % 8, 0, 0] :=
  (by decide +kernel : ∀ t : Fin grid0.N, _)

/-- The query block: 512 rows of the head's 128 query columns. -/
theorem blk0_apply (A : Vec F S4096x7168 .bf16) (t : Fin cfg0.N) (y : S512x128.Idx) :
    ((cfg0.win 0).blk t).view.read (Elt F) A y
      = A (ix2 ⟨512 * (t.val % 8) + (y 0).val, by have := (y 0).isLt; simp at this; omega⟩
          ⟨2048 + 128 * (t.val / 8) + (y 1).val, by have := (y 1).isLt; have := point_lt t; simp at *; omega⟩) := by
  rw [View.read_apply, cast_eq]
  apply congrArg A
  funext a
  apply Fin.ext
  refine (Pipeline.Window.rect_emb_val win0_0 t y a rfl).trans ?_
  rw [index0 t]
  fin_cases a
  · simp [Nat.mul_comm]
  · simp; ring

/-- The key block: all rows of the head's 128 key columns. -/
theorem blk1_apply (A : Vec F S4096x7168 .bf16) (t : Fin cfg0.N) (y : S4096x128.Idx) :
    ((cfg0.win 1).blk t).view.read (Elt F) A y
      = A (ix2 ⟨(y 0).val, by have := (y 0).isLt; have := point_lt t; simp at *; omega⟩ ⟨3072 + 128 * (t.val / 8) + (y 1).val, by have := (y 1).isLt; have := point_lt t; simp at *; omega⟩) := by
  rw [View.read_apply, cast_eq]
  apply congrArg A
  funext a
  apply Fin.ext
  refine (Pipeline.Window.rect_emb_val win0_1 t y a rfl).trans ?_
  rw [index1 t]
  fin_cases a
  · simp [Nat.mul_comm]
  · simp; ring

/-- The value block: all rows of the head's 128 value columns. -/
theorem blk2_apply (A : Vec F S4096x7168 .bf16) (t : Fin cfg0.N) (y : S4096x128.Idx) :
    ((cfg0.win 2).blk t).view.read (Elt F) A y
      = A (ix2 ⟨(y 0).val, by have := (y 0).isLt; have := point_lt t; simp at *; omega⟩ ⟨4096 + 128 * (t.val / 8) + (y 1).val, by have := (y 1).isLt; have := point_lt t; simp at *; omega⟩) := by
  rw [View.read_apply, cast_eq]
  apply congrArg A
  funext a
  apply Fin.ext
  refine (Pipeline.Window.rect_emb_val win0_2 t y a rfl).trans ?_
  rw [index2 t]
  fin_cases a
  · simp [Nat.mul_comm]
  · simp; ring

/-- The block of the output's gradient. -/
theorem blk3_apply (A : Vec F S4096x1024 .f32) (t : Fin cfg0.N) (y : S512x128.Idx) :
    ((cfg0.win 3).blk t).view.read (Elt F) A y
      = A (ix2 ⟨512 * (t.val % 8) + (y 0).val, by have := (y 0).isLt; have := point_lt t; simp at *; omega⟩ ⟨128 * (t.val / 8) + (y 1).val, by have := (y 1).isLt; have := point_lt t; simp at *; omega⟩) := by
  rw [View.read_apply, cast_eq]
  apply congrArg A
  funext a
  apply Fin.ext
  refine (Pipeline.Window.rect_emb_val win0_3 t y a rfl).trans ?_
  rw [index3 t]
  fin_cases a <;> simp [Nat.mul_comm]

/-- The block of the saved output. -/
theorem blk4_apply (A : Vec F S4096x1024 .f32) (t : Fin cfg0.N) (y : S512x128.Idx) :
    ((cfg0.win 4).blk t).view.read (Elt F) A y
      = A (ix2 ⟨512 * (t.val % 8) + (y 0).val, by have := (y 0).isLt; have := point_lt t; simp at *; omega⟩ ⟨128 * (t.val / 8) + (y 1).val, by have := (y 1).isLt; have := point_lt t; simp at *; omega⟩) := by
  rw [View.read_apply, cast_eq]
  apply congrArg A
  funext a
  apply Fin.ext
  refine (Pipeline.Window.rect_emb_val win0_4 t y a rfl).trans ?_
  rw [index4 t]
  fin_cases a <;> simp [Nat.mul_comm]

/-- The block of the saved logarithms. -/
theorem blk5_apply (A : Vec F S8x8x1x512 .f32) (t : Fin cfg0.N) (y : S1x1x1x512.Idx) :
    ((cfg0.win 5).blk t).view.read (Elt F) A y
      = A (ix4 ⟨t.val / 8, by have := point_lt t; omega⟩ ⟨t.val % 8, by omega⟩ 0 (y 3)) := by
  have h0 : (y 0).val = 0 := by have := (y 0).isLt; change _ < 1 at this; omega
  have h1 : (y 1).val = 0 := by have := (y 1).isLt; change _ < 1 at this; omega
  have h2 : (y 2).val = 0 := by have := (y 2).isLt; change _ < 1 at this; omega
  rw [View.read_apply, cast_eq]
  apply congrArg A
  funext a
  apply Fin.ext
  refine (Pipeline.Window.rect_emb_val win0_5 t y a rfl).trans ?_
  rw [index5 t]
  fin_cases a <;> simp [h0, h1, h2]

/-- The block of the gate sums, as a column. -/
theorem blk6_apply (A : Vec F S8x4096x1 .f32) (t : Fin cfg0.N) (y : S1x4096x1.Idx) :
    ((cfg0.win 6).blk t).view.read (Elt F) A y
      = A (ix3 ⟨t.val / 8, by have := point_lt t; omega⟩ (y 1) 0) := by
  have h0 : (y 0).val = 0 := by have := (y 0).isLt; change _ < 1 at this; omega
  have h2 : (y 2).val = 0 := by have := (y 2).isLt; change _ < 1 at this; omega
  rw [View.read_apply, cast_eq]
  apply congrArg A
  funext a
  apply Fin.ext
  refine (Pipeline.Window.rect_emb_val win0_6 t y a rfl).trans ?_
  rw [index6 t]
  fin_cases a <;> simp [h0, h2]

/-- The block of the gate sums, as a row. -/
theorem blk7_apply (A : Vec F S8x8x1x512 .f32) (t : Fin cfg0.N) (y : S1x1x1x512.Idx) :
    ((cfg0.win 7).blk t).view.read (Elt F) A y
      = A (ix4 ⟨t.val / 8, by have := point_lt t; omega⟩ ⟨t.val % 8, by omega⟩ 0 (y 3)) := by
  have h0 : (y 0).val = 0 := by have := (y 0).isLt; change _ < 1 at this; omega
  have h1 : (y 1).val = 0 := by have := (y 1).isLt; change _ < 1 at this; omega
  have h2 : (y 2).val = 0 := by have := (y 2).isLt; change _ < 1 at this; omega
  rw [View.read_apply, cast_eq]
  apply congrArg A
  funext a
  apply Fin.ext
  refine (Pipeline.Window.rect_emb_val win0_7 t y a rfl).trans ?_
  rw [index7 t]
  fin_cases a <;> simp [h0, h1, h2]

/-- Two points of the same head stage the same keys, values and gate column. -/
theorem blk_head (t t' : Fin cfg0.N) (h : t.val / 8 = t'.val / 8) (A : Vec F S4096x7168 .bf16) (B : Vec F S8x4096x1 .f32) :
    (((cfg0.win 1).blk t).view.read (Elt F) A : Vec F S4096x128 .bf16) = ((cfg0.win 1).blk t').view.read (Elt F) A
      ∧ (((cfg0.win 2).blk t).view.read (Elt F) A : Vec F S4096x128 .bf16) = ((cfg0.win 2).blk t').view.read (Elt F) A
      ∧ (((cfg0.win 6).blk t).view.read (Elt F) B : Vec F S1x4096x1 .f32) = ((cfg0.win 6).blk t').view.read (Elt F) B := by
  refine ⟨funext fun y => ?_, funext fun y => ?_, funext fun y => ?_⟩
  · refine (blk1_apply A t y).trans (.trans ?_ (blk1_apply A t' y).symm)
    simp only [h]
  · refine (blk2_apply A t y).trans (.trans ?_ (blk2_apply A t' y).symm)
    simp only [h]
  · refine (blk6_apply B t y).trans (.trans ?_ (blk6_apply B t' y).symm)
    simp only [h]

end Cert.KernelIdeal.AttnBwd
-- ==== Proof.CaseA.lean ====
module

public import proofs.«01_k».proof.Proof.Reads
public import proofs.«01_k».proof.Proof.Gen.KernelIdeal.Frame.RunA
public import Idealize.ShloMosaic.Lib.VecWindow

@[expose] public section

set_option maxRecDepth 8192
set_option maxHeartbeats 4000000

noncomputable section

namespace Cert.KernelIdeal.AttnBwd

open Idealize.ShloMosaic Idealize.ShloMosaic.TcCoe Idealize.ShloMosaic.Tactic
open Cert.KernelIdeal.Gen

variable {F : FTy → Type} [FloatOps F] [Named F]

/-- Reading after one more write on top of two lists of writes. -/
theorem read_split {κ : Kind} {sp : Space} {s : Shape} {e : EltTy} (v : View sig κ sp s e) (f : v.ty.Contents (Elt F))
    (p : View.Piece (Elt F) s e) (L L' : List (View.Piece (Elt F) s e)) :
    v.read (Elt F) (v.writes (Elt F) f (p :: (L ++ L')))
      = v.read (Elt F) (v.writes (Elt F) (v.writes (Elt F) (v.writes (Elt F) f L') L) [p]) := by
  rw [View.writes_cons, View.writes_append]
  rfl

/-- One block of the keys, turned over, is its plane. -/
theorem plane_piece (x1 : Vec F S4096x128 .bf16) (n : ℕ) (hn : n < 8) (inb) (w : Vec F S512x128 .bf16)
    (hw : ∀ (a : Fin 512) (b : Fin 128), w (ix2 a b) = x1 (ix2 ⟨512 * n + a.val, by omega⟩ b))
    (x : S1x128x512.Idx) : k0_pay8 w x = planes x1 ((Rect.unit (s := S8x128x512) ![n, 0, 0] S1x128x512.size inb).emb x) := by
  idx_vars x
  pointwise [k0_pay8, planes]
  rw [hw]
  congr 4
  · ext
    show 512 * n + x2.val = 512 * (n + 1 * x0.val) + (0 + 1 * x2.val)
    omega
  · ext
    show x1.val = 0 + 1 * x1.val
    omega

/-- The eight blocks written one after the other leave the planes. -/
theorem read_planes (c : Dev nD) (arg3 : Memref sig .tc .vmem S4096x128 .bf16) (harg3 : arg3.IsWhole)
    (arg16 : Memref sig .tc .vmem S8x128x512 .bf16) (x1 : Vec F S4096x128 .bf16) :
    arg16.view.read (Elt F) (arg16.view.writes (Elt F) arg16.view.junk (kernelRun0_A.sl.HS1_8 c arg3 harg3 x1)) = planes x1 := by
  have hr : ∀ (n : ℕ) (hn : n < 8) (inb) (a : Fin 512) (b : Fin 128),
      View.readAt (Elt F) arg3.view (Rect.unit (s := S4096x128) ![512 * n, 0] S512x128.size inb).toLoadRect (harg3.unread x1) (ix2 a b)
        = x1 (ix2 ⟨512 * n + a.val, by omega⟩ b) := by
    intro n hn inb a b
    rw [View.readAt_eq_ld, harg3.read_unread]
    pointwise
  funext y
  refine View.read_writes_apply_of_pieces _ _ (planes x1) (kernelRun0_A.sl.HS1_8 c arg3 harg3 x1) ?_ y
    (View.cover_of_tiledL (kernelRun0_A.sl.HS1_8 c arg3 harg3 x1) S1x128x512.size (by sl_kernel_rfl) y)
  intro p hp
  unfold kernelRun0_A.sl.HS1_8 at hp
  simp only [List.mem_cons, List.not_mem_nil, or_false] at hp
  rcases hp with rfl | rfl | rfl | rfl | rfl | rfl | rfl | rfl
  · exact plane_piece x1 7 (by omega) inb_S8x128x512_S1x128x512_7_0_0 _ (hr 7 (by omega) inb_S4096x128_S512x128_3584_0)
  · exact plane_piece x1 6 (by omega) inb_S8x128x512_S1x128x512_6_0_0 _ (hr 6 (by omega) inb_S4096x128_S512x128_3072_0)
  · exact plane_piece x1 5 (by omega) inb_S8x128x512_S1x128x512_5_0_0 _ (hr 5 (by omega) inb_S4096x128_S512x128_2560_0)
  · exact plane_piece x1 4 (by omega) inb_S8x128x512_S1x128x512_4_0_0 _ (hr 4 (by omega) inb_S4096x128_S512x128_2048_0)
  · exact plane_piece x1 3 (by omega) inb_S8x128x512_S1x128x512_3_0_0 _ (hr 3 (by omega) inb_S4096x128_S512x128_1536_0)
  · exact plane_piece x1 2 (by omega) inb_S8x128x512_S1x128x512_2_0_0 _ (hr 2 (by omega) inb_S4096x128_S512x128_1024_0)
  · exact plane_piece x1 1 (by omega) inb_S8x128x512_S1x128x512_1_0_0 _ (hr 1 (by omega) inb_S4096x128_S512x128_512_0)
  · exact plane_piece x1 0 (by omega) inb_S8x128x512_S1x128x512_0_0_0 _ (hr 0 (by omega) inb_S4096x128_S512x128_0_0)

section CaseA

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x1x512 .f32) (harg7 : arg7.IsWhole) (arg8 : Memref sig .tc .vmem S1x4096x1 .f32) (harg8 : arg8.IsWhole) (arg9 : Memref sig .tc .vmem S1x1x1x512 .f32) (harg9 : arg9.IsWhole) (arg10 : Memref sig .tc .vmem S512x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S1x1x1x512 .f32) (harg13 : arg13.IsWhole) (arg14 : Memref sig .tc .vmem S1x4096x1 .f32) (harg14 : arg14.IsWhole) (arg15 : Memref sig .tc .vmem S4096x128 .bf16) (harg15 : arg15.IsWhole) (arg16 : Memref sig .tc .vmem S8x128x512 .bf16) (harg16 : arg16.IsWhole) (arg17 : Memref sig .tc .vmem S4096x128 .bf16) (harg17 : arg17.IsWhole) (arg18 : Memref sig .tc .vmem S4096x512 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S4096x128 .f32) (harg21 : arg21.IsWhole) (arg22 : Memref sig .tc .vmem S128x512 .f32) (harg22 : arg22.IsWhole) (hc0 : cond0_0 i) (hc1 : ¬cond0_1 i)
    (x0 : Vec F S512x128 .bf16) (x1 : Vec F S4096x128 .bf16) (x2 : Vec F S4096x128 .bf16) (x3 : Vec F S512x128 .f32) (x4 : Vec F S512x128 .f32) (x5 : Vec F S1x1x1x512 .f32) (x6 : Vec F S1x4096x1 .f32) (x7 : Vec F S1x1x1x512 .f32)

/-- What the loops read in case A. -/
theorem reads_A : (loopReads (F := F) arg15 arg16 arg17 arg18 (kernelRun0_A.sl.r c arg2 harg2 x0) (kernelRun0_A.sl.r_1 c arg5 harg5 x3) (kernelRun0_A.sl.r_2 c arg5 harg5 arg6 harg6 x3 x4) (kernelRun0_A.sl.r_3 c arg7 harg7 arg9 harg9 x5 x7) (arg15.view.writes (Elt F) arg15.view.junk (kernelRun0_A.sl.HS0_1 c arg3 harg3 x1)) (arg16.view.writes (Elt F) arg16.view.junk (kernelRun0_A.sl.HS1_8 c arg3 harg3 x1)) (arg17.view.writes (Elt F) arg17.view.junk (kernelRun0_A.sl.HS2_1 c arg4 harg4 x2)) (arg18.view.writes (Elt F) arg18.view.junk (kernelRun0_A.sl.HS3_1 c arg8 harg8 x6))) = (readsOf (k0_pay5 x1) (planes x1) (k0_pay6 x2) (k0_pay7 x6) x0 x3 x4 x5 x7) := by
  unfold loopReads readsOf kernelRun0_A.sl.r kernelRun0_A.sl.r_1 kernelRun0_A.sl.r_2 kernelRun0_A.sl.r_3
  congr 1
  · exact (View.read_writes_full _ _ _ _ _).trans (congrArg k0_pay5 ((View.readAt_full _ _ _).trans (harg3.read_unread _)))
  · exact read_planes c arg3 harg3 arg16 x1
  · exact (View.read_writes_full _ _ _ _ _).trans (congrArg k0_pay6 ((View.readAt_full _ _ _).trans (harg4.read_unread _)))
  · exact (View.read_writes_full _ _ _ _ _).trans (congrArg k0_pay7 ((View.readAt_full _ _ _).trans (harg8.read_unread _)))
  · exact congrArg k0_pay32 ((View.readAt_full _ _ _).trans (harg2.read_unread _))
  · exact congrArg k0_pay33 ((View.readAt_full _ _ _).trans (harg5.read_unread _))
  · exact congrArg₂ k0_pay34 ((View.readAt_full _ _ _).trans (harg5.read_unread _)) ((View.readAt_full _ _ _).trans (harg6.read_unread _))
  · exact congrArg₂ k0_pay35 ((View.readAt_full _ _ _).trans (harg9.read_unread _)) ((View.readAt_full _ _ _).trans (harg7.read_unread _))

/-- What the loops find in case A. -/
theorem writes_A : (loopWrites arg19 arg20 arg21 arg22 (arg19.view.writes (Elt F) arg19.view.junk kernelRun0_A.sl.HS4_1) (arg20.view.writes (Elt F) arg20.view.junk kernelRun0_A.sl.HS5_1) (arg21.view.writes (Elt F) arg21.view.junk kernelRun0_A.sl.HS6_1) (arg22.view.writes (Elt F) arg22.view.junk kernelRun0_A.sl.HS7_1) k0_pay37) = ⟨k0_pay29, k0_pay30, k0_pay31, k0_pay36, k0_pay37⟩ := by
  unfold loopWrites
  congr 1
  · exact View.read_writes_full _ _ _ _ _
  · exact View.read_writes_full _ _ _ _ _
  · exact View.read_writes_full _ _ _ _ _
  · exact View.read_writes_full _ _ _ _ _

/-- Case A: the key gradient's accumulator ends as the clean point leaves it. -/
theorem dk_A : arg19.view.read (Elt F) (arg19.view.writes (Elt F) arg19.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7).2.2.2.2.2.2.2.2.2.1) = (point (readsOf (k0_pay5 x1) (planes x1) (k0_pay6 x2) (k0_pay7 x6) x0 x3 x4 x5 x7) (i 1) ⟨k0_pay29, k0_pay30, k0_pay31, k0_pay36, k0_pay37⟩).dk := by
  have key := point_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 1).val) (kernelRun0_A.sl.r c arg2 harg2 x0) (kernelRun0_A.sl.r_1 c arg5 harg5 x3) (kernelRun0_A.sl.r_2 c arg5 harg5 arg6 harg6 x3 x4) (kernelRun0_A.sl.r_3 c arg7 harg7 arg9 harg9 x5 x7) k0_pay37 (0#32) (kernelRun0_A.sl.v29 i) (arg15.view.writes (Elt F) arg15.view.junk (kernelRun0_A.sl.HS0_1 c arg3 harg3 x1)) (arg16.view.writes (Elt F) arg16.view.junk (kernelRun0_A.sl.HS1_8 c arg3 harg3 x1)) (arg17.view.writes (Elt F) arg17.view.junk (kernelRun0_A.sl.HS2_1 c arg4 harg4 x2)) (arg18.view.writes (Elt F) arg18.view.junk (kernelRun0_A.sl.HS3_1 c arg8 harg8 x6)) (arg19.view.writes (Elt F) arg19.view.junk kernelRun0_A.sl.HS4_1) (arg20.view.writes (Elt F) arg20.view.junk kernelRun0_A.sl.HS5_1) (arg21.view.writes (Elt F) arg21.view.junk kernelRun0_A.sl.HS6_1) (arg22.view.writes (Elt F) arg22.view.junk kernelRun0_A.sl.HS7_1) k0_pay37 _ rfl
  rw [writes_A, reads_A] at key
  refine Eq.trans ?_ (congrArg Bufs.dk key)
  unfold kernelRun0_A
  dsimp only
  unfold kernelRun0_A.sl.v73 kernelRun0_A.sl.r_6
  rw [st_t2_none]
  · rw [List.nil_append]
    refine (read_split _ _ _ _ _).trans ?_
    rw [View.writes_append]
    rfl
  · exact trips_t2 i

/-- Case A: the value gradient's accumulator ends as the clean point leaves it. -/
theorem dv_A : arg20.view.read (Elt F) (arg20.view.writes (Elt F) arg20.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7).2.2.2.2.2.2.2.2.2.2.1) = (point (readsOf (k0_pay5 x1) (planes x1) (k0_pay6 x2) (k0_pay7 x6) x0 x3 x4 x5 x7) (i 1) ⟨k0_pay29, k0_pay30, k0_pay31, k0_pay36, k0_pay37⟩).dv := by
  have key := point_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 1).val) (kernelRun0_A.sl.r c arg2 harg2 x0) (kernelRun0_A.sl.r_1 c arg5 harg5 x3) (kernelRun0_A.sl.r_2 c arg5 harg5 arg6 harg6 x3 x4) (kernelRun0_A.sl.r_3 c arg7 harg7 arg9 harg9 x5 x7) k0_pay37 (0#32) (kernelRun0_A.sl.v29 i) (arg15.view.writes (Elt F) arg15.view.junk (kernelRun0_A.sl.HS0_1 c arg3 harg3 x1)) (arg16.view.writes (Elt F) arg16.view.junk (kernelRun0_A.sl.HS1_8 c arg3 harg3 x1)) (arg17.view.writes (Elt F) arg17.view.junk (kernelRun0_A.sl.HS2_1 c arg4 harg4 x2)) (arg18.view.writes (Elt F) arg18.view.junk (kernelRun0_A.sl.HS3_1 c arg8 harg8 x6)) (arg19.view.writes (Elt F) arg19.view.junk kernelRun0_A.sl.HS4_1) (arg20.view.writes (Elt F) arg20.view.junk kernelRun0_A.sl.HS5_1) (arg21.view.writes (Elt F) arg21.view.junk kernelRun0_A.sl.HS6_1) (arg22.view.writes (Elt F) arg22.view.junk kernelRun0_A.sl.HS7_1) k0_pay37 _ rfl
  rw [writes_A, reads_A] at key
  refine Eq.trans ?_ (congrArg Bufs.dv key)
  unfold kernelRun0_A
  dsimp only
  unfold kernelRun0_A.sl.v57
  rw [st_t2_none]
  · rw [List.nil_append]
    refine (read_split _ _ _ _ _).trans ?_
    rw [View.writes_append]
    rfl
  · exact trips_t2 i

/-- Case A: the gate gradient's accumulator ends as the clean point leaves it. -/
theorem dck_A : arg21.view.read (Elt F) (arg21.view.writes (Elt F) arg21.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7).2.2.2.2.2.2.2.2.2.2.2.1) = (point (readsOf (k0_pay5 x1) (planes x1) (k0_pay6 x2) (k0_pay7 x6) x0 x3 x4 x5 x7) (i 1) ⟨k0_pay29, k0_pay30, k0_pay31, k0_pay36, k0_pay37⟩).dck := by
  have key := point_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 1).val) (kernelRun0_A.sl.r c arg2 harg2 x0) (kernelRun0_A.sl.r_1 c arg5 harg5 x3) (kernelRun0_A.sl.r_2 c arg5 harg5 arg6 harg6 x3 x4) (kernelRun0_A.sl.r_3 c arg7 harg7 arg9 harg9 x5 x7) k0_pay37 (0#32) (kernelRun0_A.sl.v29 i) (arg15.view.writes (Elt F) arg15.view.junk (kernelRun0_A.sl.HS0_1 c arg3 harg3 x1)) (arg16.view.writes (Elt F) arg16.view.junk (kernelRun0_A.sl.HS1_8 c arg3 harg3 x1)) (arg17.view.writes (Elt F) arg17.view.junk (kernelRun0_A.sl.HS2_1 c arg4 harg4 x2)) (arg18.view.writes (Elt F) arg18.view.junk (kernelRun0_A.sl.HS3_1 c arg8 harg8 x6)) (arg19.view.writes (Elt F) arg19.view.junk kernelRun0_A.sl.HS4_1) (arg20.view.writes (Elt F) arg20.view.junk kernelRun0_A.sl.HS5_1) (arg21.view.writes (Elt F) arg21.view.junk kernelRun0_A.sl.HS6_1) (arg22.view.writes (Elt F) arg22.view.junk kernelRun0_A.sl.HS7_1) k0_pay37 _ rfl
  rw [writes_A, reads_A] at key
  refine Eq.trans ?_ (congrArg Bufs.dck key)
  unfold kernelRun0_A
  dsimp only
  unfold kernelRun0_A.sl.v97 kernelRun0_A.sl.r_5
  rw [st_t2_none]
  · rw [List.nil_append]
    refine (read_split _ _ _ _ _).trans ?_
    rw [View.writes_append]
    rfl
  · exact trips_t2 i

/-- Case A: the query gradient's block. -/
theorem dq_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7).1 = [(⟨Rect.unit (s := S512x128) ![0, 0] S512x128.size inb_S512x128_S512x128_0_0, k0_pay52 (point (readsOf (k0_pay5 x1) (planes x1) (k0_pay6 x2) (k0_pay7 x6) x0 x3 x4 x5 x7) (i 1) ⟨k0_pay29, k0_pay30, k0_pay31, k0_pay36, k0_pay37⟩).dqt⟩ : View.Piece (Elt F) S512x128 .bf16)] := by
  have key := point_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 1).val) (kernelRun0_A.sl.r c arg2 harg2 x0) (kernelRun0_A.sl.r_1 c arg5 harg5 x3) (kernelRun0_A.sl.r_2 c arg5 harg5 arg6 harg6 x3 x4) (kernelRun0_A.sl.r_3 c arg7 harg7 arg9 harg9 x5 x7) k0_pay37 (0#32) (kernelRun0_A.sl.v29 i) (arg15.view.writes (Elt F) arg15.view.junk (kernelRun0_A.sl.HS0_1 c arg3 harg3 x1)) (arg16.view.writes (Elt F) arg16.view.junk (kernelRun0_A.sl.HS1_8 c arg3 harg3 x1)) (arg17.view.writes (Elt F) arg17.view.junk (kernelRun0_A.sl.HS2_1 c arg4 harg4 x2)) (arg18.view.writes (Elt F) arg18.view.junk (kernelRun0_A.sl.HS3_1 c arg8 harg8 x6)) (arg19.view.writes (Elt F) arg19.view.junk kernelRun0_A.sl.HS4_1) (arg20.view.writes (Elt F) arg20.view.junk kernelRun0_A.sl.HS5_1) (arg21.view.writes (Elt F) arg21.view.junk kernelRun0_A.sl.HS6_1) (arg22.view.writes (Elt F) arg22.view.junk kernelRun0_A.sl.HS7_1) k0_pay37 _ rfl
  rw [writes_A, reads_A] at key
  rw [← key]
  unfold kernelRun0_A
  dsimp only
  unfold kernelRun0_A.sl.v106 kernelRun0_A.sl.HS7_1_1
  refine congrArg (fun w => [(⟨Rect.unit (s := S512x128) ![0, 0] S512x128.size inb_S512x128_S512x128_0_0, k0_pay52 w⟩ : View.Piece (Elt F) S512x128 .bf16)]) ?_
  refine (View.readCov_full _ _ _ _ _).trans ?_
  refine Eq.trans ?_ (View.read_writes_full _ _ _ _ _).symm
  unfold kernelRun0_A.sl.v80 kernelRun0_A.sl.r_6
  rw [st_t2_none]
  · unfold View.readCov
    rw [List.nil_append, View.writes_append]
  · exact trips_t2 i

/-- Case A: the gate gradient's row block. -/
theorem dcq_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7).2.2.2.1 = [(⟨Rect.unit (s := S1x1x1x512) ![0, 0, 0, 0] S1x1x1x512.size inb_S1x1x1x512_S1x1x1x512_0_0_0_0, k0_pay1 (point (readsOf (k0_pay5 x1) (planes x1) (k0_pay6 x2) (k0_pay7 x6) x0 x3 x4 x5 x7) (i 1) ⟨k0_pay29, k0_pay30, k0_pay31, k0_pay36, k0_pay37⟩).acc⟩ : View.Piece (Elt F) S1x1x1x512 .f32)] := by
  have key := point_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 1).val) (kernelRun0_A.sl.r c arg2 harg2 x0) (kernelRun0_A.sl.r_1 c arg5 harg5 x3) (kernelRun0_A.sl.r_2 c arg5 harg5 arg6 harg6 x3 x4) (kernelRun0_A.sl.r_3 c arg7 harg7 arg9 harg9 x5 x7) k0_pay37 (0#32) (kernelRun0_A.sl.v29 i) (arg15.view.writes (Elt F) arg15.view.junk (kernelRun0_A.sl.HS0_1 c arg3 harg3 x1)) (arg16.view.writes (Elt F) arg16.view.junk (kernelRun0_A.sl.HS1_8 c arg3 harg3 x1)) (arg17.view.writes (Elt F) arg17.view.junk (kernelRun0_A.sl.HS2_1 c arg4 harg4 x2)) (arg18.view.writes (Elt F) arg18.view.junk (kernelRun0_A.sl.HS3_1 c arg8 harg8 x6)) (arg19.view.writes (Elt F) arg19.view.junk kernelRun0_A.sl.HS4_1) (arg20.view.writes (Elt F) arg20.view.junk kernelRun0_A.sl.HS5_1) (arg21.view.writes (Elt F) arg21.view.junk kernelRun0_A.sl.HS6_1) (arg22.view.writes (Elt F) arg22.view.junk kernelRun0_A.sl.HS7_1) k0_pay37 _ rfl
  rw [writes_A, reads_A] at key
  rw [← key]
  unfold kernelRun0_A
  dsimp only
  unfold kernelRun0_A.sl.r_7 kernelRun0_A.sl.r_4 kernelRun0_A.sl.r_5
  rw [st_t2_none]
  · rfl
  · exact trips_t2 i

end CaseA

end Cert.KernelIdeal.AttnBwd
-- ==== Proof.OutA.lean ====
module

public import proofs.«01_k».proof.Proof.CaseA
public import proofs.«01_k».proof.Proof.Gen.KernelIdeal.Frame
public import Idealize.ShloMosaic.Lib.VecWindow

@[expose] public section

set_option maxRecDepth 8192
set_option maxHeartbeats 4000000

noncomputable section

namespace Cert.KernelIdeal.AttnBwd

open Idealize.ShloMosaic Idealize.ShloMosaic.TcCoe Idealize.ShloMosaic.Tactic
open Cert.KernelIdeal.Gen

variable {F : FTy → Type} [FloatOps F] [Named F]

section OutA

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x1x512 .f32) (harg7 : arg7.IsWhole) (arg8 : Memref sig .tc .vmem S1x4096x1 .f32) (harg8 : arg8.IsWhole) (arg9 : Memref sig .tc .vmem S1x1x1x512 .f32) (harg9 : arg9.IsWhole) (arg10 : Memref sig .tc .vmem S512x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S1x1x1x512 .f32) (harg13 : arg13.IsWhole) (arg14 : Memref sig .tc .vmem S1x4096x1 .f32) (harg14 : arg14.IsWhole) (arg15 : Memref sig .tc .vmem S4096x128 .bf16) (harg15 : arg15.IsWhole) (arg16 : Memref sig .tc .vmem S8x128x512 .bf16) (harg16 : arg16.IsWhole) (arg17 : Memref sig .tc .vmem S4096x128 .bf16) (harg17 : arg17.IsWhole) (arg18 : Memref sig .tc .vmem S4096x512 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S4096x128 .f32) (harg21 : arg21.IsWhole) (arg22 : Memref sig .tc .vmem S128x512 .f32) (harg22 : arg22.IsWhole) (hc0 : cond0_0 i) (hc1 : ¬cond0_1 i)
    (x0 : Vec F S512x128 .bf16) (x1 : Vec F S4096x128 .bf16) (x2 : Vec F S4096x128 .bf16) (x3 : Vec F S512x128 .f32) (x4 : Vec F S512x128 .f32) (x5 : Vec F S1x1x1x512 .f32) (x6 : Vec F S1x4096x1 .f32) (x7 : Vec F S1x1x1x512 .f32)
/-- Case A: the query gradient's block written back. -/
theorem out8_A : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 = k0_pay52 (point (readsOf (k0_pay5 x1) (planes x1) (k0_pay6 x2) (k0_pay7 x6) x0 x3 x4 x5 x7) (i 1) ⟨k0_pay29, k0_pay30, k0_pay31, k0_pay36, k0_pay37⟩).dqt := by
  unfold out0_A_8
  rw [dq_A]
  exact View.read_writes_full _ _ _ _ _

/-- Case A: the gate gradient's row block written back. -/
theorem out11_A : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 = k0_pay1 (point (readsOf (k0_pay5 x1) (planes x1) (k0_pay6 x2) (k0_pay7 x6) x0 x3 x4 x5 x7) (i 1) ⟨k0_pay29, k0_pay30, k0_pay31, k0_pay36, k0_pay37⟩).acc := by
  unfold out0_A_11
  rw [dcq_A]
  exact View.read_writes_full _ _ _ _ _

/-- Case A: the key gradient's accumulator after the point. -/
theorem sout4_A : sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 = (point (readsOf (k0_pay5 x1) (planes x1) (k0_pay6 x2) (k0_pay7 x6) x0 x3 x4 x5 x7) (i 1) ⟨k0_pay29, k0_pay30, k0_pay31, k0_pay36, k0_pay37⟩).dk := by
  exact (View.read_writes_of_cover _ _ _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7)).trans (dk_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7)

/-- Case A: the value gradient's accumulator after the point. -/
theorem sout5_A : sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 = (point (readsOf (k0_pay5 x1) (planes x1) (k0_pay6 x2) (k0_pay7 x6) x0 x3 x4 x5 x7) (i 1) ⟨k0_pay29, k0_pay30, k0_pay31, k0_pay36, k0_pay37⟩).dv := by
  exact (View.read_writes_of_cover _ _ _ _ _ (scover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7)).trans (dv_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7)

/-- Case A: the gate gradient's accumulator after the point. -/
theorem sout6_A : sout0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 = (point (readsOf (k0_pay5 x1) (planes x1) (k0_pay6 x2) (k0_pay7 x6) x0 x3 x4 x5 x7) (i 1) ⟨k0_pay29, k0_pay30, k0_pay31, k0_pay36, k0_pay37⟩).dck := by
  exact (View.read_writes_of_cover _ _ _ _ _ (scover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7)).trans (dck_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7)

/-- Case A: the copy of the keys. -/
theorem sout0_A : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 = k0_pay5 x1 := by
  exact (View.read_writes_full _ _ _ _ _).trans (congrArg k0_pay5 ((View.readAt_full _ _ _).trans (harg3.read_unread _)))

/-- Case A: the turned-over keys. -/
theorem sout1_A : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 = planes x1 := by
  exact (View.read_writes_of_cover _ _ _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7)).trans (read_planes c arg3 harg3 arg16 x1)

/-- Case A: the copy of the values. -/
theorem sout2_A : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 = k0_pay6 x2 := by
  exact (View.read_writes_full _ _ _ _ _).trans (congrArg k0_pay6 ((View.readAt_full _ _ _).trans (harg4.read_unread _)))

/-- Case A: the spread gate. -/
theorem sout3_A : sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 = k0_pay7 x6 := by
  exact (View.read_writes_full _ _ _ _ _).trans (congrArg k0_pay7 ((View.readAt_full _ _ _).trans (harg8.read_unread _)))

end OutA

end Cert.KernelIdeal.AttnBwd
-- ==== Proof.CaseB.lean ====
module

public import proofs.«01_k».proof.Proof.Reads
public import proofs.«01_k».proof.Proof.Gen.KernelIdeal.Frame.RunB
public import Idealize.ShloMosaic.Lib.VecWindow

@[expose] public section

set_option maxRecDepth 8192
set_option maxHeartbeats 4000000

noncomputable section

namespace Cert.KernelIdeal.AttnBwd

open Idealize.ShloMosaic Idealize.ShloMosaic.TcCoe Idealize.ShloMosaic.Tactic
open Cert.KernelIdeal.Gen

variable {F : FTy → Type} [FloatOps F] [Named F]

section CaseB

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x1x512 .f32) (harg7 : arg7.IsWhole) (arg8 : Memref sig .tc .vmem S1x4096x1 .f32) (harg8 : arg8.IsWhole) (arg9 : Memref sig .tc .vmem S1x1x1x512 .f32) (harg9 : arg9.IsWhole) (arg10 : Memref sig .tc .vmem S512x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S1x1x1x512 .f32) (harg13 : arg13.IsWhole) (arg14 : Memref sig .tc .vmem S1x4096x1 .f32) (harg14 : arg14.IsWhole) (arg15 : Memref sig .tc .vmem S4096x128 .bf16) (harg15 : arg15.IsWhole) (arg16 : Memref sig .tc .vmem S8x128x512 .bf16) (harg16 : arg16.IsWhole) (arg17 : Memref sig .tc .vmem S4096x128 .bf16) (harg17 : arg17.IsWhole) (arg18 : Memref sig .tc .vmem S4096x512 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S4096x128 .f32) (harg21 : arg21.IsWhole) (arg22 : Memref sig .tc .vmem S128x512 .f32) (harg22 : arg22.IsWhole) (hc0 : ¬cond0_0 i) (hc1 : ¬cond0_1 i)
    (x0 : Vec F S512x128 .bf16) (x1 : Vec F S4096x128 .bf16) (x2 : Vec F S4096x128 .bf16) (x3 : Vec F S512x128 .f32) (x4 : Vec F S512x128 .f32) (x5 : Vec F S1x1x1x512 .f32) (x6 : Vec F S1x4096x1 .f32) (x7 : Vec F S1x1x1x512 .f32) (xs0 : Vec F S4096x128 .bf16) (xs1 : Vec F S8x128x512 .bf16) (xs2 : Vec F S4096x128 .bf16) (xs3 : Vec F S4096x512 .f32) (xs4 : Vec F S4096x128 .f32) (xs5 : Vec F S4096x128 .f32) (xs6 : Vec F S4096x128 .f32)

/-- What the loops read in case B. -/
theorem reads_B : (loopReads (F := F) arg15 arg16 arg17 arg18 (kernelRun0_B.sl.r c arg2 harg2 x0) (kernelRun0_B.sl.r_1 c arg5 harg5 x3) (kernelRun0_B.sl.r_2 c arg5 harg5 arg6 harg6 x3 x4) (kernelRun0_B.sl.r_3 c arg7 harg7 arg9 harg9 x5 x7) (harg15.unread xs0) (harg16.unread xs1) (harg17.unread xs2) (harg18.unread xs3)) = (readsOf xs0 xs1 xs2 xs3 x0 x3 x4 x5 x7) := by
  unfold loopReads readsOf kernelRun0_B.sl.r kernelRun0_B.sl.r_1 kernelRun0_B.sl.r_2 kernelRun0_B.sl.r_3
  congr 1
  · exact harg15.read_unread _
  · exact harg16.read_unread _
  · exact harg17.read_unread _
  · exact harg18.read_unread _
  · exact congrArg k0_pay32 ((View.readAt_full _ _ _).trans (harg2.read_unread _))
  · exact congrArg k0_pay33 ((View.readAt_full _ _ _).trans (harg5.read_unread _))
  · exact congrArg₂ k0_pay34 ((View.readAt_full _ _ _).trans (harg5.read_unread _)) ((View.readAt_full _ _ _).trans (harg6.read_unread _))
  · exact congrArg₂ k0_pay35 ((View.readAt_full _ _ _).trans (harg9.read_unread _)) ((View.readAt_full _ _ _).trans (harg7.read_unread _))

/-- What the loops find in case B. -/
theorem writes_B : (loopWrites arg19 arg20 arg21 arg22 (harg19.unread xs4) (harg20.unread xs5) (harg21.unread xs6) (arg22.view.writes (Elt F) arg22.view.junk kernelRun0_B.sl.HS7_1) k0_pay37) = ⟨xs4, xs5, xs6, k0_pay36, k0_pay37⟩ := by
  unfold loopWrites
  congr 1
  · exact harg19.read_unread _
  · exact harg20.read_unread _
  · exact harg21.read_unread _
  · exact View.read_writes_full _ _ _ _ _

/-- Case B: the key gradient's accumulator ends as the clean point leaves it. -/
theorem dk_B : arg19.view.read (Elt F) (arg19.view.writes (Elt F) (harg19.unread xs4) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6).2.2.2.2.2.2.2.2.2.1) = (point (readsOf xs0 xs1 xs2 xs3 x0 x3 x4 x5 x7) (i 1) ⟨xs4, xs5, xs6, k0_pay36, k0_pay37⟩).dk := by
  have key := point_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 1).val) (kernelRun0_B.sl.r c arg2 harg2 x0) (kernelRun0_B.sl.r_1 c arg5 harg5 x3) (kernelRun0_B.sl.r_2 c arg5 harg5 arg6 harg6 x3 x4) (kernelRun0_B.sl.r_3 c arg7 harg7 arg9 harg9 x5 x7) k0_pay37 (0#32) (kernelRun0_B.sl.v29 i) (harg15.unread xs0) (harg16.unread xs1) (harg17.unread xs2) (harg18.unread xs3) (harg19.unread xs4) (harg20.unread xs5) (harg21.unread xs6) (arg22.view.writes (Elt F) arg22.view.junk kernelRun0_B.sl.HS7_1) k0_pay37 _ rfl
  rw [writes_B, reads_B] at key
  refine Eq.trans ?_ (congrArg Bufs.dk key)
  unfold kernelRun0_B
  dsimp only
  unfold kernelRun0_B.sl.v73 kernelRun0_B.sl.r_6
  rw [st_t2_none]
  · rfl
  · exact trips_t2 i

/-- Case B: the value gradient's accumulator ends as the clean point leaves it. -/
theorem dv_B : arg20.view.read (Elt F) (arg20.view.writes (Elt F) (harg20.unread xs5) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6).2.2.2.2.2.2.2.2.2.2.1) = (point (readsOf xs0 xs1 xs2 xs3 x0 x3 x4 x5 x7) (i 1) ⟨xs4, xs5, xs6, k0_pay36, k0_pay37⟩).dv := by
  have key := point_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 1).val) (kernelRun0_B.sl.r c arg2 harg2 x0) (kernelRun0_B.sl.r_1 c arg5 harg5 x3) (kernelRun0_B.sl.r_2 c arg5 harg5 arg6 harg6 x3 x4) (kernelRun0_B.sl.r_3 c arg7 harg7 arg9 harg9 x5 x7) k0_pay37 (0#32) (kernelRun0_B.sl.v29 i) (harg15.unread xs0) (harg16.unread xs1) (harg17.unread xs2) (harg18.unread xs3) (harg19.unread xs4) (harg20.unread xs5) (harg21.unread xs6) (arg22.view.writes (Elt F) arg22.view.junk kernelRun0_B.sl.HS7_1) k0_pay37 _ rfl
  rw [writes_B, reads_B] at key
  refine Eq.trans ?_ (congrArg Bufs.dv key)
  unfold kernelRun0_B
  dsimp only
  unfold kernelRun0_B.sl.v57
  rw [st_t2_none]
  · rfl
  · exact trips_t2 i

/-- Case B: the gate gradient's accumulator ends as the clean point leaves it. -/
theorem dck_B : arg21.view.read (Elt F) (arg21.view.writes (Elt F) (harg21.unread xs6) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6).2.2.2.2.2.2.2.2.2.2.2.1) = (point (readsOf xs0 xs1 xs2 xs3 x0 x3 x4 x5 x7) (i 1) ⟨xs4, xs5, xs6, k0_pay36, k0_pay37⟩).dck := by
  have key := point_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 1).val) (kernelRun0_B.sl.r c arg2 harg2 x0) (kernelRun0_B.sl.r_1 c arg5 harg5 x3) (kernelRun0_B.sl.r_2 c arg5 harg5 arg6 harg6 x3 x4) (kernelRun0_B.sl.r_3 c arg7 harg7 arg9 harg9 x5 x7) k0_pay37 (0#32) (kernelRun0_B.sl.v29 i) (harg15.unread xs0) (harg16.unread xs1) (harg17.unread xs2) (harg18.unread xs3) (harg19.unread xs4) (harg20.unread xs5) (harg21.unread xs6) (arg22.view.writes (Elt F) arg22.view.junk kernelRun0_B.sl.HS7_1) k0_pay37 _ rfl
  rw [writes_B, reads_B] at key
  refine Eq.trans ?_ (congrArg Bufs.dck key)
  unfold kernelRun0_B
  dsimp only
  unfold kernelRun0_B.sl.v97 kernelRun0_B.sl.r_5
  rw [st_t2_none]
  · rfl
  · exact trips_t2 i

/-- Case B: the query gradient's block. -/
theorem dq_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6).1 = [(⟨Rect.unit (s := S512x128) ![0, 0] S512x128.size inb_S512x128_S512x128_0_0, k0_pay52 (point (readsOf xs0 xs1 xs2 xs3 x0 x3 x4 x5 x7) (i 1) ⟨xs4, xs5, xs6, k0_pay36, k0_pay37⟩).dqt⟩ : View.Piece (Elt F) S512x128 .bf16)] := by
  have key := point_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 1).val) (kernelRun0_B.sl.r c arg2 harg2 x0) (kernelRun0_B.sl.r_1 c arg5 harg5 x3) (kernelRun0_B.sl.r_2 c arg5 harg5 arg6 harg6 x3 x4) (kernelRun0_B.sl.r_3 c arg7 harg7 arg9 harg9 x5 x7) k0_pay37 (0#32) (kernelRun0_B.sl.v29 i) (harg15.unread xs0) (harg16.unread xs1) (harg17.unread xs2) (harg18.unread xs3) (harg19.unread xs4) (harg20.unread xs5) (harg21.unread xs6) (arg22.view.writes (Elt F) arg22.view.junk kernelRun0_B.sl.HS7_1) k0_pay37 _ rfl
  rw [writes_B, reads_B] at key
  rw [← key]
  unfold kernelRun0_B
  dsimp only
  unfold kernelRun0_B.sl.v106 kernelRun0_B.sl.HS7_1_1
  refine congrArg (fun w => [(⟨Rect.unit (s := S512x128) ![0, 0] S512x128.size inb_S512x128_S512x128_0_0, k0_pay52 w⟩ : View.Piece (Elt F) S512x128 .bf16)]) ?_
  refine (View.readCov_full _ _ _ _ _).trans ?_
  refine Eq.trans ?_ (View.read_writes_full _ _ _ _ _).symm
  unfold kernelRun0_B.sl.v80 kernelRun0_B.sl.r_6
  rw [st_t2_none]
  · unfold View.readCov
    rw [List.nil_append, View.writes_append]
  · exact trips_t2 i

/-- Case B: the gate gradient's row block. -/
theorem dcq_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6).2.2.2.1 = [(⟨Rect.unit (s := S1x1x1x512) ![0, 0, 0, 0] S1x1x1x512.size inb_S1x1x1x512_S1x1x1x512_0_0_0_0, k0_pay1 (point (readsOf xs0 xs1 xs2 xs3 x0 x3 x4 x5 x7) (i 1) ⟨xs4, xs5, xs6, k0_pay36, k0_pay37⟩).acc⟩ : View.Piece (Elt F) S1x1x1x512 .f32)] := by
  have key := point_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 1).val) (kernelRun0_B.sl.r c arg2 harg2 x0) (kernelRun0_B.sl.r_1 c arg5 harg5 x3) (kernelRun0_B.sl.r_2 c arg5 harg5 arg6 harg6 x3 x4) (kernelRun0_B.sl.r_3 c arg7 harg7 arg9 harg9 x5 x7) k0_pay37 (0#32) (kernelRun0_B.sl.v29 i) (harg15.unread xs0) (harg16.unread xs1) (harg17.unread xs2) (harg18.unread xs3) (harg19.unread xs4) (harg20.unread xs5) (harg21.unread xs6) (arg22.view.writes (Elt F) arg22.view.junk kernelRun0_B.sl.HS7_1) k0_pay37 _ rfl
  rw [writes_B, reads_B] at key
  rw [← key]
  unfold kernelRun0_B
  dsimp only
  unfold kernelRun0_B.sl.r_7 kernelRun0_B.sl.r_4 kernelRun0_B.sl.r_5
  rw [st_t2_none]
  · rfl
  · exact trips_t2 i

end CaseB

end Cert.KernelIdeal.AttnBwd
-- ==== Proof.OutB.lean ====
module

public import proofs.«01_k».proof.Proof.CaseB
public import proofs.«01_k».proof.Proof.Gen.KernelIdeal.Frame
public import Idealize.ShloMosaic.Lib.VecWindow

@[expose] public section

set_option maxRecDepth 8192
set_option maxHeartbeats 4000000

noncomputable section

namespace Cert.KernelIdeal.AttnBwd

open Idealize.ShloMosaic Idealize.ShloMosaic.TcCoe Idealize.ShloMosaic.Tactic
open Cert.KernelIdeal.Gen

variable {F : FTy → Type} [FloatOps F] [Named F]

section OutB

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x1x512 .f32) (harg7 : arg7.IsWhole) (arg8 : Memref sig .tc .vmem S1x4096x1 .f32) (harg8 : arg8.IsWhole) (arg9 : Memref sig .tc .vmem S1x1x1x512 .f32) (harg9 : arg9.IsWhole) (arg10 : Memref sig .tc .vmem S512x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S1x1x1x512 .f32) (harg13 : arg13.IsWhole) (arg14 : Memref sig .tc .vmem S1x4096x1 .f32) (harg14 : arg14.IsWhole) (arg15 : Memref sig .tc .vmem S4096x128 .bf16) (harg15 : arg15.IsWhole) (arg16 : Memref sig .tc .vmem S8x128x512 .bf16) (harg16 : arg16.IsWhole) (arg17 : Memref sig .tc .vmem S4096x128 .bf16) (harg17 : arg17.IsWhole) (arg18 : Memref sig .tc .vmem S4096x512 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S4096x128 .f32) (harg21 : arg21.IsWhole) (arg22 : Memref sig .tc .vmem S128x512 .f32) (harg22 : arg22.IsWhole) (hc0 : ¬cond0_0 i) (hc1 : ¬cond0_1 i)
    (x0 : Vec F S512x128 .bf16) (x1 : Vec F S4096x128 .bf16) (x2 : Vec F S4096x128 .bf16) (x3 : Vec F S512x128 .f32) (x4 : Vec F S512x128 .f32) (x5 : Vec F S1x1x1x512 .f32) (x6 : Vec F S1x4096x1 .f32) (x7 : Vec F S1x1x1x512 .f32) (xs0 : Vec F S4096x128 .bf16) (xs1 : Vec F S8x128x512 .bf16) (xs2 : Vec F S4096x128 .bf16) (xs3 : Vec F S4096x512 .f32) (xs4 : Vec F S4096x128 .f32) (xs5 : Vec F S4096x128 .f32) (xs6 : Vec F S4096x128 .f32)
/-- Case B: the query gradient's block written back. -/
theorem out8_B : out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6 = k0_pay52 (point (readsOf xs0 xs1 xs2 xs3 x0 x3 x4 x5 x7) (i 1) ⟨xs4, xs5, xs6, k0_pay36, k0_pay37⟩).dqt := by
  unfold out0_B_8
  rw [dq_B]
  exact View.read_writes_full _ _ _ _ _

/-- Case B: the gate gradient's row block written back. -/
theorem out11_B : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6 = k0_pay1 (point (readsOf xs0 xs1 xs2 xs3 x0 x3 x4 x5 x7) (i 1) ⟨xs4, xs5, xs6, k0_pay36, k0_pay37⟩).acc := by
  unfold out0_B_11
  rw [dcq_B]
  exact View.read_writes_full _ _ _ _ _

/-- Case B: the key gradient's accumulator after the point. -/
theorem sout4_B : sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6 = (point (readsOf xs0 xs1 xs2 xs3 x0 x3 x4 x5 x7) (i 1) ⟨xs4, xs5, xs6, k0_pay36, k0_pay37⟩).dk := by
  exact dk_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6

/-- Case B: the value gradient's accumulator after the point. -/
theorem sout5_B : sout0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6 = (point (readsOf xs0 xs1 xs2 xs3 x0 x3 x4 x5 x7) (i 1) ⟨xs4, xs5, xs6, k0_pay36, k0_pay37⟩).dv := by
  exact dv_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6

/-- Case B: the gate gradient's accumulator after the point. -/
theorem sout6_B : sout0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6 = (point (readsOf xs0 xs1 xs2 xs3 x0 x3 x4 x5 x7) (i 1) ⟨xs4, xs5, xs6, k0_pay36, k0_pay37⟩).dck := by
  exact dck_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6

end OutB

end Cert.KernelIdeal.AttnBwd
-- ==== Proof.CaseC.lean ====
module

public import proofs.«01_k».proof.Proof.Reads
public import proofs.«01_k».proof.Proof.Gen.KernelIdeal.Frame.RunC
public import Idealize.ShloMosaic.Lib.VecWindow

@[expose] public section

set_option maxRecDepth 8192
set_option maxHeartbeats 4000000

noncomputable section

namespace Cert.KernelIdeal.AttnBwd

open Idealize.ShloMosaic Idealize.ShloMosaic.TcCoe Idealize.ShloMosaic.Tactic
open Cert.KernelIdeal.Gen

variable {F : FTy → Type} [FloatOps F] [Named F]

section CaseC

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x1x512 .f32) (harg7 : arg7.IsWhole) (arg8 : Memref sig .tc .vmem S1x4096x1 .f32) (harg8 : arg8.IsWhole) (arg9 : Memref sig .tc .vmem S1x1x1x512 .f32) (harg9 : arg9.IsWhole) (arg10 : Memref sig .tc .vmem S512x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S1x1x1x512 .f32) (harg13 : arg13.IsWhole) (arg14 : Memref sig .tc .vmem S1x4096x1 .f32) (harg14 : arg14.IsWhole) (arg15 : Memref sig .tc .vmem S4096x128 .bf16) (harg15 : arg15.IsWhole) (arg16 : Memref sig .tc .vmem S8x128x512 .bf16) (harg16 : arg16.IsWhole) (arg17 : Memref sig .tc .vmem S4096x128 .bf16) (harg17 : arg17.IsWhole) (arg18 : Memref sig .tc .vmem S4096x512 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S4096x128 .f32) (harg21 : arg21.IsWhole) (arg22 : Memref sig .tc .vmem S128x512 .f32) (harg22 : arg22.IsWhole) (hc0 : ¬cond0_0 i) (hc1 : cond0_1 i)
    (x0 : Vec F S512x128 .bf16) (x1 : Vec F S4096x128 .bf16) (x2 : Vec F S4096x128 .bf16) (x3 : Vec F S512x128 .f32) (x4 : Vec F S512x128 .f32) (x5 : Vec F S1x1x1x512 .f32) (x6 : Vec F S1x4096x1 .f32) (x7 : Vec F S1x1x1x512 .f32) (xs0 : Vec F S4096x128 .bf16) (xs1 : Vec F S8x128x512 .bf16) (xs2 : Vec F S4096x128 .bf16) (xs3 : Vec F S4096x512 .f32) (xs4 : Vec F S4096x128 .f32) (xs5 : Vec F S4096x128 .f32) (xs6 : Vec F S4096x128 .f32)

/-- What the loops read in case C. -/
theorem reads_C : (loopReads (F := F) arg15 arg16 arg17 arg18 (kernelRun0_C.sl.r c arg2 harg2 x0) (kernelRun0_C.sl.r_1 c arg5 harg5 x3) (kernelRun0_C.sl.r_2 c arg5 harg5 arg6 harg6 x3 x4) (kernelRun0_C.sl.r_3 c arg7 harg7 arg9 harg9 x5 x7) (harg15.unread xs0) (harg16.unread xs1) (harg17.unread xs2) (harg18.unread xs3)) = (readsOf xs0 xs1 xs2 xs3 x0 x3 x4 x5 x7) := by
  unfold loopReads readsOf kernelRun0_C.sl.r kernelRun0_C.sl.r_1 kernelRun0_C.sl.r_2 kernelRun0_C.sl.r_3
  congr 1
  · exact harg15.read_unread _
  · exact harg16.read_unread _
  · exact harg17.read_unread _
  · exact harg18.read_unread _
  · exact congrArg k0_pay32 ((View.readAt_full _ _ _).trans (harg2.read_unread _))
  · exact congrArg k0_pay33 ((View.readAt_full _ _ _).trans (harg5.read_unread _))
  · exact congrArg₂ k0_pay34 ((View.readAt_full _ _ _).trans (harg5.read_unread _)) ((View.readAt_full _ _ _).trans (harg6.read_unread _))
  · exact congrArg₂ k0_pay35 ((View.readAt_full _ _ _).trans (harg9.read_unread _)) ((View.readAt_full _ _ _).trans (harg7.read_unread _))

/-- What the loops find in case C. -/
theorem writes_C : (loopWrites arg19 arg20 arg21 arg22 (harg19.unread xs4) (harg20.unread xs5) (harg21.unread xs6) (arg22.view.writes (Elt F) arg22.view.junk kernelRun0_C.sl.HS7_1) k0_pay37) = ⟨xs4, xs5, xs6, k0_pay36, k0_pay37⟩ := by
  unfold loopWrites
  congr 1
  · exact harg19.read_unread _
  · exact harg20.read_unread _
  · exact harg21.read_unread _
  · exact View.read_writes_full _ _ _ _ _

/-- Case C: the key gradient's accumulator ends as the clean point leaves it. -/
theorem dk_C : arg19.view.read (Elt F) (arg19.view.writes (Elt F) (harg19.unread xs4) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6).2.2.2.2.2.2.2.2.2.1) = (point (readsOf xs0 xs1 xs2 xs3 x0 x3 x4 x5 x7) (i 1) ⟨xs4, xs5, xs6, k0_pay36, k0_pay37⟩).dk := by
  have key := point_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 1).val) (kernelRun0_C.sl.r c arg2 harg2 x0) (kernelRun0_C.sl.r_1 c arg5 harg5 x3) (kernelRun0_C.sl.r_2 c arg5 harg5 arg6 harg6 x3 x4) (kernelRun0_C.sl.r_3 c arg7 harg7 arg9 harg9 x5 x7) k0_pay37 (0#32) (kernelRun0_C.sl.v29 i) (harg15.unread xs0) (harg16.unread xs1) (harg17.unread xs2) (harg18.unread xs3) (harg19.unread xs4) (harg20.unread xs5) (harg21.unread xs6) (arg22.view.writes (Elt F) arg22.view.junk kernelRun0_C.sl.HS7_1) k0_pay37 _ rfl
  rw [writes_C, reads_C] at key
  refine Eq.trans ?_ (congrArg Bufs.dk key)
  unfold kernelRun0_C
  dsimp only
  unfold kernelRun0_C.sl.HS4_1 kernelRun0_C.sl.v73 kernelRun0_C.sl.r_6
  rw [st_t2_none]
  · rfl
  · exact trips_t2 i

/-- Case C: the value gradient's accumulator ends as the clean point leaves it. -/
theorem dv_C : arg20.view.read (Elt F) (arg20.view.writes (Elt F) (harg20.unread xs5) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6).2.2.2.2.2.2.2.2.2.2.1) = (point (readsOf xs0 xs1 xs2 xs3 x0 x3 x4 x5 x7) (i 1) ⟨xs4, xs5, xs6, k0_pay36, k0_pay37⟩).dv := by
  have key := point_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 1).val) (kernelRun0_C.sl.r c arg2 harg2 x0) (kernelRun0_C.sl.r_1 c arg5 harg5 x3) (kernelRun0_C.sl.r_2 c arg5 harg5 arg6 harg6 x3 x4) (kernelRun0_C.sl.r_3 c arg7 harg7 arg9 harg9 x5 x7) k0_pay37 (0#32) (kernelRun0_C.sl.v29 i) (harg15.unread xs0) (harg16.unread xs1) (harg17.unread xs2) (harg18.unread xs3) (harg19.unread xs4) (harg20.unread xs5) (harg21.unread xs6) (arg22.view.writes (Elt F) arg22.view.junk kernelRun0_C.sl.HS7_1) k0_pay37 _ rfl
  rw [writes_C, reads_C] at key
  refine Eq.trans ?_ (congrArg Bufs.dv key)
  unfold kernelRun0_C
  dsimp only
  unfold kernelRun0_C.sl.HS5_1 kernelRun0_C.sl.v57
  rw [st_t2_none]
  · rfl
  · exact trips_t2 i

/-- Case C: the gate gradient's accumulator ends as the clean point leaves it. -/
theorem dck_C : arg21.view.read (Elt F) (arg21.view.writes (Elt F) (harg21.unread xs6) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6).2.2.2.2.2.2.2.2.2.2.2.1) = (point (readsOf xs0 xs1 xs2 xs3 x0 x3 x4 x5 x7) (i 1) ⟨xs4, xs5, xs6, k0_pay36, k0_pay37⟩).dck := by
  have key := point_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 1).val) (kernelRun0_C.sl.r c arg2 harg2 x0) (kernelRun0_C.sl.r_1 c arg5 harg5 x3) (kernelRun0_C.sl.r_2 c arg5 harg5 arg6 harg6 x3 x4) (kernelRun0_C.sl.r_3 c arg7 harg7 arg9 harg9 x5 x7) k0_pay37 (0#32) (kernelRun0_C.sl.v29 i) (harg15.unread xs0) (harg16.unread xs1) (harg17.unread xs2) (harg18.unread xs3) (harg19.unread xs4) (harg20.unread xs5) (harg21.unread xs6) (arg22.view.writes (Elt F) arg22.view.junk kernelRun0_C.sl.HS7_1) k0_pay37 _ rfl
  rw [writes_C, reads_C] at key
  refine Eq.trans ?_ (congrArg Bufs.dck key)
  unfold kernelRun0_C
  dsimp only
  unfold kernelRun0_C.sl.HS6_1 kernelRun0_C.sl.v97 kernelRun0_C.sl.r_5
  rw [st_t2_none]
  · rfl
  · exact trips_t2 i

/-- Case C: the query gradient's block. -/
theorem dq_C : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6).1 = [(⟨Rect.unit (s := S512x128) ![0, 0] S512x128.size inb_S512x128_S512x128_0_0, k0_pay52 (point (readsOf xs0 xs1 xs2 xs3 x0 x3 x4 x5 x7) (i 1) ⟨xs4, xs5, xs6, k0_pay36, k0_pay37⟩).dqt⟩ : View.Piece (Elt F) S512x128 .bf16)] := by
  have key := point_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 1).val) (kernelRun0_C.sl.r c arg2 harg2 x0) (kernelRun0_C.sl.r_1 c arg5 harg5 x3) (kernelRun0_C.sl.r_2 c arg5 harg5 arg6 harg6 x3 x4) (kernelRun0_C.sl.r_3 c arg7 harg7 arg9 harg9 x5 x7) k0_pay37 (0#32) (kernelRun0_C.sl.v29 i) (harg15.unread xs0) (harg16.unread xs1) (harg17.unread xs2) (harg18.unread xs3) (harg19.unread xs4) (harg20.unread xs5) (harg21.unread xs6) (arg22.view.writes (Elt F) arg22.view.junk kernelRun0_C.sl.HS7_1) k0_pay37 _ rfl
  rw [writes_C, reads_C] at key
  rw [← key]
  unfold kernelRun0_C
  dsimp only
  unfold kernelRun0_C.sl.v106 kernelRun0_C.sl.HS7_1_1
  refine congrArg (fun w => [(⟨Rect.unit (s := S512x128) ![0, 0] S512x128.size inb_S512x128_S512x128_0_0, k0_pay52 w⟩ : View.Piece (Elt F) S512x128 .bf16)]) ?_
  refine (View.readCov_full _ _ _ _ _).trans ?_
  refine Eq.trans ?_ (View.read_writes_full _ _ _ _ _).symm
  unfold kernelRun0_C.sl.v80 kernelRun0_C.sl.r_6
  rw [st_t2_none]
  · unfold View.readCov
    rw [List.nil_append, View.writes_append]
  · exact trips_t2 i

/-- Case C: the gate gradient's row block. -/
theorem dcq_C : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6).2.2.2.1 = [(⟨Rect.unit (s := S1x1x1x512) ![0, 0, 0, 0] S1x1x1x512.size inb_S1x1x1x512_S1x1x1x512_0_0_0_0, k0_pay1 (point (readsOf xs0 xs1 xs2 xs3 x0 x3 x4 x5 x7) (i 1) ⟨xs4, xs5, xs6, k0_pay36, k0_pay37⟩).acc⟩ : View.Piece (Elt F) S1x1x1x512 .f32)] := by
  have key := point_eq Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (BitVec.ofNat 32 (i 1).val) (kernelRun0_C.sl.r c arg2 harg2 x0) (kernelRun0_C.sl.r_1 c arg5 harg5 x3) (kernelRun0_C.sl.r_2 c arg5 harg5 arg6 harg6 x3 x4) (kernelRun0_C.sl.r_3 c arg7 harg7 arg9 harg9 x5 x7) k0_pay37 (0#32) (kernelRun0_C.sl.v29 i) (harg15.unread xs0) (harg16.unread xs1) (harg17.unread xs2) (harg18.unread xs3) (harg19.unread xs4) (harg20.unread xs5) (harg21.unread xs6) (arg22.view.writes (Elt F) arg22.view.junk kernelRun0_C.sl.HS7_1) k0_pay37 _ rfl
  rw [writes_C, reads_C] at key
  rw [← key]
  unfold kernelRun0_C
  dsimp only
  unfold kernelRun0_C.sl.r_7 kernelRun0_C.sl.r_4 kernelRun0_C.sl.r_5
  rw [st_t2_none]
  · rfl
  · exact trips_t2 i

/-- Case C: what the key gradient's accumulator is written back as. -/
theorem dkOut_C : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6).2.1 = [(⟨Rect.unit (s := S4096x128) ![0, 0] S4096x128.size inb_S4096x128_S4096x128_0_0, k0_pay2 (point (readsOf xs0 xs1 xs2 xs3 x0 x3 x4 x5 x7) (i 1) ⟨xs4, xs5, xs6, k0_pay36, k0_pay37⟩).dk⟩ : View.Piece (Elt F) S4096x128 .bf16)] := by
  rw [← dk_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6]
  unfold kernelRun0_C
  dsimp only
  unfold kernelRun0_C.sl.v118
  refine congrArg (fun w => [(⟨Rect.unit (s := S4096x128) ![0, 0] S4096x128.size inb_S4096x128_S4096x128_0_0, k0_pay2 w⟩ : View.Piece (Elt F) S4096x128 .bf16)]) ?_
  exact View.readAt_full _ _ _

/-- Case C: what the value gradient's accumulator is written back as. -/
theorem dvOut_C : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6).2.2.1 = [(⟨Rect.unit (s := S4096x128) ![0, 0] S4096x128.size inb_S4096x128_S4096x128_0_0, k0_pay3 (point (readsOf xs0 xs1 xs2 xs3 x0 x3 x4 x5 x7) (i 1) ⟨xs4, xs5, xs6, k0_pay36, k0_pay37⟩).dv⟩ : View.Piece (Elt F) S4096x128 .bf16)] := by
  rw [← dv_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6]
  unfold kernelRun0_C
  dsimp only
  unfold kernelRun0_C.sl.v123
  refine congrArg (fun w => [(⟨Rect.unit (s := S4096x128) ![0, 0] S4096x128.size inb_S4096x128_S4096x128_0_0, k0_pay3 w⟩ : View.Piece (Elt F) S4096x128 .bf16)]) ?_
  exact View.readAt_full _ _ _

/-- Case C: what the gate gradient's accumulator is written back as. -/
theorem dckOut_C : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6).2.2.2.2.1 = [(⟨Rect.unit (s := S1x4096x1) ![0, 0, 0] S1x4096x1.size inb_S1x4096x1_S1x4096x1_0_0_0, k0_pay4 (point (readsOf xs0 xs1 xs2 xs3 x0 x3 x4 x5 x7) (i 1) ⟨xs4, xs5, xs6, k0_pay36, k0_pay37⟩).dck⟩ : View.Piece (Elt F) S1x4096x1 .f32)] := by
  rw [← dck_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6]
  unfold kernelRun0_C
  dsimp only
  unfold kernelRun0_C.sl.v126
  refine congrArg (fun w => [(⟨Rect.unit (s := S1x4096x1) ![0, 0, 0] S1x4096x1.size inb_S1x4096x1_S1x4096x1_0_0_0, k0_pay4 w⟩ : View.Piece (Elt F) S1x4096x1 .f32)]) ?_
  exact View.readAt_full _ _ _

end CaseC

end Cert.KernelIdeal.AttnBwd
-- ==== Proof.OutC.lean ====
module

public import proofs.«01_k».proof.Proof.CaseC
public import proofs.«01_k».proof.Proof.Gen.KernelIdeal.Frame
public import Idealize.ShloMosaic.Lib.VecWindow

@[expose] public section

set_option maxRecDepth 8192
set_option maxHeartbeats 4000000

noncomputable section

namespace Cert.KernelIdeal.AttnBwd

open Idealize.ShloMosaic Idealize.ShloMosaic.TcCoe Idealize.ShloMosaic.Tactic
open Cert.KernelIdeal.Gen

variable {F : FTy → Type} [FloatOps F] [Named F]

section OutC

variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x1x1x512 .f32) (harg7 : arg7.IsWhole) (arg8 : Memref sig .tc .vmem S1x4096x1 .f32) (harg8 : arg8.IsWhole) (arg9 : Memref sig .tc .vmem S1x1x1x512 .f32) (harg9 : arg9.IsWhole) (arg10 : Memref sig .tc .vmem S512x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S1x1x1x512 .f32) (harg13 : arg13.IsWhole) (arg14 : Memref sig .tc .vmem S1x4096x1 .f32) (harg14 : arg14.IsWhole) (arg15 : Memref sig .tc .vmem S4096x128 .bf16) (harg15 : arg15.IsWhole) (arg16 : Memref sig .tc .vmem S8x128x512 .bf16) (harg16 : arg16.IsWhole) (arg17 : Memref sig .tc .vmem S4096x128 .bf16) (harg17 : arg17.IsWhole) (arg18 : Memref sig .tc .vmem S4096x512 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S4096x128 .f32) (harg21 : arg21.IsWhole) (arg22 : Memref sig .tc .vmem S128x512 .f32) (harg22 : arg22.IsWhole) (hc0 : ¬cond0_0 i) (hc1 : cond0_1 i)
    (x0 : Vec F S512x128 .bf16) (x1 : Vec F S4096x128 .bf16) (x2 : Vec F S4096x128 .bf16) (x3 : Vec F S512x128 .f32) (x4 : Vec F S512x128 .f32) (x5 : Vec F S1x1x1x512 .f32) (x6 : Vec F S1x4096x1 .f32) (x7 : Vec F S1x1x1x512 .f32) (xs0 : Vec F S4096x128 .bf16) (xs1 : Vec F S8x128x512 .bf16) (xs2 : Vec F S4096x128 .bf16) (xs3 : Vec F S4096x512 .f32) (xs4 : Vec F S4096x128 .f32) (xs5 : Vec F S4096x128 .f32) (xs6 : Vec F S4096x128 .f32)
/-- Case C: the query gradient's block written back. -/
theorem out8_C : out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6 = k0_pay52 (point (readsOf xs0 xs1 xs2 xs3 x0 x3 x4 x5 x7) (i 1) ⟨xs4, xs5, xs6, k0_pay36, k0_pay37⟩).dqt := by
  unfold out0_C_8
  rw [dq_C]
  exact View.read_writes_full _ _ _ _ _

/-- Case C: the gate gradient's row block written back. -/
theorem out11_C : out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6 = k0_pay1 (point (readsOf xs0 xs1 xs2 xs3 x0 x3 x4 x5 x7) (i 1) ⟨xs4, xs5, xs6, k0_pay36, k0_pay37⟩).acc := by
  unfold out0_C_11
  rw [dcq_C]
  exact View.read_writes_full _ _ _ _ _

/-- Case C: the key gradient written back. -/
theorem out9_C : out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6 = k0_pay2 (point (readsOf xs0 xs1 xs2 xs3 x0 x3 x4 x5 x7) (i 1) ⟨xs4, xs5, xs6, k0_pay36, k0_pay37⟩).dk := by
  unfold out0_C_9
  rw [dkOut_C]
  exact View.read_writes_full _ _ _ _ _

/-- Case C: the value gradient written back. -/
theorem out10_C : out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6 = k0_pay3 (point (readsOf xs0 xs1 xs2 xs3 x0 x3 x4 x5 x7) (i 1) ⟨xs4, xs5, xs6, k0_pay36, k0_pay37⟩).dv := by
  unfold out0_C_10
  rw [dvOut_C]
  exact View.read_writes_full _ _ _ _ _

/-- Case C: the gate gradient's column written back. -/
theorem out12_C : out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6 = k0_pay4 (point (readsOf xs0 xs1 xs2 xs3 x0 x3 x4 x5 x7) (i 1) ⟨xs4, xs5, xs6, k0_pay36, k0_pay37⟩).dck := by
  unfold out0_C_12
  rw [dckOut_C]
  exact View.read_writes_full _ _ _ _ _

/-- Case C: the key gradient's accumulator after the point. -/
theorem sout4_C : sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6 = (point (readsOf xs0 xs1 xs2 xs3 x0 x3 x4 x5 x7) (i 1) ⟨xs4, xs5, xs6, k0_pay36, k0_pay37⟩).dk := by
  exact dk_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6

/-- Case C: the value gradient's accumulator after the point. -/
theorem sout5_C : sout0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6 = (point (readsOf xs0 xs1 xs2 xs3 x0 x3 x4 x5 x7) (i 1) ⟨xs4, xs5, xs6, k0_pay36, k0_pay37⟩).dv := by
  exact dv_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6

/-- Case C: the gate gradient's accumulator after the point. -/
theorem sout6_C : sout0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6 = (point (readsOf xs0 xs1 xs2 xs3 x0 x3 x4 x5 x7) (i 1) ⟨xs4, xs5, xs6, k0_pay36, k0_pay37⟩).dck := by
  exact dck_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 xs0 xs1 xs2 xs3 xs4 xs5 xs6

end OutC

end Cert.KernelIdeal.AttnBwd
-- ==== Proof.Points.lean ====
module

public import proofs.«01_k».proof.Proof.Blocks
public import proofs.«01_k».proof.Proof.OutA
public import proofs.«01_k».proof.Proof.OutB
public import proofs.«01_k».proof.Proof.OutC

/-! What the kernel's outputs and carried buffers hold after each grid point, in terms of one recursion over the points:
a head starts from zero accumulators, and each later point of the head continues with what the point before left. -/

@[expose] public section

set_option maxRecDepth 8192
set_option maxHeartbeats 4000000

noncomputable section

namespace Cert.KernelIdeal.AttnBwd

open Idealize.ShloMosaic Idealize.ShloMosaic.TcCoe Idealize.ShloMosaic.Tactic
open Cert.KernelIdeal.Gen

variable {F : FTy → Type} [FloatOps F] [Named F]
variable (m : (ℓ : Loc nD τ sig) → Buf (Elt F) ℓ)

/-- What the body reads at a point, from the point's input blocks. -/
def readsAt (c : Dev nD) (t : Fin cfg0.N) : Reads F :=
  readsOf (k0_pay5 (iblk m c 1 t)) (planes (iblk m c 1 t)) (k0_pay6 (iblk m c 2 t)) (k0_pay7 (iblk m c 6 t))
    (iblk m c 0 t) (iblk m c 3 t) (iblk m c 4 t) (iblk m c 5 t) (iblk m c 7 t)

/-- The buffers at the start of a head. -/
def startBufs : Bufs F := ⟨k0_pay29, k0_pay30, k0_pay31, k0_pay36, k0_pay37⟩

/-- The buffers at the start of a later point: the accumulators of the head are kept, those of the point are cleared. -/
def carry (s : Bufs F) : Bufs F := ⟨s.dk, s.dv, s.dck, k0_pay36, k0_pay37⟩

/-- The buffers after point `n`. -/
def pointAt (c : Dev nD) : (n : ℕ) → n < cfg0.N → Bufs F
  | 0, h => point (readsAt m c ⟨0, h⟩) (grid0.coords ⟨0, h⟩ 1) startBufs
  | n + 1, h => point (readsAt m c ⟨n + 1, h⟩) (grid0.coords ⟨n + 1, h⟩ 1)
      (if (n + 1) % 8 = 0 then startBufs else carry (pointAt c n (Nat.lt_of_succ_lt h)))

/-- The first point of a head starts from zero accumulators. -/
theorem pointAt_start (c : Dev nD) (t : Fin cfg0.N) (h0 : t.val % 8 = 0) :
    pointAt m c t.val t.isLt = point (readsAt m c t) (grid0.coords t 1) startBufs := by
  obtain ⟨n, hn⟩ := t
  cases n with
  | zero => rfl
  | succ n => rw [pointAt, if_pos h0]

/-- A later point of a head continues. -/
theorem pointAt_next (c : Dev nD) (t : Fin cfg0.N) (h0 : ¬t.val % 8 = 0) :
    pointAt m c t.val t.isLt = point (readsAt m c t) (grid0.coords t 1)
      (carry (pointAt m c (t.val - 1) (Nat.lt_of_le_of_lt (Nat.sub_le _ _) t.isLt))) := by
  obtain ⟨n, hn⟩ := t
  cases n with
  | zero => exact absurd (Nat.zero_mod _) h0
  | succ n => exact (by rw [pointAt, if_neg h0] : pointAt m c (n + 1) hn = _)

/-- The point before. -/
abbrev before (t : Fin cfg0.N) : Fin cfg0.N := ⟨t.val - 1, Nat.lt_of_le_of_lt (Nat.sub_le _ _) t.isLt⟩

/-- Within a head the staged keys, values and gate column do not change from one point to the next. -/
theorem iblk_head (c : Dev nD) (t : Fin cfg0.N) (h0 : ¬t.val % 8 = 0) :
    (iblk m c 1 (before t) : Vec F S4096x128 .bf16) = iblk m c 1 t
      ∧ (iblk m c 2 (before t) : Vec F S4096x128 .bf16) = iblk m c 2 t
      ∧ (iblk m c 6 (before t) : Vec F S1x4096x1 .f32) = iblk m c 6 t := by
  have e : (t.val - 1) / 8 = t.val / 8 := by omega
  obtain ⟨h1, -, h6⟩ := blk_head (F := F) (before t) t e (V m c (Pipeline.arrRef spec0 1)) (V m c (Pipeline.arrRef spec0 6))
  obtain ⟨-, h2, -⟩ := blk_head (F := F) (before t) t e (V m c (Pipeline.arrRef spec0 2)) (V m c (Pipeline.arrRef spec0 6))
  exact ⟨h1, h2, h6⟩

/-- The contents `O` of the outputs and the carried buffers after a point, said by the head's keys `k`, values `v` and gate
column `g` and the buffers the point left (`P`); the key, value and gate-column gradients are written at the last point of a head only. -/
structure Holds (O : Vec F S512x128 .bf16 × Vec F S4096x128 .bf16 × Vec F S4096x128 .bf16 × Vec F S1x1x1x512 .f32 × Vec F S1x4096x1 .f32 × Vec F S4096x128 .bf16 × Vec F S8x128x512 .bf16 × Vec F S4096x128 .bf16 × Vec F S4096x512 .f32 × Vec F S4096x128 .f32 × Vec F S4096x128 .f32 × Vec F S4096x128 .f32)
    (k v : Vec F S4096x128 .bf16) (g : Vec F S1x4096x1 .f32) (P : Bufs F) (last : Prop) : Prop where
  dq : O.1 = k0_pay52 P.dqt
  dcq : O.2.2.2.1 = k0_pay1 P.acc
  dk : last → O.2.1 = k0_pay2 P.dk
  dv : last → O.2.2.1 = k0_pay3 P.dv
  dck : last → O.2.2.2.2.1 = k0_pay4 P.dck
  kb : O.2.2.2.2.2.1 = k0_pay5 k
  kt : O.2.2.2.2.2.2.1 = planes k
  vb : O.2.2.2.2.2.2.2.1 = k0_pay6 v
  ckb : O.2.2.2.2.2.2.2.2.1 = k0_pay7 g
  dkAcc : O.2.2.2.2.2.2.2.2.2.1 = P.dk
  dvAcc : O.2.2.2.2.2.2.2.2.2.2.1 = P.dv
  dckAcc : O.2.2.2.2.2.2.2.2.2.2.2 = P.dck

/-- The first point of a head. -/
theorem holds_first (c : Dev nD) (t : Fin cfg0.N) (h0 : t.val % 8 = 0) :
    Holds (outsAt0 m c t.val t.isLt) (iblk m c 1 t) (iblk m c 2 t) (iblk m c 6 t) (pointAt m c t.val t.isLt) (t.val % 8 = 7) := by
  have h1 : ¬t.val % 8 = 7 := by omega
  rw [outsAt0_A m c t h0 h1, pointAt_start m c t h0]
  unfold readsAt startBufs
  constructor
  · dsimp only
    exact out8_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)
  · dsimp only
    exact out11_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)
  · exact fun h => absurd h h1
  · exact fun h => absurd h h1
  · exact fun h => absurd h h1
  · dsimp only
    exact sout0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)
  · dsimp only
    exact sout1_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)
  · dsimp only
    exact sout2_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)
  · dsimp only
    exact sout3_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)
  · dsimp only
    exact sout4_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)
  · dsimp only
    exact sout5_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)
  · dsimp only
    exact sout6_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

/-- A point of a head that is neither its first nor its last. -/
theorem holds_middle (c : Dev nD) (t : Fin cfg0.N) (h0 : ¬t.val % 8 = 0) (h1 : ¬t.val % 8 = 7)
    (ih : Holds (outsAt0 m c (t.val - 1) (Nat.lt_of_le_of_lt (Nat.sub_le _ _) t.isLt)) (iblk m c 1 (before t)) (iblk m c 2 (before t)) (iblk m c 6 (before t)) (pointAt m c (t.val - 1) (Nat.lt_of_le_of_lt (Nat.sub_le _ _) t.isLt)) ((t.val - 1) % 8 = 7)) :
    Holds (outsAt0 m c t.val t.isLt) (iblk m c 1 t) (iblk m c 2 t) (iblk m c 6 t) (pointAt m c t.val t.isLt) (t.val % 8 = 7) := by
  obtain ⟨e1, e2, e6⟩ := iblk_head m c t h0
  have hkb := ih.kb.trans (congrArg k0_pay5 e1)
  have hkt := ih.kt.trans (congrArg planes e1)
  have hvb := ih.vb.trans (congrArg k0_pay6 e2)
  have hckb := ih.ckb.trans (congrArg k0_pay7 e6)
  have hdk := ih.dkAcc
  have hdv := ih.dvAcc
  have hdck := ih.dckAcc
  rw [outsAt0_B m c t h0 h1, pointAt_next m c t h0]
  unfold readsAt carry
  clear ih
  constructor
  · dsimp only
    refine (out8_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2)).trans ?_
    rw [hkb, hkt, hvb, hckb, hdk, hdv, hdck]
  · dsimp only
    refine (out11_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2)).trans ?_
    rw [hkb, hkt, hvb, hckb, hdk, hdv, hdck]
  · exact fun h => absurd h h1
  · exact fun h => absurd h h1
  · exact fun h => absurd h h1
  · exact hkb
  · exact hkt
  · exact hvb
  · exact hckb
  · dsimp only
    refine (sout4_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2)).trans ?_
    rw [hkb, hkt, hvb, hckb, hdk, hdv, hdck]
  · dsimp only
    refine (sout5_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2)).trans ?_
    rw [hkb, hkt, hvb, hckb, hdk, hdv, hdck]
  · dsimp only
    refine (sout6_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2)).trans ?_
    rw [hkb, hkt, hvb, hckb, hdk, hdv, hdck]

/-- The last point of a head. -/
theorem holds_last (c : Dev nD) (t : Fin cfg0.N) (h0 : ¬t.val % 8 = 0) (h1 : t.val % 8 = 7)
    (ih : Holds (outsAt0 m c (t.val - 1) (Nat.lt_of_le_of_lt (Nat.sub_le _ _) t.isLt)) (iblk m c 1 (before t)) (iblk m c 2 (before t)) (iblk m c 6 (before t)) (pointAt m c (t.val - 1) (Nat.lt_of_le_of_lt (Nat.sub_le _ _) t.isLt)) ((t.val - 1) % 8 = 7)) :
    Holds (outsAt0 m c t.val t.isLt) (iblk m c 1 t) (iblk m c 2 t) (iblk m c 6 t) (pointAt m c t.val t.isLt) (t.val % 8 = 7) := by
  obtain ⟨e1, e2, e6⟩ := iblk_head m c t h0
  have hkb := ih.kb.trans (congrArg k0_pay5 e1)
  have hkt := ih.kt.trans (congrArg planes e1)
  have hvb := ih.vb.trans (congrArg k0_pay6 e2)
  have hckb := ih.ckb.trans (congrArg k0_pay7 e6)
  have hdk := ih.dkAcc
  have hdv := ih.dvAcc
  have hdck := ih.dckAcc
  rw [outsAt0_C m c t h0 h1, pointAt_next m c t h0]
  unfold readsAt carry
  clear ih
  constructor
  · dsimp only
    refine (out8_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2)).trans ?_
    rw [hkb, hkt, hvb, hckb, hdk, hdv, hdck]
  · dsimp only
    refine (out11_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2)).trans ?_
    rw [hkb, hkt, hvb, hckb, hdk, hdv, hdck]
  · intro _
    dsimp only
    refine (out9_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2)).trans ?_
    rw [hkb, hkt, hvb, hckb, hdk, hdv, hdck]
  · intro _
    dsimp only
    refine (out10_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2)).trans ?_
    rw [hkb, hkt, hvb, hckb, hdk, hdv, hdck]
  · intro _
    dsimp only
    refine (out12_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2)).trans ?_
    rw [hkb, hkt, hvb, hckb, hdk, hdv, hdck]
  · exact hkb
  · exact hkt
  · exact hvb
  · exact hckb
  · dsimp only
    refine (sout4_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2)).trans ?_
    rw [hkb, hkt, hvb, hckb, hdk, hdv, hdck]
  · dsimp only
    refine (sout5_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2)).trans ?_
    rw [hkb, hkt, hvb, hckb, hdk, hdv, hdck]
  · dsimp only
    refine (sout6_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2.1) ((outsAt0 m c (t.val - 1) (Nat.lt_of_le_of_lt (Nat.sub_le _ _) t.isLt)).2.2.2.2.2.2.2.2.2.2.1) ((outsAt0 m c (t.val - 1) (Nat.lt_of_le_of_lt (Nat.sub_le _ _) t.isLt)).2.2.2.2.2.2.2.2.2.2.2)).trans ?_
    rw [hkb, hkt, hvb, hckb, hdk, hdv, hdck]

/-- After every grid point the outputs and carried buffers are those of the recursion. -/
theorem holds (c : Dev nD) : (n : ℕ) → (hn : n < cfg0.N) →
    Holds (outsAt0 m c n hn) (iblk m c 1 ⟨n, hn⟩) (iblk m c 2 ⟨n, hn⟩) (iblk m c 6 ⟨n, hn⟩) (pointAt m c n hn) (n % 8 = 7)
  | 0, hn => holds_first m c ⟨0, hn⟩ rfl
  | n + 1, hn => by
    have ih := holds c n (Nat.lt_of_succ_lt hn)
    by_cases h0 : (n + 1) % 8 = 0
    · exact holds_first m c ⟨n + 1, hn⟩ h0
    · by_cases h1 : (n + 1) % 8 = 7
      · exact holds_last m c ⟨n + 1, hn⟩ h0 h1 ih
      · exact holds_middle m c ⟨n + 1, hn⟩ h0 h1 ih

end Cert.KernelIdeal.AttnBwd
-- ==== Proof.HeadValue.lean ====
module

public import proofs.«01_k».proof.Proof.PointValue
public import proofs.«01_k».proof.Proof.Points

/-! The gradients of one head, over the extended reals, as sums over all of its keys and queries. -/

@[expose] public section

set_option maxRecDepth 16384
set_option maxHeartbeats 4000000

noncomputable section

namespace Cert.KernelIdeal.AttnBwd

open Idealize.ShloMosaic Idealize.ShloMosaic.TcCoe Idealize.ShloMosaic.Tactic
open Cert.KernelIdeal.Gen

/-- What the gradients of a head are computed from: its queries, keys and values, the gradient of its output, its saved
output and logarithms, and its gate sums. -/
structure Head where
  Q : Fin 4096 → Fin 128 → EReal
  K : Fin 4096 → Fin 128 → EReal
  V : Fin 4096 → Fin 128 → EReal
  G : Fin 4096 → Fin 128 → EReal
  O : Fin 4096 → Fin 128 → EReal
  L : Fin 4096 → EReal
  C : Fin 4096 → EReal

/-- `1 / log 2`. -/
abbrev cLog2e : EReal := (((Real.log 2)⁻¹ : ℝ) : EReal)
/-- `1 / (√128 · log 2)`. -/
abbrev cScaleLog2e : EReal := (((Real.sqrt 128)⁻¹ * (Real.log 2)⁻¹ : ℝ) : EReal)

/-- The weight of key `s` for query `t`. -/
def Head.w (H : Head) (s t : Fin 4096) : EReal :=
  if s.val ≤ t.val then
    Ideal.exp2 (∑ d : Fin 128, H.K s d * (H.Q t d * cScaleLog2e) - H.C s * cLog2e + (H.C t * cLog2e - H.L t))
  else 0

/-- The gradient of the score of key `s` and query `t`. -/
def Head.g (H : Head) (s t : Fin 4096) : EReal :=
  H.w s t * (∑ d : Fin 128, H.V s d * H.G t d - ∑ d : Fin 128, H.G t d * H.O t d)

/-- The body's reads at the `i`-th point of the head. -/
structure ReadsHead (H : Head) (i : Fin 8) (R : Reads Ideal) : Prop where
  kb : ∀ s d, R.kb (ix2 s d) = H.K s d
  kt : ∀ b d x, R.kt (ix3 b d x) = H.K (rowAt b x) d
  vb : ∀ s d, R.vb (ix2 s d) = H.V s d
  ckb : ∀ s r, R.ckb (ix2 s r) = H.C s * cLog2e
  q : ∀ r d, R.q (ix2 r d) = H.Q (rowAt i r) d * cScaleLog2e
  go : ∀ r d, R.go (ix2 r d) = H.G (rowAt i r) d
  del : ∀ r, R.del (ix2 0 r) = ∑ d : Fin 128, H.G (rowAt i r) d * H.O (rowAt i r) d
  lse : ∀ r, R.lse (ix2 0 r) = H.C (rowAt i r) * cLog2e - H.L (rowAt i r)

theorem ReadsHead.masked {H : Head} {i : Fin 8} {R : Reads Ideal} (h : ReadsHead H i R) (s : Fin 4096) (r : Fin 512) :
    masked R i s r = H.w s (rowAt i r) := by
  unfold AttnBwd.masked weight Head.w
  simp only [h.kb, h.q, h.ckb, h.lse]

theorem ReadsHead.grad {H : Head} {i : Fin 8} {R : Reads Ideal} (h : ReadsHead H i R) (s : Fin 4096) (r : Fin 512) :
    grad R i s r = H.g s (rowAt i r) := by
  unfold AttnBwd.grad Head.g
  simp only [h.masked, h.vb, h.go, h.del]

/-- A sum over 4096 rows, block by block. -/
theorem sum_rows (f : Fin 4096 → EReal) : ∑ s : Fin 4096, f s = ∑ b : Fin 8, ∑ x : Fin 512, f (rowAt b x) := by
  rw [← Fintype.sum_prod_type' (f := fun b x => f (rowAt b x))]
  refine (Fintype.sum_equiv (finProdFinEquiv (m := 8) (n := 512)) _ f fun y => ?_).symm
  exact congrArg f (Fin.ext (by show 512 * y.1.val + y.2.val = y.2.val + 512 * y.1.val; omega))

/-- A sum over 512 entries, four at a time. -/
theorem sum_lanes (f : Fin 512 → EReal) :
    ∑ r : Fin 512, f r = ∑ l : Fin 128, (f ⟨l.val, by omega⟩ + f ⟨128 + l.val, by omega⟩ + f ⟨256 + l.val, by omega⟩ + f ⟨384 + l.val, by omega⟩) := by
  have e : ∑ r : Fin 512, f r = ∑ b : Fin 4, ∑ x : Fin 128, f ⟨128 * b.val + x.val, by omega⟩ := by
    rw [← Fintype.sum_prod_type' (f := fun (b : Fin 4) (x : Fin 128) => f ⟨128 * b.val + x.val, by omega⟩)]
    refine (Fintype.sum_equiv (finProdFinEquiv (m := 4) (n := 128)) _ f fun y => ?_).symm
    exact congrArg f (Fin.ext (by show 128 * y.1.val + y.2.val = y.2.val + 128 * y.1.val; omega))
  rw [e, Fin.sum_univ_four, ← Finset.sum_add_distrib, ← Finset.sum_add_distrib, ← Finset.sum_add_distrib]
  refine Finset.sum_congr rfl fun l _ => ?_
  simp only [Fin.val_zero, Fin.val_one, Fin.val_two, show ((3 : Fin 4) : ℕ) = 3 from rfl, Nat.mul_zero, Nat.zero_add, Nat.mul_one, Nat.reduceMul]

theorem sum_fold4 {H : Head} {i : Fin 8} {R : Reads Ideal} (h : ReadsHead H i R) (s : Fin 4096) :
    ∑ l : Fin 128, fold4 R i s l = ∑ r : Fin 512, H.g s (rowAt i r) := by
  rw [sum_lanes]
  refine Finset.sum_congr rfl fun l _ => ?_
  unfold fold4
  simp only [h.grad]

/-- The accumulators of a head after its first `j` points. -/
structure HeadUpto (H : Head) (j : ℕ) (P : Bufs Ideal) : Prop where
  dk : ∀ s d, P.dk (ix2 s d) = ∑ b : Fin 8, if b.val < j then ∑ r : Fin 512, H.g s (rowAt b r) * (H.Q (rowAt b r) d * cScaleLog2e) else 0
  dv : ∀ s d, P.dv (ix2 s d) = ∑ b : Fin 8, if b.val < j then ∑ r : Fin 512, H.w s (rowAt b r) * H.G (rowAt b r) d else 0
  dck : ∀ s, ∑ l : Fin 128, P.dck (ix2 s l) = ∑ b : Fin 8, if b.val < j then ∑ r : Fin 512, H.g s (rowAt b r) else 0

/-- The start of a head. -/
theorem headUpto_zero (H : Head) : HeadUpto H 0 startBufs := by
  refine ⟨fun s d => ?_, fun s d => ?_, fun s => ?_⟩
  · exact (pay29_apply s d).trans (by simp)
  · exact (pay30_apply s d).trans (by simp)
  · exact (Finset.sum_congr rfl fun l _ => pay31_apply s l).trans (by simp)

/-- One more point of a head. -/
theorem HeadUpto.next {H : Head} {j : ℕ} (hj : j < 8) {R : Reads Ideal} (h : ReadsHead H ⟨j, hj⟩ R) {s P : Bufs Ideal}
    (u : HeadUpto H j s) (a : After R ⟨j, hj⟩ s P) : HeadUpto H (j + 1) P := by
  refine ⟨fun y d => ?_, fun y d => ?_, fun y => ?_⟩
  · rw [a.dk, u.dk, sum_upto_succ (fun b => ∑ r : Fin 512, H.g y (rowAt b r) * (H.Q (rowAt b r) d * cScaleLog2e)) j hj]
    simp only [h.grad, h.q]
  · rw [a.dv, u.dv, sum_upto_succ (fun b => ∑ r : Fin 512, H.w y (rowAt b r) * H.G (rowAt b r) d) j hj]
    simp only [h.masked, h.go]
  · rw [sum_upto_succ (fun b => ∑ r : Fin 512, H.g y (rowAt b r)) j hj, ← u.dck, ← sum_fold4 h y, ← Finset.sum_add_distrib]
    exact Finset.sum_congr rfl fun l _ => a.dck y l

/-- The accumulators are unchanged when a point's own are cleared. -/
theorem HeadUpto.carry {H : Head} {j : ℕ} {P : Bufs Ideal} (u : HeadUpto H j P) : HeadUpto H j (carry P) := ⟨u.dk, u.dv, u.dck⟩

/-- The point's own gradients: those of the queries, and the query side of the gates'. -/
theorem own_dqt {H : Head} {i : Fin 8} {R : Reads Ideal} (h : ReadsHead H i R) {s P : Bufs Ideal} (a : After R i s P)
    (hz : s.dqt = k0_pay36 (F := Ideal)) (d : Fin 128) (r : Fin 512) :
    P.dqt (ix2 d r) = ∑ y : Fin 4096, H.K y d * H.g y (rowAt i r) := by
  rw [a.dqt, hz, pay36_apply, zero_add, sum_rows]
  simp only [h.kt, h.grad]

theorem own_acc {H : Head} {i : Fin 8} {R : Reads Ideal} (h : ReadsHead H i R) {s P : Bufs Ideal} (a : After R i s P)
    (hz : s.acc = k0_pay37 (F := Ideal)) (r : Fin 512) : P.acc (ix2 0 r) = ∑ y : Fin 4096, H.g y (rowAt i r) := by
  rw [a.acc, hz, pay37_apply, zero_add, sum_rows]
  simp only [h.grad]

/-- After all eight points the accumulators are the sums over all queries. -/
theorem HeadUpto.full {H : Head} {P : Bufs Ideal} (u : HeadUpto H 8 P) :
    (∀ s d, P.dk (ix2 s d) = ∑ t : Fin 4096, H.g s t * (H.Q t d * cScaleLog2e))
      ∧ (∀ s d, P.dv (ix2 s d) = ∑ t : Fin 4096, H.w s t * H.G t d)
      ∧ (∀ s, ∑ l : Fin 128, P.dck (ix2 s l) = ∑ t : Fin 4096, H.g s t) := by
  refine ⟨fun s d => ?_, fun s d => ?_, fun s => ?_⟩
  · rw [u.dk, sum_rows]
    exact Finset.sum_congr rfl fun b _ => if_pos b.isLt
  · rw [u.dv, sum_rows]
    exact Finset.sum_congr rfl fun b _ => if_pos b.isLt
  · rw [u.dck, sum_rows]
    exact Finset.sum_congr rfl fun b _ => if_pos b.isLt

end Cert.KernelIdeal.AttnBwd
-- ==== Proof.KernelValue.lean ====
module

public import proofs.«01_k».proof.Proof.KernelHost
public import proofs.«01_k».proof.Proof.HeadValue

@[expose] public section

/-! # The kernel's results, read as the formulas of one head -/

set_option maxRecDepth 16384
set_option maxHeartbeats 4000000

noncomputable section

namespace Cert.KernelIdeal.AttnBwd

open Idealize.ShloMosaic Idealize.ShloMosaic.TcCoe Idealize.ShloMosaic.Tactic
open Cert.KernelIdeal.Gen Cert.Attention

variable (m : (ℓ : Loc nD τ sig) → Buf (Elt Ideal) ℓ) (c : Dev nD)

/-- What the kernel computes the gradients of head `h` from. -/
abbrev headOf (h : Fin 8) : Head where
  Q := (ins m c h).Q
  K := (ins m c h).K
  V := (ins m c h).V
  G := (ins m c h).G
  O := (ins m c h).o
  L := (ins m c h).lse
  C := (ins m c h).C

/-- The head and the block of queries of a grid point. -/
abbrev headPt (t : Fin cfg0.N) : Fin 8 := ⟨t.val / 8, by have := point_lt t; omega⟩
abbrev rowPt (t : Fin cfg0.N) : Fin 8 := ⟨t.val % 8, by omega⟩

/-- The blocks of a grid point, read as the head's values. -/
theorem block0 (t : Fin cfg0.N) (r : Fin 512) (d : Fin 128) :
    (iblk m c 0 t : Vec Ideal S512x128 .bf16) (ix2 r d) = (headOf m c (headPt t)).Q (rowAt (rowPt t) r) d := by
  refine (blk0_apply (V m c main_arg0) t (ix2 r d)).trans ?_
  rw [V_main_arg0]
  refine congrArg (m ((c : Thread nD τ).loc main_arg0) : Vec Ideal S4096x7168 .bf16) ?_
  exact congrArg₂ ix2 (Fin.ext rfl) (Fin.ext (by show 2048 + 128 * (t.val / 8) + d.val = 2048 + (t.val / 8 * 128 + d.val); omega))

theorem block1 (t : Fin cfg0.N) (s : Fin 4096) (d : Fin 128) :
    (iblk m c 1 t : Vec Ideal S4096x128 .bf16) (ix2 s d) = (headOf m c (headPt t)).K s d := by
  refine (blk1_apply (V m c main_arg0) t (ix2 s d)).trans ?_
  rw [V_main_arg0]
  refine congrArg (m ((c : Thread nD τ).loc main_arg0) : Vec Ideal S4096x7168 .bf16) ?_
  exact congrArg₂ ix2 (Fin.ext rfl) (Fin.ext (by show 3072 + 128 * (t.val / 8) + d.val = 3072 + (t.val / 8 * 128 + d.val); omega))

theorem block2 (t : Fin cfg0.N) (s : Fin 4096) (d : Fin 128) :
    (iblk m c 2 t : Vec Ideal S4096x128 .bf16) (ix2 s d) = (headOf m c (headPt t)).V s d := by
  refine (blk2_apply (V m c main_arg0) t (ix2 s d)).trans ?_
  rw [V_main_arg0]
  refine congrArg (m ((c : Thread nD τ).loc main_arg0) : Vec Ideal S4096x7168 .bf16) ?_
  exact congrArg₂ ix2 (Fin.ext rfl) (Fin.ext (by show 4096 + 128 * (t.val / 8) + d.val = 4096 + (t.val / 8 * 128 + d.val); omega))

theorem block3 (t : Fin cfg0.N) (r : Fin 512) (d : Fin 128) :
    (iblk m c 3 t : Vec Ideal S512x128 .f32) (ix2 r d) = (headOf m c (headPt t)).G (rowAt (rowPt t) r) d := by
  refine (blk3_apply (V m c main_arg2) t (ix2 r d)).trans ?_
  rw [V_main_arg2]
  refine congrArg (m ((c : Thread nD τ).loc main_arg2) : Vec Ideal S4096x1024 .f32) ?_
  exact congrArg₂ ix2 (Fin.ext rfl) (Fin.ext (by show 128 * (t.val / 8) + d.val = t.val / 8 * 128 + d.val; omega))

theorem block4 (t : Fin cfg0.N) (r : Fin 512) (d : Fin 128) :
    (iblk m c 4 t : Vec Ideal S512x128 .f32) (ix2 r d) = (headOf m c (headPt t)).O (rowAt (rowPt t) r) d := by
  refine (blk4_apply (V m c main_v40) t (ix2 r d)).trans (.trans ?_ (out_eq m c (headPt t) (rowAt (rowPt t) r) d))
  refine congrArg (V m c main_v40 : Vec Ideal S4096x1024 .f32) ?_
  exact congrArg₂ ix2 (Fin.ext rfl) (Fin.ext (by show 128 * (t.val / 8) + d.val = t.val / 8 * 128 + d.val; omega))

theorem row_index (b : Fin 8) (r : Fin 512) : (⟨b.val * 512 + r.val, by omega⟩ : Fin 4096) = rowAt b r :=
  Fin.ext (by show b.val * 512 + r.val = 512 * b.val + r.val; omega)

theorem block5 (t : Fin cfg0.N) (r : Fin 512) :
    (iblk m c 5 t : Vec Ideal S1x1x1x512 .f32) (ix4 0 0 0 r) = (headOf m c (headPt t)).L (rowAt (rowPt t) r) :=
  (blk5_apply (V m c main_v46) t (ix4 0 0 0 r)).trans
    ((lse_eq m c (headPt t) (rowPt t) r).trans (congrArg (ins m c (headPt t)).lse (row_index (rowPt t) r)))

theorem block6 (t : Fin cfg0.N) (s : Fin 4096) :
    (iblk m c 6 t : Vec Ideal S1x4096x1 .f32) (ix3 0 s 0) = (headOf m c (headPt t)).C s :=
  (blk6_apply (V m c main_v47) t (ix3 0 s 0)).trans (col_eq m c (headPt t) s)

theorem block7 (t : Fin cfg0.N) (r : Fin 512) :
    (iblk m c 7 t : Vec Ideal S1x1x1x512 .f32) (ix4 0 0 0 r) = (headOf m c (headPt t)).C (rowAt (rowPt t) r) :=
  (blk7_apply (V m c main_v48) t (ix4 0 0 0 r)).trans
    ((row_eq m c (headPt t) (rowPt t) r).trans (congrArg (ins m c (headPt t)).C (row_index (rowPt t) r)))

/-- What the body reads at a grid point. -/
theorem reads_head (t : Fin cfg0.N) : ReadsHead (headOf m c (headPt t)) (rowPt t) (readsAt m c t) where
  kb s d := (pay5_apply (iblk m c 1 t) s d).trans (block1 m c t s d)
  kt b d x := (planes_apply (iblk m c 1 t) b d x).trans (block1 m c t (rowAt b x) d)
  vb s d := (pay6_apply (iblk m c 2 t) s d).trans (block2 m c t s d)
  ckb s r := (pay7_apply (iblk m c 6 t) s r).trans (congrArg (· * cLog2e) (block6 m c t s))
  q r d := (pay32_apply (iblk m c 0 t) r d).trans (congrArg (· * cScaleLog2e) (block0 m c t r d))
  go r d := (pay33_apply (iblk m c 3 t) r d).trans (block3 m c t r d)
  del r := (pay34_apply (iblk m c 3 t) (iblk m c 4 t) r).trans
    (Finset.sum_congr rfl fun d _ => congrArg₂ (· * ·) (block3 m c t r d) (block4 m c t r d))
  lse r := (pay35_apply (iblk m c 7 t) (iblk m c 5 t) r).trans
    (congrArg₂ (fun x y => x * cLog2e - y) (block7 m c t r) (block5 m c t r))

/-- What a point leaves: the accumulators of the head so far, and the point's own gradients. -/
theorem point_head (t : Fin cfg0.N) :
    HeadUpto (headOf m c (headPt t)) (t.val % 8 + 1) (pointAt m c t.val t.isLt)
      ∧ (∀ d r, (pointAt m c t.val t.isLt).dqt (ix2 d r)
          = ∑ y, (headOf m c (headPt t)).K y d * (headOf m c (headPt t)).g y (rowAt (rowPt t) r))
      ∧ (∀ r, (pointAt m c t.val t.isLt).acc (ix2 0 r)
          = ∑ y, (headOf m c (headPt t)).g y (rowAt (rowPt t) r)) := by
  obtain ⟨n, hn⟩ := t
  induction n with
  | zero =>
    have e := pointAt_start m c ⟨0, hn⟩ rfl
    have hr := reads_head m c ⟨0, hn⟩
    have hc : grid0.coords ⟨0, hn⟩ 1 = rowPt ⟨0, hn⟩ := Fin.ext (coord1 ⟨0, hn⟩)
    rw [hc] at e
    have a := after_point (readsAt m c ⟨0, hn⟩) (rowPt ⟨0, hn⟩) startBufs
    rw [e]
    exact ⟨(headUpto_zero _).next (by omega) hr a, fun d r => own_dqt hr a rfl d r, fun r => own_acc hr a rfl r⟩
  | succ n ih =>
    have hr := reads_head m c ⟨n + 1, hn⟩
    have hc : grid0.coords ⟨n + 1, hn⟩ 1 = rowPt ⟨n + 1, hn⟩ := Fin.ext (coord1 ⟨n + 1, hn⟩)
    by_cases h0 : (n + 1) % 8 = 0
    · have e := pointAt_start m c ⟨n + 1, hn⟩ h0
      rw [hc] at e
      have a := after_point (readsAt m c ⟨n + 1, hn⟩) (rowPt ⟨n + 1, hn⟩) startBufs
      rw [e]
      have u : HeadUpto (headOf m c (headPt ⟨n + 1, hn⟩)) ((n + 1) % 8) startBufs := by
        rw [h0]; exact headUpto_zero _
      exact ⟨u.next (by omega) hr a, fun d r => own_dqt hr a rfl d r, fun r => own_acc hr a rfl r⟩
    · have e := pointAt_next m c ⟨n + 1, hn⟩ h0
      rw [hc] at e
      have u0 := (ih (Nat.lt_of_succ_lt hn)).1
      have hh : headPt ⟨n, Nat.lt_of_succ_lt hn⟩ = headPt ⟨n + 1, hn⟩ := Fin.ext (by show n / 8 = (n + 1) / 8; omega)
      have hj : n % 8 + 1 = (n + 1) % 8 := by omega
      have u : HeadUpto (headOf m c (headPt ⟨n + 1, hn⟩)) ((n + 1) % 8) (carry (pointAt m c n (Nat.lt_of_succ_lt hn))) := by
        rw [← hh, ← hj]; exact u0.carry
      have a := after_point (readsAt m c ⟨n + 1, hn⟩) (rowPt ⟨n + 1, hn⟩) (carry (pointAt m c n (Nat.lt_of_succ_lt hn)))
      rw [e]
      exact ⟨u.next (by omega) hr a, fun d r => own_dqt hr a rfl d r, fun r => own_acc hr a rfl r⟩

/-- The point of head `h` and block `b`. -/
abbrev ptOf (h b : Fin 8) : Fin cfg0.N := ⟨8 * h.val + b.val, by have := N_0; have : cfg0.N = 64 := N_0; omega⟩

theorem headPt_ptOf (h b : Fin 8) : headPt (ptOf h b) = h := Fin.ext (by show (8 * h.val + b.val) / 8 = h.val; omega)
theorem rowPt_ptOf (h b : Fin 8) : rowPt (ptOf h b) = b := Fin.ext (by show (8 * h.val + b.val) % 8 = b.val; omega)

/-- The same at the point of a head and a block. -/
theorem point_at (h b : Fin 8) :
    HeadUpto (headOf m c h) (b.val + 1) (pointAt m c (ptOf h b).val (ptOf h b).isLt)
      ∧ (∀ d r, (pointAt m c (ptOf h b).val (ptOf h b).isLt).dqt (ix2 d r)
          = ∑ y, (headOf m c h).K y d * (headOf m c h).g y (rowAt b r))
      ∧ (∀ r, (pointAt m c (ptOf h b).val (ptOf h b).isLt).acc (ix2 0 r) = ∑ y, (headOf m c h).g y (rowAt b r)) := by
  have p := point_head m c (ptOf h b)
  rw [headPt_ptOf, rowPt_ptOf, show (ptOf h b).val % 8 = b.val by show (8 * h.val + b.val) % 8 = b.val; omega] at p
  exact p

end Cert.KernelIdeal.AttnBwd

end
-- ==== Proof.KernelResults.lean ====
module

public import proofs.«01_k».proof.Proof.KernelValue
public import proofs.«01_k».proof.Proof.Gen.KernelIdeal.Value

@[expose] public section

/-! # The kernel's five results, read at an index -/

set_option maxRecDepth 16384
set_option maxHeartbeats 4000000

noncomputable section

namespace Cert.KernelIdeal.AttnBwd

open Idealize.ShloMosaic Idealize.ShloMosaic.TcCoe Idealize.ShloMosaic.Tactic
open Cert.KernelIdeal.Gen Cert.KernelIdeal.Value Cert.Attention

variable (m : (ℓ : Loc nD τ sig) → Buf (Elt Ideal) ℓ) (c : Dev nD)

/-- What the array of an output holds at an index: its block's last contents, at the point that writes the block back. -/
theorem G8_of (i : S4096x1024.Idx) (t : Fin cfg0.N) (y : S512x128.Idx) (hp : pt8Of i = t.val) (hl : loc8Of i = y) :
    (G8 m c : Vec Ideal S4096x1024 .bf16) i = (outsAt0 m c t.val t.isLt).1 y := by
  obtain ⟨n, hn⟩ := t
  change pt8Of i = n at hp
  subst hp hl
  exact (dif_pos hn).trans (congrFun (congrArg Prod.fst (outsAt0_sweep m c _ hn)) _).symm

theorem G9_of (i : S4096x1024.Idx) (t : Fin cfg0.N) (y : S4096x128.Idx) (hp : pt9Of i = t.val) (hl : loc9Of i = y) :
    (G9 m c : Vec Ideal S4096x1024 .bf16) i = (outsAt0 m c t.val t.isLt).2.1 y := by
  obtain ⟨n, hn⟩ := t
  change pt9Of i = n at hp
  subst hp hl
  exact (dif_pos hn).trans (congrFun (congrArg (fun x => x.2.1) (outsAt0_sweep m c _ hn)) _).symm

theorem G10_of (i : S4096x1024.Idx) (t : Fin cfg0.N) (y : S4096x128.Idx) (hp : pt10Of i = t.val) (hl : loc10Of i = y) :
    (G10 m c : Vec Ideal S4096x1024 .bf16) i = (outsAt0 m c t.val t.isLt).2.2.1 y := by
  obtain ⟨n, hn⟩ := t
  change pt10Of i = n at hp
  subst hp hl
  exact (dif_pos hn).trans (congrFun (congrArg (fun x => x.2.2.1) (outsAt0_sweep m c _ hn)) _).symm

theorem G11_of (i : S8x8x1x512.Idx) (t : Fin cfg0.N) (y : S1x1x1x512.Idx) (hp : pt11Of i = t.val) (hl : loc11Of i = y) :
    (G11 m c : Vec Ideal S8x8x1x512 .f32) i = (outsAt0 m c t.val t.isLt).2.2.2.1 y := by
  obtain ⟨n, hn⟩ := t
  change pt11Of i = n at hp
  subst hp hl
  exact (dif_pos hn).trans (congrFun (congrArg (fun x => x.2.2.2.1) (outsAt0_sweep m c _ hn)) _).symm

theorem G12_of (i : S8x4096x1.Idx) (t : Fin cfg0.N) (y : S1x4096x1.Idx) (hp : pt12Of i = t.val) (hl : loc12Of i = y) :
    (G12 m c : Vec Ideal S8x4096x1 .f32) i = (outsAt0 m c t.val t.isLt).2.2.2.2.1 y := by
  obtain ⟨n, hn⟩ := t
  change pt12Of i = n at hp
  subst hp hl
  exact (dif_pos hn).trans (congrFun (congrArg (fun x => x.2.2.2.2.1) (outsAt0_sweep m c _ hn)) _).symm

/-- The point of a head and a block writes the head back when the block is the last one. -/
theorem last_ptOf (h : Fin 8) : (ptOf h 7).val % 8 = 7 := by show (8 * h.val + 7) % 8 = 7; omega

/-- The gradient of the queries. -/
theorem dq_at (h b : Fin 8) (r : Fin 512) (d : Fin 128) :
    (G8 m c : Vec Ideal S4096x1024 .bf16) (ix2 (rowAt b r) ⟨h.val * 128 + d.val, by omega⟩)
      = (∑ y, (headOf m c h).K y d * (headOf m c h).g y (rowAt b r)) * (((Real.sqrt 128)⁻¹ : ℝ) : EReal) := by
  have hp : pt8Of (ix2 (rowAt b r) ⟨h.val * 128 + d.val, by omega⟩) = (ptOf h b).val := by
    show 1 * ((512 * b.val + r.val) / 512 - 0) + 8 * ((h.val * 128 + d.val) / 128 - 0) = 8 * h.val + b.val; omega
  have hl : loc8Of (ix2 (rowAt b r) ⟨h.val * 128 + d.val, by omega⟩) = ix2 r d := by
    funext a; match a with
    | ⟨0, _⟩ => exact Fin.ext (by show (512 * b.val + r.val) % 512 = r.val; omega)
    | ⟨1, _⟩ => exact Fin.ext (by show (h.val * 128 + d.val) % 128 = d.val; omega)
  exact (G8_of m c _ (ptOf h b) _ hp hl).trans ((congrFun (holds m c (ptOf h b).val (ptOf h b).isLt).dq (ix2 r d)).trans
    ((pay52_apply _ r d).trans (congrArg (· * _) ((point_at m c h b).2.1 d r))))

/-- The gradient of the keys. -/
theorem dk_at (h : Fin 8) (s : Fin 4096) (d : Fin 128) :
    (G9 m c : Vec Ideal S4096x1024 .bf16) (ix2 s ⟨h.val * 128 + d.val, by omega⟩)
      = (∑ t, (headOf m c h).g s t * ((headOf m c h).Q t d * cScaleLog2e)) * ((Real.log 2 : ℝ) : EReal) := by
  have hp : pt9Of (ix2 s ⟨h.val * 128 + d.val, by omega⟩) = (ptOf h 7).val := by
    show 8 * (8 * (s.val / 4096 - 0) + 1 * ((h.val * 128 + d.val) / 128 - 0)) + 7 = 8 * h.val + 7; omega
  have hl : loc9Of (ix2 s ⟨h.val * 128 + d.val, by omega⟩) = ix2 s d := by
    funext a; match a with
    | ⟨0, _⟩ => exact Fin.ext (by show s.val % 4096 = s.val; omega)
    | ⟨1, _⟩ => exact Fin.ext (by show (h.val * 128 + d.val) % 128 = d.val; omega)
  exact (G9_of m c _ (ptOf h 7) _ hp hl).trans ((congrFun ((holds m c (ptOf h 7).val (ptOf h 7).isLt).dk (last_ptOf h)) (ix2 s d)).trans
    ((pay2_apply _ s d).trans (congrArg (· * _) ((point_at m c h 7).1.full.1 s d))))

/-- The gradient of the values. -/
theorem dv_at (h : Fin 8) (s : Fin 4096) (d : Fin 128) :
    (G10 m c : Vec Ideal S4096x1024 .bf16) (ix2 s ⟨h.val * 128 + d.val, by omega⟩)
      = ∑ t, (headOf m c h).w s t * (headOf m c h).G t d := by
  have hp : pt10Of (ix2 s ⟨h.val * 128 + d.val, by omega⟩) = (ptOf h 7).val := by
    show 8 * (8 * (s.val / 4096 - 0) + 1 * ((h.val * 128 + d.val) / 128 - 0)) + 7 = 8 * h.val + 7; omega
  have hl : loc10Of (ix2 s ⟨h.val * 128 + d.val, by omega⟩) = ix2 s d := by
    funext a; match a with
    | ⟨0, _⟩ => exact Fin.ext (by show s.val % 4096 = s.val; omega)
    | ⟨1, _⟩ => exact Fin.ext (by show (h.val * 128 + d.val) % 128 = d.val; omega)
  exact (G10_of m c _ (ptOf h 7) _ hp hl).trans ((congrFun ((holds m c (ptOf h 7).val (ptOf h 7).isLt).dv (last_ptOf h)) (ix2 s d)).trans
    ((pay3_apply _ s d).trans ((point_at m c h 7).1.full.2.1 s d)))

/-- The gradient of the gates' sums by row. -/
theorem dcq_at (h b : Fin 8) (r : Fin 512) :
    (G11 m c : Vec Ideal S8x8x1x512 .f32) (ix4 h b 0 r) = ∑ y, (headOf m c h).g y (rowAt b r) := by
  have hp : pt11Of (ix4 h b 0 r) = (ptOf h b).val := by
    show 8 * (h.val / 1 - 0) + 1 * (b.val / 1 - 0) + 1 * (0 / 1 - 0) + 1 * (r.val / 512 - 0) = 8 * h.val + b.val; omega
  have hl : loc11Of (ix4 h b 0 r) = ix4 0 0 0 r := by
    funext a; match a with
    | ⟨0, _⟩ => exact Fin.ext (by show h.val % 1 = 0; omega)
    | ⟨1, _⟩ => exact Fin.ext (by show b.val % 1 = 0; omega)
    | ⟨2, _⟩ => exact Fin.ext (by show 0 % 1 = 0; omega)
    | ⟨3, _⟩ => exact Fin.ext (by show r.val % 512 = r.val; omega)
  exact (G11_of m c _ (ptOf h b) _ hp hl).trans ((congrFun (holds m c (ptOf h b).val (ptOf h b).isLt).dcq (ix4 0 0 0 r)).trans
    ((pay1_apply _ r).trans ((point_at m c h b).2.2 r)))

/-- The gradient of the gates' sums by column. -/
theorem dck_at (h : Fin 8) (s : Fin 4096) :
    (G12 m c : Vec Ideal S8x4096x1 .f32) (ix3 h s 0) = ∑ t, (headOf m c h).g s t := by
  have hp : pt12Of (ix3 h s 0) = (ptOf h 7).val := by
    show 8 * (1 * (h.val / 1 - 0) + 1 * (s.val / 4096 - 0) + 1 * (0 / 1 - 0)) + 7 = 8 * h.val + 7; omega
  have hl : loc12Of (ix3 h s 0) = ix3 0 s 0 := by
    funext a; match a with
    | ⟨0, _⟩ => exact Fin.ext (by show h.val % 1 = 0; omega)
    | ⟨1, _⟩ => exact Fin.ext (by show s.val % 4096 = s.val; omega)
    | ⟨2, _⟩ => exact Fin.ext (by show 0 % 1 = 0; omega)
  exact (G12_of m c _ (ptOf h 7) _ hp hl).trans ((congrFun ((holds m c (ptOf h 7).val (ptOf h 7).isLt).dck (last_ptOf h)) (ix3 0 s 0)).trans
    ((pay4_apply _ s).trans ((point_at m c h 7).1.full.2.2 s)))

end Cert.KernelIdeal.AttnBwd

end
-- ==== Proof.RefScore.lean ====
module

public import Idealize.ShloMosaic.Lib.Pointwise
public import Idealize.ShloMosaic.Lib.WordCmp
public import proofs.«01_k».proof.Proof.Gen.ReferenceIdeal.Read
public import proofs.«01_k».proof.Proof.Softmax

@[expose] public section

/-! # The reference program, read as the formulas of one head -/

set_option maxRecDepth 16384
set_option maxHeartbeats 4000000

noncomputable section

namespace Cert.ReferenceIdeal.AttnRef

open Idealize.ShloMosaic Idealize.ShloMosaic.TcCoe Idealize.ShloMosaic.Tactic
open Cert.ReferenceIdeal Cert.ReferenceIdeal.Gen Cert.ReferenceIdeal.Read Cert.Attention

variable (x0 : Vec Ideal S4096x7168 .bf16) (x1 : Vec Ideal S8x4096 .f32) (x2 : Vec Ideal S4096x1024 .f32)

/-- Head `h` of the arguments. -/
abbrev ins (h : Fin 8) : Ins := headIns (fun t d => x0 (ix2 t d)) (fun a t => x1 (ix2 a t)) (fun t d => x2 (ix2 t d)) h

/-- The masked scores. -/
theorem score_eq (h : Fin 8) (t s : Fin 4096) :
    val_main_v28_0 (F := Ideal) x0 x1 (ix3 h t s) = (ins x0 x1 x2 h).score t s := by
  pointwise [val_main_v28_0, val_main_v28_1, val_main_v27, val_main_v26, val_main_v25, val_main_v24, val_main_v23, val_main_v22, val_main_v21, val_main_v20, val_main_v19, val_main_v18, val_main_v17, val_main_v16, val_main_v15, val_main_v12, val_main_v11, val_main_v10, val_main_v9, val_main_v8, val_main_v7, val_main_v6, val_main_v3, val_main_v2, val_main_v1, val_main_v0, val_main_cst, val_main_cst_0, val_main_call0_v0, val_main_call0_v2]
  rw [select_le, bits_128]
  simp only [id_eq, constant, bits_bot]
  rfl

/-- The maximum over the last axis, read at an index. -/
theorem reduce_max (y : Vec Ideal S8x4096x4096 .f32) (v : Vec Ideal S_ .f32) (h : Fin 8) (t : Fin 4096) :
    Host.reduce (FloatOps.maximumf (F := Ideal) (φ := .f32)) y v reducesTo_S8x4096x4096_S8x4096_d2 h_S_ (ix2 h t)
      = Finset.univ.fold max (v ix0) (fun s => y (ix3 h t s)) := by
  pointwise
  rw [show Shape.Idx.first h_S_ = ix0 from funext fun a => a.elim0]

/-- The maximum of a row of scores. -/
theorem row_max (h : Fin 8) (t : Fin 4096) :
    val_main_v29 (F := Ideal) x0 x1 (ix2 h t) = (ins x0 x1 x2 h).top t := by
  unfold val_main_v29
  rw [reduce_max]
  unfold Ins.top
  have hb : FloatOps.ofBits (F := Ideal) .f32 0xFF800000#32 = (⊥ : EReal) := bits_bot
  simp only [score_eq x0 x1 x2, val_main_cst_1, constant]
  rw [hb]

/-- The largest score of a row, once more compared with the least value. -/
theorem top_eq (h : Fin 8) (t : Fin 4096) :
    val_main_v36 (F := Ideal) x0 x1 (ix2 h t) = (ins x0 x1 x2 h).top t := by
  rw [val_main_v36_apply, row_max x0 x1 x2 h t, val_main_v35_apply, val_main_cst_3_apply]
  generalize (ins x0 x1 x2 h).top t = y
  show max (Ideal.ofBits .f32 0xFF800000#32) y = y
  rw [bits_bot]
  exact max_eq_right bot_le

end Cert.ReferenceIdeal.AttnRef

end
-- ==== Proof.RefValue.lean ====
module

public import Idealize.ShloMosaic.Lib.Pointwise
public import proofs.«01_k».proof.Proof.RefScore

@[expose] public section

/-! # The reference program, read as the formulas of one head -/

set_option maxRecDepth 16384
set_option maxHeartbeats 4000000

noncomputable section

namespace Cert.ReferenceIdeal.AttnRef

open Idealize.ShloMosaic Idealize.ShloMosaic.TcCoe Idealize.ShloMosaic.Tactic
open Cert.ReferenceIdeal Cert.ReferenceIdeal.Gen Cert.ReferenceIdeal.Read Cert.Attention

variable (x0 : Vec Ideal S4096x7168 .bf16) (x1 : Vec Ideal S8x4096 .f32) (x2 : Vec Ideal S4096x1024 .f32)

/-- The exponentials. -/
theorem e_eq (h : Fin 8) (t s : Fin 4096) :
    val_main_v49 (F := Ideal) x0 x1 (ix3 h t s) = (ins x0 x1 x2 h).e t s := by
  pointwise [val_main_v49, val_main_v48, val_main_v47, val_main_v46]
  simp only [score_eq x0 x1 x2, top_eq x0 x1 x2]
  rfl

/-- The sum of a row. -/
theorem l_eq (h : Fin 8) (t : Fin 4096) :
    val_main_v50 (F := Ideal) x0 x1 (ix2 h t) = (ins x0 x1 x2 h).l t := by
  pointwise [val_main_v50, val_main_cst_9]
  simp only [e_eq x0 x1 x2]
  rfl

/-- The gradient of the softmax weights. -/
theorem dP_eq (h : Fin 8) (t s : Fin 4096) :
    val_main_v64 (F := Ideal) x0 x2 (ix3 h t s) = (ins x0 x1 x2 h).dP t s := by
  pointwise [val_main_v64, val_main_v61, val_main_v60, val_main_v14, val_main_v13, val_main_v5, val_main_v4]
  rfl

/-- The gradient of the masked scores. -/
theorem dS_eq (h : Fin 8) (t s : Fin 4096) :
    val_main_v77 (F := Ideal) x0 x1 x2 (ix3 h t s) = (ins x0 x1 x2 h).dS t s := by
  pointwise [val_main_v77, val_main_call1_v0, val_main_call1_cst, val_main_v28_1, val_main_v28_2, val_main_call0_cst, val_main_v27, val_main_v26, val_main_v25, val_main_v24, val_main_v23, val_main_v22, val_main_v76, val_main_v75, val_main_v74, val_main_v73, val_main_v72, val_main_v71, val_main_v70, val_main_v69, val_main_v68, val_main_v67, val_main_v66, val_main_v65, val_main_cst_11, val_main_cst_12, val_main_v56, val_main_v55, val_main_v54, val_main_v51, val_main_cst_10]
  rw [select_le]
  simp only [e_eq x0 x1 x2, l_eq x0 x1 x2, dP_eq x0 x1 x2, bits_one, Fin.sum_univ_one]
  rfl

/-- The gradient of the queries. -/
theorem dq_eq (h : Fin 8) (t : Fin 4096) (d : Fin 128) :
    val_main_v95 (F := Ideal) x0 x1 x2 (ix2 t ⟨h.val * 128 + d.val, by omega⟩)
      = Ideal.div (∑ s, (ins x0 x1 x2 h).dS t s * (ins x0 x1 x2 h).K s d) Ins.root := by
  pointwise [val_main_v95, val_main_v94, val_main_v93, val_main_v92, val_main_v91, val_main_v86, val_main_v8, val_main_cst, val_main_v12, val_main_v11, val_main_v3, val_main_v2]
  simp only [dS_eq x0 x1 x2, bits_128]
  rfl

/-- The gradient of the keys. -/
theorem dk_eq (h : Fin 8) (s : Fin 4096) (d : Fin 128) :
    val_main_v96 (F := Ideal) x0 x1 x2 (ix2 s ⟨h.val * 128 + d.val, by omega⟩)
      = ∑ t, (ins x0 x1 x2 h).dS t s * Ideal.div ((ins x0 x1 x2 h).Q t d) Ins.root := by
  pointwise [val_main_v96, val_main_v90, val_main_v89, val_main_v85, val_main_v10, val_main_v9, val_main_v8, val_main_v7, val_main_v6, val_main_v1, val_main_v0, val_main_cst]
  simp only [dS_eq x0 x1 x2, bits_128]
  rfl

/-- The gradient of the values. -/
theorem dv_eq (h : Fin 8) (s : Fin 4096) (d : Fin 128) :
    val_main_v97 (F := Ideal) x0 x1 x2 (ix2 s ⟨h.val * 128 + d.val, by omega⟩)
      = ∑ t, (ins x0 x1 x2 h).G t d * Ideal.div ((ins x0 x1 x2 h).e t s) ((ins x0 x1 x2 h).l t) := by
  pointwise [val_main_v97, val_main_v88, val_main_v87, val_main_v63, val_main_v62, val_main_v61, val_main_v60, val_main_v53, val_main_v52, val_main_v51]
  simp only [e_eq x0 x1 x2, l_eq x0 x1 x2]
  rfl

/-- The gradient of the sums of the gates, as the row of the scores has it. -/
theorem dcq_eq (h b : Fin 8) (r : Fin 512) :
    val_main_v98 (F := Ideal) x0 x1 x2 (ix4 h b 0 r)
      = ∑ s, (ins x0 x1 x2 h).dS ⟨b.val * 512 + r.val, by omega⟩ s := by
  pointwise [val_main_v98, val_main_v84, val_main_v83, val_main_v82, val_main_cst_15, val_main_cst_16]
  simp only [dS_eq x0 x1 x2, Fin.sum_univ_one]

/-- The gradient of the sums of the gates, as the column of the scores has it, with the opposite sign. -/
theorem dck_eq (h : Fin 8) (s : Fin 4096) :
    val_main_v100 (F := Ideal) x0 x1 x2 (ix3 h s 0)
      = -∑ t, -(ins x0 x1 x2 h).dS t s := by
  pointwise [val_main_v100, val_main_v99, val_main_v81, val_main_v80, val_main_v79, val_main_v78, val_main_cst_13, val_main_cst_14]
  simp only [dS_eq x0 x1 x2, Fin.sum_univ_one]

end Cert.ReferenceIdeal.AttnRef

end
-- ==== Proof.SoftmaxReal.lean ====
module

public import proofs.«01_k».proof.Proof.Softmax
public import Mathlib.Analysis.SpecialFunctions.Pow.Real

@[expose] public section

/-! # The attention of one head over the reals

Where the values of a head are reals, so is everything computed from them; the masked score alone is minus infinity, and
its exponential is zero. `Reals` are the values as reals, and each formula of `Ins` is read here as its real. -/

noncomputable section

namespace Cert.Attention

open Idealize.ShloMosaic

/-- A finite sum of reals, as an extended real. -/
theorem coe_sum {ι : Type} [Fintype ι] (f : ι → ℝ) : ((∑ i, f i : ℝ) : EReal) = ∑ i, (f i : EReal) := by
  classical
  refine Finset.induction_on (motive := fun s => ((∑ i ∈ s, f i : ℝ) : EReal) = ∑ i ∈ s, (f i : EReal)) Finset.univ rfl ?_
  intro a s ha ih
  rw [Finset.sum_insert ha, Finset.sum_insert ha, EReal.coe_add, ih]

/-- The quotient of two reals. -/
theorem div_real (x : ℝ) {y : ℝ} (h : y ≠ 0) : Ideal.div (x : EReal) (y : EReal) = ((x / y : ℝ) : EReal) := by
  rw [Ideal.div_coe h, ← EReal.coe_mul, mul_one_div]

/-- The values of one head, as reals. -/
structure Reals where
  q : Fin 4096 → Fin 128 → ℝ
  k : Fin 4096 → Fin 128 → ℝ
  v : Fin 4096 → Fin 128 → ℝ
  g : Fin 4096 → Fin 128 → ℝ
  c : Fin 4096 → ℝ

namespace Reals

variable (R : Reals)

/-- The same values, as extended reals. -/
def ins : Ins where
  Q t d := (R.q t d : EReal)
  K t d := (R.k t d : EReal)
  V t d := (R.v t d : EReal)
  G t d := (R.g t d : EReal)
  C t := (R.c t : EReal)

theorem root_pos : 0 < Real.sqrt 128 := Real.sqrt_pos.mpr (by norm_num)

theorem root_eq : Ins.root = ((Real.sqrt 128 : ℝ) : EReal) := by
  unfold Ins.root
  rw [Ideal.sqrt_coe, if_neg (by norm_num)]

/-- The score of a key in a row, before the mask. -/
def s (t j : Fin 4096) : ℝ := ∑ d, R.q t d / Real.sqrt 128 * R.k j d + R.c t - R.c j

theorem score_eq (t j : Fin 4096) :
    R.ins.score t j = if j.val ≤ t.val then ((R.s t j : ℝ) : EReal) else ⊥ := by
  unfold Ins.score s ins
  simp only [root_eq, div_real _ root_pos.ne']
  simp only [← EReal.coe_mul, ← coe_sum, ← EReal.coe_add, ← EReal.coe_sub]

/-- The largest score of a row is a real: a row has a score that is not masked, and none is infinite. -/
theorem exists_top (t : Fin 4096) : ∃ M : ℝ, R.ins.top t = (M : EReal) := by
  have hlt : R.ins.top t < ⊤ := by
    unfold Ins.top
    rw [Finset.fold_max_lt]
    refine ⟨bot_lt_top, fun j _ => ?_⟩
    rw [R.score_eq]
    by_cases h : j.val ≤ t.val
    · rw [if_pos h]; exact EReal.coe_lt_top _
    · rw [if_neg h]; exact bot_lt_top
  have hgt : ⊥ < R.ins.top t := by
    unfold Ins.top
    rw [Finset.lt_fold_max]
    refine Or.inr ⟨t, Finset.mem_univ t, ?_⟩
    rw [R.score_eq, if_pos le_rfl]
    exact EReal.bot_lt_coe _
  exact ⟨(R.ins.top t).toReal, (EReal.coe_toReal hlt.ne hgt.ne').symm⟩

/-- The largest score of a row. -/
def M (t : Fin 4096) : ℝ := (R.exists_top t).choose

theorem top_eq (t : Fin 4096) : R.ins.top t = ((R.M t : ℝ) : EReal) := (R.exists_top t).choose_spec

/-- The exponential of a score against the largest one, zero where it is masked. -/
def E (t j : Fin 4096) : ℝ := if j.val ≤ t.val then Real.exp (R.s t j - R.M t) else 0

theorem e_eq (t j : Fin 4096) : R.ins.e t j = ((R.E t j : ℝ) : EReal) := by
  unfold Ins.e E
  rw [R.score_eq, R.top_eq]
  by_cases h : j.val ≤ t.val
  · rw [if_pos h, if_pos h, ← EReal.coe_sub, Ideal.exp_coe]
  · rw [if_neg h, if_neg h, EReal.bot_sub, Ideal.exp_bot, EReal.coe_zero]

theorem E_nonneg (t j : Fin 4096) : 0 ≤ R.E t j := by
  unfold E
  by_cases h : j.val ≤ t.val
  · rw [if_pos h]; exact (Real.exp_pos _).le
  · rw [if_neg h]

/-- The sum of a row. -/
def L (t : Fin 4096) : ℝ := ∑ j, R.E t j

theorem L_pos (t : Fin 4096) : 0 < R.L t := by
  refine Finset.sum_pos' (fun j _ => R.E_nonneg t j) ⟨t, Finset.mem_univ t, ?_⟩
  unfold E
  rw [if_pos le_rfl]
  exact Real.exp_pos _

theorem l_eq (t : Fin 4096) : R.ins.l t = ((R.L t : ℝ) : EReal) := by
  unfold Ins.l L
  simp only [R.e_eq, coe_sum]

/-- The softmax weight. -/
def P (t j : Fin 4096) : ℝ := R.E t j / R.L t

theorem p_eq (t j : Fin 4096) : Ideal.div (R.ins.e t j) (R.ins.l t) = ((R.P t j : ℝ) : EReal) := by
  rw [R.e_eq, R.l_eq, div_real _ (R.L_pos t).ne']
  rfl

theorem o_eq (t : Fin 4096) (d : Fin 128) : R.ins.o t d = ((∑ j, R.P t j * R.v j d : ℝ) : EReal) := by
  unfold Ins.o
  simp only [R.p_eq]
  rw [coe_sum]
  simp only [EReal.coe_mul]
  rfl

theorem lse_eq (t : Fin 4096) :
    R.ins.lse t = (((R.M t + Real.log (R.L t)) / Real.log 2 : ℝ) : EReal) := by
  unfold Ins.lse
  rw [R.top_eq, R.l_eq, Ideal.log_coe, if_neg (not_le.mpr (R.L_pos t)), Ideal.log_coe, if_neg (by norm_num), ← EReal.coe_add,
    div_real _ (Real.log_pos (by norm_num)).ne']

/-- The gradient of the softmax weight. -/
def D (t j : Fin 4096) : ℝ := ∑ d, R.g t d * R.v j d

theorem dP_eq (t j : Fin 4096) : R.ins.dP t j = ((R.D t j : ℝ) : EReal) := by
  unfold Ins.dP D
  rw [coe_sum]
  simp only [EReal.coe_mul]
  rfl

/-- The gradient of the score. -/
def ds (t j : Fin 4096) : ℝ := R.P t j * (R.D t j - ∑ i, R.P t i * R.D t i)

theorem P_masked (t j : Fin 4096) (h : ¬j.val ≤ t.val) : R.P t j = 0 := by
  unfold P E
  rw [if_neg h, zero_div]

theorem dS_eq (t j : Fin 4096) : R.ins.dS t j = ((R.ds t j : ℝ) : EReal) := by
  unfold Ins.dS
  by_cases h : j.val ≤ t.val
  · rw [if_pos h]
    have hl : R.L t * R.L t ≠ 0 := mul_ne_zero (R.L_pos t).ne' (R.L_pos t).ne'
    simp only [R.dP_eq, R.l_eq, R.e_eq, ← EReal.coe_one, ← EReal.coe_mul, div_real _ (R.L_pos t).ne', div_real _ hl, ← coe_sum,
      ← EReal.coe_neg, ← EReal.coe_add]
    congr 1
    have e : ∑ i, R.D t i * (1 / (R.L t * R.L t)) * R.E t i = (∑ i, R.P t i * R.D t i) / R.L t := by
      rw [Finset.sum_div]
      refine Finset.sum_congr rfl fun i _ => ?_
      unfold P
      have := (R.L_pos t).ne'
      field_simp
    rw [e]
    unfold ds P
    have := (R.L_pos t).ne'
    field_simp
    ring
  · rw [if_neg h]
    unfold ds
    rw [R.P_masked t j h, zero_mul, EReal.coe_zero]

/-- The row's mean of the weights' gradients is the product of the output's gradient and the output. -/
theorem mean_eq (t : Fin 4096) :
    ∑ i, R.P t i * R.D t i = ∑ d, R.g t d * ∑ j, R.P t j * R.v j d := by
  unfold D
  simp only [Finset.mul_sum]
  rw [Finset.sum_comm]
  refine Finset.sum_congr rfl fun d _ => Finset.sum_congr rfl fun j _ => ?_
  ring

/-- The weight, recomputed in base two from the saved logarithm. -/
theorem weight_eq (t j : Fin 4096) (h : j.val ≤ t.val) :
    Real.rpow 2 (∑ d, R.k j d * (R.q t d * ((Real.sqrt 128)⁻¹ * (Real.log 2)⁻¹)) - R.c j * (Real.log 2)⁻¹
        + (R.c t * (Real.log 2)⁻¹ - (R.M t + Real.log (R.L t)) / Real.log 2)) = R.P t j := by
  have h2 : Real.log 2 ≠ 0 := (Real.log_pos (by norm_num)).ne'
  have e1 : ∑ d, R.k j d * (R.q t d * ((Real.sqrt 128)⁻¹ * (Real.log 2)⁻¹))
      = (∑ d, R.q t d / Real.sqrt 128 * R.k j d) / Real.log 2 := by
    rw [Finset.sum_div]
    refine Finset.sum_congr rfl fun d _ => ?_
    rw [div_eq_mul_inv, div_eq_mul_inv]
    ring
  have e2 : Real.log 2 * (∑ d, R.k j d * (R.q t d * ((Real.sqrt 128)⁻¹ * (Real.log 2)⁻¹)) - R.c j * (Real.log 2)⁻¹
        + (R.c t * (Real.log 2)⁻¹ - (R.M t + Real.log (R.L t)) / Real.log 2))
      = R.s t j - R.M t - Real.log (R.L t) := by
    rw [e1]
    unfold s
    field_simp
    ring
  show (2 : ℝ) ^ (_ : ℝ) = _
  rw [Real.rpow_def_of_pos (by norm_num), e2, Real.exp_sub, Real.exp_log (R.L_pos t)]
  unfold P E
  rw [if_pos h]

end Reals

end Cert.Attention

end
-- ==== Proof.Gradients.lean ====
module

public import proofs.«01_k».proof.Proof.SoftmaxReal
public import proofs.«01_k».proof.Proof.HeadValue

@[expose] public section

/-! # The two ways of computing a head's gradients agree over the reals

The kernel recomputes a weight in base two from the saved logarithm and takes the mean of the weights' gradients from the
output; the reference differentiates the softmax line by line. For reals both are the same five gradients. -/

noncomputable section

namespace Cert.KernelIdeal.AttnBwd

open Idealize.ShloMosaic Cert.Attention

/-- What the kernel is given for one head. -/
abbrev headIn (I : Ins) : Head where
  Q := I.Q
  K := I.K
  V := I.V
  G := I.G
  O := I.o
  L := I.lse
  C := I.C

variable (R : Reals)

/-- The recomputed weight is the softmax weight. -/
theorem w_eq (s t : Fin 4096) : (headIn R.ins).w s t = ((R.P t s : ℝ) : EReal) := by
  unfold Head.w
  by_cases h : s.val ≤ t.val
  · rw [if_pos h, ← R.weight_eq t s h, ← Ideal.exp2_coe]
    refine congrArg Ideal.exp2 ?_
    show ∑ d, (R.k s d : EReal) * ((R.q t d : EReal) * cScaleLog2e) - (R.c s : EReal) * cLog2e
      + ((R.c t : EReal) * cLog2e - R.ins.lse t) = _
    rw [R.lse_eq]
    simp only [← EReal.coe_mul, ← coe_sum, ← EReal.coe_sub, ← EReal.coe_add]
  · rw [if_neg h, R.P_masked t s h, EReal.coe_zero]

/-- The gradient of a score is that of the softmax. -/
theorem g_eq (s t : Fin 4096) : (headIn R.ins).g s t = ((R.ds t s : ℝ) : EReal) := by
  unfold Head.g Reals.ds
  rw [w_eq, R.mean_eq]
  show ((R.P t s : ℝ) : EReal) * (∑ d, (R.v s d : EReal) * (R.g t d : EReal) - ∑ d, (R.g t d : EReal) * R.ins.o t d) = _
  simp only [R.o_eq, ← EReal.coe_mul, ← coe_sum, ← EReal.coe_sub]
  unfold Reals.D
  simp only [mul_comm (R.v _ _) (R.g _ _)]

/-- The queries' gradient. -/
theorem dq_real (t : Fin 4096) (d : Fin 128) :
    (∑ y, (headIn R.ins).K y d * (headIn R.ins).g y t) * (((Real.sqrt 128)⁻¹ : ℝ) : EReal)
      = Ideal.div (∑ s, R.ins.dS t s * R.ins.K s d) Ins.root := by
  simp only [g_eq, R.dS_eq, Reals.root_eq]
  show (∑ y, (R.k y d : EReal) * ((R.ds t y : ℝ) : EReal)) * _ = Ideal.div (∑ y, ((R.ds t y : ℝ) : EReal) * (R.k y d : EReal)) _
  simp only [← EReal.coe_mul, ← coe_sum, div_real _ Reals.root_pos.ne']
  rw [div_eq_mul_inv]
  simp only [mul_comm (R.k _ _) (R.ds _ _)]

/-- The keys' gradient. -/
theorem dk_real (s : Fin 4096) (d : Fin 128) :
    (∑ t, (headIn R.ins).g s t * ((headIn R.ins).Q t d * cScaleLog2e)) * ((Real.log 2 : ℝ) : EReal)
      = ∑ t, R.ins.dS t s * Ideal.div (R.ins.Q t d) Ins.root := by
  simp only [g_eq, R.dS_eq, Reals.root_eq]
  show (∑ t, ((R.ds t s : ℝ) : EReal) * ((R.q t d : EReal) * cScaleLog2e)) * _
    = ∑ t, ((R.ds t s : ℝ) : EReal) * Ideal.div (R.q t d : EReal) _
  simp only [← EReal.coe_mul, ← coe_sum, div_real _ Reals.root_pos.ne']
  congr 1
  rw [Finset.sum_mul]
  refine Finset.sum_congr rfl fun t _ => ?_
  have h2 : Real.log 2 ≠ 0 := (Real.log_pos (by norm_num)).ne'
  rw [div_eq_mul_inv]
  field_simp

/-- The values' gradient. -/
theorem dv_real (s : Fin 4096) (d : Fin 128) :
    ∑ t, (headIn R.ins).w s t * (headIn R.ins).G t d
      = ∑ t, R.ins.G t d * Ideal.div (R.ins.e t s) (R.ins.l t) := by
  refine Finset.sum_congr rfl fun t _ => ?_
  rw [w_eq, R.p_eq]
  exact mul_comm _ _

/-- The gates' gradient by row. -/
theorem dcq_real (t : Fin 4096) : ∑ y, (headIn R.ins).g y t = ∑ s, R.ins.dS t s := by
  simp only [g_eq, R.dS_eq]

/-- The gates' gradient by column. -/
theorem dck_real (s : Fin 4096) : ∑ t, (headIn R.ins).g s t = -∑ t, -R.ins.dS t s := by
  simp only [g_eq, R.dS_eq, ← EReal.coe_neg, ← coe_sum, Finset.sum_neg_distrib, neg_neg]

end Cert.KernelIdeal.AttnBwd

end
-- ==== Proof.Finite.lean ====
module

public import Idealize.ShloMosaic.Lib.Pointwise
public import Idealize.ShloMosaic.Lib.ReduceAll
public import proofs.«01_k».proof.Proof.Gen.Pre_finite
public import proofs.«01_k».proof.Proof.SoftmaxReal

@[expose] public section

/-! # The precondition makes the arguments of every head real -/

set_option maxRecDepth 16384
set_option maxHeartbeats 4000000

noncomputable section

namespace Cert.Pre_finite.Real

open Idealize.ShloMosaic Idealize.ShloMosaic.Tactic
open Cert.Pre_finite Cert.Pre_finite.Gen Cert.Attention

/-- The word of plus infinity. -/
theorem bits_top : Ideal.ofBits .f32 0x7F800000#32 = (⊤ : EReal) := by
  simp [Ideal.ofBits, Ideal.ieee]

/-- A number whose size is below plus infinity is a real. -/
theorem real_of_lt (x : EReal) (h : Ideal.cmp .olt (max x (-x)) (Ideal.ofBits .f32 0x7F800000#32) = 1#1) :
    x = ((x.toReal : ℝ) : EReal) := by
  rw [bits_top] at h
  induction x with
  | bot => simp [Ideal.cmp] at h
  | coe r => rfl
  | top => simp [Ideal.cmp] at h

/-- A conjunction of two bits that is one. -/
theorem and_one : ∀ {x y : BitVec 1}, IntOp.andi x y = 1#1 → x = 1#1 ∧ y = 1#1 := by
  decide

instance : Subsingleton S_.Idx := ⟨fun a b => funext fun i => i.elim0⟩

variable (x0 : Vec Ideal S4096x7168 .bf16) (x1 : Vec Ideal S8x4096 .f32) (x2 : Vec Ideal S4096x1024 .f32)

/-- Every number that the precondition looks at is a real. -/
theorem reals (h : fn (F := Ideal) x0 x1 x2 = fun _ => 1#1) :
    (∀ (t : Fin 4096) (d : Fin 1024), x0 (ix2 t ⟨2048 + d.val, by omega⟩) = (((x0 (ix2 t ⟨2048 + d.val, by omega⟩) : EReal).toReal : ℝ) : EReal))
    ∧ (∀ (t : Fin 4096) (d : Fin 1024), x0 (ix2 t ⟨3072 + d.val, by omega⟩) = (((x0 (ix2 t ⟨3072 + d.val, by omega⟩) : EReal).toReal : ℝ) : EReal))
    ∧ (∀ (t : Fin 4096) (d : Fin 1024), x0 (ix2 t ⟨4096 + d.val, by omega⟩) = (((x0 (ix2 t ⟨4096 + d.val, by omega⟩) : EReal).toReal : ℝ) : EReal))
    ∧ (∀ (a : Fin 8) (t : Fin 4096), x1 (ix2 a t) = (((x1 (ix2 a t) : EReal).toReal : ℝ) : EReal))
    ∧ (∀ (t : Fin 4096) (d : Fin 1024), x2 (ix2 t d) = (((x2 (ix2 t d) : EReal).toReal : ℝ) : EReal)) := by
  have h0 := congrFun h ix0
  dsimp only [fn, fn_part1] at h0
  obtain ⟨hA, hB⟩ := and_one h0
  have a1 := fun i => Host.reduce_andi_all _ _ _ _ _ hA i
  have b1 := fun i => Host.reduce_andi_all _ _ _ _ _ hB i
  refine ⟨fun t d => ?_, fun t d => ?_, fun t d => ?_, fun a t => ?_, fun t d => ?_⟩
  · have e := (and_one (and_one (and_one (a1 (ix2 t d))).1).1).1
    refine real_of_lt _ (Eq.trans ?_ e)
    pointwise
    rfl
  · have e := (and_one (and_one (and_one (a1 (ix2 t d))).1).1).2
    refine real_of_lt _ (Eq.trans ?_ e)
    pointwise
    rfl
  · have e := (and_one (and_one (a1 (ix2 t d))).1).2
    refine real_of_lt _ (Eq.trans ?_ e)
    pointwise
    rfl
  · refine real_of_lt _ (Eq.trans ?_ (b1 (ix2 a t)))
    pointwise
    rfl
  · have e := (and_one (a1 (ix2 t d))).2
    refine real_of_lt _ (Eq.trans ?_ e)
    pointwise
    rfl

/-- The reals that a head is given. -/
def headReals (h : Fin 8) : Reals where
  q t d := (x0 (ix2 t ⟨2048 + (h.val * 128 + d.val), by omega⟩) : EReal).toReal
  k t d := (x0 (ix2 t ⟨3072 + (h.val * 128 + d.val), by omega⟩) : EReal).toReal
  v t d := (x0 (ix2 t ⟨4096 + (h.val * 128 + d.val), by omega⟩) : EReal).toReal
  g t d := (x2 (ix2 t ⟨h.val * 128 + d.val, by omega⟩) : EReal).toReal
  c t := (x1 (ix2 h t) : EReal).toReal

/-- Under the precondition a head's arguments are these reals. -/
theorem headIns_eq (hf : fn (F := Ideal) x0 x1 x2 = fun _ => 1#1) (h : Fin 8) :
    headIns (fun t d => x0 (ix2 t d)) (fun a t => x1 (ix2 a t)) (fun t d => x2 (ix2 t d)) h = (headReals x0 x1 x2 h).ins := by
  obtain ⟨hq, hk, hv, hc, hg⟩ := reals x0 x1 x2 hf
  unfold headIns Reals.ins headReals
  congr 1
  · funext t d; exact hq t ⟨h.val * 128 + d.val, by omega⟩
  · funext t d; exact hk t ⟨h.val * 128 + d.val, by omega⟩
  · funext t d; exact hv t ⟨h.val * 128 + d.val, by omega⟩
  · funext t d; exact hg t ⟨h.val * 128 + d.val, by omega⟩
  · funext t; exact hc h t

end Cert.Pre_finite.Real

end
-- ==== Proof.Agree.lean ====
module

public import proofs.«01_k».proof.Proof.KernelResults
public import proofs.«01_k».proof.Proof.RefValue
public import proofs.«01_k».proof.Proof.Gradients
public import proofs.«01_k».proof.Proof.Finite

@[expose] public section

/-! # The kernel's five results are the reference's -/

set_option maxRecDepth 16384
set_option maxHeartbeats 4000000

noncomputable section

namespace Cert.KernelIdeal.AttnBwd

open Idealize.ShloMosaic Idealize.ShloMosaic.TcCoe Idealize.ShloMosaic.Tactic
open Cert.KernelIdeal.Gen Cert.KernelIdeal.Value Cert.Attention Cert.ReferenceIdeal.Read

/-- A column of the whole array is a column of a head. -/
theorem exists_column (j : Fin 1024) : ∃ (h : Fin 8) (d : Fin 128), j = ⟨h.val * 128 + d.val, by omega⟩ :=
  ⟨⟨j.val / 128, by omega⟩, ⟨j.val % 128, by omega⟩, Fin.ext (by show j.val = j.val / 128 * 128 + j.val % 128; omega)⟩

variable (m : (ℓ : Loc nD τ sig) → Buf (Elt Ideal) ℓ) (c : Dev nD)

/-- The three arguments as arrays. -/
abbrev arg0 : Vec Ideal S4096x7168 .bf16 := m ((c : Thread nD τ).loc main_arg0)
abbrev arg1 : Vec Ideal S8x4096 .f32 := m ((c : Thread nD τ).loc main_arg1)
abbrev arg2 : Vec Ideal S4096x1024 .f32 := m ((c : Thread nD τ).loc main_arg2)

variable (hf : Cert.Pre_finite.fn (F := Ideal) (arg0 m c) (arg1 m c) (arg2 m c) = fun _ => 1#1)

include hf

/-- A head's arguments are reals. -/
theorem exists_reals (h : Fin 8) : ∃ R : Reals, ins m c h = R.ins :=
  ⟨_, Cert.Pre_finite.Real.headIns_eq _ _ _ hf h⟩

/-- The queries' gradients are equal. -/
theorem dq_agree : G8 m c = (val_main_v95 (F := Ideal) (arg0 m c) (arg1 m c) (arg2 m c) : Vec Ideal S4096x1024 .bf16) := by
  funext i
  obtain ⟨t, j, rfl⟩ : ∃ (t : Fin 4096) (j : Fin 1024), i = ix2 t j := ⟨i 0, i 1, eq_ix2 i⟩
  obtain ⟨h, d, rfl⟩ := exists_column j
  obtain ⟨b, r, rfl⟩ := exists_rowAt t
  obtain ⟨R, hR⟩ := exists_reals m c hf h
  refine (dq_at m c h b r d).trans (Eq.trans ?_ (Cert.ReferenceIdeal.AttnRef.dq_eq (arg0 m c) (arg1 m c) (arg2 m c) h (rowAt b r) d).symm)
  show (∑ y, (headIn (ins m c h)).K y d * (headIn (ins m c h)).g y (rowAt b r)) * _
    = Ideal.div (∑ s, (ins m c h).dS (rowAt b r) s * (ins m c h).K s d) Ins.root
  rw [hR]
  exact dq_real R _ d

/-- The keys' gradients are equal. -/
theorem dk_agree : G9 m c = (val_main_v96 (F := Ideal) (arg0 m c) (arg1 m c) (arg2 m c) : Vec Ideal S4096x1024 .bf16) := by
  funext i
  obtain ⟨s, j, rfl⟩ : ∃ (t : Fin 4096) (j : Fin 1024), i = ix2 t j := ⟨i 0, i 1, eq_ix2 i⟩
  obtain ⟨h, d, rfl⟩ := exists_column j
  obtain ⟨R, hR⟩ := exists_reals m c hf h
  refine (dk_at m c h s d).trans (Eq.trans ?_ (Cert.ReferenceIdeal.AttnRef.dk_eq (arg0 m c) (arg1 m c) (arg2 m c) h s d).symm)
  show (∑ t, (headIn (ins m c h)).g s t * ((headIn (ins m c h)).Q t d * cScaleLog2e)) * _
    = ∑ t, (ins m c h).dS t s * Ideal.div ((ins m c h).Q t d) Ins.root
  rw [hR]
  exact dk_real R s d

/-- The values' gradients are equal. -/
theorem dv_agree : G10 m c = (val_main_v97 (F := Ideal) (arg0 m c) (arg1 m c) (arg2 m c) : Vec Ideal S4096x1024 .bf16) := by
  funext i
  obtain ⟨s, j, rfl⟩ : ∃ (t : Fin 4096) (j : Fin 1024), i = ix2 t j := ⟨i 0, i 1, eq_ix2 i⟩
  obtain ⟨h, d, rfl⟩ := exists_column j
  obtain ⟨R, hR⟩ := exists_reals m c hf h
  refine (dv_at m c h s d).trans (Eq.trans ?_ (Cert.ReferenceIdeal.AttnRef.dv_eq (arg0 m c) (arg1 m c) (arg2 m c) h s d).symm)
  show ∑ t, (headIn (ins m c h)).w s t * (headIn (ins m c h)).G t d
    = ∑ t, (ins m c h).G t d * Ideal.div ((ins m c h).e t s) ((ins m c h).l t)
  rw [hR]
  exact dv_real R s d

/-- The gates' gradients by row are equal. -/
theorem dcq_agree : G11 m c = (val_main_v98 (F := Ideal) (arg0 m c) (arg1 m c) (arg2 m c) : Vec Ideal S8x8x1x512 .f32) := by
  funext i
  obtain ⟨h, b, r, rfl⟩ : ∃ (h b : Fin 8) (r : Fin 512), i = ix4 h b 0 r :=
    ⟨i 0, i 1, i 3, (eq_ix4 i).trans (by rw [show i 2 = (0 : Fin 1) from Subsingleton.elim (α := Fin 1) _ _])⟩
  obtain ⟨R, hR⟩ := exists_reals m c hf h
  refine (dcq_at m c h b r).trans (Eq.trans ?_ (Cert.ReferenceIdeal.AttnRef.dcq_eq (arg0 m c) (arg1 m c) (arg2 m c) h b r).symm)
  rw [row_index b r]
  show ∑ y, (headIn (ins m c h)).g y (rowAt b r) = ∑ s, (ins m c h).dS (rowAt b r) s
  rw [hR]
  exact dcq_real R _

/-- The gates' gradients by column are equal. -/
theorem dck_agree : G12 m c = (val_main_v100 (F := Ideal) (arg0 m c) (arg1 m c) (arg2 m c) : Vec Ideal S8x4096x1 .f32) := by
  funext i
  obtain ⟨h, s, rfl⟩ : ∃ (h : Fin 8) (s : Fin 4096), i = ix3 h s 0 :=
    ⟨i 0, i 1, (eq_ix3 i).trans (by rw [show i 2 = (0 : Fin 1) from Subsingleton.elim (α := Fin 1) _ _])⟩
  obtain ⟨R, hR⟩ := exists_reals m c hf h
  refine (dck_at m c h s).trans (Eq.trans ?_ (Cert.ReferenceIdeal.AttnRef.dck_eq (arg0 m c) (arg1 m c) (arg2 m c) h s).symm)
  show ∑ t, (headIn (ins m c h)).g s t = -∑ t, -(ins m c h).dS t s
  rw [hR]
  exact dck_real R s

end Cert.KernelIdeal.AttnBwd

end
-- ==== Proof.Claims.lean ====
module

public import proofs.«01_k».proof.Defs
public import proofs.«01_k».proof.Proof.Agree
public import proofs.«01_k».proof.Proof.Gen.Kernel.Frame
public import proofs.«01_k».proof.Proof.Gen.KernelIdeal.Value
public import proofs.«01_k».proof.Proof.Gen.ReferenceIdeal.Read
public import Idealize.ShloMosaic.Lib.Quiescent

@[expose] public section

/-! # The claims about the backward pass of the attention -/

noncomputable section

namespace Cert.AttnClaims

open Idealize.ShloMosaic Idealize.SL.Sem Cert.KernelIdeal.AttnBwd

/-- The kernel ends, keeps its arguments and leaves every counter at zero. -/
theorem frame_kernel : Cert.quiescent_Kernel := fun m ρ _ => Cert.Kernel.Gen.frame m ρ

/-- The same of the kernel over the reals. -/
theorem frame_ideal : Cert.quiescent_KernelIdeal := fun m ρ _ => Cert.KernelIdeal.Gen.frame m ρ

/-- The same under the precondition. -/
theorem frame_ideal_finite : Cert.quiescent_KernelIdeal_pre_finite := fun m ρ _ => Cert.KernelIdeal.Gen.frame m ρ

/-- The reference ends, keeps its arguments and leaves every counter at zero. -/
theorem frame_reference : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

/-- The same under the precondition. -/
theorem frame_reference_finite : Cert.quiescent_ReferenceIdeal_pre_finite := fun m ρ _ => frame_reference m ρ trivial

/-- The four named constants have the values the kernel over the reals gives them. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale_log2e" .f32 0x3E0293EE#32
      (((Real.sqrt 128)⁻¹ * (Real.log 2)⁻¹ : ℝ) : EReal) rfl,
    IdealRules.named_const.statement Cert.KernelIdeal.κ "scale" .f32 0x3DB504F3#32 (((Real.sqrt 128)⁻¹ : ℝ) : EReal) rfl,
    IdealRules.named_const.statement Cert.KernelIdeal.κ "ln2" .f32 0x3F317218#32 ((Real.log 2 : ℝ) : EReal) rfl⟩

/-- Over the reals the kernel's five results are those of differentiating the reference's attention. -/
theorem algebraic : Cert.algebraic_KernelIdeal_ReferenceIdeal_pre_finite := by
  intro m ρ m' ρ' hpre hagree
  refine ⟨_, _, _, _, _, Cert.KernelIdeal.Value.run (F := Ideal) m ρ, ?_⟩
  refine (θ_run Cert.ReferenceIdeal.defs _ _).mono (fun _ h c => ?_) (Cert.ReferenceIdeal.Value.run (F := Ideal) m' ρ')
  obtain ⟨h0, h1, h2, h3, h4, hargs⟩ := h c
  obtain ⟨a0, a1, a2⟩ := hagree c
  refine ⟨h0.trans ?_, h1.trans ?_, h2.trans ?_, h3.trans ?_, h4.trans ?_, hargs⟩
  · rw [Cert.ReferenceIdeal.Read.val_main_v95_eq, a0, a1, a2]
    exact (dq_agree m c (hpre c)).symm
  · rw [Cert.ReferenceIdeal.Read.val_main_v96_eq, a0, a1, a2]
    exact (dk_agree m c (hpre c)).symm
  · rw [Cert.ReferenceIdeal.Read.val_main_v97_eq, a0, a1, a2]
    exact (dv_agree m c (hpre c)).symm
  · rw [Cert.ReferenceIdeal.Read.val_main_v98_eq, a0, a1, a2]
    exact (dcq_agree m c (hpre c)).symm
  · rw [Cert.ReferenceIdeal.Read.val_main_v100_eq, a0, a1, a2]
    exact (dck_agree m c (hpre c)).symm

end Cert.AttnClaims

end
-- ==== Proof.DownX.lean ====
module

public import Idealize.ShloMosaic.Lib.Pipeline.ValueKit
public import Idealize.ShloMosaic.Lib.Pointwise
public import proofs.«01_k».proof.Proof.Gen.Kernel2Ideal.Value
public import proofs.«01_k».proof.Proof.Gen.Reference2Ideal.Read

/-! # The gradient of the feed-forward layer's last product for its left factor

One block of 512 rows and 1408 columns for each grid point `t = 8 j + i` (row block `i`, column block `j`), each a product
over the whole contraction of length 1024. -/

@[expose] public section

set_option maxRecDepth 16384
set_option maxHeartbeats 4000000

noncomputable section

namespace Cert.Kernel2Ideal.DownX

open Idealize.ShloMosaic Idealize.ShloMosaic.TcCoe Idealize.ShloMosaic.Tactic
open Cert.Kernel2Ideal.Gen Cert.Kernel2Ideal.Value
open Idealize.ShloMosaic.Pipeline (Dat)

/-- The result at an index: row `i 0` of the left factor times row `i 1` of the right one. -/
def G (A : Vec Ideal S4096x1024 .bf16) (B : Vec Ideal S2816x1024 .bf16) : Vec Ideal S4096x2816 .bf16 := fun i =>
  (∑ k : Fin 1024, (A (ix2 (i 0) k) : EReal) * B (ix2 (i 1) k) : EReal)

theorem point_lt (t : Fin cfg0.N) : t.val < 16 := Nat.lt_of_lt_of_eq t.isLt N_0

/-- The blocks of a grid point. -/
theorem index0 : ∀ t : Fin cfg0.N, win0_0.index t = ![t.val % 8, 0] := (by decide +kernel : ∀ t : Fin grid0.N, _)
theorem index1 : ∀ t : Fin cfg0.N, win0_1.index t = ![t.val / 8, 0] := (by decide +kernel : ∀ t : Fin grid0.N, _)
theorem index2 : ∀ t : Fin cfg0.N, win0_2.index t = ![t.val % 8, t.val / 8] := (by decide +kernel : ∀ t : Fin grid0.N, _)

theorem blk0_apply (A : Vec Ideal S4096x1024 .bf16) (t : Fin cfg0.N) (y : S512x1024.Idx) :
    ((cfg0.win 0).blk t).view.read (Elt Ideal) A y
      = A (ix2 ⟨512 * (t.val % 8) + (y 0).val, by have := (y 0).isLt; simp at this; omega⟩ (y 1)) := by
  rw [View.read_apply, cast_eq]
  apply congrArg A
  funext a
  apply Fin.ext
  refine (Pipeline.Window.rect_emb_val win0_0 t y a rfl).trans ?_
  rw [index0 t]
  fin_cases a
  · simp [Nat.mul_comm]
  · simp

theorem blk1_apply (A : Vec Ideal S2816x1024 .bf16) (t : Fin cfg0.N) (y : S1408x1024.Idx) :
    ((cfg0.win 1).blk t).view.read (Elt Ideal) A y
      = A (ix2 ⟨1408 * (t.val / 8) + (y 0).val, by have := (y 0).isLt; have := point_lt t; simp at *; omega⟩ (y 1)) := by
  rw [View.read_apply, cast_eq]
  apply congrArg A
  funext a
  apply Fin.ext
  refine (Pipeline.Window.rect_emb_val win0_1 t y a rfl).trans ?_
  rw [index1 t]
  fin_cases a
  · simp [Nat.mul_comm]
  · simp

theorem blk2_apply (A : Vec Ideal S4096x2816 .bf16) (t : Fin cfg0.N) (y : S512x1408.Idx) :
    ((cfg0.win 2).blk t).view.read (Elt Ideal) A y
      = A (ix2 ⟨512 * (t.val % 8) + (y 0).val, by have := (y 0).isLt; simp at this; omega⟩
          ⟨1408 * (t.val / 8) + (y 1).val, by have := (y 1).isLt; have := point_lt t; simp at *; omega⟩) := by
  rw [View.read_apply, cast_eq]
  apply congrArg A
  funext a
  apply Fin.ext
  refine (Pipeline.Window.rect_emb_val win0_2 t y a rfl).trans ?_
  rw [index2 t]
  fin_cases a
  · simp [Nat.mul_comm]
  · simp [Nat.mul_comm]

/-- The product that a point stores, at an index of its block. -/
theorem pay_apply (v0 : Vec Ideal S512x1024 .bf16) (v1 : Vec Ideal S1408x1024 .bf16) (r : Fin 512) (s : Fin 1408) :
    k0_pay1 v0 v1 (ix2 r s) = (∑ k : Fin 1024, (v0 (ix2 r k) : EReal) * v1 (ix2 s k) : EReal) := by
  pointwise [k0_pay1]

variable (m : (ℓ : Loc nD τ sig) → Buf (Elt Ideal) ℓ) (ρ : Dev nD → PrngReg)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [flushed2]
  unfold out0_2
  rw [View.canon_unit_zero (by funext a; fin_cases a <;> rfl), View.ld_unit_zero (S := S512x1024) (by funext a; fin_cases a <;> rfl),
    View.ld_unit_zero (S := S1408x1024) (by funext a; fin_cases a <;> rfl)]
  funext y
  change k0_pay1 _ _ (y : S512x1408.Idx) = _
  rw [blk2_apply]
  obtain ⟨r, s, rfl⟩ : ∃ (r : Fin 512) (s : Fin 1408), (y : S512x1408.Idx) = ix2 r s := ⟨y 0, y 1, eq_ix2 y⟩
  rw [pay_apply]
  refine Finset.sum_congr rfl fun k _ => ?_
  exact congrArg₂ (· * ·) (blk0_apply (V m c main_arg0) t (ix2 r k)) (blk1_apply (V m c main_arg1) t (ix2 s k))

/-- An index is in a point's block when each of its coordinates is in the block's range. -/
theorem mem_blk (t : Fin cfg0.N) (i : S4096x2816.Idx) :
    i ∈ ((cfg0.win 2).blk t).view.set
      ↔ ∀ a : Fin 2, win0_2.index t a * S512x1408.size a ≤ (i a).val ∧ (i a).val < win0_2.index t a * S512x1408.size a + S512x1408.size a := by
  show i ∈ ((View.whole main_v0).slice (win0_2.rect t)).set ↔ _
  rw [View.set_slice_whole, Rect.mem_set_unit]
  exact Iff.rfl

/-- Every index lies in the block of a point. -/
theorem covered (i : S4096x2816.Idx) : ∃ t : Fin cfg0.N, (cfg0.win 2).flush t = true ∧ i ∈ ((cfg0.win 2).blk t).view.set := by
  have h0 : (i 0).val < 4096 := (i 0).isLt
  have h1 : (i 1).val < 2816 := (i 1).isLt
  refine ⟨⟨8 * ((i 1).val / 1408) + (i 0).val / 512, Nat.lt_of_lt_of_eq (by omega) N_0.symm⟩, flush0_2 _, ?_⟩
  rw [mem_blk, index2]
  intro a
  fin_cases a
  · show (8 * ((i 1).val / 1408) + (i 0).val / 512) % 8 * 512 ≤ (i 0).val
      ∧ (i 0).val < (8 * ((i 1).val / 1408) + (i 0).val / 512) % 8 * 512 + 512
    omega
  · show (8 * ((i 1).val / 1408) + (i 0).val / 512) / 8 * 1408 ≤ (i 1).val
      ∧ (i 1).val < (8 * ((i 1).val / 1408) + (i 0).val / 512) / 8 * 1408 + 1408
    omega

/-- The array after the run is `G` of the arguments. -/
theorem final (c : Dev nD) : (dats m 0 c).arrAt 2 cfg0.N = G (V m c main_arg0) (V m c main_arg1) :=
  (dats m 0 c).arrAt_eq_of_cover 2 _ (fun t _ => flushed_eq m c t) covered

/-- The run, its result read. -/
theorem run : θ_run defs (onTc (τ := τ) (main (F := Ideal))) ⟨m, fun _ => 0, ρ⟩ fun r => ∀ c : Dev nD,
    r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

/-- The reference's result is `G` of the same arrays. -/
theorem reference_eq (A : Vec Ideal S4096x1024 .bf16) (B : Vec Ideal S2816x1024 .bf16) :
    Cert.Reference2Ideal.Read.val_main_v5 (F := Ideal) A B = G A B := by
  funext i
  refine (Cert.Reference2Ideal.Read.val_main_v5_apply A B i).trans ?_
  show Cert.Reference2Ideal.Read.val_main_v4 (F := Ideal) A B i = _
  rw [Cert.Reference2Ideal.Read.val_main_v4_apply]
  refine Finset.sum_congr rfl fun k _ => ?_
  refine congrArg₂ (· * ·) (congrArg A ?_) (congrArg B ?_) <;> funext a <;> fin_cases a <;> rfl

end Cert.Kernel2Ideal.DownX

end
-- ==== Proof.ProjFwd.lean ====
module

public import Idealize.ShloMosaic.Lib.Pipeline.ValueKit
public import Idealize.ShloMosaic.Lib.Pointwise
public import Idealize.ShloMosaic.Lib.VecWindow
public import proofs.«01_k».proof.Proof.Gen.Kernel4Ideal.Value
public import proofs.«01_k».proof.Proof.Gen.Reference4Ideal.Read

/-! # The fused input projection, without the columns of the forget gates

One block of 512 rows and 1792 columns for each grid point `t = 8 j + i` (row block `i`, column block `j`), each a product
over the whole contraction of length 1024. The weights are turned over before the call; the grid reaches their first
7168 rows only. -/

@[expose] public section

set_option maxRecDepth 16384
set_option maxHeartbeats 4000000

noncomputable section

namespace Cert.Kernel4Ideal.ProjFwd

open Idealize.ShloMosaic Idealize.ShloMosaic.TcCoe Idealize.ShloMosaic.Tactic
open Cert.Kernel4Ideal.Gen Cert.Kernel4Ideal.Value
open Idealize.ShloMosaic.Pipeline (Dat)

/-- The result at an index: row `i 0` of the left factor times column `i 1` of the right one. -/
def G (A : Vec Ideal S4096x1024 .bf16) (B : Vec Ideal S1024x7176 .f32) : Vec Ideal S4096x7168 .bf16 := fun i =>
  (∑ k : Fin 1024, (A (ix2 (i 0) k) : EReal)
    * B (ix2 k ⟨(i 1).val, Nat.lt_of_lt_of_le (i 1).isLt (by decide : 7168 ≤ 7176)⟩) : EReal)

theorem point_lt (t : Fin cfg0.N) : t.val < 32 := Nat.lt_of_lt_of_eq t.isLt N_0

/-- The blocks of a grid point. -/
theorem index0 : ∀ t : Fin cfg0.N, win0_0.index t = ![t.val % 8, 0] := (by decide +kernel : ∀ t : Fin grid0.N, _)
theorem index1 : ∀ t : Fin cfg0.N, win0_1.index t = ![t.val / 8, 0] := (by decide +kernel : ∀ t : Fin grid0.N, _)
theorem index2 : ∀ t : Fin cfg0.N, win0_2.index t = ![t.val % 8, t.val / 8] := (by decide +kernel : ∀ t : Fin grid0.N, _)

theorem blk0_apply (A : Vec Ideal S4096x1024 .bf16) (t : Fin cfg0.N) (y : S512x1024.Idx) :
    ((cfg0.win 0).blk t).view.read (Elt Ideal) A y
      = A (ix2 ⟨512 * (t.val % 8) + (y 0).val, by have := (y 0).isLt; simp at this; omega⟩ (y 1)) := by
  rw [View.read_apply, cast_eq]
  apply congrArg A
  funext a
  apply Fin.ext
  refine (Pipeline.Window.rect_emb_val win0_0 t y a rfl).trans ?_
  rw [index0 t]
  fin_cases a
  · simp [Nat.mul_comm]
  · simp

theorem blk2_apply (A : Vec Ideal S4096x7168 .bf16) (t : Fin cfg0.N) (y : S512x1792.Idx) :
    ((cfg0.win 2).blk t).view.read (Elt Ideal) A y
      = A (ix2 ⟨512 * (t.val % 8) + (y 0).val, by have := (y 0).isLt; simp at this; omega⟩
          ⟨1792 * (t.val / 8) + (y 1).val, by have := (y 1).isLt; have := point_lt t; simp at *; omega⟩) := by
  rw [View.read_apply, cast_eq]
  apply congrArg A
  funext a
  apply Fin.ext
  refine (Pipeline.Window.rect_emb_val win0_2 t y a rfl).trans ?_
  rw [index2 t]
  fin_cases a
  · simp [Nat.mul_comm]
  · simp [Nat.mul_comm]

/-- The product that a point stores, at an index of its block. -/
theorem pay_apply (v0 : Vec Ideal S512x1024 .bf16) (v1 : Vec Ideal S1792x1024 .bf16) (r : Fin 512) (s : Fin 1792) :
    k0_pay1 v0 v1 (ix2 r s) = (∑ k : Fin 1024, (v0 (ix2 r k) : EReal) * v1 (ix2 s k) : EReal) := by
  pointwise [k0_pay1]

variable (m : (ℓ : Loc nD τ sig) → Buf (Elt Ideal) ℓ) (ρ : Dev nD → PrngReg)

/-- The weights as the call finds them: turned over. -/
theorem V_weights (c : Dev nD) (k : Fin 7176) (l : Fin 1024) :
    (V m c main_v1 : Vec Ideal S7176x1024 .bf16) (ix2 k l) = (m ((c : Thread nD τ).loc main_arg1) : Vec Ideal S1024x7176 .f32) (ix2 l k) := by
  have h : @Eq (Vec Ideal S7176x1024 .bf16) (V m c main_v1)
      (truncf (F := Ideal) (s := S7176x1024) (φ := .f32) .bf16 (transpose S7176x1024 [1, 0] (m ((c : Thread nD τ).loc main_arg1) : Vec Ideal S1024x7176 .f32) transposes_S1024x7176_S7176x1024_1_0) bitsLt_bf16_f32) := by
    show StableHlo.after hostOps0 (fun b => m (c, b)) (Proc.devRef .tc main_v1) = _
    after_results
  refine (congrFun h (ix2 k l)).trans ?_
  pointwise

/-- A row of the weights' block at a point. -/
theorem X1_apply (c : Dev nD) (t : Fin cfg0.N) (s : Fin 1792) (k : Fin 1024) :
    (X0_1 m c t : Vec Ideal S1792x1024 .bf16) (ix2 s k)
      = (V m c main_v1 : Vec Ideal S7176x1024 .bf16) (ix2 ⟨1792 * (t.val / 8) + s.val, by have := point_lt t; omega⟩ k) := by
  unfold X0_1 Pipeline.Window.fill
  rw [dif_pos (moved0_1 t _)]
  unfold iblk
  rw [View.read_apply, cast_eq]
  refine congrArg (V m c main_v1 : Vec Ideal S7176x1024 .bf16) ?_
  funext a
  apply Fin.ext
  refine (Pipeline.Window.rect_emb_val win0_1 t _ a rfl).trans ?_
  rw [index1 t]
  fin_cases a
  · simp [Nat.mul_comm]
  · simp

/-- What a point leaves in its output block. -/
theorem out_eq (c : Dev nD) (i : grid0.Coords) (arg3 : Memref sig .tc .vmem S512x1024 .bf16) (harg3 : arg3.IsWhole) (arg4 : Memref sig .tc .vmem S1792x1024 .bf16) (harg4 : arg4.IsWhole) (arg5 : Memref sig .tc .vmem S512x1792 .bf16) (harg5 : arg5.IsWhole)
    (x0 : Vec Ideal S512x1024 .bf16) (x1 : Vec Ideal S1792x1024 .bf16) :
    out0_A_2 c i arg3 harg3 arg4 harg4 arg5 harg5 x0 x1 = k0_pay1 x0 x1 := by
  unfold out0_A_2
  exact (View.read_writes_full _ _ _ _ _).trans
    (congrArg₂ k0_pay1 ((View.readAt_full _ _ _).trans (harg3.read_unread _)) ((View.readAt_full _ _ _).trans (harg4.read_unread _)))

/-- What a point writes back is its block of `G`. -/
theorem flushed_eq (c : Dev nD) (t : Fin cfg0.N) :
    (dats m 0 c).flushed 2 t
      = ((cfg0.win 2).blk t).view.read (Elt Ideal) (G (V m c main_arg0) (m ((c : Thread nD τ).loc main_arg1))) := by
  rw [flushed2_A, out_eq]
  funext y
  change k0_pay1 _ _ (y : S512x1792.Idx) = _
  rw [blk2_apply]
  obtain ⟨r, s, rfl⟩ : ∃ (r : Fin 512) (s : Fin 1792), (y : S512x1792.Idx) = ix2 r s := ⟨y 0, y 1, eq_ix2 y⟩
  rw [pay_apply]
  refine Finset.sum_congr rfl fun k _ => ?_
  exact congrArg₂ (· * ·) (blk0_apply (V m c main_arg0) t (ix2 r k)) ((X1_apply m c t s k).trans (V_weights m c _ k))

/-- An index is in a point's block when each of its coordinates is in the block's range. -/
theorem mem_blk (t : Fin cfg0.N) (i : S4096x7168.Idx) :
    i ∈ ((cfg0.win 2).blk t).view.set
      ↔ ∀ a : Fin 2, win0_2.index t a * S512x1792.size a ≤ (i a).val ∧ (i a).val < win0_2.index t a * S512x1792.size a + S512x1792.size a := by
  show i ∈ ((View.whole main_v2).slice (win0_2.rect t)).set ↔ _
  rw [View.set_slice_whole, Rect.mem_set_unit]
  exact Iff.rfl

/-- Every index lies in the block of a point. -/
theorem covered (i : S4096x7168.Idx) : ∃ t : Fin cfg0.N, (cfg0.win 2).flush t = true ∧ i ∈ ((cfg0.win 2).blk t).view.set := by
  have h0 : (i 0).val < 4096 := (i 0).isLt
  have h1 : (i 1).val < 7168 := (i 1).isLt
  refine ⟨⟨8 * ((i 1).val / 1792) + (i 0).val / 512, Nat.lt_of_lt_of_eq (by omega) N_0.symm⟩, flush0_2 _, ?_⟩
  rw [mem_blk, index2]
  intro a
  fin_cases a
  · show (8 * ((i 1).val / 1792) + (i 0).val / 512) % 8 * 512 ≤ (i 0).val
      ∧ (i 0).val < (8 * ((i 1).val / 1792) + (i 0).val / 512) % 8 * 512 + 512
    omega
  · show (8 * ((i 1).val / 1792) + (i 0).val / 512) / 8 * 1792 ≤ (i 1).val
      ∧ (i 1).val < (8 * ((i 1).val / 1792) + (i 0).val / 512) / 8 * 1792 + 1792
    omega

/-- The array after the run is `G` of the arguments. -/
theorem final (c : Dev nD) : (dats m 0 c).arrAt 2 cfg0.N
    = G (m ((c : Thread nD τ).loc main_arg0)) (m ((c : Thread nD τ).loc main_arg1)) :=
  ((dats m 0 c).arrAt_eq_of_cover 2 _ (fun t _ => flushed_eq m c t) covered).trans
    (congrArg (G · (m ((c : Thread nD τ).loc main_arg1))) (V_main_arg0 m c))

/-- The run, its result read. -/
theorem run : θ_run defs (onTc (τ := τ) (main (F := Ideal))) ⟨m, fun _ => 0, ρ⟩ fun r => ∀ c : Dev nD,
    r.2.mem ((c : Thread nD τ).loc main_v2)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

/-- The reference's result is `G` of the same arrays. -/
theorem reference_eq (A : Vec Ideal S4096x1024 .bf16) (B : Vec Ideal S1024x7176 .f32) :
    Cert.Reference4Ideal.Read.val_main_v3 (F := Ideal) A B = G A B := by
  funext i
  refine (Cert.Reference4Ideal.Read.val_main_v3_apply A B i).trans ?_
  show Cert.Reference4Ideal.Read.val_main_v2 (F := Ideal) A B i = _
  rw [Cert.Reference4Ideal.Read.val_main_v2_apply, Cert.Reference4Ideal.Read.val_main_v1_apply]
  refine Finset.sum_congr rfl fun k _ => ?_
  refine congrArg₂ (· * ·) (congrArg A ?_) (congrArg B ?_) <;> funext a <;> fin_cases a <;> rfl

end Cert.Kernel4Ideal.ProjFwd

end
-- ==== Proof.ProjWCases.lean ====
module

public import Idealize.ShloMosaic.Lib.Pipeline.ValueKit
public import Idealize.ShloMosaic.Lib.Pointwise
public import Idealize.ShloMosaic.Lib.VecWindow
public import proofs.«01_k».proof.Proof.Gen.Kernel5Ideal.Frame

/-! # The gradient of the input projection for its weights: the body's cases

The rows of the result come from five factors: row blocks 0 and 1 from the first, one block each from the next three, and
blocks 5 and 6 from the last. Grid point `t = 4 j + k` multiplies piece `k` of the 4096 positions for row block `j`: the first
of the 4 points stores its product in a buffer, the others add theirs, and the last writes the buffer out. -/

@[expose] public section

set_option maxRecDepth 16384
set_option maxHeartbeats 4000000

noncomputable section

namespace Cert.Kernel5Ideal.ProjW

open Idealize.ShloMosaic Idealize.ShloMosaic.TcCoe Idealize.ShloMosaic.Tactic
open Cert.Kernel5Ideal.Gen

/-- Column `r` of one block times column `s` of another. -/
def dotAt (v0 v1 : Vec Ideal S1024x1024 .bf16) (r s : Fin 1024) : EReal :=
  ∑ k : Fin 1024, (v0 (ix2 k r) : EReal) * v1 (ix2 k s)

/-- What a first point stores, and what the others store over what the buffer held. -/
def first (v0 v1 : Vec Ideal S1024x1024 .bf16) : Vec Ideal S1024x1024 .f32 := k0_pay2 v0 v1
def added (v0 v1 : Vec Ideal S1024x1024 .bf16) (acc : Vec Ideal S1024x1024 .f32) : Vec Ideal S1024x1024 .f32 := k0_pay3 v0 v1 acc

/-- The product of a piece, at an index. -/
theorem first_apply (v0 v1 : Vec Ideal S1024x1024 .bf16) (r s : Fin 1024) : (first v0 v1 (ix2 r s) : EReal) = dotAt v0 v1 r s := by
  unfold first dotAt
  pointwise [k0_pay2, k0_pay1]

/-- The product of a piece added to what the buffer held. -/
theorem added_apply (v0 v1 : Vec Ideal S1024x1024 .bf16) (acc : Vec Ideal S1024x1024 .f32) (r s : Fin 1024) :
    (added v0 v1 acc (ix2 r s) : EReal) = ((acc (ix2 r s) : EReal) + dotAt v0 v1 r s : EReal) := by
  unfold added dotAt
  pointwise [k0_pay3, k0_pay1]

/-- The buffer as it is written to the result. -/
theorem written_apply (acc : Vec Ideal S1024x1024 .f32) (r s : Fin 1024) :
    k0_pay16 acc (ix3 0 r s) = (acc (ix2 r s) : EReal) := by
  pointwise [k0_pay16]

theorem added_congr {a a' b b' : Vec Ideal S1024x1024 .bf16} {d d' : Vec Ideal S1024x1024 .f32}
    (ha : a = a') (hb : b = b') (hd : d = d') : added a b d = added a' b' d' := by rw [ha, hb, hd]

section Cases

variable (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024x1024 .bf16) (harg8 : arg8.IsWhole) (arg9 : Memref sig .tc .vmem S1024x1024 .f32) (harg9 : arg9.IsWhole)
  (x0 x1 x2 x3 x4 x5 : Vec Ideal S1024x1024 .bf16) (acc : Vec Ideal S1024x1024 .f32)

/-- Factor 1, a first point: the buffer ends with the product. -/
theorem buf_A (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i) :
    sout0_A_0 c i arg2 harg2 arg3 harg3 arg4 harg4 arg5 harg5 arg6 harg6 arg7 harg7 arg8 harg8 arg9 harg9 hc0 hc1 hc2 hc3 hc4 hc5 hc6 hc7 x0 x1 x2 x3 x4 x5 = first x0 x5 := by
  unfold sout0_A_0
  exact (View.read_writes_full _ _ _ _ _).trans (congrArg₂ first ((View.readAt_full _ _ _).trans (harg2.read_unread _)) ((View.readAt_full _ _ _).trans (harg7.read_unread _)))

/-- Factor 1, a middle point: the product is added. -/
theorem buf_B (hc0 : cond0_0 i) (hc1 : ¬cond0_1 i) (hc2 : cond0_2 i) (hc3 : ¬cond0_3 i) (hc4 : ¬cond0_4 i) (hc5 : ¬cond0_5 i) (hc6 : ¬cond0_6 i) (hc7 : ¬cond0_7 i) :
    sout0_B_0 c i arg2 harg2 arg3 harg3 arg4 harg4 arg5 harg5 arg6 harg6 arg7 harg7 arg8 harg8 arg9 harg9 hc0 hc1 hc2 hc3 hc4 hc5 hc6 hc7 x0 x1 x2 x3 x4 x5 acc = added x0 x5 acc := by
  unfold sout0_B_0
  exact (View.read_writes_full _ _ _ _ _).trans
    (added_congr ((View.readAt_full _ _ _).trans (harg2.read_unread _)) ((View.readAt_full _ _ _).trans (harg7.read_unread _))
      ((View.readAt_full _ _ _).trans (harg9.read_unread _)))

/-- Factor 1, a last point: the product is added and the buffer is written to the result. -/
theorem out_C (hc0 : cond0_0 i) (hc1 : ¬cond0_1 i) (hc2 : cond0_2 i) (hc3 : ¬cond0_3 i) (hc4 : ¬cond0_4 i) (hc5 : ¬cond0_5 i) (hc6 : ¬cond0_6 i) (hc7 : cond0_7 i) :
    out0_C_6 c i arg2 harg2 arg3 harg3 arg4 harg4 arg5 harg5 arg6 harg6 arg7 harg7 arg8 harg8 arg9 harg9 hc0 hc1 hc2 hc3 hc4 hc5 hc6 hc7 x0 x1 x2 x3 x4 x5 acc = k0_pay16 (added x0 x5 acc) := by
  unfold out0_C_6
  exact (View.read_writes_full _ _ _ _ _).trans (congrArg k0_pay16
    ((View.readAt_full _ _ _).trans ((View.read_writes_full _ _ _ _ _).trans
      (added_congr ((View.readAt_full _ _ _).trans (harg2.read_unread _)) ((View.readAt_full _ _ _).trans (harg7.read_unread _))
        ((View.readAt_full _ _ _).trans (harg9.read_unread _))))))

/-- Factor 2, a first point: the buffer ends with the product. -/
theorem buf_D (hc0 : ¬cond0_0 i) (hc3 : cond0_3 i) (hc4 : ¬cond0_4 i) (hc5 : ¬cond0_5 i) (hc6 : ¬cond0_6 i) (hc7 : ¬cond0_7 i) (hc8 : cond0_8 i) (hc9 : ¬cond0_9 i) :
    sout0_D_0 c i arg2 harg2 arg3 harg3 arg4 harg4 arg5 harg5 arg6 harg6 arg7 harg7 arg8 harg8 arg9 harg9 hc0 hc3 hc4 hc5 hc6 hc7 hc8 hc9 x0 x1 x2 x3 x4 x5 = first x1 x5 := by
  unfold sout0_D_0
  exact (View.read_writes_full _ _ _ _ _).trans (congrArg₂ first ((View.readAt_full _ _ _).trans (harg3.read_unread _)) ((View.readAt_full _ _ _).trans (harg7.read_unread _)))

/-- Factor 2, a middle point: the product is added. -/
theorem buf_E (hc0 : ¬cond0_0 i) (hc3 : cond0_3 i) (hc4 : ¬cond0_4 i) (hc5 : ¬cond0_5 i) (hc6 : ¬cond0_6 i) (hc7 : ¬cond0_7 i) (hc8 : ¬cond0_8 i) (hc9 : cond0_9 i) :
    sout0_E_0 c i arg2 harg2 arg3 harg3 arg4 harg4 arg5 harg5 arg6 harg6 arg7 harg7 arg8 harg8 arg9 harg9 hc0 hc3 hc4 hc5 hc6 hc7 hc8 hc9 x0 x1 x2 x3 x4 x5 acc = added x1 x5 acc := by
  unfold sout0_E_0
  exact (View.read_writes_full _ _ _ _ _).trans
    (added_congr ((View.readAt_full _ _ _).trans (harg3.read_unread _)) ((View.readAt_full _ _ _).trans (harg7.read_unread _))
      ((View.readAt_full _ _ _).trans (harg9.read_unread _)))

/-- Factor 2, a last point: the product is added and the buffer is written to the result. -/
theorem out_F (hc0 : ¬cond0_0 i) (hc3 : cond0_3 i) (hc4 : ¬cond0_4 i) (hc5 : ¬cond0_5 i) (hc6 : ¬cond0_6 i) (hc7 : cond0_7 i) (hc8 : ¬cond0_8 i) (hc9 : cond0_9 i) :
    out0_F_6 c i arg2 harg2 arg3 harg3 arg4 harg4 arg5 harg5 arg6 harg6 arg7 harg7 arg8 harg8 arg9 harg9 hc0 hc3 hc4 hc5 hc6 hc7 hc8 hc9 x0 x1 x2 x3 x4 x5 acc = k0_pay16 (added x1 x5 acc) := by
  unfold out0_F_6
  exact (View.read_writes_full _ _ _ _ _).trans (congrArg k0_pay16
    ((View.readAt_full _ _ _).trans ((View.read_writes_full _ _ _ _ _).trans
      (added_congr ((View.readAt_full _ _ _).trans (harg3.read_unread _)) ((View.readAt_full _ _ _).trans (harg7.read_unread _))
        ((View.readAt_full _ _ _).trans (harg9.read_unread _))))))

/-- Factor 3, a first point: the buffer ends with the product. -/
theorem buf_G (hc0 : ¬cond0_0 i) (hc3 : ¬cond0_3 i) (hc4 : cond0_4 i) (hc5 : ¬cond0_5 i) (hc6 : ¬cond0_6 i) (hc7 : ¬cond0_7 i) (hc10 : cond0_10 i) (hc11 : ¬cond0_11 i) :
    sout0_G_0 c i arg2 harg2 arg3 harg3 arg4 harg4 arg5 harg5 arg6 harg6 arg7 harg7 arg8 harg8 arg9 harg9 hc0 hc3 hc4 hc5 hc6 hc7 hc10 hc11 x0 x1 x2 x3 x4 x5 = first x2 x5 := by
  unfold sout0_G_0
  exact (View.read_writes_full _ _ _ _ _).trans (congrArg₂ first ((View.readAt_full _ _ _).trans (harg4.read_unread _)) ((View.readAt_full _ _ _).trans (harg7.read_unread _)))

/-- Factor 3, a middle point: the product is added. -/
theorem buf_H (hc0 : ¬cond0_0 i) (hc3 : ¬cond0_3 i) (hc4 : cond0_4 i) (hc5 : ¬cond0_5 i) (hc6 : ¬cond0_6 i) (hc7 : ¬cond0_7 i) (hc10 : ¬cond0_10 i) (hc11 : cond0_11 i) :
    sout0_H_0 c i arg2 harg2 arg3 harg3 arg4 harg4 arg5 harg5 arg6 harg6 arg7 harg7 arg8 harg8 arg9 harg9 hc0 hc3 hc4 hc5 hc6 hc7 hc10 hc11 x0 x1 x2 x3 x4 x5 acc = added x2 x5 acc := by
  unfold sout0_H_0
  exact (View.read_writes_full _ _ _ _ _).trans
    (added_congr ((View.readAt_full _ _ _).trans (harg4.read_unread _)) ((View.readAt_full _ _ _).trans (harg7.read_unread _))
      ((View.readAt_full _ _ _).trans (harg9.read_unread _)))

/-- Factor 3, a last point: the product is added and the buffer is written to the result. -/
theorem out_I (hc0 : ¬cond0_0 i) (hc3 : ¬cond0_3 i) (hc4 : cond0_4 i) (hc5 : ¬cond0_5 i) (hc6 : ¬cond0_6 i) (hc7 : cond0_7 i) (hc10 : ¬cond0_10 i) (hc11 : cond0_11 i) :
    out0_I_6 c i arg2 harg2 arg3 harg3 arg4 harg4 arg5 harg5 arg6 harg6 arg7 harg7 arg8 harg8 arg9 harg9 hc0 hc3 hc4 hc5 hc6 hc7 hc10 hc11 x0 x1 x2 x3 x4 x5 acc = k0_pay16 (added x2 x5 acc) := by
  unfold out0_I_6
  exact (View.read_writes_full _ _ _ _ _).trans (congrArg k0_pay16
    ((View.readAt_full _ _ _).trans ((View.read_writes_full _ _ _ _ _).trans
      (added_congr ((View.readAt_full _ _ _).trans (harg4.read_unread _)) ((View.readAt_full _ _ _).trans (harg7.read_unread _))
        ((View.readAt_full _ _ _).trans (harg9.read_unread _))))))

/-- Factor 4, a first point: the buffer ends with the product. -/
theorem buf_J (hc0 : ¬cond0_0 i) (hc3 : ¬cond0_3 i) (hc4 : ¬cond0_4 i) (hc5 : cond0_5 i) (hc6 : ¬cond0_6 i) (hc7 : ¬cond0_7 i) (hc12 : cond0_12 i) (hc13 : ¬cond0_13 i) :
    sout0_J_0 c i arg2 harg2 arg3 harg3 arg4 harg4 arg5 harg5 arg6 harg6 arg7 harg7 arg8 harg8 arg9 harg9 hc0 hc3 hc4 hc5 hc6 hc7 hc12 hc13 x0 x1 x2 x3 x4 x5 = first x3 x5 := by
  unfold sout0_J_0
  exact (View.read_writes_full _ _ _ _ _).trans (congrArg₂ first ((View.readAt_full _ _ _).trans (harg5.read_unread _)) ((View.readAt_full _ _ _).trans (harg7.read_unread _)))

/-- Factor 4, a middle point: the product is added. -/
theorem buf_K (hc0 : ¬cond0_0 i) (hc3 : ¬cond0_3 i) (hc4 : ¬cond0_4 i) (hc5 : cond0_5 i) (hc6 : ¬cond0_6 i) (hc7 : ¬cond0_7 i) (hc12 : ¬cond0_12 i) (hc13 : cond0_13 i) :
    sout0_K_0 c i arg2 harg2 arg3 harg3 arg4 harg4 arg5 harg5 arg6 harg6 arg7 harg7 arg8 harg8 arg9 harg9 hc0 hc3 hc4 hc5 hc6 hc7 hc12 hc13 x0 x1 x2 x3 x4 x5 acc = added x3 x5 acc := by
  unfold sout0_K_0
  exact (View.read_writes_full _ _ _ _ _).trans
    (added_congr ((View.readAt_full _ _ _).trans (harg5.read_unread _)) ((View.readAt_full _ _ _).trans (harg7.read_unread _))
      ((View.readAt_full _ _ _).trans (harg9.read_unread _)))

/-- Factor 4, a last point: the product is added and the buffer is written to the result. -/
theorem out_L (hc0 : ¬cond0_0 i) (hc3 : ¬cond0_3 i) (hc4 : ¬cond0_4 i) (hc5 : cond0_5 i) (hc6 : ¬cond0_6 i) (hc7 : cond0_7 i) (hc12 : ¬cond0_12 i) (hc13 : cond0_13 i) :
    out0_L_6 c i arg2 harg2 arg3 harg3 arg4 harg4 arg5 harg5 arg6 harg6 arg7 harg7 arg8 harg8 arg9 harg9 hc0 hc3 hc4 hc5 hc6 hc7 hc12 hc13 x0 x1 x2 x3 x4 x5 acc = k0_pay16 (added x3 x5 acc) := by
  unfold out0_L_6
  exact (View.read_writes_full _ _ _ _ _).trans (congrArg k0_pay16
    ((View.readAt_full _ _ _).trans ((View.read_writes_full _ _ _ _ _).trans
      (added_congr ((View.readAt_full _ _ _).trans (harg5.read_unread _)) ((View.readAt_full _ _ _).trans (harg7.read_unread _))
        ((View.readAt_full _ _ _).trans (harg9.read_unread _))))))

/-- Factor 5, a first point: the buffer ends with the product. -/
theorem buf_M (hc0 : ¬cond0_0 i) (hc3 : ¬cond0_3 i) (hc4 : ¬cond0_4 i) (hc5 : ¬cond0_5 i) (hc6 : cond0_6 i) (hc7 : ¬cond0_7 i) (hc14 : cond0_14 i) (hc15 : ¬cond0_15 i) :
    sout0_M_0 c i arg2 harg2 arg3 harg3 arg4 harg4 arg5 harg5 arg6 harg6 arg7 harg7 arg8 harg8 arg9 harg9 hc0 hc3 hc4 hc5 hc6 hc7 hc14 hc15 x0 x1 x2 x3 x4 x5 = first x4 x5 := by
  unfold sout0_M_0
  exact (View.read_writes_full _ _ _ _ _).trans (congrArg₂ first ((View.readAt_full _ _ _).trans (harg6.read_unread _)) ((View.readAt_full _ _ _).trans (harg7.read_unread _)))

/-- Factor 5, a middle point: the product is added. -/
theorem buf_N (hc0 : ¬cond0_0 i) (hc3 : ¬cond0_3 i) (hc4 : ¬cond0_4 i) (hc5 : ¬cond0_5 i) (hc6 : cond0_6 i) (hc7 : ¬cond0_7 i) (hc14 : ¬cond0_14 i) (hc15 : cond0_15 i) :
    sout0_N_0 c i arg2 harg2 arg3 harg3 arg4 harg4 arg5 harg5 arg6 harg6 arg7 harg7 arg8 harg8 arg9 harg9 hc0 hc3 hc4 hc5 hc6 hc7 hc14 hc15 x0 x1 x2 x3 x4 x5 acc = added x4 x5 acc := by
  unfold sout0_N_0
  exact (View.read_writes_full _ _ _ _ _).trans
    (added_congr ((View.readAt_full _ _ _).trans (harg6.read_unread _)) ((View.readAt_full _ _ _).trans (harg7.read_unread _))
      ((View.readAt_full _ _ _).trans (harg9.read_unread _)))

/-- Factor 5, a last point: the product is added and the buffer is written to the result. -/
theorem out_O (hc0 : ¬cond0_0 i) (hc3 : ¬cond0_3 i) (hc4 : ¬cond0_4 i) (hc5 : ¬cond0_5 i) (hc6 : cond0_6 i) (hc7 : cond0_7 i) (hc14 : ¬cond0_14 i) (hc15 : cond0_15 i) :
    out0_O_6 c i arg2 harg2 arg3 harg3 arg4 harg4 arg5 harg5 arg6 harg6 arg7 harg7 arg8 harg8 arg9 harg9 hc0 hc3 hc4 hc5 hc6 hc7 hc14 hc15 x0 x1 x2 x3 x4 x5 acc = k0_pay16 (added x4 x5 acc) := by
  unfold out0_O_6
  exact (View.read_writes_full _ _ _ _ _).trans (congrArg k0_pay16
    ((View.readAt_full _ _ _).trans ((View.read_writes_full _ _ _ _ _).trans
      (added_congr ((View.readAt_full _ _ _).trans (harg6.read_unread _)) ((View.readAt_full _ _ _).trans (harg7.read_unread _))
        ((View.readAt_full _ _ _).trans (harg9.read_unread _))))))

end Cases

end Cert.Kernel5Ideal.ProjW

end
-- ==== Proof.ProjW.lean ====
module

public import Idealize.ShloMosaic.Lib.KernelVsHost
public import proofs.«01_k».proof.Proof.ProjWCases
public import proofs.«01_k».proof.Proof.Gen.Reference5Ideal.Read

/-! # The gradient of the input projection for its weights

What the 28 grid points write, the run, and the reference. -/

@[expose] public section

set_option maxRecDepth 16384
set_option maxHeartbeats 4000000

noncomputable section

namespace Cert.Kernel5Ideal.ProjW

open Idealize.ShloMosaic Idealize.ShloMosaic.TcCoe Idealize.ShloMosaic.Tactic Idealize.SL.Sem
open Cert.Kernel5Ideal.Gen
open Idealize.ShloMosaic.Pipeline (Dat)

/-- Column `R` of the five factors side by side. -/
def col (A0 : Vec Ideal S4096x2048 .bf16) (A1 A2 A3 : Vec Ideal S4096x1024 .bf16) (A4 : Vec Ideal S4096x2048 .bf16)
    (k : Fin 4096) (R : Fin 7168) : EReal :=
  if h0 : R.val < 2048 then A0 (ix2 k ⟨R.val, h0⟩)
  else if h1 : R.val < 3072 then A1 (ix2 k ⟨R.val - 2048, by omega⟩)
  else if h2 : R.val < 4096 then A2 (ix2 k ⟨R.val - 3072, by omega⟩)
  else if h3 : R.val < 5120 then A3 (ix2 k ⟨R.val - 4096, by omega⟩)
  else A4 (ix2 k ⟨R.val - 5120, by omega⟩)

/-- The result at an index: column `i 1` of the factors times column `i 2` of the other one. -/
def G (A0 : Vec Ideal S4096x2048 .bf16) (A1 A2 A3 : Vec Ideal S4096x1024 .bf16) (A4 : Vec Ideal S4096x2048 .bf16) (H : Vec Ideal S4096x1024 .bf16) : Vec Ideal S1x7168x1024 .bf16 := fun i =>
  (∑ k : Fin 4096, col A0 A1 A2 A3 A4 k (i 1) * (H (ix2 k (i 2)) : EReal) : EReal)

theorem point_lt (t : Fin cfg0.N) : t.val < 28 := Nat.lt_of_lt_of_eq t.isLt N_0

/-- The blocks of a grid point. -/
theorem index0 : ∀ t : Fin cfg0.N, t.val < 8 → win0_0.index t = ![t.val % 4, t.val / 4] := (by decide +kernel : ∀ t : Fin grid0.N, _)
theorem index1 : ∀ t : Fin cfg0.N, t.val / 4 % 7 = 2 → win0_1.index t = ![t.val % 4, 0] := (by decide +kernel : ∀ t : Fin grid0.N, _)
theorem index2 : ∀ t : Fin cfg0.N, t.val / 4 % 7 = 3 → win0_2.index t = ![t.val % 4, 0] := (by decide +kernel : ∀ t : Fin grid0.N, _)
theorem index3 : ∀ t : Fin cfg0.N, t.val / 4 % 7 = 4 → win0_3.index t = ![t.val % 4, 0] := (by decide +kernel : ∀ t : Fin grid0.N, _)
theorem index4 : ∀ t : Fin cfg0.N, 20 ≤ t.val → win0_4.index t = ![t.val % 4, t.val / 4 - 5] := (by decide +kernel : ∀ t : Fin grid0.N, _)
theorem index5 : ∀ t : Fin cfg0.N, win0_5.index t = ![t.val % 4, 0] := (by decide +kernel : ∀ t : Fin grid0.N, _)
theorem index6 : ∀ t : Fin cfg0.N, win0_6.index t = ![0, t.val / 4, 0] := (by decide +kernel : ∀ t : Fin grid0.N, _)

theorem blk0_apply (A : Vec Ideal S4096x2048 .bf16) (t : Fin cfg0.N) (h : t.val < 8) (y : S1024x1024.Idx) :
    ((cfg0.win 0).blk t).view.read (Elt Ideal) A y
      = A (ix2 ⟨t.val % 4 * 1024 + (y 0).val, by have := (y 0).isLt; simp at this; omega⟩ ⟨t.val / 4 * 1024 + (y 1).val, by have := (y 1).isLt; have := point_lt t; simp at *; omega⟩) := by
  rw [View.read_apply, cast_eq]
  apply congrArg A
  funext a
  apply Fin.ext
  refine (Pipeline.Window.rect_emb_val win0_0 t y a rfl).trans ?_
  rw [index0 t h]
  fin_cases a
  · simp
  · simp

theorem blk1_apply (A : Vec Ideal S4096x1024 .bf16) (t : Fin cfg0.N) (h : t.val / 4 % 7 = 2) (y : S1024x1024.Idx) :
    ((cfg0.win 1).blk t).view.read (Elt Ideal) A y
      = A (ix2 ⟨t.val % 4 * 1024 + (y 0).val, by have := (y 0).isLt; simp at this; omega⟩ (y 1)) := by
  rw [View.read_apply, cast_eq]
  apply congrArg A
  funext a
  apply Fin.ext
  refine (Pipeline.Window.rect_emb_val win0_1 t y a rfl).trans ?_
  rw [index1 t h]
  fin_cases a
  · simp
  · simp

theorem blk2_apply (A : Vec Ideal S4096x1024 .bf16) (t : Fin cfg0.N) (h : t.val / 4 % 7 = 3) (y : S1024x1024.Idx) :
    ((cfg0.win 2).blk t).view.read (Elt Ideal) A y
      = A (ix2 ⟨t.val % 4 * 1024 + (y 0).val, by have := (y 0).isLt; simp at this; omega⟩ (y 1)) := by
  rw [View.read_apply, cast_eq]
  apply congrArg A
  funext a
  apply Fin.ext
  refine (Pipeline.Window.rect_emb_val win0_2 t y a rfl).trans ?_
  rw [index2 t h]
  fin_cases a
  · simp
  · simp

theorem blk3_apply (A : Vec Ideal S4096x1024 .bf16) (t : Fin cfg0.N) (h : t.val / 4 % 7 = 4) (y : S1024x1024.Idx) :
    ((cfg0.win 3).blk t).view.read (Elt Ideal) A y
      = A (ix2 ⟨t.val % 4 * 1024 + (y 0).val, by have := (y 0).isLt; simp at this; omega⟩ (y 1)) := by
  rw [View.read_apply, cast_eq]
  apply congrArg A
  funext a
  apply Fin.ext
  refine (Pipeline.Window.rect_emb_val win0_3 t y a rfl).trans ?_
  rw [index3 t h]
  fin_cases a
  · simp
  · simp

theorem blk4_apply (A : Vec Ideal S4096x2048 .bf16) (t : Fin cfg0.N) (h : 20 ≤ t.val) (y : S1024x1024.Idx) :
    ((cfg0.win 4).blk t).view.read (Elt Ideal) A y
      = A (ix2 ⟨t.val % 4 * 1024 + (y 0).val, by have := (y 0).isLt; simp at this; omega⟩ ⟨(t.val / 4 - 5) * 1024 + (y 1).val, by have := (y 1).isLt; have := point_lt t; simp at *; omega⟩) := by
  rw [View.read_apply, cast_eq]
  apply congrArg A
  funext a
  apply Fin.ext
  refine (Pipeline.Window.rect_emb_val win0_4 t y a rfl).trans ?_
  rw [index4 t h]
  fin_cases a
  · simp
  · simp

theorem blk5_apply (A : Vec Ideal S4096x1024 .bf16) (t : Fin cfg0.N) (y : S1024x1024.Idx) :
    ((cfg0.win 5).blk t).view.read (Elt Ideal) A y
      = A (ix2 ⟨t.val % 4 * 1024 + (y 0).val, by have := (y 0).isLt; simp at this; omega⟩ (y 1)) := by
  rw [View.read_apply, cast_eq]
  apply congrArg A
  funext a
  apply Fin.ext
  refine (Pipeline.Window.rect_emb_val win0_5 t y a rfl).trans ?_
  rw [index5 t]
  fin_cases a
  · simp
  · simp

theorem blk6_apply (A : Vec Ideal S1x7168x1024 .bf16) (t : Fin cfg0.N) (y : S1x1024x1024.Idx) :
    ((cfg0.win 6).blk t).view.read (Elt Ideal) A y
      = A (ix3 (y 0) ⟨t.val / 4 * 1024 + (y 1).val, by have := (y 1).isLt; have := point_lt t; simp at *; omega⟩ (y 2)) := by
  rw [View.read_apply, cast_eq]
  apply congrArg A
  funext a
  apply Fin.ext
  refine (Pipeline.Window.rect_emb_val win0_6 t y a rfl).trans ?_
  rw [index6 t]
  fin_cases a
  · simp
  · simp
  · simp

variable (m : (ℓ : Loc nD τ sig) → Buf (Elt Ideal) ℓ) (ρ : Dev nD → PrngReg)

/-- The product of piece `k` for row `R` of the result. -/
def piece (A0 : Vec Ideal S4096x2048 .bf16) (A1 A2 A3 : Vec Ideal S4096x1024 .bf16) (A4 : Vec Ideal S4096x2048 .bf16) (H : Vec Ideal S4096x1024 .bf16) (k : Fin 4) (R : Fin 7168) (s : Fin 1024) : EReal :=
  ∑ l : Fin 1024, col A0 A1 A2 A3 A4 ⟨k.val * 1024 + l.val, by omega⟩ R * (H (ix2 ⟨k.val * 1024 + l.val, by omega⟩ s) : EReal)

theorem col_0 (A0 : Vec Ideal S4096x2048 .bf16) (A1 A2 A3 : Vec Ideal S4096x1024 .bf16) (A4 : Vec Ideal S4096x2048 .bf16)
    (k : Fin 4096) (R : Fin 7168) (h : R.val < 2048) (q : Fin 2048) (hq : q.val + 0 = R.val) :
    col A0 A1 A2 A3 A4 k R = (A0 (ix2 k q) : EReal) := by
  unfold col
  rw [dif_pos (by omega)]
  exact congrArg A0 (congrArg (ix2 k) (Fin.ext (by show R.val = q.val; omega)))

/-- At a point of factor 1 the product of the blocks is the point's piece. -/
theorem sum_0 (c : Dev nD) (t : Fin cfg0.N) (h : t.val < 8) (k : Fin 4) (hk : t.val % 4 = k.val) (r : Fin 1024) (R : Fin 7168)
    (hR : t.val / 4 * 1024 + r.val = R.val) (s : Fin 1024) :
    dotAt (iblk m c 0 t) (iblk m c 5 t) r s = piece (V m c main_arg0) (V m c main_arg1) (V m c main_arg2) (V m c main_arg3) (V m c main_arg4) (V m c main_arg5) k R s := by
  have hN := point_lt t
  refine Finset.sum_congr rfl fun l _ => ?_
  refine congrArg₂ (· * ·) (((blk0_apply (V m c main_arg0) t h (ix2 l r)).trans (congrArg (V m c main_arg0 : Vec Ideal S4096x2048 .bf16) ?_)).trans
      (col_0 _ _ _ _ _ _ R (by omega) ⟨R.val - 0, by omega⟩ (by show R.val - 0 + 0 = R.val; omega)).symm)
    ((blk5_apply (V m c main_arg5) t (ix2 l s)).trans (congrArg (V m c main_arg5 : Vec Ideal S4096x1024 .bf16) ?_))
  · exact congrArg₂ ix2 (Fin.ext (by show t.val % 4 * 1024 + l.val = k.val * 1024 + l.val; rw [hk]))
      (Fin.ext (by show t.val / 4 * 1024 + r.val = R.val - 0; omega))
  · exact congrArg₂ ix2 (Fin.ext (by show t.val % 4 * 1024 + l.val = k.val * 1024 + l.val; rw [hk])) rfl

theorem col_1 (A0 : Vec Ideal S4096x2048 .bf16) (A1 A2 A3 : Vec Ideal S4096x1024 .bf16) (A4 : Vec Ideal S4096x2048 .bf16)
    (k : Fin 4096) (R : Fin 7168) (h : 2048 ≤ R.val ∧ R.val < 3072) (q : Fin 1024) (hq : q.val + 2048 = R.val) :
    col A0 A1 A2 A3 A4 k R = (A1 (ix2 k q) : EReal) := by
  unfold col
  rw [dif_neg (by omega), dif_pos (by omega)]
  exact congrArg A1 (congrArg (ix2 k) (Fin.ext (by show R.val - 2048 = q.val; omega)))

/-- At a point of factor 2 the product of the blocks is the point's piece. -/
theorem sum_1 (c : Dev nD) (t : Fin cfg0.N) (h : t.val / 4 % 7 = 2) (k : Fin 4) (hk : t.val % 4 = k.val) (r : Fin 1024) (R : Fin 7168)
    (hR : t.val / 4 * 1024 + r.val = R.val) (s : Fin 1024) :
    dotAt (iblk m c 1 t) (iblk m c 5 t) r s = piece (V m c main_arg0) (V m c main_arg1) (V m c main_arg2) (V m c main_arg3) (V m c main_arg4) (V m c main_arg5) k R s := by
  have hN := point_lt t
  refine Finset.sum_congr rfl fun l _ => ?_
  refine congrArg₂ (· * ·) (((blk1_apply (V m c main_arg1) t h (ix2 l r)).trans (congrArg (V m c main_arg1 : Vec Ideal S4096x1024 .bf16) ?_)).trans
      (col_1 _ _ _ _ _ _ R (by omega) ⟨R.val - 2048, by omega⟩ (by show R.val - 2048 + 2048 = R.val; omega)).symm)
    ((blk5_apply (V m c main_arg5) t (ix2 l s)).trans (congrArg (V m c main_arg5 : Vec Ideal S4096x1024 .bf16) ?_))
  · exact congrArg₂ ix2 (Fin.ext (by show t.val % 4 * 1024 + l.val = k.val * 1024 + l.val; rw [hk]))
      (Fin.ext (by show r.val = R.val - 2048; omega))
  · exact congrArg₂ ix2 (Fin.ext (by show t.val % 4 * 1024 + l.val = k.val * 1024 + l.val; rw [hk])) rfl

theorem col_2 (A0 : Vec Ideal S4096x2048 .bf16) (A1 A2 A3 : Vec Ideal S4096x1024 .bf16) (A4 : Vec Ideal S4096x2048 .bf16)
    (k : Fin 4096) (R : Fin 7168) (h : 3072 ≤ R.val ∧ R.val < 4096) (q : Fin 1024) (hq : q.val + 3072 = R.val) :
    col A0 A1 A2 A3 A4 k R = (A2 (ix2 k q) : EReal) := by
  unfold col
  rw [dif_neg (by omega), dif_neg (by omega), dif_pos (by omega)]
  exact congrArg A2 (congrArg (ix2 k) (Fin.ext (by show R.val - 3072 = q.val; omega)))

/-- At a point of factor 3 the product of the blocks is the point's piece. -/
theorem sum_2 (c : Dev nD) (t : Fin cfg0.N) (h : t.val / 4 % 7 = 3) (k : Fin 4) (hk : t.val % 4 = k.val) (r : Fin 1024) (R : Fin 7168)
    (hR : t.val / 4 * 1024 + r.val = R.val) (s : Fin 1024) :
    dotAt (iblk m c 2 t) (iblk m c 5 t) r s = piece (V m c main_arg0) (V m c main_arg1) (V m c main_arg2) (V m c main_arg3) (V m c main_arg4) (V m c main_arg5) k R s := by
  have hN := point_lt t
  refine Finset.sum_congr rfl fun l _ => ?_
  refine congrArg₂ (· * ·) (((blk2_apply (V m c main_arg2) t h (ix2 l r)).trans (congrArg (V m c main_arg2 : Vec Ideal S4096x1024 .bf16) ?_)).trans
      (col_2 _ _ _ _ _ _ R (by omega) ⟨R.val - 3072, by omega⟩ (by show R.val - 3072 + 3072 = R.val; omega)).symm)
    ((blk5_apply (V m c main_arg5) t (ix2 l s)).trans (congrArg (V m c main_arg5 : Vec Ideal S4096x1024 .bf16) ?_))
  · exact congrArg₂ ix2 (Fin.ext (by show t.val % 4 * 1024 + l.val = k.val * 1024 + l.val; rw [hk]))
      (Fin.ext (by show r.val = R.val - 3072; omega))
  · exact congrArg₂ ix2 (Fin.ext (by show t.val % 4 * 1024 + l.val = k.val * 1024 + l.val; rw [hk])) rfl

theorem col_3 (A0 : Vec Ideal S4096x2048 .bf16) (A1 A2 A3 : Vec Ideal S4096x1024 .bf16) (A4 : Vec Ideal S4096x2048 .bf16)
    (k : Fin 4096) (R : Fin 7168) (h : 4096 ≤ R.val ∧ R.val < 5120) (q : Fin 1024) (hq : q.val + 4096 = R.val) :
    col A0 A1 A2 A3 A4 k R = (A3 (ix2 k q) : EReal) := by
  unfold col
  rw [dif_neg (by omega), dif_neg (by omega), dif_neg (by omega), dif_pos (by omega)]
  exact congrArg A3 (congrArg (ix2 k) (Fin.ext (by show R.val - 4096 = q.val; omega)))

/-- At a point of factor 4 the product of the blocks is the point's piece. -/
theorem sum_3 (c : Dev nD) (t : Fin cfg0.N) (h : t.val / 4 % 7 = 4) (k : Fin 4) (hk : t.val % 4 = k.val) (r : Fin 1024) (R : Fin 7168)
    (hR : t.val / 4 * 1024 + r.val = R.val) (s : Fin 1024) :
    dotAt (iblk m c 3 t) (iblk m c 5 t) r s = piece (V m c main_arg0) (V m c main_arg1) (V m c main_arg2) (V m c main_arg3) (V m c main_arg4) (V m c main_arg5) k R s := by
  have hN := point_lt t
  refine Finset.sum_congr rfl fun l _ => ?_
  refine congrArg₂ (· * ·) (((blk3_apply (V m c main_arg3) t h (ix2 l r)).trans (congrArg (V m c main_arg3 : Vec Ideal S4096x1024 .bf16) ?_)).trans
      (col_3 _ _ _ _ _ _ R (by omega) ⟨R.val - 4096, by omega⟩ (by show R.val - 4096 + 4096 = R.val; omega)).symm)
    ((blk5_apply (V m c main_arg5) t (ix2 l s)).trans (congrArg (V m c main_arg5 : Vec Ideal S4096x1024 .bf16) ?_))
  · exact congrArg₂ ix2 (Fin.ext (by show t.val % 4 * 1024 + l.val = k.val * 1024 + l.val; rw [hk]))
      (Fin.ext (by show r.val = R.val - 4096; omega))
  · exact congrArg₂ ix2 (Fin.ext (by show t.val % 4 * 1024 + l.val = k.val * 1024 + l.val; rw [hk])) rfl

theorem col_4 (A0 : Vec Ideal S4096x2048 .bf16) (A1 A2 A3 : Vec Ideal S4096x1024 .bf16) (A4 : Vec Ideal S4096x2048 .bf16)
    (k : Fin 4096) (R : Fin 7168) (h : 5120 ≤ R.val) (q : Fin 2048) (hq : q.val + 5120 = R.val) :
    col A0 A1 A2 A3 A4 k R = (A4 (ix2 k q) : EReal) := by
  unfold col
  rw [dif_neg (by omega), dif_neg (by omega), dif_neg (by omega), dif_neg (by omega)]
  exact congrArg A4 (congrArg (ix2 k) (Fin.ext (by show R.val - 5120 = q.val; omega)))

/-- At a point of factor 5 the product of the blocks is the point's piece. -/
theorem sum_4 (c : Dev nD) (t : Fin cfg0.N) (h : 20 ≤ t.val) (k : Fin 4) (hk : t.val % 4 = k.val) (r : Fin 1024) (R : Fin 7168)
    (hR : t.val / 4 * 1024 + r.val = R.val) (s : Fin 1024) :
    dotAt (iblk m c 4 t) (iblk m c 5 t) r s = piece (V m c main_arg0) (V m c main_arg1) (V m c main_arg2) (V m c main_arg3) (V m c main_arg4) (V m c main_arg5) k R s := by
  have hN := point_lt t
  refine Finset.sum_congr rfl fun l _ => ?_
  refine congrArg₂ (· * ·) (((blk4_apply (V m c main_arg4) t h (ix2 l r)).trans (congrArg (V m c main_arg4 : Vec Ideal S4096x2048 .bf16) ?_)).trans
      (col_4 _ _ _ _ _ _ R (by omega) ⟨R.val - 5120, by omega⟩ (by show R.val - 5120 + 5120 = R.val; omega)).symm)
    ((blk5_apply (V m c main_arg5) t (ix2 l s)).trans (congrArg (V m c main_arg5 : Vec Ideal S4096x1024 .bf16) ?_))
  · exact congrArg₂ ix2 (Fin.ext (by show t.val % 4 * 1024 + l.val = k.val * 1024 + l.val; rw [hk]))
      (Fin.ext (by show (t.val / 4 - 5) * 1024 + r.val = R.val - 5120; omega))
  · exact congrArg₂ ix2 (Fin.ext (by show t.val % 4 * 1024 + l.val = k.val * 1024 + l.val; rw [hk])) rfl

/-- The buffer after the first point of a row block. -/
theorem buf_first (c : Dev nD) (j : Fin 7) (r : Fin 1024) (R : Fin 7168) (hR : j.val * 1024 + r.val = R.val) (s : Fin 1024)
    (n : ℕ) (hn : n = 4 * j.val) (h : n < cfg0.N) :
    ((outsAt0 m c n h).2 (ix2 r s) : EReal) = piece (V m c main_arg0) (V m c main_arg1) (V m c main_arg2) (V m c main_arg3) (V m c main_arg4) (V m c main_arg5) 0 R s := by
  have hj := j.isLt
  rcases (by omega : j.val < 2 ∨ j.val = 2 ∨ j.val = 3 ∨ j.val = 4 ∨ 5 ≤ j.val) with g | g | g | g | g
  · refine (congrFun (congrArg Prod.snd (outsAt0_A m c ⟨n, h⟩ (by show n < 8; omega) (by show n % 4 = 0; omega) (by show ¬1 ≤ n % 4; omega) (by show ¬n / 4 % 7 = 2; omega) (by show ¬n / 4 % 7 = 3; omega) (by show ¬n / 4 % 7 = 4; omega) (by show ¬20 ≤ n; omega) (by show ¬n % 4 = 3; omega))) _).trans ?_
    dsimp only
    rw [buf_A, first_apply]
    exact sum_0 m c ⟨n, h⟩ (by show n < 8; omega) 0 (by show n % 4 = 0; omega) r R (by show n / 4 * 1024 + r.val = R.val; omega) s
  · refine (congrFun (congrArg Prod.snd (outsAt0_D m c ⟨n, h⟩ (by show ¬n < 8; omega) (by show n / 4 % 7 = 2; omega) (by show ¬n / 4 % 7 = 3; omega) (by show ¬n / 4 % 7 = 4; omega) (by show ¬20 ≤ n; omega) (by show ¬n % 4 = 3; omega) (by show n % 4 = 0; omega) (by show ¬1 ≤ n % 4; omega))) _).trans ?_
    dsimp only
    rw [buf_D, first_apply]
    exact sum_1 m c ⟨n, h⟩ (by show n / 4 % 7 = 2; omega) 0 (by show n % 4 = 0; omega) r R (by show n / 4 * 1024 + r.val = R.val; omega) s
  · refine (congrFun (congrArg Prod.snd (outsAt0_G m c ⟨n, h⟩ (by show ¬n < 8; omega) (by show ¬n / 4 % 7 = 2; omega) (by show n / 4 % 7 = 3; omega) (by show ¬n / 4 % 7 = 4; omega) (by show ¬20 ≤ n; omega) (by show ¬n % 4 = 3; omega) (by show n % 4 = 0; omega) (by show ¬1 ≤ n % 4; omega))) _).trans ?_
    dsimp only
    rw [buf_G, first_apply]
    exact sum_2 m c ⟨n, h⟩ (by show n / 4 % 7 = 3; omega) 0 (by show n % 4 = 0; omega) r R (by show n / 4 * 1024 + r.val = R.val; omega) s
  · refine (congrFun (congrArg Prod.snd (outsAt0_J m c ⟨n, h⟩ (by show ¬n < 8; omega) (by show ¬n / 4 % 7 = 2; omega) (by show ¬n / 4 % 7 = 3; omega) (by show n / 4 % 7 = 4; omega) (by show ¬20 ≤ n; omega) (by show ¬n % 4 = 3; omega) (by show n % 4 = 0; omega) (by show ¬1 ≤ n % 4; omega))) _).trans ?_
    dsimp only
    rw [buf_J, first_apply]
    exact sum_3 m c ⟨n, h⟩ (by show n / 4 % 7 = 4; omega) 0 (by show n % 4 = 0; omega) r R (by show n / 4 * 1024 + r.val = R.val; omega) s
  · refine (congrFun (congrArg Prod.snd (outsAt0_M m c ⟨n, h⟩ (by show ¬n < 8; omega) (by show ¬n / 4 % 7 = 2; omega) (by show ¬n / 4 % 7 = 3; omega) (by show ¬n / 4 % 7 = 4; omega) (by show 20 ≤ n; omega) (by show ¬n % 4 = 3; omega) (by show n % 4 = 0; omega) (by show ¬1 ≤ n % 4; omega))) _).trans ?_
    dsimp only
    rw [buf_M, first_apply]
    exact sum_4 m c ⟨n, h⟩ (by show 20 ≤ n; omega) 0 (by show n % 4 = 0; omega) r R (by show n / 4 * 1024 + r.val = R.val; omega) s

/-- The buffer after a middle point of a row block. -/
theorem buf_middle (c : Dev nD) (j : Fin 7) (r : Fin 1024) (R : Fin 7168) (hR : j.val * 1024 + r.val = R.val) (s : Fin 1024)
    (k : Fin 4) (h1 : 1 ≤ k.val) (h2 : k.val < 3) (n : ℕ) (hn : n + 1 = 4 * j.val + k.val) (h : n + 1 < cfg0.N) :
    ((outsAt0 m c (n + 1) h).2 (ix2 r s) : EReal)
      = (outsAt0 m c n (Nat.lt_of_succ_lt h)).2 (ix2 r s) + piece (V m c main_arg0) (V m c main_arg1) (V m c main_arg2) (V m c main_arg3) (V m c main_arg4) (V m c main_arg5) k R s := by
  have hj := j.isLt
  rcases (by omega : j.val < 2 ∨ j.val = 2 ∨ j.val = 3 ∨ j.val = 4 ∨ 5 ≤ j.val) with g | g | g | g | g
  · refine (congrFun (congrArg Prod.snd (outsAt0_B m c ⟨n + 1, h⟩ (by show (n + 1) < 8; omega) (by show ¬(n + 1) % 4 = 0; omega) (by show 1 ≤ (n + 1) % 4; omega) (by show ¬(n + 1) / 4 % 7 = 2; omega) (by show ¬(n + 1) / 4 % 7 = 3; omega) (by show ¬(n + 1) / 4 % 7 = 4; omega) (by show ¬20 ≤ (n + 1); omega) (by show ¬(n + 1) % 4 = 3; omega))) _).trans ?_
    dsimp only
    rw [buf_B, added_apply]
    exact congrArg₂ (· + ·) rfl (sum_0 m c ⟨n + 1, h⟩ (by show (n + 1) < 8; omega) k (by show (n + 1) % 4 = k.val; omega) r R (by show (n + 1) / 4 * 1024 + r.val = R.val; omega) s)
  · refine (congrFun (congrArg Prod.snd (outsAt0_E m c ⟨n + 1, h⟩ (by show ¬(n + 1) < 8; omega) (by show (n + 1) / 4 % 7 = 2; omega) (by show ¬(n + 1) / 4 % 7 = 3; omega) (by show ¬(n + 1) / 4 % 7 = 4; omega) (by show ¬20 ≤ (n + 1); omega) (by show ¬(n + 1) % 4 = 3; omega) (by show ¬(n + 1) % 4 = 0; omega) (by show 1 ≤ (n + 1) % 4; omega))) _).trans ?_
    dsimp only
    rw [buf_E, added_apply]
    exact congrArg₂ (· + ·) rfl (sum_1 m c ⟨n + 1, h⟩ (by show (n + 1) / 4 % 7 = 2; omega) k (by show (n + 1) % 4 = k.val; omega) r R (by show (n + 1) / 4 * 1024 + r.val = R.val; omega) s)
  · refine (congrFun (congrArg Prod.snd (outsAt0_H m c ⟨n + 1, h⟩ (by show ¬(n + 1) < 8; omega) (by show ¬(n + 1) / 4 % 7 = 2; omega) (by show (n + 1) / 4 % 7 = 3; omega) (by show ¬(n + 1) / 4 % 7 = 4; omega) (by show ¬20 ≤ (n + 1); omega) (by show ¬(n + 1) % 4 = 3; omega) (by show ¬(n + 1) % 4 = 0; omega) (by show 1 ≤ (n + 1) % 4; omega))) _).trans ?_
    dsimp only
    rw [buf_H, added_apply]
    exact congrArg₂ (· + ·) rfl (sum_2 m c ⟨n + 1, h⟩ (by show (n + 1) / 4 % 7 = 3; omega) k (by show (n + 1) % 4 = k.val; omega) r R (by show (n + 1) / 4 * 1024 + r.val = R.val; omega) s)
  · refine (congrFun (congrArg Prod.snd (outsAt0_K m c ⟨n + 1, h⟩ (by show ¬(n + 1) < 8; omega) (by show ¬(n + 1) / 4 % 7 = 2; omega) (by show ¬(n + 1) / 4 % 7 = 3; omega) (by show (n + 1) / 4 % 7 = 4; omega) (by show ¬20 ≤ (n + 1); omega) (by show ¬(n + 1) % 4 = 3; omega) (by show ¬(n + 1) % 4 = 0; omega) (by show 1 ≤ (n + 1) % 4; omega))) _).trans ?_
    dsimp only
    rw [buf_K, added_apply]
    exact congrArg₂ (· + ·) rfl (sum_3 m c ⟨n + 1, h⟩ (by show (n + 1) / 4 % 7 = 4; omega) k (by show (n + 1) % 4 = k.val; omega) r R (by show (n + 1) / 4 * 1024 + r.val = R.val; omega) s)
  · refine (congrFun (congrArg Prod.snd (outsAt0_N m c ⟨n + 1, h⟩ (by show ¬(n + 1) < 8; omega) (by show ¬(n + 1) / 4 % 7 = 2; omega) (by show ¬(n + 1) / 4 % 7 = 3; omega) (by show ¬(n + 1) / 4 % 7 = 4; omega) (by show 20 ≤ (n + 1); omega) (by show ¬(n + 1) % 4 = 3; omega) (by show ¬(n + 1) % 4 = 0; omega) (by show 1 ≤ (n + 1) % 4; omega))) _).trans ?_
    dsimp only
    rw [buf_N, added_apply]
    exact congrArg₂ (· + ·) rfl (sum_4 m c ⟨n + 1, h⟩ (by show 20 ≤ (n + 1); omega) k (by show (n + 1) % 4 = k.val; omega) r R (by show (n + 1) / 4 * 1024 + r.val = R.val; omega) s)

/-- The block that the last point of a row block leaves. -/
theorem out_last (c : Dev nD) (j : Fin 7) (r : Fin 1024) (R : Fin 7168) (hR : j.val * 1024 + r.val = R.val) (s : Fin 1024)
    (n : ℕ) (hn : n + 1 = 4 * j.val + 3) (h : n + 1 < cfg0.N) :
    ((outsAt0 m c (n + 1) h).1 (ix3 0 r s) : EReal)
      = (outsAt0 m c n (Nat.lt_of_succ_lt h)).2 (ix2 r s) + piece (V m c main_arg0) (V m c main_arg1) (V m c main_arg2) (V m c main_arg3) (V m c main_arg4) (V m c main_arg5) 3 R s := by
  have hj := j.isLt
  rcases (by omega : j.val < 2 ∨ j.val = 2 ∨ j.val = 3 ∨ j.val = 4 ∨ 5 ≤ j.val) with g | g | g | g | g
  · refine (congrFun (congrArg Prod.fst (outsAt0_C m c ⟨n + 1, h⟩ (by show (n + 1) < 8; omega) (by show ¬(n + 1) % 4 = 0; omega) (by show 1 ≤ (n + 1) % 4; omega) (by show ¬(n + 1) / 4 % 7 = 2; omega) (by show ¬(n + 1) / 4 % 7 = 3; omega) (by show ¬(n + 1) / 4 % 7 = 4; omega) (by show ¬20 ≤ (n + 1); omega) (by show (n + 1) % 4 = 3; omega))) _).trans ?_
    dsimp only
    rw [out_C, written_apply, added_apply]
    exact congrArg₂ (· + ·) rfl (sum_0 m c ⟨n + 1, h⟩ (by show (n + 1) < 8; omega) 3 (by show (n + 1) % 4 = 3; omega) r R (by show (n + 1) / 4 * 1024 + r.val = R.val; omega) s)
  · refine (congrFun (congrArg Prod.fst (outsAt0_F m c ⟨n + 1, h⟩ (by show ¬(n + 1) < 8; omega) (by show (n + 1) / 4 % 7 = 2; omega) (by show ¬(n + 1) / 4 % 7 = 3; omega) (by show ¬(n + 1) / 4 % 7 = 4; omega) (by show ¬20 ≤ (n + 1); omega) (by show (n + 1) % 4 = 3; omega) (by show ¬(n + 1) % 4 = 0; omega) (by show 1 ≤ (n + 1) % 4; omega))) _).trans ?_
    dsimp only
    rw [out_F, written_apply, added_apply]
    exact congrArg₂ (· + ·) rfl (sum_1 m c ⟨n + 1, h⟩ (by show (n + 1) / 4 % 7 = 2; omega) 3 (by show (n + 1) % 4 = 3; omega) r R (by show (n + 1) / 4 * 1024 + r.val = R.val; omega) s)
  · refine (congrFun (congrArg Prod.fst (outsAt0_I m c ⟨n + 1, h⟩ (by show ¬(n + 1) < 8; omega) (by show ¬(n + 1) / 4 % 7 = 2; omega) (by show (n + 1) / 4 % 7 = 3; omega) (by show ¬(n + 1) / 4 % 7 = 4; omega) (by show ¬20 ≤ (n + 1); omega) (by show (n + 1) % 4 = 3; omega) (by show ¬(n + 1) % 4 = 0; omega) (by show 1 ≤ (n + 1) % 4; omega))) _).trans ?_
    dsimp only
    rw [out_I, written_apply, added_apply]
    exact congrArg₂ (· + ·) rfl (sum_2 m c ⟨n + 1, h⟩ (by show (n + 1) / 4 % 7 = 3; omega) 3 (by show (n + 1) % 4 = 3; omega) r R (by show (n + 1) / 4 * 1024 + r.val = R.val; omega) s)
  · refine (congrFun (congrArg Prod.fst (outsAt0_L m c ⟨n + 1, h⟩ (by show ¬(n + 1) < 8; omega) (by show ¬(n + 1) / 4 % 7 = 2; omega) (by show ¬(n + 1) / 4 % 7 = 3; omega) (by show (n + 1) / 4 % 7 = 4; omega) (by show ¬20 ≤ (n + 1); omega) (by show (n + 1) % 4 = 3; omega) (by show ¬(n + 1) % 4 = 0; omega) (by show 1 ≤ (n + 1) % 4; omega))) _).trans ?_
    dsimp only
    rw [out_L, written_apply, added_apply]
    exact congrArg₂ (· + ·) rfl (sum_3 m c ⟨n + 1, h⟩ (by show (n + 1) / 4 % 7 = 4; omega) 3 (by show (n + 1) % 4 = 3; omega) r R (by show (n + 1) / 4 * 1024 + r.val = R.val; omega) s)
  · refine (congrFun (congrArg Prod.fst (outsAt0_O m c ⟨n + 1, h⟩ (by show ¬(n + 1) < 8; omega) (by show ¬(n + 1) / 4 % 7 = 2; omega) (by show ¬(n + 1) / 4 % 7 = 3; omega) (by show ¬(n + 1) / 4 % 7 = 4; omega) (by show 20 ≤ (n + 1); omega) (by show (n + 1) % 4 = 3; omega) (by show ¬(n + 1) % 4 = 0; omega) (by show 1 ≤ (n + 1) % 4; omega))) _).trans ?_
    dsimp only
    rw [out_O, written_apply, added_apply]
    exact congrArg₂ (· + ·) rfl (sum_4 m c ⟨n + 1, h⟩ (by show 20 ≤ (n + 1); omega) 3 (by show (n + 1) % 4 = 3; omega) r R (by show (n + 1) / 4 * 1024 + r.val = R.val; omega) s)

/-- The four pieces are the whole contraction. -/
theorem pieces (A0 : Vec Ideal S4096x2048 .bf16) (A1 A2 A3 : Vec Ideal S4096x1024 .bf16) (A4 : Vec Ideal S4096x2048 .bf16) (H : Vec Ideal S4096x1024 .bf16) (R : Fin 7168) (s : Fin 1024) :
    piece A0 A1 A2 A3 A4 H 0 R s + piece A0 A1 A2 A3 A4 H 1 R s + piece A0 A1 A2 A3 A4 H 2 R s + piece A0 A1 A2 A3 A4 H 3 R s
      = (∑ k : Fin 4096, col A0 A1 A2 A3 A4 k R * (H (ix2 k s) : EReal) : EReal) := by
  rw [Fin.sum_univ_tiles 4 1024 (by decide) (fun k : Fin 4096 => col A0 A1 A2 A3 A4 k R * (H (ix2 k s) : EReal)), Fin.sum_univ_four]
  rfl

/-- What the last point of a row block writes back. -/
theorem last_eq (c : Dev nD) (j : Fin 7) (r : Fin 1024) (R : Fin 7168) (hR : j.val * 1024 + r.val = R.val) (s : Fin 1024)
    (n : ℕ) (hn : n = 4 * j.val + 3) (h : n < cfg0.N) :
    ((outsAt0 m c n h).1 (ix3 0 r s) : EReal) = G (V m c main_arg0) (V m c main_arg1) (V m c main_arg2) (V m c main_arg3) (V m c main_arg4) (V m c main_arg5) (ix3 (0 : Fin 1) R s : S1x7168x1024.Idx) := by
  subst hn
  rw [out_last m c j r R hR s (4 * j.val + 2) rfl h, buf_middle m c j r R hR s 2 (by decide) (by decide) (4 * j.val + 1) rfl,
    buf_middle m c j r R hR s 1 (by decide) (by decide) (4 * j.val) rfl, buf_first m c j r R hR s _ rfl]
  exact pieces _ _ _ _ _ _ _ _

/-- What a last point writes back is its block of `G`. -/
theorem flushed_eq (c : Dev nD) (t : Fin cfg0.N) (hf : (cfg0.win 6).flush t = true) :
    (dats m 0 c).flushed 6 t = ((cfg0.win 6).blk t).view.read (Elt Ideal) (G (V m c main_arg0) (V m c main_arg1) (V m c main_arg2) (V m c main_arg3) (V m c main_arg4) (V m c main_arg5)) := by
  have ht := (flush0_6 t).mp hf
  have hN := point_lt t
  have e : (dats m 0 c).flushed 6 t = (cfg0.win 6).cut (grid0.coords t) ((outsAt0 m c t.val t.isLt).1) := by
    show (cfg0.win 6).cut (grid0.coords t) ((dats m 0 c).after 6 t) = _
    rw [after0_6]
  rw [e]
  funext y
  change (outsAt0 m c t.val t.isLt).1 (y : S1x1024x1024.Idx) = _
  obtain ⟨z, r, s, rfl⟩ : ∃ (z : Fin 1) (r s : Fin 1024), (y : S1x1024x1024.Idx) = ix3 z r s := ⟨y 0, y 1, y 2, eq_ix3 y⟩
  obtain rfl : z = 0 := Subsingleton.elim _ _
  refine (last_eq m c ⟨t.val / 4, by omega⟩ r ⟨t.val / 4 * 1024 + r.val, by have := r.isLt; omega⟩ rfl s t.val (by show t.val = 4 * (t.val / 4) + 3; omega) t.isLt).trans ?_
  exact (blk6_apply _ t (ix3 (0 : Fin 1) r s)).symm

/-- An index is in a point's block when each of its coordinates is in the block's range. -/
theorem mem_blk (t : Fin cfg0.N) (i : S1x7168x1024.Idx) :
    i ∈ ((cfg0.win 6).blk t).view.set
      ↔ ∀ a : Fin 3, win0_6.index t a * S1x1024x1024.size a ≤ (i a).val ∧ (i a).val < win0_6.index t a * S1x1024x1024.size a + S1x1024x1024.size a := by
  show i ∈ ((View.whole main_v0).slice (win0_6.rect t)).set ↔ _
  rw [View.set_slice_whole, Rect.mem_set_unit]
  exact Iff.rfl

/-- Every index lies in the block of a last point. -/
theorem covered (i : S1x7168x1024.Idx) : ∃ t : Fin cfg0.N, (cfg0.win 6).flush t = true ∧ i ∈ ((cfg0.win 6).blk t).view.set := by
  have h0 : (i 0).val < 1 := (i 0).isLt
  have h1 : (i 1).val < 7168 := (i 1).isLt
  have h2 : (i 2).val < 1024 := (i 2).isLt
  refine ⟨⟨4 * ((i 1).val / 1024) + 3, Nat.lt_of_lt_of_eq (by omega) N_0.symm⟩, (flush0_6 _).mpr (by show (4 * ((i 1).val / 1024) + 3) % 4 = 3; omega), ?_⟩
  rw [mem_blk, index6]
  intro a
  fin_cases a
  · show 0 * 1 ≤ (i 0).val ∧ (i 0).val < 0 * 1 + 1
    omega
  · show (4 * ((i 1).val / 1024) + 3) / 4 * 1024 ≤ (i 1).val ∧ (i 1).val < (4 * ((i 1).val / 1024) + 3) / 4 * 1024 + 1024
    omega
  · show 0 * 1024 ≤ (i 2).val ∧ (i 2).val < 0 * 1024 + 1024
    omega

/-- The array after the run is `G` of the arguments. -/
theorem final (c : Dev nD) : (dats m 0 c).arrAt 6 cfg0.N = G (V m c main_arg0) (V m c main_arg1) (V m c main_arg2) (V m c main_arg3) (V m c main_arg4) (V m c main_arg5) :=
  (dats m 0 c).arrAt_eq_of_cover 6 _ (fun t ht => flushed_eq m c t ht) covered

/-- Argument 0 is as launched. -/
theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- Argument 1 is as launched. -/
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- Argument 2 is as launched. -/
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- Argument 3 is as launched. -/
theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- Argument 4 is as launched. -/
theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- Argument 5 is as launched. -/
theorem kept5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The run, its result read. -/
theorem run : θ_run defs (onTc (τ := τ) (main (F := Ideal))) ⟨m, fun _ => 0, ρ⟩ fun r => ∀ c : Dev nD,
    r.2.mem ((c : Thread nD τ).loc main_v0)
        = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final m c), kept0 m r h c, kept1 m r h c, kept2 m r h c, kept3 m r h c, kept4 m r h c, kept5 m r h c⟩) (run_main m ρ)

/-- The factor 5, padded with zeros to the width of the five together. -/
theorem pad4_in (A : Vec Ideal S4096x2048 .bf16) (i : Cert.Reference5Ideal.S4096x7168.Idx) (q : Fin 2048) (hq : (i 1).val = 5120 + q.val) :
    Cert.Reference5Ideal.Read.val_main_v13 (F := Ideal) A i = (A (ix2 (i 0) q) : EReal) := by
  unfold Cert.Reference5Ideal.Read.val_main_v13
  refine (pad_apply_of_inside _ _ _ _ _ _ _ i (ix2 (i 0) q) fun a => ?_).trans rfl
  fin_cases a
  · show (i 0).val = 0 + (i 0).val * (0 + 1)
    omega
  · show (i 1).val = 5120 + q.val * (0 + 1)
    omega

theorem pad4_out (A : Vec Ideal S4096x2048 .bf16) (i : Cert.Reference5Ideal.S4096x7168.Idx) (h : (i 1).val < 5120 ∨ 7168 ≤ (i 1).val) :
    Cert.Reference5Ideal.Read.val_main_v13 (F := Ideal) A i = (0 : EReal) := by
  unfold Cert.Reference5Ideal.Read.val_main_v13
  refine (pad_apply_of_not_inside _ _ _ _ _ _ _ i 1 ?_).trans ?_
  · show ¬(5120 ≤ (i 1).val ∧ ((i 1).val - 5120) % (0 + 1) = 0 ∧ ((i 1).val - 5120) / (0 + 1) < 2048)
    omega
  · exact Ideal.ofBits_zero_f32

/-- The factor 4, padded with zeros to the width of the five together. -/
theorem pad3_in (A : Vec Ideal S4096x1024 .bf16) (i : Cert.Reference5Ideal.S4096x7168.Idx) (q : Fin 1024) (hq : (i 1).val = 4096 + q.val) :
    Cert.Reference5Ideal.Read.val_main_v14 (F := Ideal) A i = (A (ix2 (i 0) q) : EReal) := by
  unfold Cert.Reference5Ideal.Read.val_main_v14
  refine (pad_apply_of_inside _ _ _ _ _ _ _ i (ix2 (i 0) q) fun a => ?_).trans rfl
  fin_cases a
  · show (i 0).val = 0 + (i 0).val * (0 + 1)
    omega
  · show (i 1).val = 4096 + q.val * (0 + 1)
    omega

theorem pad3_out (A : Vec Ideal S4096x1024 .bf16) (i : Cert.Reference5Ideal.S4096x7168.Idx) (h : (i 1).val < 4096 ∨ 5120 ≤ (i 1).val) :
    Cert.Reference5Ideal.Read.val_main_v14 (F := Ideal) A i = (0 : EReal) := by
  unfold Cert.Reference5Ideal.Read.val_main_v14
  refine (pad_apply_of_not_inside _ _ _ _ _ _ _ i 1 ?_).trans ?_
  · show ¬(4096 ≤ (i 1).val ∧ ((i 1).val - 4096) % (0 + 1) = 0 ∧ ((i 1).val - 4096) / (0 + 1) < 1024)
    omega
  · exact Ideal.ofBits_zero_f32

/-- The factor 3, padded with zeros to the width of the five together. -/
theorem pad2_in (A : Vec Ideal S4096x1024 .bf16) (i : Cert.Reference5Ideal.S4096x7168.Idx) (q : Fin 1024) (hq : (i 1).val = 3072 + q.val) :
    Cert.Reference5Ideal.Read.val_main_v16 (F := Ideal) A i = (A (ix2 (i 0) q) : EReal) := by
  unfold Cert.Reference5Ideal.Read.val_main_v16
  refine (pad_apply_of_inside _ _ _ _ _ _ _ i (ix2 (i 0) q) fun a => ?_).trans rfl
  fin_cases a
  · show (i 0).val = 0 + (i 0).val * (0 + 1)
    omega
  · show (i 1).val = 3072 + q.val * (0 + 1)
    omega

theorem pad2_out (A : Vec Ideal S4096x1024 .bf16) (i : Cert.Reference5Ideal.S4096x7168.Idx) (h : (i 1).val < 3072 ∨ 4096 ≤ (i 1).val) :
    Cert.Reference5Ideal.Read.val_main_v16 (F := Ideal) A i = (0 : EReal) := by
  unfold Cert.Reference5Ideal.Read.val_main_v16
  refine (pad_apply_of_not_inside _ _ _ _ _ _ _ i 1 ?_).trans ?_
  · show ¬(3072 ≤ (i 1).val ∧ ((i 1).val - 3072) % (0 + 1) = 0 ∧ ((i 1).val - 3072) / (0 + 1) < 1024)
    omega
  · exact Ideal.ofBits_zero_f32

/-- The factor 2, padded with zeros to the width of the five together. -/
theorem pad1_in (A : Vec Ideal S4096x1024 .bf16) (i : Cert.Reference5Ideal.S4096x7168.Idx) (q : Fin 1024) (hq : (i 1).val = 2048 + q.val) :
    Cert.Reference5Ideal.Read.val_main_v18 (F := Ideal) A i = (A (ix2 (i 0) q) : EReal) := by
  unfold Cert.Reference5Ideal.Read.val_main_v18
  refine (pad_apply_of_inside _ _ _ _ _ _ _ i (ix2 (i 0) q) fun a => ?_).trans rfl
  fin_cases a
  · show (i 0).val = 0 + (i 0).val * (0 + 1)
    omega
  · show (i 1).val = 2048 + q.val * (0 + 1)
    omega

theorem pad1_out (A : Vec Ideal S4096x1024 .bf16) (i : Cert.Reference5Ideal.S4096x7168.Idx) (h : (i 1).val < 2048 ∨ 3072 ≤ (i 1).val) :
    Cert.Reference5Ideal.Read.val_main_v18 (F := Ideal) A i = (0 : EReal) := by
  unfold Cert.Reference5Ideal.Read.val_main_v18
  refine (pad_apply_of_not_inside _ _ _ _ _ _ _ i 1 ?_).trans ?_
  · show ¬(2048 ≤ (i 1).val ∧ ((i 1).val - 2048) % (0 + 1) = 0 ∧ ((i 1).val - 2048) / (0 + 1) < 1024)
    omega
  · exact Ideal.ofBits_zero_f32

/-- The factor 1, padded with zeros to the width of the five together. -/
theorem pad0_in (A : Vec Ideal S4096x2048 .bf16) (i : Cert.Reference5Ideal.S4096x7168.Idx) (q : Fin 2048) (hq : (i 1).val = 0 + q.val) :
    Cert.Reference5Ideal.Read.val_main_v20 (F := Ideal) A i = (A (ix2 (i 0) q) : EReal) := by
  unfold Cert.Reference5Ideal.Read.val_main_v20
  refine (pad_apply_of_inside _ _ _ _ _ _ _ i (ix2 (i 0) q) fun a => ?_).trans rfl
  fin_cases a
  · show (i 0).val = 0 + (i 0).val * (0 + 1)
    omega
  · show (i 1).val = 0 + q.val * (0 + 1)
    omega

theorem pad0_out (A : Vec Ideal S4096x2048 .bf16) (i : Cert.Reference5Ideal.S4096x7168.Idx) (h : (i 1).val < 0 ∨ 2048 ≤ (i 1).val) :
    Cert.Reference5Ideal.Read.val_main_v20 (F := Ideal) A i = (0 : EReal) := by
  unfold Cert.Reference5Ideal.Read.val_main_v20
  refine (pad_apply_of_not_inside _ _ _ _ _ _ _ i 1 ?_).trans ?_
  · show ¬(0 ≤ (i 1).val ∧ ((i 1).val - 0) % (0 + 1) = 0 ∧ ((i 1).val - 0) / (0 + 1) < 2048)
    omega
  · exact Ideal.ofBits_zero_f32

/-- The reference's five padded factors add up to the factors side by side. -/
theorem sum_pads (A0 : Vec Ideal S4096x2048 .bf16) (A1 A2 A3 : Vec Ideal S4096x1024 .bf16) (A4 : Vec Ideal S4096x2048 .bf16)
    (k : Fin 4096) (R : Fin 7168) :
    Cert.Reference5Ideal.Read.val_main_v21 (F := Ideal) A0 A1 A2 A3 A4 (ix2 k R) = col A0 A1 A2 A3 A4 k R := by
  show (((Cert.Reference5Ideal.Read.val_main_v13 (F := Ideal) A4 (ix2 k R) + Cert.Reference5Ideal.Read.val_main_v14 (F := Ideal) A3 (ix2 k R)) + Cert.Reference5Ideal.Read.val_main_v16 (F := Ideal) A2 (ix2 k R))
    + Cert.Reference5Ideal.Read.val_main_v18 (F := Ideal) A1 (ix2 k R)) + Cert.Reference5Ideal.Read.val_main_v20 (F := Ideal) A0 (ix2 k R) = _
  have hR := R.isLt
  rcases (by omega : R.val < 2048 ∨ (2048 ≤ R.val ∧ R.val < 3072) ∨ (3072 ≤ R.val ∧ R.val < 4096) ∨ (4096 ≤ R.val ∧ R.val < 5120) ∨ 5120 ≤ R.val)
    with g | g | g | g | g
  · rw [col_0 A0 A1 A2 A3 A4 k R g ⟨R.val - 0, by omega⟩ (by show R.val - 0 + 0 = R.val; omega),
      pad4_out A4 (ix2 k R) (by show R.val < 5120 ∨ 7168 ≤ R.val; omega),
      pad3_out A3 (ix2 k R) (by show R.val < 4096 ∨ 5120 ≤ R.val; omega),
      pad2_out A2 (ix2 k R) (by show R.val < 3072 ∨ 4096 ≤ R.val; omega),
      pad1_out A1 (ix2 k R) (by show R.val < 2048 ∨ 3072 ≤ R.val; omega),
      pad0_in A0 (ix2 k R) ⟨R.val - 0, by omega⟩ (by show R.val = 0 + (R.val - 0); omega)]
    simp only [add_zero, zero_add]
    rfl
  · rw [col_1 A0 A1 A2 A3 A4 k R g ⟨R.val - 2048, by omega⟩ (by show R.val - 2048 + 2048 = R.val; omega),
      pad4_out A4 (ix2 k R) (by show R.val < 5120 ∨ 7168 ≤ R.val; omega),
      pad3_out A3 (ix2 k R) (by show R.val < 4096 ∨ 5120 ≤ R.val; omega),
      pad2_out A2 (ix2 k R) (by show R.val < 3072 ∨ 4096 ≤ R.val; omega),
      pad1_in A1 (ix2 k R) ⟨R.val - 2048, by omega⟩ (by show R.val = 2048 + (R.val - 2048); omega),
      pad0_out A0 (ix2 k R) (by show R.val < 0 ∨ 2048 ≤ R.val; omega)]
    simp only [add_zero, zero_add]
    rfl
  · rw [col_2 A0 A1 A2 A3 A4 k R g ⟨R.val - 3072, by omega⟩ (by show R.val - 3072 + 3072 = R.val; omega),
      pad4_out A4 (ix2 k R) (by show R.val < 5120 ∨ 7168 ≤ R.val; omega),
      pad3_out A3 (ix2 k R) (by show R.val < 4096 ∨ 5120 ≤ R.val; omega),
      pad2_in A2 (ix2 k R) ⟨R.val - 3072, by omega⟩ (by show R.val = 3072 + (R.val - 3072); omega),
      pad1_out A1 (ix2 k R) (by show R.val < 2048 ∨ 3072 ≤ R.val; omega),
      pad0_out A0 (ix2 k R) (by show R.val < 0 ∨ 2048 ≤ R.val; omega)]
    simp only [add_zero, zero_add]
    rfl
  · rw [col_3 A0 A1 A2 A3 A4 k R g ⟨R.val - 4096, by omega⟩ (by show R.val - 4096 + 4096 = R.val; omega),
      pad4_out A4 (ix2 k R) (by show R.val < 5120 ∨ 7168 ≤ R.val; omega),
      pad3_in A3 (ix2 k R) ⟨R.val - 4096, by omega⟩ (by show R.val = 4096 + (R.val - 4096); omega),
      pad2_out A2 (ix2 k R) (by show R.val < 3072 ∨ 4096 ≤ R.val; omega),
      pad1_out A1 (ix2 k R) (by show R.val < 2048 ∨ 3072 ≤ R.val; omega),
      pad0_out A0 (ix2 k R) (by show R.val < 0 ∨ 2048 ≤ R.val; omega)]
    simp only [add_zero, zero_add]
    rfl
  · rw [col_4 A0 A1 A2 A3 A4 k R g ⟨R.val - 5120, by omega⟩ (by show R.val - 5120 + 5120 = R.val; omega),
      pad4_in A4 (ix2 k R) ⟨R.val - 5120, by omega⟩ (by show R.val = 5120 + (R.val - 5120); omega),
      pad3_out A3 (ix2 k R) (by show R.val < 4096 ∨ 5120 ≤ R.val; omega),
      pad2_out A2 (ix2 k R) (by show R.val < 3072 ∨ 4096 ≤ R.val; omega),
      pad1_out A1 (ix2 k R) (by show R.val < 2048 ∨ 3072 ≤ R.val; omega),
      pad0_out A0 (ix2 k R) (by show R.val < 0 ∨ 2048 ≤ R.val; omega)]
    simp only [add_zero, zero_add]
    rfl

/-- The reference's result is `G` of the same arrays. -/
theorem reference_eq (A0 : Vec Ideal S4096x2048 .bf16) (A1 A2 A3 : Vec Ideal S4096x1024 .bf16) (A4 : Vec Ideal S4096x2048 .bf16) (H : Vec Ideal S4096x1024 .bf16) :
    Cert.Reference5Ideal.Read.val_main_v26 (F := Ideal) A0 A1 A2 A3 A4 H = G A0 A1 A2 A3 A4 H := by
  funext i
  rw [Cert.Reference5Ideal.Read.val_main_v26_apply]
  refine (Cert.Reference5Ideal.Read.val_main_v25_apply A0 A1 A2 A3 A4 H _).trans ?_
  show Cert.Reference5Ideal.Read.val_main_v24 (F := Ideal) A0 A1 A2 A3 A4 H _ = _
  rw [Cert.Reference5Ideal.Read.val_main_v24_apply, Cert.Reference5Ideal.Read.val_main_v23_apply, Cert.Reference5Ideal.Read.val_main_v22_apply]
  refine Finset.sum_congr rfl fun k _ => ?_
  refine congrArg₂ (· * ·) ((congrArg (Cert.Reference5Ideal.Read.val_main_v21 (F := Ideal) A0 A1 A2 A3 A4) ?_).trans (sum_pads A0 A1 A2 A3 A4 k (i 1))) (congrArg H ?_) <;> funext a <;> fin_cases a <;> rfl

end Cert.Kernel5Ideal.ProjW

end
-- ==== Proof.OutX.lean ====
module

public import Idealize.ShloMosaic.Lib.Pipeline.ValueKit
public import Idealize.ShloMosaic.Lib.Pointwise
public import proofs.«01_k».proof.Proof.Gen.Kernel6Ideal.Value
public import proofs.«01_k».proof.Proof.Gen.Reference6Ideal.Read

/-! # The gradient of the output's product for its left factor

One block of 512 rows and all 1024 columns for each grid point, each a product over the whole contraction of length 1024. -/

@[expose] public section

set_option maxRecDepth 16384
set_option maxHeartbeats 4000000

noncomputable section

namespace Cert.Kernel6Ideal.OutX

open Idealize.ShloMosaic Idealize.ShloMosaic.TcCoe Idealize.ShloMosaic.Tactic
open Cert.Kernel6Ideal.Gen Cert.Kernel6Ideal.Value
open Idealize.ShloMosaic.Pipeline (Dat)

/-- The result at an index: row `i 0` of the left factor times row `i 1` of the right one. -/
def G (A : Vec Ideal S4096x1024 .bf16) (B : Vec Ideal S1024x1024 .bf16) : Vec Ideal S4096x1024 .f32 := fun i =>
  (∑ k : Fin 1024, (A (ix2 (i 0) k) : EReal) * B (ix2 (i 1) k) : EReal)

theorem point_lt (t : Fin cfg0.N) : t.val < 8 := Nat.lt_of_lt_of_eq t.isLt N_0

/-- The blocks of a grid point. -/
theorem index0 : ∀ t : Fin cfg0.N, win0_0.index t = ![t.val % 8, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val % 8, 0] := (by decide +kernel : ∀ t : Fin grid0.N, _)

theorem blk0_apply (A : Vec Ideal S4096x1024 .bf16) (t : Fin cfg0.N) (y : S512x1024.Idx) :
    ((cfg0.win 0).blk t).view.read (Elt Ideal) A y
      = A (ix2 ⟨512 * (t.val % 8) + (y 0).val, by have := (y 0).isLt; simp at this; omega⟩ (y 1)) := by
  rw [View.read_apply, cast_eq]
  apply congrArg A
  funext a
  apply Fin.ext
  refine (Pipeline.Window.rect_emb_val win0_0 t y a rfl).trans ?_
  rw [index0 t]
  fin_cases a
  · simp [Nat.mul_comm]
  · simp

theorem blk1_apply (A : Vec Ideal S1024x1024 .bf16) (t : Fin cfg0.N) (y : S1024x1024.Idx) :
    ((cfg0.win 1).blk t).view.read (Elt Ideal) A y
      = A (ix2 (y 0) (y 1)) := by
  rw [View.read_apply, cast_eq]
  apply congrArg A
  funext a
  apply Fin.ext
  refine (Pipeline.Window.rect_emb_val win0_1 t y a rfl).trans ?_
  rw [index1 t]
  fin_cases a
  · simp
  · simp

theorem blk2_apply (A : Vec Ideal S4096x1024 .bf16) (t : Fin cfg0.N) (y : S512x1024.Idx) :
    ((cfg0.win 2).blk t).view.read (Elt Ideal) A y
      = A (ix2 ⟨512 * (t.val % 8) + (y 0).val, by have := (y 0).isLt; simp at this; omega⟩ (y 1)) := by
  rw [View.read_apply, cast_eq]
  apply congrArg A
  funext a
  apply Fin.ext
  refine (Pipeline.Window.rect_emb_val win0_2 t y a rfl).trans ?_
  rw [index2 t]
  fin_cases a
  · simp [Nat.mul_comm]
  · simp

/-- The product that a point stores, at an index of its block. -/
theorem pay_apply (v0 : Vec Ideal S512x1024 .bf16) (v1 : Vec Ideal S1024x1024 .bf16) (r : Fin 512) (s : Fin 1024) :
    k0_pay1 v0 v1 (ix2 r s) = (∑ k : Fin 1024, (v0 (ix2 r k) : EReal) * v1 (ix2 s k) : EReal) := by
  pointwise [k0_pay1]

variable (m : (ℓ : Loc nD τ sig) → Buf (Elt Ideal) ℓ) (ρ : Dev nD → PrngReg)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [flushed2]
  unfold out0_2
  rw [View.canon_unit_zero (by funext a; fin_cases a <;> rfl), View.ld_unit_zero (S := S512x1024) (by funext a; fin_cases a <;> rfl),
    View.ld_unit_zero (S := S1024x1024) (by funext a; fin_cases a <;> rfl)]
  funext y
  change k0_pay1 _ _ (y : S512x1024.Idx) = _
  rw [blk2_apply]
  obtain ⟨r, s, rfl⟩ : ∃ (r : Fin 512) (s : Fin 1024), (y : S512x1024.Idx) = ix2 r s := ⟨y 0, y 1, eq_ix2 y⟩
  rw [pay_apply]
  refine Finset.sum_congr rfl fun k _ => ?_
  exact congrArg₂ (· * ·) (blk0_apply (V m c main_arg0) t (ix2 r k)) (blk1_apply (V m c main_arg1) t (ix2 s k))

/-- An index is in a point's block when each of its coordinates is in the block's range. -/
theorem mem_blk (t : Fin cfg0.N) (i : S4096x1024.Idx) :
    i ∈ ((cfg0.win 2).blk t).view.set
      ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- Every index lies in the block of a point. -/
theorem covered (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  refine ⟨⟨(i 0).val / 512, Nat.lt_of_lt_of_eq (by omega) N_0.symm⟩, flush0_2 _, ?_⟩
  rw [mem_blk, index2]
  intro a
  fin_cases a
  · show (i 0).val / 512 % 8 * 512 ≤ (i 0).val ∧ (i 0).val < (i 0).val / 512 % 8 * 512 + 512
    omega
  · show 0 * 1024 ≤ (i 1).val ∧ (i 1).val < 0 * 1024 + 1024
    omega

/-- The array after the run is `G` of the arguments. -/
theorem final (c : Dev nD) : (dats m 0 c).arrAt 2 cfg0.N = G (V m c main_arg0) (V m c main_arg1) :=
  (dats m 0 c).arrAt_eq_of_cover 2 _ (fun t _ => flushed_eq m c t) covered

/-- The run, its result read. -/
theorem run : θ_run defs (onTc (τ := τ) (main (F := Ideal))) ⟨m, fun _ => 0, ρ⟩ fun r => ∀ c : Dev nD,
    r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

/-- The reference's result is `G` of the same arrays. -/
theorem reference_eq (A : Vec Ideal S4096x1024 .bf16) (B : Vec Ideal S1024x1024 .bf16) :
    Cert.Reference6Ideal.Read.val_main_v4 (F := Ideal) A B = G A B := by
  funext i
  rw [Cert.Reference6Ideal.Read.val_main_v4_apply]
  refine Finset.sum_congr rfl fun k _ => ?_
  refine congrArg₂ (· * ·) (congrArg A ?_) (congrArg B ?_) <;> funext a <;> fin_cases a <;> rfl

end Cert.Kernel6Ideal.OutX

end
-- ==== Proof.OutW.lean ====
module

public import Idealize.ShloMosaic.Lib.Pipeline.ValueKit
public import Idealize.ShloMosaic.Lib.Pointwise
public import Idealize.ShloMosaic.Lib.VecWindow
public import proofs.«01_k».proof.Proof.Gen.Kernel7Ideal.Value
public import proofs.«01_k».proof.Proof.Gen.Reference7Ideal.Read

/-! # The gradient of the output's product for its weights

The contraction runs over 4096 positions, in 4 pieces of 1024: each of the 4 grid points adds the product of its piece to a
buffer, and the last one writes the buffer to the result. -/

@[expose] public section

set_option maxRecDepth 16384
set_option maxHeartbeats 4000000

noncomputable section

namespace Cert.Kernel7Ideal.OutW

open Idealize.ShloMosaic Idealize.ShloMosaic.TcCoe Idealize.ShloMosaic.Tactic
open Cert.Kernel7Ideal.Gen Cert.Kernel7Ideal.Value

/-- The result at an index: column `i 1` of the left factor times column `i 2` of the right one. -/
def G (A : Vec Ideal S4096x1024 .bf16) (B : Vec Ideal S4096x1024 .bf16) : Vec Ideal S1x1024x1024 .bf16 := fun i =>
  (∑ k : Fin 4096, (A (ix2 k (i 1)) : EReal) * B (ix2 k (i 2)) : EReal)

theorem point_lt (t : Fin cfg0.N) : t.val < 4 := Nat.lt_of_lt_of_eq t.isLt N_0

/-- The blocks of a grid point. -/
theorem index0 : ∀ t : Fin cfg0.N, win0_0.index t = ![t.val % 4, 0] := (by decide +kernel : ∀ t : Fin grid0.N, _)
theorem index1 : ∀ t : Fin cfg0.N, win0_1.index t = ![t.val % 4, 0] := (by decide +kernel : ∀ t : Fin grid0.N, _)

theorem blk0_apply (A : Vec Ideal S4096x1024 .bf16) (t : Fin cfg0.N) (y : S1024x1024.Idx) :
    ((cfg0.win 0).blk t).view.read (Elt Ideal) A y
      = A (ix2 ⟨t.val % 4 * 1024 + (y 0).val, by have := (y 0).isLt; simp at this; omega⟩ (y 1)) := by
  rw [View.read_apply, cast_eq]
  apply congrArg A
  funext a
  apply Fin.ext
  refine (Pipeline.Window.rect_emb_val win0_0 t y a rfl).trans ?_
  rw [index0 t]
  fin_cases a
  · simp
  · simp

theorem blk1_apply (A : Vec Ideal S4096x1024 .bf16) (t : Fin cfg0.N) (y : S1024x1024.Idx) :
    ((cfg0.win 1).blk t).view.read (Elt Ideal) A y
      = A (ix2 ⟨t.val % 4 * 1024 + (y 0).val, by have := (y 0).isLt; simp at this; omega⟩ (y 1)) := by
  rw [View.read_apply, cast_eq]
  apply congrArg A
  funext a
  apply Fin.ext
  refine (Pipeline.Window.rect_emb_val win0_1 t y a rfl).trans ?_
  rw [index1 t]
  fin_cases a
  · simp
  · simp

/-- Column `r` of one block times column `s` of another. -/
def dotAt (v0 : Vec Ideal S1024x1024 .bf16) (v1 : Vec Ideal S1024x1024 .bf16) (r : Fin 1024) (s : Fin 1024) : EReal :=
  ∑ k : Fin 1024, (v0 (ix2 k r) : EReal) * v1 (ix2 k s)

/-- The product of a piece, at an index. -/
theorem pay2_apply (v0 : Vec Ideal S1024x1024 .bf16) (v1 : Vec Ideal S1024x1024 .bf16) (r : Fin 1024) (s : Fin 1024) :
    k0_pay2 v0 v1 (ix2 r s) = dotAt v0 v1 r s := by
  unfold dotAt
  pointwise [k0_pay2, k0_pay1]

/-- The product of a piece added to what the buffer held. -/
theorem pay3_apply (v0 : Vec Ideal S1024x1024 .bf16) (v1 : Vec Ideal S1024x1024 .bf16) (acc : Vec Ideal S1024x1024 .f32)
    (r : Fin 1024) (s : Fin 1024) :
    k0_pay3 v0 v1 acc (ix2 r s) = ((acc (ix2 r s) : EReal) + dotAt v0 v1 r s : EReal) := by
  unfold dotAt
  pointwise [k0_pay3, k0_pay1]

/-- The buffer as it is written to the result. -/
theorem pay4_apply (acc : Vec Ideal S1024x1024 .f32) (r : Fin 1024) (s : Fin 1024) :
    k0_pay4 acc (ix3 0 r s) = (acc (ix2 r s) : EReal) := by
  pointwise [k0_pay4]

section Cases

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole)
  (x0 : Vec Ideal S1024x1024 .bf16) (x1 : Vec Ideal S1024x1024 .bf16) (acc : Vec Ideal S1024x1024 .f32)

/-- At a first point the buffer ends with the product. -/
theorem buf_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  exact (View.read_writes_full _ _ _ _ _).trans
    (congrArg₂ k0_pay2 ((View.readAt_full _ _ _).trans (harg3.read_unread _)) ((View.readAt_full _ _ _).trans (harg4.read_unread _)))

theorem pay3_congr {a a' : Vec Ideal S1024x1024 .bf16} {b b' : Vec Ideal S1024x1024 .bf16} {d d' : Vec Ideal S1024x1024 .f32}
    (ha : a = a') (hb : b = b') (hd : d = d') : k0_pay3 a b d = k0_pay3 a' b' d' := by rw [ha, hb, hd]

/-- At a middle point the product is added. -/
theorem buf_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  exact (View.read_writes_full _ _ _ _ _).trans
    (pay3_congr ((View.readAt_full _ _ _).trans (harg3.read_unread _)) ((View.readAt_full _ _ _).trans (harg4.read_unread _))
      ((View.readAt_full _ _ _).trans (harg6.read_unread _)))

/-- At a last point the product is added and the buffer is written to the result. -/
theorem out_C (hc0 : ¬cond0_0 i) (hc1 : cond0_1 i) (hc2 : cond0_2 i) :
    out0_C_2 c i arg3 harg3 arg4 harg4 arg5 harg5 arg6 harg6 hc0 hc1 hc2 x0 x1 acc = k0_pay4 (k0_pay3 x0 x1 acc) := by
  unfold out0_C_2
  exact (View.read_writes_full _ _ _ _ _).trans (congrArg k0_pay4
    ((View.readAt_full _ _ _).trans ((View.read_writes_full _ _ _ _ _).trans
      (pay3_congr ((View.readAt_full _ _ _).trans (harg3.read_unread _)) ((View.readAt_full _ _ _).trans (harg4.read_unread _))
        ((View.readAt_full _ _ _).trans (harg6.read_unread _))))))

end Cases

variable (m : (ℓ : Loc nD τ sig) → Buf (Elt Ideal) ℓ) (ρ : Dev nD → PrngReg)

/-- The product of piece `k` for row `r` of row block `j`. -/
def piece (A : Vec Ideal S4096x1024 .bf16) (B : Vec Ideal S4096x1024 .bf16) (k : Fin 4) (r : Fin 1024) (s : Fin 1024) : EReal :=
  ∑ l : Fin 1024, (A (ix2 ⟨k.val * 1024 + l.val, by omega⟩ r) : EReal) * B (ix2 ⟨k.val * 1024 + l.val, by omega⟩ s)

/-- The product of a point's blocks is its piece. -/
theorem sum_blocks (c : Dev nD) (t : Fin cfg0.N) (k : Fin 4) (hk : t.val % 4 = k.val) (r : Fin 1024) (R : Fin 1024)
    (hR : t.val / 4 * 1024 + r.val = R.val) (s : Fin 1024) :
    dotAt (iblk m c 0 t) (iblk m c 1 t) r s
      = piece (V m c main_arg0) (V m c main_arg1) k R s := by
  refine Finset.sum_congr rfl fun l _ => ?_
  refine congrArg₂ (· * ·) ((blk0_apply (V m c main_arg0) t (ix2 l r)).trans (congrArg (V m c main_arg0 : Vec Ideal S4096x1024 .bf16) ?_))
    ((blk1_apply (V m c main_arg1) t (ix2 l s)).trans (congrArg (V m c main_arg1 : Vec Ideal S4096x1024 .bf16) ?_))
  · exact congrArg₂ ix2 (Fin.ext (by show t.val % 4 * 1024 + l.val = k.val * 1024 + l.val; rw [hk])) (Fin.ext (by show r.val = R.val; have := point_lt t; omega))
  · exact congrArg₂ ix2 (Fin.ext (by show t.val % 4 * 1024 + l.val = k.val * 1024 + l.val; rw [hk])) rfl

/-- The buffer after the first point of a row block. -/
theorem buf_first (c : Dev nD) (j : Fin 1) (r : Fin 1024) (R : Fin 1024) (hR : j.val * 1024 + r.val = R.val) (s : Fin 1024)
    (n : ℕ) (hn : n = 4 * j.val) (h : n < cfg0.N) :
    ((outsAt0 m c n h).2 (ix2 r s) : EReal) = piece (V m c main_arg0) (V m c main_arg1) 0 R s := by
  refine (congrFun (congrArg Prod.snd (outsAt0_A m c ⟨n, h⟩ (by show n % 4 = 0; omega) (by show ¬1 ≤ n; omega) (by show ¬n % 4 = 3; omega))) _).trans ?_
  dsimp only
  rw [buf_A, pay2_apply]
  exact sum_blocks m c ⟨n, h⟩ 0 (by show n % 4 = 0; omega) r R (by show n / 4 * 1024 + r.val = R.val; omega) s

/-- The buffer after a middle point of a row block. -/
theorem buf_middle (c : Dev nD) (j : Fin 1) (r : Fin 1024) (R : Fin 1024) (hR : j.val * 1024 + r.val = R.val) (s : Fin 1024)
    (k : Fin 4) (h1 : 1 ≤ k.val) (h2 : k.val < 3) (n : ℕ) (hn : n + 1 = 4 * j.val + k.val) (h : n + 1 < cfg0.N) :
    ((outsAt0 m c (n + 1) h).2 (ix2 r s) : EReal)
      = (outsAt0 m c n (Nat.lt_of_succ_lt h)).2 (ix2 r s) + piece (V m c main_arg0) (V m c main_arg1) k R s := by
  refine (congrFun (congrArg Prod.snd (outsAt0_B m c ⟨n + 1, h⟩ (by show ¬(n + 1) % 4 = 0; omega) (by show 1 ≤ n + 1; omega) (by show ¬(n + 1) % 4 = 3; omega))) _).trans ?_
  dsimp only
  rw [buf_B, pay3_apply]
  exact congrArg₂ (· + ·) rfl (sum_blocks m c ⟨n + 1, h⟩ k (by show (n + 1) % 4 = k.val; omega) r R (by show (n + 1) / 4 * 1024 + r.val = R.val; omega) s)

/-- The block that the last point of a row block leaves. -/
theorem out_last (c : Dev nD) (j : Fin 1) (r : Fin 1024) (R : Fin 1024) (hR : j.val * 1024 + r.val = R.val) (s : Fin 1024)
    (n : ℕ) (hn : n + 1 = 4 * j.val + 3) (h : n + 1 < cfg0.N) :
    ((outsAt0 m c (n + 1) h).1 (ix3 0 r s) : EReal)
      = (outsAt0 m c n (Nat.lt_of_succ_lt h)).2 (ix2 r s) + piece (V m c main_arg0) (V m c main_arg1) 3 R s := by
  refine (congrFun (congrArg Prod.fst (outsAt0_C m c ⟨n + 1, h⟩ (by show ¬(n + 1) % 4 = 0; omega) (by show 1 ≤ n + 1; omega) (by show (n + 1) % 4 = 3; omega))) _).trans ?_
  dsimp only
  rw [out_C, pay4_apply, pay3_apply]
  exact congrArg₂ (· + ·) rfl (sum_blocks m c ⟨n + 1, h⟩ 3 (by show (n + 1) % 4 = 3; omega) r R (by show (n + 1) / 4 * 1024 + r.val = R.val; omega) s)

/-- The four pieces are the whole contraction. -/
theorem pieces (A : Vec Ideal S4096x1024 .bf16) (B : Vec Ideal S4096x1024 .bf16) (R : Fin 1024) (s : Fin 1024) :
    piece A B 0 R s + piece A B 1 R s + piece A B 2 R s + piece A B 3 R s
      = (∑ k : Fin 4096, (A (ix2 k R) : EReal) * B (ix2 k s) : EReal) := by
  rw [Fin.sum_univ_tiles 4 1024 (by decide) (fun k : Fin 4096 => (A (ix2 k R) : EReal) * B (ix2 k s)), Fin.sum_univ_four]
  rfl

/-- What the array of the result holds at an index: its block's contents at the point that writes the block. -/
theorem G2_of (c : Dev nD) (i : S1x1024x1024.Idx) (n : ℕ) (hn : n < cfg0.N) (y : S1x1024x1024.Idx) (hp : pt2Of i = n) (hl : loc2Of i = y) :
    (G2 m c : Vec Ideal S1x1024x1024 .bf16) i = (outsAt0 m c n hn).1 y := by
  subst hp hl
  exact (dif_pos hn).trans (congrFun (congrArg Prod.fst (outsAt0_sweep m c _ hn)) _).symm

/-- The array after the run is `G` of the arguments. -/
theorem G2_eq (c : Dev nD) : (G2 m c : Vec Ideal S1x1024x1024 .bf16) = G (V m c main_arg0) (V m c main_arg1) := by
  funext i
  have h0 : (i 0).val < 1 := (i 0).isLt
  have h1 : (i 1).val < 1024 := (i 1).isLt
  have h2 : (i 2).val < 1024 := (i 2).isLt
  have hj : (i 1).val / 1024 < 1 := by omega
  have hR : (⟨(i 1).val / 1024, hj⟩ : Fin 1).val * 1024 + (⟨(i 1).val % 1024, Nat.mod_lt _ (by decide)⟩ : Fin 1024).val = (i 1).val := by
    show (i 1).val / 1024 * 1024 + (i 1).val % 1024 = (i 1).val; omega
  have hN : 4 * ((i 1).val / 1024) + 3 < cfg0.N := Nat.lt_of_lt_of_eq (by omega) N_0.symm
  refine (G2_of m c i (4 * ((i 1).val / 1024) + 2 + 1) hN (ix3 0 ⟨(i 1).val % 1024, Nat.mod_lt _ (by decide)⟩ (i 2)) ?_ ?_).trans ?_
  · show 4 * (1 * ((i 0).val / 1 - 0) + 1 * ((i 1).val / 1024 - 0) + 1 * ((i 2).val / 1024 - 0)) + 3 = _
    omega
  · funext a; match a with
    | ⟨0, _⟩ => exact Fin.ext (by show (i 0).val % 1 = 0; omega)
    | ⟨1, _⟩ => rfl
    | ⟨2, _⟩ => exact Fin.ext (by show (i 2).val % 1024 = (i 2).val; omega)
  · rw [out_last m c ⟨(i 1).val / 1024, hj⟩ _ (i 1) hR (i 2) _ rfl hN,
      buf_middle m c ⟨(i 1).val / 1024, hj⟩ _ (i 1) hR (i 2) 2 (by decide) (by decide) (4 * ((i 1).val / 1024) + 1) rfl,
      buf_middle m c ⟨(i 1).val / 1024, hj⟩ _ (i 1) hR (i 2) 1 (by decide) (by decide) (4 * ((i 1).val / 1024)) rfl,
      buf_first m c ⟨(i 1).val / 1024, hj⟩ _ (i 1) hR (i 2) _ rfl]
    exact pieces _ _ _ _

/-- The run, its result read. -/
theorem run_read : θ_run defs (onTc (τ := τ) (main (F := Ideal))) ⟨m, fun _ => 0, ρ⟩ fun r => ∀ c : Dev nD,
    r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (G2_eq m c), (h c).2⟩) (Value.run m ρ)

/-- The reference's result is `G` of the same arrays. -/
theorem reference_eq (A : Vec Ideal S4096x1024 .bf16) (B : Vec Ideal S4096x1024 .bf16) :
    Cert.Reference7Ideal.Read.val_main_v7 (F := Ideal) A B = G A B := by
  funext i
  rw [Cert.Reference7Ideal.Read.val_main_v7_apply]
  refine (Cert.Reference7Ideal.Read.val_main_v6_apply A B _).trans ?_
  show Cert.Reference7Ideal.Read.val_main_v5 (F := Ideal) A B _ = _
  rw [Cert.Reference7Ideal.Read.val_main_v5_apply, Cert.Reference7Ideal.Read.val_main_v4_apply]
  refine Finset.sum_congr rfl fun k _ => ?_
  refine (mul_comm _ _).trans ?_
  refine congrArg₂ (· * ·) (congrArg A ?_) (congrArg B ?_) <;> funext a <;> fin_cases a <;> rfl

end Cert.Kernel7Ideal.OutW

end
-- ==== Proof.GateW.lean ====
module

public import Idealize.ShloMosaic.Lib.Pipeline.ValueKit
public import Idealize.ShloMosaic.Lib.Pointwise
public import Idealize.ShloMosaic.Lib.VecWindow
public import proofs.«01_k».proof.Proof.Gen.Kernel8Ideal.Value
public import proofs.«01_k».proof.Proof.Gen.Reference8Ideal.Read

/-! # The gradient of the feed-forward layer's first product for its turned-over weights

The contraction runs over 4096 positions, in 4 pieces of 1024: grid point `t = 4 j + k` adds the product of piece `k` to a
buffer of 1408 rows, and the last of the 4 points writes the buffer to row block `j` of the result. -/

@[expose] public section

set_option maxRecDepth 16384
set_option maxHeartbeats 4000000

noncomputable section

namespace Cert.Kernel8Ideal.GateW

open Idealize.ShloMosaic Idealize.ShloMosaic.TcCoe Idealize.ShloMosaic.Tactic
open Cert.Kernel8Ideal.Gen Cert.Kernel8Ideal.Value

/-- The result at an index: column `i 1` of the left factor times column `i 2` of the right one. -/
def G (A : Vec Ideal S4096x2816 .bf16) (B : Vec Ideal S4096x1024 .bf16) : Vec Ideal S1x2816x1024 .bf16 := fun i =>
  (∑ k : Fin 4096, (A (ix2 k (i 1)) : EReal) * B (ix2 k (i 2)) : EReal)

theorem point_lt (t : Fin cfg0.N) : t.val < 8 := Nat.lt_of_lt_of_eq t.isLt N_0

/-- The blocks of a grid point. -/
theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)

theorem blk0_apply (A : Vec Ideal S4096x2816 .bf16) (t : Fin cfg0.N) (y : S1024x1408.Idx) :
    ((cfg0.win 0).blk t).view.read (Elt Ideal) A y
      = A (ix2 ⟨t.val % 4 * 1024 + (y 0).val, by have := (y 0).isLt; simp at this; omega⟩
          ⟨t.val / 4 * 1408 + (y 1).val, by have := (y 1).isLt; have := point_lt t; simp at *; omega⟩) := by
  rw [View.read_apply, cast_eq]
  apply congrArg A
  funext a
  apply Fin.ext
  refine (Pipeline.Window.rect_emb_val win0_0 t y a rfl).trans ?_
  rw [index0 t]
  fin_cases a
  · simp
  · simp

theorem blk1_apply (A : Vec Ideal S4096x1024 .bf16) (t : Fin cfg0.N) (y : S1024x1024.Idx) :
    ((cfg0.win 1).blk t).view.read (Elt Ideal) A y
      = A (ix2 ⟨t.val % 4 * 1024 + (y 0).val, by have := (y 0).isLt; simp at this; omega⟩ (y 1)) := by
  rw [View.read_apply, cast_eq]
  apply congrArg A
  funext a
  apply Fin.ext
  refine (Pipeline.Window.rect_emb_val win0_1 t y a rfl).trans ?_
  rw [index1 t]
  fin_cases a
  · simp
  · simp

/-- Column `r` of one block times column `s` of another. -/
def dotAt (v0 : Vec Ideal S1024x1408 .bf16) (v1 : Vec Ideal S1024x1024 .bf16) (r : Fin 1408) (s : Fin 1024) : EReal :=
  ∑ k : Fin 1024, (v0 (ix2 k r) : EReal) * v1 (ix2 k s)

/-- The product of a piece, at an index. -/
theorem pay2_apply (v0 : Vec Ideal S1024x1408 .bf16) (v1 : Vec Ideal S1024x1024 .bf16) (r : Fin 1408) (s : Fin 1024) :
    k0_pay2 v0 v1 (ix2 r s) = dotAt v0 v1 r s := by
  unfold dotAt
  pointwise [k0_pay2, k0_pay1]

/-- The product of a piece added to what the buffer held. -/
theorem pay3_apply (v0 : Vec Ideal S1024x1408 .bf16) (v1 : Vec Ideal S1024x1024 .bf16) (acc : Vec Ideal S1408x1024 .f32)
    (r : Fin 1408) (s : Fin 1024) :
    k0_pay3 v0 v1 acc (ix2 r s) = ((acc (ix2 r s) : EReal) + dotAt v0 v1 r s : EReal) := by
  unfold dotAt
  pointwise [k0_pay3, k0_pay1]

/-- The buffer as it is written to the result. -/
theorem pay4_apply (acc : Vec Ideal S1408x1024 .f32) (r : Fin 1408) (s : Fin 1024) :
    k0_pay4 acc (ix3 0 r s) = (acc (ix2 r s) : EReal) := by
  pointwise [k0_pay4]

section Cases

variable (c : Dev nD) (i : grid0.Coords) (arg3 : Memref sig .tc .vmem S1024x1408 .bf16) (harg3 : arg3.IsWhole) (arg4 : Memref sig .tc .vmem S1024x1024 .bf16) (harg4 : arg4.IsWhole) (arg5 : Memref sig .tc .vmem S1x1408x1024 .bf16) (harg5 : arg5.IsWhole) (arg6 : Memref sig .tc .vmem S1408x1024 .f32) (harg6 : arg6.IsWhole)
  (x0 : Vec Ideal S1024x1408 .bf16) (x1 : Vec Ideal S1024x1024 .bf16) (acc : Vec Ideal S1408x1024 .f32)

/-- At a first point the buffer ends with the product. -/
theorem buf_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  exact (View.read_writes_full _ _ _ _ _).trans
    (congrArg₂ k0_pay2 ((View.readAt_full _ _ _).trans (harg3.read_unread _)) ((View.readAt_full _ _ _).trans (harg4.read_unread _)))

theorem pay3_congr {a a' : Vec Ideal S1024x1408 .bf16} {b b' : Vec Ideal S1024x1024 .bf16} {d d' : Vec Ideal S1408x1024 .f32}
    (ha : a = a') (hb : b = b') (hd : d = d') : k0_pay3 a b d = k0_pay3 a' b' d' := by rw [ha, hb, hd]

/-- At a middle point the product is added. -/
theorem buf_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  exact (View.read_writes_full _ _ _ _ _).trans
    (pay3_congr ((View.readAt_full _ _ _).trans (harg3.read_unread _)) ((View.readAt_full _ _ _).trans (harg4.read_unread _))
      ((View.readAt_full _ _ _).trans (harg6.read_unread _)))

/-- At a last point the product is added and the buffer is written to the result. -/
theorem out_C (hc0 : ¬cond0_0 i) (hc1 : cond0_1 i) (hc2 : cond0_2 i) :
    out0_C_2 c i arg3 harg3 arg4 harg4 arg5 harg5 arg6 harg6 hc0 hc1 hc2 x0 x1 acc = k0_pay4 (k0_pay3 x0 x1 acc) := by
  unfold out0_C_2
  exact (View.read_writes_full _ _ _ _ _).trans (congrArg k0_pay4
    ((View.readAt_full _ _ _).trans ((View.read_writes_full _ _ _ _ _).trans
      (pay3_congr ((View.readAt_full _ _ _).trans (harg3.read_unread _)) ((View.readAt_full _ _ _).trans (harg4.read_unread _))
        ((View.readAt_full _ _ _).trans (harg6.read_unread _))))))

end Cases

variable (m : (ℓ : Loc nD τ sig) → Buf (Elt Ideal) ℓ) (ρ : Dev nD → PrngReg)

/-- The product of piece `k` for row `r` of row block `j`. -/
def piece (A : Vec Ideal S4096x2816 .bf16) (B : Vec Ideal S4096x1024 .bf16) (k : Fin 4) (r : Fin 2816) (s : Fin 1024) : EReal :=
  ∑ l : Fin 1024, (A (ix2 ⟨k.val * 1024 + l.val, by omega⟩ r) : EReal) * B (ix2 ⟨k.val * 1024 + l.val, by omega⟩ s)

/-- The product of a point's blocks is its piece. -/
theorem sum_blocks (c : Dev nD) (t : Fin cfg0.N) (k : Fin 4) (hk : t.val % 4 = k.val) (r : Fin 1408) (R : Fin 2816)
    (hR : t.val / 4 * 1408 + r.val = R.val) (s : Fin 1024) :
    dotAt (iblk m c 0 t) (iblk m c 1 t) r s
      = piece (V m c main_arg0) (V m c main_arg1) k R s := by
  refine Finset.sum_congr rfl fun l _ => ?_
  refine congrArg₂ (· * ·) ((blk0_apply (V m c main_arg0) t (ix2 l r)).trans (congrArg (V m c main_arg0 : Vec Ideal S4096x2816 .bf16) ?_))
    ((blk1_apply (V m c main_arg1) t (ix2 l s)).trans (congrArg (V m c main_arg1 : Vec Ideal S4096x1024 .bf16) ?_))
  · exact congrArg₂ ix2 (Fin.ext (by show t.val % 4 * 1024 + l.val = k.val * 1024 + l.val; rw [hk])) (Fin.ext hR)
  · exact congrArg₂ ix2 (Fin.ext (by show t.val % 4 * 1024 + l.val = k.val * 1024 + l.val; rw [hk])) rfl

/-- The buffer after the first point of a row block. -/
theorem buf_first (c : Dev nD) (j : Fin 2) (r : Fin 1408) (R : Fin 2816) (hR : j.val * 1408 + r.val = R.val) (s : Fin 1024)
    (n : ℕ) (hn : n = 4 * j.val) (h : n < cfg0.N) :
    ((outsAt0 m c n h).2 (ix2 r s) : EReal) = piece (V m c main_arg0) (V m c main_arg1) 0 R s := by
  refine (congrFun (congrArg Prod.snd (outsAt0_A m c ⟨n, h⟩ (by show n % 4 = 0; omega) (by show ¬1 ≤ n % 4; omega) (by show ¬n % 4 = 3; omega))) _).trans ?_
  dsimp only
  rw [buf_A, pay2_apply]
  exact sum_blocks m c ⟨n, h⟩ 0 (by show n % 4 = 0; omega) r R (by show n / 4 * 1408 + r.val = R.val; omega) s

/-- The buffer after a middle point of a row block. -/
theorem buf_middle (c : Dev nD) (j : Fin 2) (r : Fin 1408) (R : Fin 2816) (hR : j.val * 1408 + r.val = R.val) (s : Fin 1024)
    (k : Fin 4) (h1 : 1 ≤ k.val) (h2 : k.val < 3) (n : ℕ) (hn : n + 1 = 4 * j.val + k.val) (h : n + 1 < cfg0.N) :
    ((outsAt0 m c (n + 1) h).2 (ix2 r s) : EReal)
      = (outsAt0 m c n (Nat.lt_of_succ_lt h)).2 (ix2 r s) + piece (V m c main_arg0) (V m c main_arg1) k R s := by
  refine (congrFun (congrArg Prod.snd (outsAt0_B m c ⟨n + 1, h⟩ (by show ¬(n + 1) % 4 = 0; omega) (by show 1 ≤ (n + 1) % 4; omega) (by show ¬(n + 1) % 4 = 3; omega))) _).trans ?_
  dsimp only
  rw [buf_B, pay3_apply]
  exact congrArg₂ (· + ·) rfl (sum_blocks m c ⟨n + 1, h⟩ k (by show (n + 1) % 4 = k.val; omega) r R (by show (n + 1) / 4 * 1408 + r.val = R.val; omega) s)

/-- The block that the last point of a row block leaves. -/
theorem out_last (c : Dev nD) (j : Fin 2) (r : Fin 1408) (R : Fin 2816) (hR : j.val * 1408 + r.val = R.val) (s : Fin 1024)
    (n : ℕ) (hn : n + 1 = 4 * j.val + 3) (h : n + 1 < cfg0.N) :
    ((outsAt0 m c (n + 1) h).1 (ix3 0 r s) : EReal)
      = (outsAt0 m c n (Nat.lt_of_succ_lt h)).2 (ix2 r s) + piece (V m c main_arg0) (V m c main_arg1) 3 R s := by
  refine (congrFun (congrArg Prod.fst (outsAt0_C m c ⟨n + 1, h⟩ (by show ¬(n + 1) % 4 = 0; omega) (by show 1 ≤ (n + 1) % 4; omega) (by show (n + 1) % 4 = 3; omega))) _).trans ?_
  dsimp only
  rw [out_C, pay4_apply, pay3_apply]
  exact congrArg₂ (· + ·) rfl (sum_blocks m c ⟨n + 1, h⟩ 3 (by show (n + 1) % 4 = 3; omega) r R (by show (n + 1) / 4 * 1408 + r.val = R.val; omega) s)

/-- The four pieces are the whole contraction. -/
theorem pieces (A : Vec Ideal S4096x2816 .bf16) (B : Vec Ideal S4096x1024 .bf16) (R : Fin 2816) (s : Fin 1024) :
    piece A B 0 R s + piece A B 1 R s + piece A B 2 R s + piece A B 3 R s
      = (∑ k : Fin 4096, (A (ix2 k R) : EReal) * B (ix2 k s) : EReal) := by
  rw [Fin.sum_univ_tiles 4 1024 (by decide) (fun k : Fin 4096 => (A (ix2 k R) : EReal) * B (ix2 k s)), Fin.sum_univ_four]
  rfl

/-- What the array of the result holds at an index: its block's contents at the point that writes the block. -/
theorem G2_of (c : Dev nD) (i : S1x2816x1024.Idx) (n : ℕ) (hn : n < cfg0.N) (y : S1x1408x1024.Idx) (hp : pt2Of i = n) (hl : loc2Of i = y) :
    (G2 m c : Vec Ideal S1x2816x1024 .bf16) i = (outsAt0 m c n hn).1 y := by
  subst hp hl
  exact (dif_pos hn).trans (congrFun (congrArg Prod.fst (outsAt0_sweep m c _ hn)) _).symm

/-- The array after the run is `G` of the arguments. -/
theorem G2_eq (c : Dev nD) : (G2 m c : Vec Ideal S1x2816x1024 .bf16) = G (V m c main_arg0) (V m c main_arg1) := by
  funext i
  have h0 : (i 0).val < 1 := (i 0).isLt
  have h1 : (i 1).val < 2816 := (i 1).isLt
  have h2 : (i 2).val < 1024 := (i 2).isLt
  have hj : (i 1).val / 1408 < 2 := by omega
  have hR : (⟨(i 1).val / 1408, hj⟩ : Fin 2).val * 1408 + (⟨(i 1).val % 1408, Nat.mod_lt _ (by decide)⟩ : Fin 1408).val = (i 1).val := by
    show (i 1).val / 1408 * 1408 + (i 1).val % 1408 = (i 1).val; omega
  have hN : 4 * ((i 1).val / 1408) + 3 < cfg0.N := Nat.lt_of_lt_of_eq (by omega) N_0.symm
  refine (G2_of m c i (4 * ((i 1).val / 1408) + 2 + 1) hN (ix3 0 ⟨(i 1).val % 1408, Nat.mod_lt _ (by decide)⟩ (i 2)) ?_ ?_).trans ?_
  · show 4 * (2 * ((i 0).val / 1 - 0) + 1 * ((i 1).val / 1408 - 0) + 1 * ((i 2).val / 1024 - 0)) + 3 = _
    omega
  · funext a; match a with
    | ⟨0, _⟩ => exact Fin.ext (by show (i 0).val % 1 = 0; omega)
    | ⟨1, _⟩ => rfl
    | ⟨2, _⟩ => exact Fin.ext (by show (i 2).val % 1024 = (i 2).val; omega)
  · rw [out_last m c ⟨(i 1).val / 1408, hj⟩ _ (i 1) hR (i 2) _ rfl hN,
      buf_middle m c ⟨(i 1).val / 1408, hj⟩ _ (i 1) hR (i 2) 2 (by decide) (by decide) (4 * ((i 1).val / 1408) + 1) rfl,
      buf_middle m c ⟨(i 1).val / 1408, hj⟩ _ (i 1) hR (i 2) 1 (by decide) (by decide) (4 * ((i 1).val / 1408)) rfl,
      buf_first m c ⟨(i 1).val / 1408, hj⟩ _ (i 1) hR (i 2) _ rfl]
    exact pieces _ _ _ _

/-- The run, its result read. -/
theorem run_read : θ_run defs (onTc (τ := τ) (main (F := Ideal))) ⟨m, fun _ => 0, ρ⟩ fun r => ∀ c : Dev nD,
    r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (G2_eq m c), (h c).2⟩) (Value.run m ρ)

/-- The reference's result is `G` of the same arrays. -/
theorem reference_eq (A : Vec Ideal S4096x2816 .bf16) (B : Vec Ideal S4096x1024 .bf16) :
    Cert.Reference8Ideal.Read.val_main_v8 (F := Ideal) A B = G A B := by
  funext i
  rw [Cert.Reference8Ideal.Read.val_main_v8_apply]
  refine (Cert.Reference8Ideal.Read.val_main_v7_apply A B _).trans ?_
  show Cert.Reference8Ideal.Read.val_main_v6 (F := Ideal) A B _ = _
  rw [Cert.Reference8Ideal.Read.val_main_v6_apply, Cert.Reference8Ideal.Read.val_main_v5_apply, Cert.Reference8Ideal.Read.val_main_v4_apply]
  refine Finset.sum_congr rfl fun k _ => ?_
  refine congrArg₂ (· * ·) (congrArg A ?_) (congrArg B ?_) <;> funext a <;> fin_cases a <;> rfl

end Cert.Kernel8Ideal.GateW

end
-- ==== Proof.GateFwd.lean ====
module

public import Idealize.ShloMosaic.Lib.Pipeline.ValueKit
public import Idealize.ShloMosaic.Lib.Pointwise
public import proofs.«01_k».proof.Proof.Gen.Kernel9Ideal.Value
public import proofs.«01_k».proof.Proof.Gen.Reference9Ideal.Read

/-! # The feed-forward layer's first product, by the turned-over weights

One block of 512 rows and 1408 columns for each grid point `t = 8 j + i` (row block `i`, column block `j`), each a product
over the whole contraction of length 1024. -/

@[expose] public section

set_option maxRecDepth 16384
set_option maxHeartbeats 4000000

noncomputable section

namespace Cert.Kernel9Ideal.GateFwd

open Idealize.ShloMosaic Idealize.ShloMosaic.TcCoe Idealize.ShloMosaic.Tactic
open Cert.Kernel9Ideal.Gen Cert.Kernel9Ideal.Value
open Idealize.ShloMosaic.Pipeline (Dat)

/-- The result at an index: row `i 0` of the left factor times row `i 1` of the right one. -/
def G (A : Vec Ideal S4096x1024 .bf16) (B : Vec Ideal S2816x1024 .bf16) : Vec Ideal S4096x2816 .bf16 := fun i =>
  (∑ k : Fin 1024, (A (ix2 (i 0) k) : EReal) * B (ix2 (i 1) k) : EReal)

theorem point_lt (t : Fin cfg0.N) : t.val < 16 := Nat.lt_of_lt_of_eq t.isLt N_0

/-- The blocks of a grid point. -/
theorem index0 : ∀ t : Fin cfg0.N, win0_0.index t = ![t.val % 8, 0] := (by decide +kernel : ∀ t : Fin grid0.N, _)
theorem index1 : ∀ t : Fin cfg0.N, win0_1.index t = ![t.val / 8, 0] := (by decide +kernel : ∀ t : Fin grid0.N, _)
theorem index2 : ∀ t : Fin cfg0.N, win0_2.index t = ![t.val % 8, t.val / 8] := (by decide +kernel : ∀ t : Fin grid0.N, _)

theorem blk0_apply (A : Vec Ideal S4096x1024 .bf16) (t : Fin cfg0.N) (y : S512x1024.Idx) :
    ((cfg0.win 0).blk t).view.read (Elt Ideal) A y
      = A (ix2 ⟨512 * (t.val % 8) + (y 0).val, by have := (y 0).isLt; simp at this; omega⟩ (y 1)) := by
  rw [View.read_apply, cast_eq]
  apply congrArg A
  funext a
  apply Fin.ext
  refine (Pipeline.Window.rect_emb_val win0_0 t y a rfl).trans ?_
  rw [index0 t]
  fin_cases a
  · simp [Nat.mul_comm]
  · simp

theorem blk1_apply (A : Vec Ideal S2816x1024 .bf16) (t : Fin cfg0.N) (y : S1408x1024.Idx) :
    ((cfg0.win 1).blk t).view.read (Elt Ideal) A y
      = A (ix2 ⟨1408 * (t.val / 8) + (y 0).val, by have := (y 0).isLt; have := point_lt t; simp at *; omega⟩ (y 1)) := by
  rw [View.read_apply, cast_eq]
  apply congrArg A
  funext a
  apply Fin.ext
  refine (Pipeline.Window.rect_emb_val win0_1 t y a rfl).trans ?_
  rw [index1 t]
  fin_cases a
  · simp [Nat.mul_comm]
  · simp

theorem blk2_apply (A : Vec Ideal S4096x2816 .bf16) (t : Fin cfg0.N) (y : S512x1408.Idx) :
    ((cfg0.win 2).blk t).view.read (Elt Ideal) A y
      = A (ix2 ⟨512 * (t.val % 8) + (y 0).val, by have := (y 0).isLt; simp at this; omega⟩
          ⟨1408 * (t.val / 8) + (y 1).val, by have := (y 1).isLt; have := point_lt t; simp at *; omega⟩) := by
  rw [View.read_apply, cast_eq]
  apply congrArg A
  funext a
  apply Fin.ext
  refine (Pipeline.Window.rect_emb_val win0_2 t y a rfl).trans ?_
  rw [index2 t]
  fin_cases a
  · simp [Nat.mul_comm]
  · simp [Nat.mul_comm]

/-- The product that a point stores, at an index of its block. -/
theorem pay_apply (v0 : Vec Ideal S512x1024 .bf16) (v1 : Vec Ideal S1408x1024 .bf16) (r : Fin 512) (s : Fin 1408) :
    k0_pay1 v0 v1 (ix2 r s) = (∑ k : Fin 1024, (v0 (ix2 r k) : EReal) * v1 (ix2 s k) : EReal) := by
  pointwise [k0_pay1]

variable (m : (ℓ : Loc nD τ sig) → Buf (Elt Ideal) ℓ) (ρ : Dev nD → PrngReg)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [flushed2]
  unfold out0_2
  rw [View.canon_unit_zero (by funext a; fin_cases a <;> rfl), View.ld_unit_zero (S := S512x1024) (by funext a; fin_cases a <;> rfl),
    View.ld_unit_zero (S := S1408x1024) (by funext a; fin_cases a <;> rfl)]
  funext y
  change k0_pay1 _ _ (y : S512x1408.Idx) = _
  rw [blk2_apply]
  obtain ⟨r, s, rfl⟩ : ∃ (r : Fin 512) (s : Fin 1408), (y : S512x1408.Idx) = ix2 r s := ⟨y 0, y 1, eq_ix2 y⟩
  rw [pay_apply]
  refine Finset.sum_congr rfl fun k _ => ?_
  exact congrArg₂ (· * ·) (blk0_apply (V m c main_arg0) t (ix2 r k)) (blk1_apply (V m c main_arg1) t (ix2 s k))

/-- An index is in a point's block when each of its coordinates is in the block's range. -/
theorem mem_blk (t : Fin cfg0.N) (i : S4096x2816.Idx) :
    i ∈ ((cfg0.win 2).blk t).view.set
      ↔ ∀ a : Fin 2, win0_2.index t a * S512x1408.size a ≤ (i a).val ∧ (i a).val < win0_2.index t a * S512x1408.size a + S512x1408.size a := by
  show i ∈ ((View.whole main_v0).slice (win0_2.rect t)).set ↔ _
  rw [View.set_slice_whole, Rect.mem_set_unit]
  exact Iff.rfl

/-- Every index lies in the block of a point. -/
theorem covered (i : S4096x2816.Idx) : ∃ t : Fin cfg0.N, (cfg0.win 2).flush t = true ∧ i ∈ ((cfg0.win 2).blk t).view.set := by
  have h0 : (i 0).val < 4096 := (i 0).isLt
  have h1 : (i 1).val < 2816 := (i 1).isLt
  refine ⟨⟨8 * ((i 1).val / 1408) + (i 0).val / 512, Nat.lt_of_lt_of_eq (by omega) N_0.symm⟩, flush0_2 _, ?_⟩
  rw [mem_blk, index2]
  intro a
  fin_cases a
  · show (8 * ((i 1).val / 1408) + (i 0).val / 512) % 8 * 512 ≤ (i 0).val
      ∧ (i 0).val < (8 * ((i 1).val / 1408) + (i 0).val / 512) % 8 * 512 + 512
    omega
  · show (8 * ((i 1).val / 1408) + (i 0).val / 512) / 8 * 1408 ≤ (i 1).val
      ∧ (i 1).val < (8 * ((i 1).val / 1408) + (i 0).val / 512) / 8 * 1408 + 1408
    omega

/-- The array after the run is `G` of the arguments. -/
theorem final (c : Dev nD) : (dats m 0 c).arrAt 2 cfg0.N = G (V m c main_arg0) (V m c main_arg1) :=
  (dats m 0 c).arrAt_eq_of_cover 2 _ (fun t _ => flushed_eq m c t) covered

/-- The run, its result read. -/
theorem run : θ_run defs (onTc (τ := τ) (main (F := Ideal))) ⟨m, fun _ => 0, ρ⟩ fun r => ∀ c : Dev nD,
    r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

/-- The reference's result is `G` of the same arrays. -/
theorem reference_eq (A : Vec Ideal S4096x1024 .bf16) (B : Vec Ideal S2816x1024 .bf16) :
    Cert.Reference9Ideal.Read.val_main_v4 (F := Ideal) A B = G A B := by
  funext i
  refine (Cert.Reference9Ideal.Read.val_main_v4_apply A B i).trans ?_
  show Cert.Reference9Ideal.Read.val_main_v3 (F := Ideal) A B i = _
  rw [Cert.Reference9Ideal.Read.val_main_v3_apply]
  refine Finset.sum_congr rfl fun k _ => ?_
  refine congrArg₂ (· * ·) (congrArg A ?_) ((Cert.Reference9Ideal.Read.val_main_v1_apply B _).trans (congrArg B ?_)) <;> funext a <;> fin_cases a <;> rfl

end Cert.Kernel9Ideal.GateFwd

end
-- ==== Proof.OutNorm.lean ====
module

public import Idealize.ShloMosaic.Lib.Pipeline.ValueKit
public import Idealize.ShloMosaic.Lib.Pointwise
public import proofs.«01_k».proof.Proof.Gen.Kernel10Ideal.Value
public import proofs.«01_k».proof.Proof.Gen.Reference10Ideal.Read

/-! # The output's product with its norms

One block of 512 whole rows for each grid point. A row of the product is over the whole contraction of length 1024, so the
norm of the row, its sum with the row of the layer's input, and the norm of that sum are computed in the same point. -/

@[expose] public section

set_option maxRecDepth 16384
set_option maxHeartbeats 4000000

noncomputable section

namespace Cert.Kernel10Ideal.OutNorm

open Idealize.ShloMosaic Idealize.ShloMosaic.TcCoe Idealize.ShloMosaic.Tactic
open Cert.Kernel10Ideal.Gen Cert.Kernel10Ideal.Value
open Idealize.ShloMosaic.Pipeline (Dat)

/-- Entry `s` of a row over the root of the mean of its squares, times the gain. -/
def norm (f g : Fin 1024 → EReal) (s : Fin 1024) : EReal :=
  f s * Ideal.rsqrt (Ideal.div (∑ k : Fin 1024, f k * f k) (Ideal.ofBits .f32 0x44800000#32) + Ideal.ofBits .f32 0x358637BD#32) * g s

/-- Row `R` of the product. -/
def rowZ (A : Vec Ideal S4096x1024 .bf16) (B : Vec Ideal S1024x1024 .bf16) (R : Fin 4096) (s : Fin 1024) : EReal :=
  (∑ k : Fin 1024, (A (ix2 R k) : EReal) * B (ix2 k s) : EReal)

/-- Row `R` of the layer's input plus the norm of the product's row. -/
def rowX (A : Vec Ideal S4096x1024 .bf16) (B : Vec Ideal S1024x1024 .bf16) (X : Vec Ideal S4096x1024 .f32)
    (g : Vec Ideal S1x1024 .f32) (R : Fin 4096) (s : Fin 1024) : EReal :=
  (X (ix2 R s) : EReal) + norm (rowZ A B R) (fun k => g (ix2 0 k)) s

/-- The three results. -/
def G5 (A : Vec Ideal S4096x1024 .bf16) (B : Vec Ideal S1024x1024 .bf16) : Vec Ideal S4096x1024 .f32 := fun i => rowZ A B (i 0) (i 1)
def G6 (A : Vec Ideal S4096x1024 .bf16) (B : Vec Ideal S1024x1024 .bf16) (X : Vec Ideal S4096x1024 .f32)
    (g : Vec Ideal S1x1024 .f32) : Vec Ideal S4096x1024 .f32 := fun i => rowX A B X g (i 0) (i 1)
def G7 (A : Vec Ideal S4096x1024 .bf16) (B : Vec Ideal S1024x1024 .bf16) (X : Vec Ideal S4096x1024 .f32)
    (g g' : Vec Ideal S1x1024 .f32) : Vec Ideal S4096x1024 .bf16 := fun i =>
  norm (rowX A B X g (i 0)) (fun k => g' (ix2 0 k)) (i 1)

theorem point_lt (t : Fin cfg0.N) : t.val < 8 := Nat.lt_of_lt_of_eq t.isLt N_0

/-- The blocks of a grid point. -/
theorem index0 : ∀ t : Fin cfg0.N, win0_0.index t = ![t.val % 8, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val % 8, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val % 8, 0] := (by decide +kernel : ∀ t : Fin grid0.N, _)
theorem index6 : ∀ t : Fin cfg0.N, win0_6.index t = ![t.val % 8, 0] := (by decide +kernel : ∀ t : Fin grid0.N, _)
theorem index7 : ∀ t : Fin cfg0.N, win0_7.index t = ![t.val % 8, 0] := (by decide +kernel : ∀ t : Fin grid0.N, _)

theorem blk0_apply (A : Vec Ideal S4096x1024 .bf16) (t : Fin cfg0.N) (y : S512x1024.Idx) :
    ((cfg0.win 0).blk t).view.read (Elt Ideal) A y
      = A (ix2 ⟨512 * (t.val % 8) + (y 0).val, by have := (y 0).isLt; simp at this; omega⟩ (y 1)) := by
  rw [View.read_apply, cast_eq]
  apply congrArg A
  funext a
  apply Fin.ext
  refine (Pipeline.Window.rect_emb_val win0_0 t y a rfl).trans ?_
  rw [index0 t]
  fin_cases a
  · simp [Nat.mul_comm]
  · simp

theorem blk1_apply (A : Vec Ideal S1024x1024 .bf16) (t : Fin cfg0.N) (y : S1024x1024.Idx) :
    ((cfg0.win 1).blk t).view.read (Elt Ideal) A y = A (ix2 (y 0) (y 1)) := by
  rw [View.read_apply, cast_eq]
  apply congrArg A
  funext a
  apply Fin.ext
  refine (Pipeline.Window.rect_emb_val win0_1 t y a rfl).trans ?_
  rw [index1 t]
  fin_cases a
  · simp
  · simp

theorem blk2_apply (A : Vec Ideal S4096x1024 .f32) (t : Fin cfg0.N) (y : S512x1024.Idx) :
    ((cfg0.win 2).blk t).view.read (Elt Ideal) A y
      = A (ix2 ⟨512 * (t.val % 8) + (y 0).val, by have := (y 0).isLt; simp at this; omega⟩ (y 1)) := by
  rw [View.read_apply, cast_eq]
  apply congrArg A
  funext a
  apply Fin.ext
  refine (Pipeline.Window.rect_emb_val win0_2 t y a rfl).trans ?_
  rw [index2 t]
  fin_cases a
  · simp [Nat.mul_comm]
  · simp

theorem blk3_apply (A : Vec Ideal S1x1024 .f32) (t : Fin cfg0.N) (y : S1x1024.Idx) :
    ((cfg0.win 3).blk t).view.read (Elt Ideal) A y = A (ix2 (y 0) (y 1)) := by
  rw [View.read_apply, cast_eq]
  apply congrArg A
  funext a
  apply Fin.ext
  refine (Pipeline.Window.rect_emb_val win0_3 t y a rfl).trans ?_
  rw [index3 t]
  fin_cases a
  · simp
  · simp

theorem blk4_apply (A : Vec Ideal S1x1024 .f32) (t : Fin cfg0.N) (y : S1x1024.Idx) :
    ((cfg0.win 4).blk t).view.read (Elt Ideal) A y = A (ix2 (y 0) (y 1)) := by
  rw [View.read_apply, cast_eq]
  apply congrArg A
  funext a
  apply Fin.ext
  refine (Pipeline.Window.rect_emb_val win0_4 t y a rfl).trans ?_
  rw [index4 t]
  fin_cases a
  · simp
  · simp

theorem blk5_apply (A : Vec Ideal S4096x1024 .f32) (t : Fin cfg0.N) (y : S512x1024.Idx) :
    ((cfg0.win 5).blk t).view.read (Elt Ideal) A y
      = A (ix2 ⟨512 * (t.val % 8) + (y 0).val, by have := (y 0).isLt; simp at this; omega⟩ (y 1)) := by
  rw [View.read_apply, cast_eq]
  apply congrArg A
  funext a
  apply Fin.ext
  refine (Pipeline.Window.rect_emb_val win0_5 t y a rfl).trans ?_
  rw [index5 t]
  fin_cases a
  · simp [Nat.mul_comm]
  · simp

theorem blk6_apply (A : Vec Ideal S4096x1024 .f32) (t : Fin cfg0.N) (y : S512x1024.Idx) :
    ((cfg0.win 6).blk t).view.read (Elt Ideal) A y
      = A (ix2 ⟨512 * (t.val % 8) + (y 0).val, by have := (y 0).isLt; simp at this; omega⟩ (y 1)) := by
  rw [View.read_apply, cast_eq]
  apply congrArg A
  funext a
  apply Fin.ext
  refine (Pipeline.Window.rect_emb_val win0_6 t y a rfl).trans ?_
  rw [index6 t]
  fin_cases a
  · simp [Nat.mul_comm]
  · simp

theorem blk7_apply (A : Vec Ideal S4096x1024 .bf16) (t : Fin cfg0.N) (y : S512x1024.Idx) :
    ((cfg0.win 7).blk t).view.read (Elt Ideal) A y
      = A (ix2 ⟨512 * (t.val % 8) + (y 0).val, by have := (y 0).isLt; simp at this; omega⟩ (y 1)) := by
  rw [View.read_apply, cast_eq]
  apply congrArg A
  funext a
  apply Fin.ext
  refine (Pipeline.Window.rect_emb_val win0_7 t y a rfl).trans ?_
  rw [index7 t]
  fin_cases a
  · simp [Nat.mul_comm]
  · simp

/-- What a point stores, at an index of its block. -/
theorem pay1_apply (v0 : Vec Ideal S512x1024 .bf16) (v1 : Vec Ideal S1024x1024 .bf16) (r : Fin 512) (s : Fin 1024) :
    k0_pay1 v0 v1 (ix2 r s) = (∑ k : Fin 1024, (v0 (ix2 r k) : EReal) * v1 (ix2 k s) : EReal) := by
  pointwise [k0_pay1]

theorem pay2_apply (v0 : Vec Ideal S512x1024 .bf16) (v1 : Vec Ideal S1024x1024 .bf16) (v2 : Vec Ideal S512x1024 .f32)
    (v3 : Vec Ideal S1x1024 .f32) (r : Fin 512) (s : Fin 1024) :
    k0_pay2 v0 v1 v2 v3 (ix2 r s) = (v2 (ix2 r s) : EReal) + norm (fun k => k0_pay1 v0 v1 (ix2 r k)) (fun k => v3 (ix2 0 k)) s := by
  unfold norm
  pointwise [k0_pay2]

theorem pay3_apply (v0 : Vec Ideal S512x1024 .bf16) (v1 : Vec Ideal S1024x1024 .bf16) (v2 : Vec Ideal S512x1024 .f32)
    (v3 v4 : Vec Ideal S1x1024 .f32) (r : Fin 512) (s : Fin 1024) :
    k0_pay3 v0 v1 v2 v3 v4 (ix2 r s) = norm (fun k => k0_pay2 v0 v1 v2 v3 (ix2 r k)) (fun k => v4 (ix2 0 k)) s := by
  unfold norm
  pointwise [k0_pay3]

variable (m : (ℓ : Loc nD τ sig) → Buf (Elt Ideal) ℓ) (ρ : Dev nD → PrngReg)

/-- The row of the arrays that row `r` of a point's block is. -/
def row (t : Fin cfg0.N) (r : Fin 512) : Fin 4096 := ⟨512 * (t.val % 8) + r.val, by omega⟩

theorem row_z (c : Dev nD) (t : Fin cfg0.N) (r : Fin 512) (s : Fin 1024) :
    k0_pay1 (iblk m c 0 t) (iblk m c 1 t) (ix2 r s) = rowZ (V m c main_arg0) (V m c main_arg1) (row t r) s := by
  rw [pay1_apply]
  refine Finset.sum_congr rfl fun k _ => ?_
  exact congrArg₂ (· * ·) (blk0_apply (V m c main_arg0) t (ix2 r k)) (blk1_apply (V m c main_arg1) t (ix2 k s))

theorem row_x (c : Dev nD) (t : Fin cfg0.N) (r : Fin 512) (s : Fin 1024) :
    k0_pay2 (iblk m c 0 t) (iblk m c 1 t) (iblk m c 2 t) (iblk m c 3 t) (ix2 r s)
      = rowX (V m c main_arg0) (V m c main_arg1) (V m c main_arg2) (V m c main_arg3) (row t r) s := by
  rw [pay2_apply]
  have h1 : (fun k => k0_pay1 (iblk m c 0 t) (iblk m c 1 t) (ix2 r k)) = rowZ (V m c main_arg0) (V m c main_arg1) (row t r) :=
    funext fun k => row_z m c t r k
  have h2 : (fun k : Fin 1024 => (iblk m c 3 t : Vec Ideal S1x1024 .f32) (ix2 0 k)) = fun k => (V m c main_arg3 : Vec Ideal S1x1024 .f32) (ix2 0 k) :=
    funext fun k => blk3_apply (V m c main_arg3) t (ix2 0 k)
  rw [h1]
  refine congrArg₂ (· + ·) (blk2_apply (V m c main_arg2) t (ix2 r s)) ?_
  exact congrArg (fun g => norm (rowZ (V m c main_arg0) (V m c main_arg1) (row t r)) g s) h2

theorem row_h (c : Dev nD) (t : Fin cfg0.N) (r : Fin 512) (s : Fin 1024) :
    k0_pay3 (iblk m c 0 t) (iblk m c 1 t) (iblk m c 2 t) (iblk m c 3 t) (iblk m c 4 t) (ix2 r s)
      = norm (rowX (V m c main_arg0) (V m c main_arg1) (V m c main_arg2) (V m c main_arg3) (row t r))
          (fun k => (V m c main_arg4 : Vec Ideal S1x1024 .f32) (ix2 0 k)) s := by
  rw [pay3_apply]
  have h1 : (fun k => k0_pay2 (iblk m c 0 t) (iblk m c 1 t) (iblk m c 2 t) (iblk m c 3 t) (ix2 r k))
      = rowX (V m c main_arg0) (V m c main_arg1) (V m c main_arg2) (V m c main_arg3) (row t r) :=
    funext fun k => row_x m c t r k
  have h2 : (fun k : Fin 1024 => (iblk m c 4 t : Vec Ideal S1x1024 .f32) (ix2 0 k)) = fun k => (V m c main_arg4 : Vec Ideal S1x1024 .f32) (ix2 0 k) :=
    funext fun k => blk4_apply (V m c main_arg4) t (ix2 0 k)
  rw [h1]
  exact congrArg (fun g => norm (rowX (V m c main_arg0) (V m c main_arg1) (V m c main_arg2) (V m c main_arg3) (row t r)) g s) h2

/-- What a point writes back to result 1 is its block of `G5`. -/
theorem flushed5_eq (c : Dev nD) (t : Fin cfg0.N) :
    (dats m 0 c).flushed 5 t = ((cfg0.win 5).blk t).view.read (Elt Ideal) (G5 (V m c main_arg0) (V m c main_arg1)) := by
  rw [flushed5]
  unfold out0_5
  rw [View.canon_unit_zero (by funext a; fin_cases a <;> rfl)]
  simp only [View.ld_unit_zero (S := S512x1024) (show (![0, 0] : Fin 2 → Nat) = 0 by funext a; fin_cases a <;> rfl),
    View.ld_unit_zero (S := S1024x1024) (show (![0, 0] : Fin 2 → Nat) = 0 by funext a; fin_cases a <;> rfl),
    View.ld_unit_zero (S := S1x1024) (show (![0, 0] : Fin 2 → Nat) = 0 by funext a; fin_cases a <;> rfl)]
  funext y
  change k0_pay1 _ _ (y : S512x1024.Idx) = _
  rw [blk5_apply]
  obtain ⟨r, s, rfl⟩ : ∃ (r : Fin 512) (s : Fin 1024), (y : S512x1024.Idx) = ix2 r s := ⟨y 0, y 1, eq_ix2 y⟩
  exact row_z m c t r s

/-- An index is in a point's block when each of its coordinates is in the block's range. -/
theorem mem_blk5 (t : Fin cfg0.N) (i : S4096x1024.Idx) :
    i ∈ ((cfg0.win 5).blk t).view.set
      ↔ ∀ a : Fin 2, win0_5.index t a * S512x1024.size a ≤ (i a).val ∧ (i a).val < win0_5.index t a * S512x1024.size a + S512x1024.size a := by
  show i ∈ ((View.whole main_v0_0).slice (win0_5.rect t)).set ↔ _
  rw [View.set_slice_whole, Rect.mem_set_unit]
  exact Iff.rfl

/-- Every index lies in the block of a point. -/
theorem covered5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  refine ⟨⟨(i 0).val / 512, Nat.lt_of_lt_of_eq (by omega) N_0.symm⟩, flush0_5 _, ?_⟩
  rw [mem_blk5, index5]
  intro a
  fin_cases a
  · show (i 0).val / 512 % 8 * 512 ≤ (i 0).val ∧ (i 0).val < (i 0).val / 512 % 8 * 512 + 512
    omega
  · show 0 * 1024 ≤ (i 1).val ∧ (i 1).val < 0 * 1024 + 1024
    omega

/-- The array after the run is `G5` of the arguments. -/
theorem final5 (c : Dev nD) : (dats m 0 c).arrAt 5 cfg0.N = G5 (V m c main_arg0) (V m c main_arg1) :=
  (dats m 0 c).arrAt_eq_of_cover 5 _ (fun t _ => flushed5_eq m c t) covered5

/-- What a point writes back to result 2 is its block of `G6`. -/
theorem flushed6_eq (c : Dev nD) (t : Fin cfg0.N) :
    (dats m 0 c).flushed 6 t = ((cfg0.win 6).blk t).view.read (Elt Ideal) (G6 (V m c main_arg0) (V m c main_arg1) (V m c main_arg2) (V m c main_arg3)) := by
  rw [flushed6]
  unfold out0_6
  rw [View.canon_unit_zero (by funext a; fin_cases a <;> rfl)]
  simp only [View.ld_unit_zero (S := S512x1024) (show (![0, 0] : Fin 2 → Nat) = 0 by funext a; fin_cases a <;> rfl),
    View.ld_unit_zero (S := S1024x1024) (show (![0, 0] : Fin 2 → Nat) = 0 by funext a; fin_cases a <;> rfl),
    View.ld_unit_zero (S := S1x1024) (show (![0, 0] : Fin 2 → Nat) = 0 by funext a; fin_cases a <;> rfl)]
  funext y
  change k0_pay2 _ _ _ _ (y : S512x1024.Idx) = _
  rw [blk6_apply]
  obtain ⟨r, s, rfl⟩ : ∃ (r : Fin 512) (s : Fin 1024), (y : S512x1024.Idx) = ix2 r s := ⟨y 0, y 1, eq_ix2 y⟩
  exact row_x m c t r s

/-- An index is in a point's block when each of its coordinates is in the block's range. -/
theorem mem_blk6 (t : Fin cfg0.N) (i : S4096x1024.Idx) :
    i ∈ ((cfg0.win 6).blk t).view.set
      ↔ ∀ a : Fin 2, win0_6.index t a * S512x1024.size a ≤ (i a).val ∧ (i a).val < win0_6.index t a * S512x1024.size a + S512x1024.size a := by
  show i ∈ ((View.whole main_v0_1).slice (win0_6.rect t)).set ↔ _
  rw [View.set_slice_whole, Rect.mem_set_unit]
  exact Iff.rfl

/-- Every index lies in the block of a point. -/
theorem covered6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  refine ⟨⟨(i 0).val / 512, Nat.lt_of_lt_of_eq (by omega) N_0.symm⟩, flush0_6 _, ?_⟩
  rw [mem_blk6, index6]
  intro a
  fin_cases a
  · show (i 0).val / 512 % 8 * 512 ≤ (i 0).val ∧ (i 0).val < (i 0).val / 512 % 8 * 512 + 512
    omega
  · show 0 * 1024 ≤ (i 1).val ∧ (i 1).val < 0 * 1024 + 1024
    omega

/-- The array after the run is `G6` of the arguments. -/
theorem final6 (c : Dev nD) : (dats m 0 c).arrAt 6 cfg0.N = G6 (V m c main_arg0) (V m c main_arg1) (V m c main_arg2) (V m c main_arg3) :=
  (dats m 0 c).arrAt_eq_of_cover 6 _ (fun t _ => flushed6_eq m c t) covered6

/-- What a point writes back to result 3 is its block of `G7`. -/
theorem flushed7_eq (c : Dev nD) (t : Fin cfg0.N) :
    (dats m 0 c).flushed 7 t = ((cfg0.win 7).blk t).view.read (Elt Ideal) (G7 (V m c main_arg0) (V m c main_arg1) (V m c main_arg2) (V m c main_arg3) (V m c main_arg4)) := by
  rw [flushed7]
  unfold out0_7
  rw [View.canon_unit_zero (by funext a; fin_cases a <;> rfl)]
  simp only [View.ld_unit_zero (S := S512x1024) (show (![0, 0] : Fin 2 → Nat) = 0 by funext a; fin_cases a <;> rfl),
    View.ld_unit_zero (S := S1024x1024) (show (![0, 0] : Fin 2 → Nat) = 0 by funext a; fin_cases a <;> rfl),
    View.ld_unit_zero (S := S1x1024) (show (![0, 0] : Fin 2 → Nat) = 0 by funext a; fin_cases a <;> rfl)]
  funext y
  change k0_pay3 _ _ _ _ _ (y : S512x1024.Idx) = _
  rw [blk7_apply]
  obtain ⟨r, s, rfl⟩ : ∃ (r : Fin 512) (s : Fin 1024), (y : S512x1024.Idx) = ix2 r s := ⟨y 0, y 1, eq_ix2 y⟩
  exact row_h m c t r s

/-- An index is in a point's block when each of its coordinates is in the block's range. -/
theorem mem_blk7 (t : Fin cfg0.N) (i : S4096x1024.Idx) :
    i ∈ ((cfg0.win 7).blk t).view.set
      ↔ ∀ a : Fin 2, win0_7.index t a * S512x1024.size a ≤ (i a).val ∧ (i a).val < win0_7.index t a * S512x1024.size a + S512x1024.size a := by
  show i ∈ ((View.whole main_v0_2).slice (win0_7.rect t)).set ↔ _
  rw [View.set_slice_whole, Rect.mem_set_unit]
  exact Iff.rfl

/-- Every index lies in the block of a point. -/
theorem covered7 (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  refine ⟨⟨(i 0).val / 512, Nat.lt_of_lt_of_eq (by omega) N_0.symm⟩, flush0_7 _, ?_⟩
  rw [mem_blk7, index7]
  intro a
  fin_cases a
  · show (i 0).val / 512 % 8 * 512 ≤ (i 0).val ∧ (i 0).val < (i 0).val / 512 % 8 * 512 + 512
    omega
  · show 0 * 1024 ≤ (i 1).val ∧ (i 1).val < 0 * 1024 + 1024
    omega

/-- The array after the run is `G7` of the arguments. -/
theorem final7 (c : Dev nD) : (dats m 0 c).arrAt 7 cfg0.N = G7 (V m c main_arg0) (V m c main_arg1) (V m c main_arg2) (V m c main_arg3) (V m c main_arg4) :=
  (dats m 0 c).arrAt_eq_of_cover 7 _ (fun t _ => flushed7_eq m c t) covered7

/-- The run, its results read. -/
theorem run : θ_run defs (onTc (τ := τ) (main (F := Ideal))) ⟨m, fun _ => 0, ρ⟩ fun r => ∀ c : Dev nD,
    r.2.mem ((c : Thread nD τ).loc main_v0_0) = G5 (m ((c : Thread nD τ).loc main_arg0)) (m ((c : Thread nD τ).loc main_arg1))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c), (h c).2.2.2⟩)
    (run_blocks m ρ)

/-- The reference's product at an index. -/
theorem ref_z (A : Vec Ideal S4096x1024 .bf16) (B : Vec Ideal S1024x1024 .bf16) (R : Fin 4096) (s : Fin 1024) :
    Cert.Reference10Ideal.Read.val_main_v2 (F := Ideal) A B (ix2 R s) = rowZ A B R s := by
  rw [Cert.Reference10Ideal.Read.val_main_v2_apply]
  refine Finset.sum_congr rfl fun k _ => ?_
  refine congrArg₂ (· * ·) (congrArg A ?_) (congrArg B ?_) <;> funext a <;> fin_cases a <;> rfl

/-- The reference's sum of the squares of the product's row. -/
theorem ref_sum (A : Vec Ideal S4096x1024 .bf16) (B : Vec Ideal S1024x1024 .bf16) (R : Fin 4096) (j : Cert.Reference10Ideal.S4096.Idx)
    (hj : (j 0).val = R.val) :
    Cert.Reference10Ideal.Read.val_main_v4 (F := Ideal) A B j = (∑ k : Fin 1024, rowZ A B R k * rowZ A B R k : EReal) := by
  rw [Cert.Reference10Ideal.Read.val_main_v4_apply, Cert.Reference10Ideal.Read.val_main_cst_apply]
  refine (congrArg (· + _) Ideal.ofBits_zero_f32).trans ((zero_add _).trans ?_)
  refine Finset.sum_congr rfl fun k _ => ?_
  have hk : Cert.Reference10Ideal.Read.idx_main_v4 j k = ix2 R k := by
    funext a
    fin_cases a
    · exact Fin.ext hj
    · rfl
  rw [hk, Cert.Reference10Ideal.Read.val_main_v3_apply, ref_z]
  rfl

/-- The reference's second result at an index. -/
theorem ref_x (A : Vec Ideal S4096x1024 .bf16) (B : Vec Ideal S1024x1024 .bf16) (X : Vec Ideal S4096x1024 .f32)
    (g : Vec Ideal S1x1024 .f32) (R : Fin 4096) (s : Fin 1024) :
    Cert.Reference10Ideal.Read.val_main_v15 (F := Ideal) A B X g (ix2 R s) = rowX A B X g R s := by
  rw [Cert.Reference10Ideal.Read.val_main_v15_apply, Cert.Reference10Ideal.Read.val_main_v14_apply, Cert.Reference10Ideal.Read.val_main_v12_apply,
    Cert.Reference10Ideal.Read.val_main_v13_apply, Cert.Reference10Ideal.Read.val_main_v11_apply, Cert.Reference10Ideal.Read.val_main_v10_apply,
    Cert.Reference10Ideal.Read.val_main_v9_apply, Cert.Reference10Ideal.Read.val_main_v8_apply, Cert.Reference10Ideal.Read.val_main_v7_apply,
    Cert.Reference10Ideal.Read.val_main_v6_apply, Cert.Reference10Ideal.Read.val_main_v5_apply, Cert.Reference10Ideal.Read.val_main_cst_0_apply,
    Cert.Reference10Ideal.Read.val_main_cst_1_apply, ref_z, ref_sum A B R _ rfl]
  have hg : Cert.Reference10Ideal.Read.idx_main_v13 (ix2 R s) = ix2 0 s := by
    funext a
    fin_cases a <;> rfl
  rw [hg]
  rfl

theorem ref_sum' (A : Vec Ideal S4096x1024 .bf16) (B : Vec Ideal S1024x1024 .bf16) (X : Vec Ideal S4096x1024 .f32)
    (g : Vec Ideal S1x1024 .f32) (R : Fin 4096) (j : Cert.Reference10Ideal.S4096.Idx) (hj : (j 0).val = R.val) :
    Cert.Reference10Ideal.Read.val_main_v17 (F := Ideal) A B X g j = (∑ k : Fin 1024, rowX A B X g R k * rowX A B X g R k : EReal) := by
  rw [Cert.Reference10Ideal.Read.val_main_v17_apply, Cert.Reference10Ideal.Read.val_main_cst_2_apply]
  refine (congrArg (· + _) Ideal.ofBits_zero_f32).trans ((zero_add _).trans ?_)
  refine Finset.sum_congr rfl fun k _ => ?_
  have hk : Cert.Reference10Ideal.Read.idx_main_v17 j k = ix2 R k := by
    funext a
    fin_cases a
    · exact Fin.ext hj
    · rfl
  rw [hk, Cert.Reference10Ideal.Read.val_main_v16_apply, ref_x]
  rfl

/-- The reference's results are `G5`, `G6` and `G7` of the same arrays. -/
theorem reference5_eq (A : Vec Ideal S4096x1024 .bf16) (B : Vec Ideal S1024x1024 .bf16) :
    Cert.Reference10Ideal.Read.val_main_v2 (F := Ideal) A B = G5 A B := by
  funext i
  obtain ⟨R, s, rfl⟩ : ∃ (R : Fin 4096) (s : Fin 1024), i = ix2 R s := ⟨i 0, i 1, eq_ix2 i⟩
  exact ref_z A B R s

theorem reference6_eq (A : Vec Ideal S4096x1024 .bf16) (B : Vec Ideal S1024x1024 .bf16) (X : Vec Ideal S4096x1024 .f32)
    (g : Vec Ideal S1x1024 .f32) : Cert.Reference10Ideal.Read.val_main_v15 (F := Ideal) A B X g = G6 A B X g := by
  funext i
  obtain ⟨R, s, rfl⟩ : ∃ (R : Fin 4096) (s : Fin 1024), i = ix2 R s := ⟨i 0, i 1, eq_ix2 i⟩
  exact ref_x A B X g R s

theorem reference7_eq (A : Vec Ideal S4096x1024 .bf16) (B : Vec Ideal S1024x1024 .bf16) (X : Vec Ideal S4096x1024 .f32)
    (g g' : Vec Ideal S1x1024 .f32) : Cert.Reference10Ideal.Read.val_main_v28 (F := Ideal) A B X g g' = G7 A B X g g' := by
  funext i
  obtain ⟨R, s, rfl⟩ : ∃ (R : Fin 4096) (s : Fin 1024), i = ix2 R s := ⟨i 0, i 1, eq_ix2 i⟩
  rw [Cert.Reference10Ideal.Read.val_main_v28_apply, Cert.Reference10Ideal.Read.val_main_v27_apply, Cert.Reference10Ideal.Read.val_main_v26_apply,
    Cert.Reference10Ideal.Read.val_main_v25_apply, Cert.Reference10Ideal.Read.val_main_v24_apply, Cert.Reference10Ideal.Read.val_main_v23_apply,
    Cert.Reference10Ideal.Read.val_main_v22_apply, Cert.Reference10Ideal.Read.val_main_v21_apply, Cert.Reference10Ideal.Read.val_main_v20_apply,
    Cert.Reference10Ideal.Read.val_main_v19_apply, Cert.Reference10Ideal.Read.val_main_v18_apply, Cert.Reference10Ideal.Read.val_main_cst_3_apply,
    Cert.Reference10Ideal.Read.val_main_cst_4_apply, ref_x, ref_sum' A B X g R _ rfl]
  have hg : Cert.Reference10Ideal.Read.idx_main_v26 (ix2 R s) = ix2 0 s := by
    funext a
    fin_cases a <;> rfl
  rw [hg]
  rfl

end Cert.Kernel10Ideal.OutNorm

end
-- ==== Proof.DownNorm.lean ====
module

public import Idealize.ShloMosaic.Lib.Pipeline.ValueKit
public import Idealize.ShloMosaic.Lib.Pointwise
public import Idealize.ShloMosaic.Lib.VecWindow
public import proofs.«01_k».proof.Proof.Gen.Kernel11Ideal.Value
public import proofs.«01_k».proof.Proof.Gen.Reference11Ideal.Read

/-! # The feed-forward layer's last product with its gated factor and its norms

The contraction runs over 2816 columns, in 2 halves of 1408: grid point `t = 2 j + k` makes half `k` of the gated factor's
row block `j` and stores it as a result. The first point of a row block leaves the product of its half in a buffer. The
second adds the other half, so the buffer holds whole rows of the product, and takes the norms of them. -/

@[expose] public section

set_option maxRecDepth 16384
set_option maxHeartbeats 4000000

noncomputable section

namespace Cert.Kernel11Ideal.DownNorm

open Idealize.ShloMosaic Idealize.ShloMosaic.TcCoe Idealize.ShloMosaic.Tactic
open Cert.Kernel11Ideal.Gen Cert.Kernel11Ideal.Value
open Idealize.ShloMosaic.Pipeline (Dat)

/-- Entry `s` of a row over the root of the mean of its squares, times the gain. -/
def norm (f g : Fin 1024 → EReal) (s : Fin 1024) : EReal :=
  f s * Ideal.rsqrt (Ideal.div (∑ k : Fin 1024, f k * f k) (Ideal.ofBits .f32 0x44800000#32) + Ideal.ofBits .f32 0x358637BD#32) * g s

/-- The gated factor of a pair of numbers: `a` over one plus the exponential of minus `a`, times `b`. -/
def gate (b a : EReal) : EReal :=
  a * Ideal.div (Ideal.ofBits .f32 0x3F800000#32) (Ideal.ofBits .f32 0x3F800000#32 + Ideal.exp (-a)) * b

/-- Row `R` of the product. -/
def rowZ (B A : Vec Ideal S4096x2816 .bf16) (W : Vec Ideal S2816x1024 .bf16) (R : Fin 4096) (s : Fin 1024) : EReal :=
  (∑ k : Fin 2816, gate (B (ix2 R k)) (A (ix2 R k)) * W (ix2 k s) : EReal)

/-- Row `R` of the layer's input plus the norm of the product's row. -/
def rowX (B A : Vec Ideal S4096x2816 .bf16) (W : Vec Ideal S2816x1024 .bf16) (X : Vec Ideal S4096x1024 .f32)
    (g : Vec Ideal S1x1024 .f32) (R : Fin 4096) (s : Fin 1024) : EReal :=
  (X (ix2 R s) : EReal) + norm (rowZ B A W R) (fun k => g (ix2 0 k)) s

/-- The four results. -/
def G6 (B A : Vec Ideal S4096x2816 .bf16) (W : Vec Ideal S2816x1024 .bf16) : Vec Ideal S4096x1024 .f32 := fun i => rowZ B A W (i 0) (i 1)
def G7 (B A : Vec Ideal S4096x2816 .bf16) (W : Vec Ideal S2816x1024 .bf16) (X : Vec Ideal S4096x1024 .f32)
    (g : Vec Ideal S1x1024 .f32) : Vec Ideal S4096x1024 .f32 := fun i => rowX B A W X g (i 0) (i 1)
def G8 (B A : Vec Ideal S4096x2816 .bf16) (W : Vec Ideal S2816x1024 .bf16) (X : Vec Ideal S4096x1024 .f32)
    (g g' : Vec Ideal S1x1024 .f32) : Vec Ideal S4096x1024 .bf16 := fun i =>
  norm (rowX B A W X g (i 0)) (fun k => g' (ix2 0 k)) (i 1)
def G9 (B A : Vec Ideal S4096x2816 .bf16) : Vec Ideal S4096x2816 .bf16 := fun i => gate (B i) (A i)

theorem point_lt (t : Fin cfg0.N) : t.val < 16 := Nat.lt_of_lt_of_eq t.isLt N_0

/-- The blocks of a grid point. -/
theorem index0 : ∀ t : Fin cfg0.N, win0_0.index t = ![t.val / 2, t.val % 2] := (by decide +kernel : ∀ t : Fin grid0.N, _)
theorem index1 : ∀ t : Fin cfg0.N, win0_1.index t = ![t.val / 2, t.val % 2] := (by decide +kernel : ∀ t : Fin grid0.N, _)
theorem index2 : ∀ t : Fin cfg0.N, win0_2.index t = ![t.val % 2, 0] := (by decide +kernel : ∀ t : Fin grid0.N, _)
theorem index3 : ∀ t : Fin cfg0.N, win0_3.index t = ![t.val / 2, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val / 2, 0] := (by decide +kernel : ∀ t : Fin grid0.N, _)
theorem index7 : ∀ t : Fin cfg0.N, win0_7.index t = ![t.val / 2, 0] := (by decide +kernel : ∀ t : Fin grid0.N, _)
theorem index8 : ∀ t : Fin cfg0.N, win0_8.index t = ![t.val / 2, 0] := (by decide +kernel : ∀ t : Fin grid0.N, _)
theorem index9 : ∀ t : Fin cfg0.N, win0_9.index t = ![t.val / 2, t.val % 2] := (by decide +kernel : ∀ t : Fin grid0.N, _)

theorem blk0_apply (A : Vec Ideal S4096x2816 .bf16) (t : Fin cfg0.N) (y : S512x1408.Idx) :
    ((cfg0.win 0).blk t).view.read (Elt Ideal) A y
      = A (ix2 ⟨t.val / 2 * 512 + (y 0).val, by have := (y 0).isLt; have := point_lt t; simp at *; omega⟩
          ⟨t.val % 2 * 1408 + (y 1).val, by have := (y 1).isLt; simp at this; omega⟩) := by
  rw [View.read_apply, cast_eq]
  apply congrArg A
  funext a
  apply Fin.ext
  refine (Pipeline.Window.rect_emb_val win0_0 t y a rfl).trans ?_
  rw [index0 t]
  fin_cases a
  · simp
  · simp

theorem blk1_apply (A : Vec Ideal S4096x2816 .bf16) (t : Fin cfg0.N) (y : S512x1408.Idx) :
    ((cfg0.win 1).blk t).view.read (Elt Ideal) A y
      = A (ix2 ⟨t.val / 2 * 512 + (y 0).val, by have := (y 0).isLt; have := point_lt t; simp at *; omega⟩
          ⟨t.val % 2 * 1408 + (y 1).val, by have := (y 1).isLt; simp at this; omega⟩) := by
  rw [View.read_apply, cast_eq]
  apply congrArg A
  funext a
  apply Fin.ext
  refine (Pipeline.Window.rect_emb_val win0_1 t y a rfl).trans ?_
  rw [index1 t]
  fin_cases a
  · simp
  · simp

theorem blk2_apply (A : Vec Ideal S2816x1024 .bf16) (t : Fin cfg0.N) (y : S1408x1024.Idx) :
    ((cfg0.win 2).blk t).view.read (Elt Ideal) A y
      = A (ix2 ⟨t.val % 2 * 1408 + (y 0).val, by have := (y 0).isLt; simp at this; omega⟩ (y 1)) := by
  rw [View.read_apply, cast_eq]
  apply congrArg A
  funext a
  apply Fin.ext
  refine (Pipeline.Window.rect_emb_val win0_2 t y a rfl).trans ?_
  rw [index2 t]
  fin_cases a
  · simp
  · simp

theorem blk3_apply (A : Vec Ideal S4096x1024 .f32) (t : Fin cfg0.N) (y : S512x1024.Idx) :
    ((cfg0.win 3).blk t).view.read (Elt Ideal) A y
      = A (ix2 ⟨t.val / 2 * 512 + (y 0).val, by have := (y 0).isLt; have := point_lt t; simp at *; omega⟩ (y 1)) := by
  rw [View.read_apply, cast_eq]
  apply congrArg A
  funext a
  apply Fin.ext
  refine (Pipeline.Window.rect_emb_val win0_3 t y a rfl).trans ?_
  rw [index3 t]
  fin_cases a
  · simp
  · simp

theorem blk4_apply (A : Vec Ideal S1x1024 .f32) (t : Fin cfg0.N) (y : S1x1024.Idx) :
    ((cfg0.win 4).blk t).view.read (Elt Ideal) A y
      = A (ix2 (y 0) (y 1)) := by
  rw [View.read_apply, cast_eq]
  apply congrArg A
  funext a
  apply Fin.ext
  refine (Pipeline.Window.rect_emb_val win0_4 t y a rfl).trans ?_
  rw [index4 t]
  fin_cases a
  · simp
  · simp

theorem blk5_apply (A : Vec Ideal S1x1024 .f32) (t : Fin cfg0.N) (y : S1x1024.Idx) :
    ((cfg0.win 5).blk t).view.read (Elt Ideal) A y
      = A (ix2 (y 0) (y 1)) := by
  rw [View.read_apply, cast_eq]
  apply congrArg A
  funext a
  apply Fin.ext
  refine (Pipeline.Window.rect_emb_val win0_5 t y a rfl).trans ?_
  rw [index5 t]
  fin_cases a
  · simp
  · simp

theorem blk6_apply (A : Vec Ideal S4096x1024 .f32) (t : Fin cfg0.N) (y : S512x1024.Idx) :
    ((cfg0.win 6).blk t).view.read (Elt Ideal) A y
      = A (ix2 ⟨t.val / 2 * 512 + (y 0).val, by have := (y 0).isLt; have := point_lt t; simp at *; omega⟩ (y 1)) := by
  rw [View.read_apply, cast_eq]
  apply congrArg A
  funext a
  apply Fin.ext
  refine (Pipeline.Window.rect_emb_val win0_6 t y a rfl).trans ?_
  rw [index6 t]
  fin_cases a
  · simp
  · simp

theorem blk7_apply (A : Vec Ideal S4096x1024 .f32) (t : Fin cfg0.N) (y : S512x1024.Idx) :
    ((cfg0.win 7).blk t).view.read (Elt Ideal) A y
      = A (ix2 ⟨t.val / 2 * 512 + (y 0).val, by have := (y 0).isLt; have := point_lt t; simp at *; omega⟩ (y 1)) := by
  rw [View.read_apply, cast_eq]
  apply congrArg A
  funext a
  apply Fin.ext
  refine (Pipeline.Window.rect_emb_val win0_7 t y a rfl).trans ?_
  rw [index7 t]
  fin_cases a
  · simp
  · simp

theorem blk8_apply (A : Vec Ideal S4096x1024 .bf16) (t : Fin cfg0.N) (y : S512x1024.Idx) :
    ((cfg0.win 8).blk t).view.read (Elt Ideal) A y
      = A (ix2 ⟨t.val / 2 * 512 + (y 0).val, by have := (y 0).isLt; have := point_lt t; simp at *; omega⟩ (y 1)) := by
  rw [View.read_apply, cast_eq]
  apply congrArg A
  funext a
  apply Fin.ext
  refine (Pipeline.Window.rect_emb_val win0_8 t y a rfl).trans ?_
  rw [index8 t]
  fin_cases a
  · simp
  · simp

theorem blk9_apply (A : Vec Ideal S4096x2816 .bf16) (t : Fin cfg0.N) (y : S512x1408.Idx) :
    ((cfg0.win 9).blk t).view.read (Elt Ideal) A y
      = A (ix2 ⟨t.val / 2 * 512 + (y 0).val, by have := (y 0).isLt; have := point_lt t; simp at *; omega⟩
          ⟨t.val % 2 * 1408 + (y 1).val, by have := (y 1).isLt; simp at this; omega⟩) := by
  rw [View.read_apply, cast_eq]
  apply congrArg A
  funext a
  apply Fin.ext
  refine (Pipeline.Window.rect_emb_val win0_9 t y a rfl).trans ?_
  rw [index9 t]
  fin_cases a
  · simp
  · simp

/-- What a point stores, at an index of its block. -/
theorem pay1_apply (v0 v1 : Vec Ideal S512x1408 .bf16) (r : Fin 512) (k : Fin 1408) :
    k0_pay1 v0 v1 (ix2 r k) = gate (v0 (ix2 r k)) (v1 (ix2 r k)) := by
  unfold gate
  rw [← zero_sub, ← Ideal.ofBits_zero_f32]
  pointwise [k0_pay1]

/-- Row `r` of the gated factor's block times column `s` of the weights' block. -/
def dotAt (v0 v1 : Vec Ideal S512x1408 .bf16) (v2 : Vec Ideal S1408x1024 .bf16) (r : Fin 512) (s : Fin 1024) : EReal :=
  ∑ k : Fin 1408, gate (v0 (ix2 r k)) (v1 (ix2 r k)) * (v2 (ix2 k s) : EReal)

theorem pay2_apply (v0 v1 : Vec Ideal S512x1408 .bf16) (v2 : Vec Ideal S1408x1024 .bf16) (r : Fin 512) (s : Fin 1024) :
    k0_pay2 v0 v1 v2 (ix2 r s) = dotAt v0 v1 v2 r s := by
  have e : k0_pay2 v0 v1 v2 (ix2 r s) = (∑ k : Fin 1408, (k0_pay1 v0 v1 (ix2 r k) : EReal) * v2 (ix2 k s) : EReal) := by
    pointwise [k0_pay2]
  rw [e]
  refine Finset.sum_congr rfl fun k _ => ?_
  rw [pay1_apply]

theorem pay3_apply (v0 v1 : Vec Ideal S512x1408 .bf16) (v2 : Vec Ideal S1408x1024 .bf16) (r : Fin 512) (s : Fin 1024) :
    k0_pay3 v0 v1 v2 (ix2 r s) = dotAt v0 v1 v2 r s := by
  rw [← pay2_apply]
  pointwise [k0_pay3]

theorem pay4_apply (v0 v1 : Vec Ideal S512x1408 .bf16) (v2 : Vec Ideal S1408x1024 .bf16) (acc : Vec Ideal S512x1024 .f32)
    (r : Fin 512) (s : Fin 1024) :
    k0_pay4 v0 v1 v2 acc (ix2 r s) = ((acc (ix2 r s) : EReal) + dotAt v0 v1 v2 r s : EReal) := by
  rw [← pay2_apply]
  pointwise [k0_pay4]

theorem pay5_apply (v0 v1 : Vec Ideal S512x1024 .f32) (v2 : Vec Ideal S1x1024 .f32) (r : Fin 512) (s : Fin 1024) :
    k0_pay5 v0 v1 v2 (ix2 r s) = (v1 (ix2 r s) : EReal) + norm (fun k => v0 (ix2 r k)) (fun k => v2 (ix2 0 k)) s := by
  unfold norm
  pointwise [k0_pay5]

theorem pay6_apply (v0 v1 : Vec Ideal S512x1024 .f32) (v2 v3 : Vec Ideal S1x1024 .f32) (r : Fin 512) (s : Fin 1024) :
    k0_pay6 v0 v1 v2 v3 (ix2 r s) = norm (fun k => k0_pay5 v0 v1 v2 (ix2 r k)) (fun k => v3 (ix2 0 k)) s := by
  unfold norm
  pointwise [k0_pay6]

section Cases

variable (c : Dev nD) (i : grid0.Coords) (arg3 : Memref sig .tc .vmem S512x1408 .bf16) (harg3 : arg3.IsWhole) (arg4 : Memref sig .tc .vmem S512x1408 .bf16) (harg4 : arg4.IsWhole) (arg5 : Memref sig .tc .vmem S1408x1024 .bf16) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1024 .f32) (harg13 : arg13.IsWhole)
  (x0 : Vec Ideal S512x1408 .bf16) (x1 : Vec Ideal S512x1408 .bf16) (x2 : Vec Ideal S1408x1024 .bf16) (x3 : Vec Ideal S512x1024 .f32) (x4 : Vec Ideal S1x1024 .f32) (x5 : Vec Ideal S1x1024 .f32) (acc : Vec Ideal S512x1024 .f32)

theorem pay3_congr {a a' b b' : Vec Ideal S512x1408 .bf16} {d d' : Vec Ideal S1408x1024 .bf16}
    (ha : a = a') (hb : b = b') (hd : d = d') : k0_pay3 a b d = k0_pay3 a' b' d' := by rw [ha, hb, hd]
theorem pay4_congr {a a' b b' : Vec Ideal S512x1408 .bf16} {d d' : Vec Ideal S1408x1024 .bf16} {e e' : Vec Ideal S512x1024 .f32}
    (ha : a = a') (hb : b = b') (hd : d = d') (he : e = e') : k0_pay4 a b d e = k0_pay4 a' b' d' e' := by rw [ha, hb, hd, he]
theorem pay5_congr {a a' b b' : Vec Ideal S512x1024 .f32} {d d' : Vec Ideal S1x1024 .f32}
    (ha : a = a') (hb : b = b') (hd : d = d') : k0_pay5 a b d = k0_pay5 a' b' d' := by rw [ha, hb, hd]
theorem pay6_congr {a a' b b' : Vec Ideal S512x1024 .f32} {d d' e e' : Vec Ideal S1x1024 .f32}
    (ha : a = a') (hb : b = b') (hd : d = d') (he : e = e') : k0_pay6 a b d e = k0_pay6 a' b' d' e' := by rw [ha, hb, hd, he]

/-- At a first point the buffer ends with the product of the first half. -/
theorem buf_A (hc0 : cond0_0 i) (hc1 : ¬cond0_1 i) (hc2 : ¬cond0_2 i) :
    sout0_A_0 c i arg3 harg3 arg4 harg4 arg5 harg5 arg6 harg6 arg7 harg7 arg8 harg8 arg9 harg9 arg10 harg10 arg11 harg11 arg12 harg12 arg13 harg13 hc0 hc1 hc2 x0 x1 x2 x3 x4 x5 = k0_pay3 x0 x1 x2 := by
  unfold sout0_A_0
  exact (View.read_writes_full _ _ _ _ _).trans
    (pay3_congr ((View.readAt_full _ _ _).trans (harg3.read_unread _)) ((View.readAt_full _ _ _).trans (harg4.read_unread _)) ((View.readAt_full _ _ _).trans (harg5.read_unread _)))

/-- At every point the gated factor is stored. -/
theorem gate_A (hc0 : cond0_0 i) (hc1 : ¬cond0_1 i) (hc2 : ¬cond0_2 i) :
    out0_A_9 c i arg3 harg3 arg4 harg4 arg5 harg5 arg6 harg6 arg7 harg7 arg8 harg8 arg9 harg9 arg10 harg10 arg11 harg11 arg12 harg12 arg13 harg13 hc0 hc1 hc2 x0 x1 x2 x3 x4 x5 = k0_pay1 x0 x1 := by
  unfold out0_A_9
  exact (View.read_writes_full _ _ _ _ _).trans
    (congrArg₂ k0_pay1 ((View.readAt_full _ _ _).trans (harg3.read_unread _)) ((View.readAt_full _ _ _).trans (harg4.read_unread _)))
theorem gate_B (hc0 : ¬cond0_0 i) (hc1 : cond0_1 i) (hc2 : cond0_2 i) :
    out0_B_9 c i arg3 harg3 arg4 harg4 arg5 harg5 arg6 harg6 arg7 harg7 arg8 harg8 arg9 harg9 arg10 harg10 arg11 harg11 arg12 harg12 arg13 harg13 hc0 hc1 hc2 x0 x1 x2 x3 x4 x5 acc = k0_pay1 x0 x1 := by
  unfold out0_B_9
  exact (View.read_writes_full _ _ _ _ _).trans
    (congrArg₂ k0_pay1 ((View.readAt_full _ _ _).trans (harg3.read_unread _)) ((View.readAt_full _ _ _).trans (harg4.read_unread _)))

/-- At a last point the product of the second half is added and the buffer is written to the result. -/
theorem z_B (hc0 : ¬cond0_0 i) (hc1 : cond0_1 i) (hc2 : cond0_2 i) :
    out0_B_6 c i arg3 harg3 arg4 harg4 arg5 harg5 arg6 harg6 arg7 harg7 arg8 harg8 arg9 harg9 arg10 harg10 arg11 harg11 arg12 harg12 arg13 harg13 hc0 hc1 hc2 x0 x1 x2 x3 x4 x5 acc = k0_pay4 x0 x1 x2 acc := by
  unfold out0_B_6
  exact (View.read_writes_full _ _ _ _ _).trans
    ((View.readAt_full _ _ _).trans ((View.read_writes_full _ _ _ _ _).trans
      (pay4_congr ((View.readAt_full _ _ _).trans (harg3.read_unread _)) ((View.readAt_full _ _ _).trans (harg4.read_unread _)) ((View.readAt_full _ _ _).trans (harg5.read_unread _)) ((View.readAt_full _ _ _).trans (harg13.read_unread _)))))

/-- The buffer's rows are normalized and added to the layer's input. -/
theorem x_B (hc0 : ¬cond0_0 i) (hc1 : cond0_1 i) (hc2 : cond0_2 i) :
    out0_B_7 c i arg3 harg3 arg4 harg4 arg5 harg5 arg6 harg6 arg7 harg7 arg8 harg8 arg9 harg9 arg10 harg10 arg11 harg11 arg12 harg12 arg13 harg13 hc0 hc1 hc2 x0 x1 x2 x3 x4 x5 acc = k0_pay5 (k0_pay4 x0 x1 x2 acc) x3 x4 := by
  unfold out0_B_7
  exact (View.read_writes_full _ _ _ _ _).trans (pay5_congr
    ((View.readAt_full _ _ _).trans ((View.read_writes_full _ _ _ _ _).trans
      (pay4_congr ((View.readAt_full _ _ _).trans (harg3.read_unread _)) ((View.readAt_full _ _ _).trans (harg4.read_unread _)) ((View.readAt_full _ _ _).trans (harg5.read_unread _)) ((View.readAt_full _ _ _).trans (harg13.read_unread _)))))
    ((View.readAt_full _ _ _).trans (harg6.read_unread _)) ((View.readAt_full _ _ _).trans (harg7.read_unread _)))

/-- The sum is normalized in turn. -/
theorem h_B (hc0 : ¬cond0_0 i) (hc1 : cond0_1 i) (hc2 : cond0_2 i) :
    out0_B_8 c i arg3 harg3 arg4 harg4 arg5 harg5 arg6 harg6 arg7 harg7 arg8 harg8 arg9 harg9 arg10 harg10 arg11 harg11 arg12 harg12 arg13 harg13 hc0 hc1 hc2 x0 x1 x2 x3 x4 x5 acc = k0_pay6 (k0_pay4 x0 x1 x2 acc) x3 x4 x5 := by
  unfold out0_B_8
  exact (View.read_writes_full _ _ _ _ _).trans (pay6_congr
    ((View.readAt_full _ _ _).trans ((View.read_writes_full _ _ _ _ _).trans
      (pay4_congr ((View.readAt_full _ _ _).trans (harg3.read_unread _)) ((View.readAt_full _ _ _).trans (harg4.read_unread _)) ((View.readAt_full _ _ _).trans (harg5.read_unread _)) ((View.readAt_full _ _ _).trans (harg13.read_unread _)))))
    ((View.readAt_full _ _ _).trans (harg6.read_unread _)) ((View.readAt_full _ _ _).trans (harg7.read_unread _)) ((View.readAt_full _ _ _).trans (harg8.read_unread _)))

end Cases

variable (m : (ℓ : Loc nD τ sig) → Buf (Elt Ideal) ℓ) (ρ : Dev nD → PrngReg)

/-- The product of half `k` for row `R`. -/
def piece (B A : Vec Ideal S4096x2816 .bf16) (W : Vec Ideal S2816x1024 .bf16) (k : Fin 2) (R : Fin 4096) (s : Fin 1024) : EReal :=
  ∑ l : Fin 1408, gate (B (ix2 R ⟨k.val * 1408 + l.val, by omega⟩)) (A (ix2 R ⟨k.val * 1408 + l.val, by omega⟩))
    * (W (ix2 ⟨k.val * 1408 + l.val, by omega⟩ s) : EReal)

/-- The two halves are the whole contraction. -/
theorem pieces (B A : Vec Ideal S4096x2816 .bf16) (W : Vec Ideal S2816x1024 .bf16) (R : Fin 4096) (s : Fin 1024) :
    piece B A W 0 R s + piece B A W 1 R s = rowZ B A W R s := by
  unfold rowZ
  rw [Fin.sum_univ_tiles 2 1408 (by decide) (fun k : Fin 2816 => gate (B (ix2 R k)) (A (ix2 R k)) * (W (ix2 k s) : EReal)), Fin.sum_univ_two]
  rfl

/-- The product of a point's blocks is its piece. -/
theorem sum_blocks (c : Dev nD) (t : Fin cfg0.N) (k : Fin 2) (hk : t.val % 2 = k.val) (r : Fin 512) (R : Fin 4096)
    (hR : t.val / 2 * 512 + r.val = R.val) (s : Fin 1024) :
    dotAt (iblk m c 0 t) (iblk m c 1 t) (iblk m c 2 t) r s
      = piece (V m c main_arg0) (V m c main_arg1) (V m c main_arg2) k R s := by
  refine Finset.sum_congr rfl fun l _ => ?_
  refine congrArg₂ (· * ·) (congrArg₂ gate ((blk0_apply (V m c main_arg0) t (ix2 r l)).trans (congrArg (V m c main_arg0 : Vec Ideal S4096x2816 .bf16) ?_))
    ((blk1_apply (V m c main_arg1) t (ix2 r l)).trans (congrArg (V m c main_arg1 : Vec Ideal S4096x2816 .bf16) ?_)))
    ((blk2_apply (V m c main_arg2) t (ix2 l s)).trans (congrArg (V m c main_arg2 : Vec Ideal S2816x1024 .bf16) ?_))
  · exact congrArg₂ ix2 (Fin.ext hR) (Fin.ext (by show t.val % 2 * 1408 + l.val = k.val * 1408 + l.val; rw [hk]))
  · exact congrArg₂ ix2 (Fin.ext hR) (Fin.ext (by show t.val % 2 * 1408 + l.val = k.val * 1408 + l.val; rw [hk]))
  · exact congrArg₂ ix2 (Fin.ext (by show t.val % 2 * 1408 + l.val = k.val * 1408 + l.val; rw [hk])) rfl

/-- The buffer after the first point of a row block. -/
theorem buf_first (c : Dev nD) (j : Fin 8) (r : Fin 512) (R : Fin 4096) (hR : j.val * 512 + r.val = R.val) (s : Fin 1024)
    (n : ℕ) (hn : n = 2 * j.val) (h : n < cfg0.N) :
    ((outsAt0 m c n h).2.2.2.2 (ix2 r s) : EReal) = piece (V m c main_arg0) (V m c main_arg1) (V m c main_arg2) 0 R s := by
  refine (congrFun (congrArg (fun p => p.2.2.2.2) (outsAt0_A m c ⟨n, h⟩ (by show n % 2 = 0; omega) (by show ¬n % 2 = 1; omega) (by show ¬n % 2 = 1; omega))) _).trans ?_
  dsimp only
  rw [buf_A, pay3_apply]
  exact sum_blocks m c ⟨n, h⟩ 0 (by show n % 2 = 0; omega) r R (by show n / 2 * 512 + r.val = R.val; omega) s

/-- What the second point of a row block makes of the buffer. -/
abbrev full (c : Dev nD) (t : Fin cfg0.N) : Vec Ideal S512x1024 .f32 :=
  k0_pay4 (iblk m c 0 t) (iblk m c 1 t) (iblk m c 2 t)
    (outsAt0 m c (t.val - 1) (Nat.lt_of_le_of_lt (Nat.sub_le _ _) t.isLt)).2.2.2.2

/-- The row of the arrays that row `r` of a point's block is. -/
def row (t : Fin cfg0.N) (r : Fin 512) : Fin 4096 := ⟨t.val / 2 * 512 + r.val, by have := point_lt t; omega⟩

theorem row_z (c : Dev nD) (t : Fin cfg0.N) (ht : t.val % 2 = 1) (r : Fin 512) (s : Fin 1024) :
    full m c t (ix2 r s) = rowZ (V m c main_arg0) (V m c main_arg1) (V m c main_arg2) (row t r) s := by
  have hN := point_lt t
  unfold full
  rw [pay4_apply, ← pieces]
  exact congrArg₂ (· + ·) (buf_first m c ⟨t.val / 2, by omega⟩ r (row t r) rfl s _ (by show t.val - 1 = 2 * (t.val / 2); omega) _)
    (sum_blocks m c t 1 ht r (row t r) rfl s)

theorem row_x (c : Dev nD) (t : Fin cfg0.N) (ht : t.val % 2 = 1) (r : Fin 512) (s : Fin 1024) :
    k0_pay5 (full m c t) (iblk m c 3 t) (iblk m c 4 t) (ix2 r s)
      = rowX (V m c main_arg0) (V m c main_arg1) (V m c main_arg2) (V m c main_arg3) (V m c main_arg4) (row t r) s := by
  rw [pay5_apply]
  have h1 : (fun k => full m c t (ix2 r k)) = rowZ (V m c main_arg0) (V m c main_arg1) (V m c main_arg2) (row t r) :=
    funext fun k => row_z m c t ht r k
  have h2 : (fun k : Fin 1024 => (iblk m c 4 t : Vec Ideal S1x1024 .f32) (ix2 0 k)) = fun k => (V m c main_arg4 : Vec Ideal S1x1024 .f32) (ix2 0 k) :=
    funext fun k => blk4_apply (V m c main_arg4) t (ix2 0 k)
  rw [h1]
  refine congrArg₂ (· + ·) (blk3_apply (V m c main_arg3) t (ix2 r s)) ?_
  exact congrArg (fun g => norm (rowZ (V m c main_arg0) (V m c main_arg1) (V m c main_arg2) (row t r)) g s) h2

theorem row_h (c : Dev nD) (t : Fin cfg0.N) (ht : t.val % 2 = 1) (r : Fin 512) (s : Fin 1024) :
    k0_pay6 (full m c t) (iblk m c 3 t) (iblk m c 4 t) (iblk m c 5 t) (ix2 r s)
      = norm (rowX (V m c main_arg0) (V m c main_arg1) (V m c main_arg2) (V m c main_arg3) (V m c main_arg4) (row t r))
          (fun k => (V m c main_arg5 : Vec Ideal S1x1024 .f32) (ix2 0 k)) s := by
  rw [pay6_apply]
  have h1 : (fun k => k0_pay5 (full m c t) (iblk m c 3 t) (iblk m c 4 t) (ix2 r k))
      = rowX (V m c main_arg0) (V m c main_arg1) (V m c main_arg2) (V m c main_arg3) (V m c main_arg4) (row t r) :=
    funext fun k => row_x m c t ht r k
  have h2 : (fun k : Fin 1024 => (iblk m c 5 t : Vec Ideal S1x1024 .f32) (ix2 0 k)) = fun k => (V m c main_arg5 : Vec Ideal S1x1024 .f32) (ix2 0 k) :=
    funext fun k => blk5_apply (V m c main_arg5) t (ix2 0 k)
  rw [h1]
  exact congrArg (fun g => norm (rowX (V m c main_arg0) (V m c main_arg1) (V m c main_arg2) (V m c main_arg3) (V m c main_arg4) (row t r)) g s) h2

theorem row_m (c : Dev nD) (t : Fin cfg0.N) (y : S512x1408.Idx) :
    k0_pay1 (iblk m c 0 t) (iblk m c 1 t) y
      = ((cfg0.win 9).blk t).view.read (Elt Ideal) (G9 (V m c main_arg0) (V m c main_arg1)) y := by
  obtain ⟨r, k, rfl⟩ : ∃ (r : Fin 512) (k : Fin 1408), y = ix2 r k := ⟨y 0, y 1, eq_ix2 y⟩
  rw [pay1_apply]
  refine Eq.trans ?_ (blk9_apply (G9 (V m c main_arg0) (V m c main_arg1)) t (ix2 r k)).symm
  exact congrArg₂ gate (blk0_apply (V m c main_arg0) t (ix2 r k)) (blk1_apply (V m c main_arg1) t (ix2 r k))

/-- What a last point writes back to result 1 is its block of `G6`. -/
theorem flush6_eq (c : Dev nD) (t : Fin cfg0.N) (hf : (cfg0.win 6).flush t = true) :
    (dats m 0 c).flushed 6 t = ((cfg0.win 6).blk t).view.read (Elt Ideal) (G6 (V m c main_arg0) (V m c main_arg1) (V m c main_arg2)) := by
  have ht := (flush0_6 t).mp hf
  have e : (dats m 0 c).flushed 6 t = (cfg0.win 6).cut (grid0.coords t) ((outsAt0 m c t.val t.isLt).1) := by
    show (cfg0.win 6).cut (grid0.coords t) ((dats m 0 c).after 6 t) = _
    rw [after0_6]
  rw [e, outsAt0_B m c t (by omega) ht ht]
  dsimp only
  rw [z_B]
  funext y
  change (full m c t) (y : S512x1024.Idx) = _
  rw [blk6_apply]
  obtain ⟨r, s, rfl⟩ : ∃ (r : Fin 512) (s : Fin 1024), (y : S512x1024.Idx) = ix2 r s := ⟨y 0, y 1, eq_ix2 y⟩
  exact row_z m c t ht r s

/-- What a last point writes back to result 2 is its block of `G7`. -/
theorem flush7_eq (c : Dev nD) (t : Fin cfg0.N) (hf : (cfg0.win 7).flush t = true) :
    (dats m 0 c).flushed 7 t = ((cfg0.win 7).blk t).view.read (Elt Ideal) (G7 (V m c main_arg0) (V m c main_arg1) (V m c main_arg2) (V m c main_arg3) (V m c main_arg4)) := by
  have ht := (flush0_7 t).mp hf
  have e : (dats m 0 c).flushed 7 t = (cfg0.win 7).cut (grid0.coords t) ((outsAt0 m c t.val t.isLt).2.1) := by
    show (cfg0.win 7).cut (grid0.coords t) ((dats m 0 c).after 7 t) = _
    rw [after0_7]
  rw [e, outsAt0_B m c t (by omega) ht ht]
  dsimp only
  rw [x_B]
  funext y
  change (k0_pay5 (full m c t) (iblk m c 3 t) (iblk m c 4 t)) (y : S512x1024.Idx) = _
  rw [blk7_apply]
  obtain ⟨r, s, rfl⟩ : ∃ (r : Fin 512) (s : Fin 1024), (y : S512x1024.Idx) = ix2 r s := ⟨y 0, y 1, eq_ix2 y⟩
  exact row_x m c t ht r s

/-- What a last point writes back to result 3 is its block of `G8`. -/
theorem flush8_eq (c : Dev nD) (t : Fin cfg0.N) (hf : (cfg0.win 8).flush t = true) :
    (dats m 0 c).flushed 8 t = ((cfg0.win 8).blk t).view.read (Elt Ideal) (G8 (V m c main_arg0) (V m c main_arg1) (V m c main_arg2) (V m c main_arg3) (V m c main_arg4) (V m c main_arg5)) := by
  have ht := (flush0_8 t).mp hf
  have e : (dats m 0 c).flushed 8 t = (cfg0.win 8).cut (grid0.coords t) ((outsAt0 m c t.val t.isLt).2.2.1) := by
    show (cfg0.win 8).cut (grid0.coords t) ((dats m 0 c).after 8 t) = _
    rw [after0_8]
  rw [e, outsAt0_B m c t (by omega) ht ht]
  dsimp only
  rw [h_B]
  funext y
  change (k0_pay6 (full m c t) (iblk m c 3 t) (iblk m c 4 t) (iblk m c 5 t)) (y : S512x1024.Idx) = _
  rw [blk8_apply]
  obtain ⟨r, s, rfl⟩ : ∃ (r : Fin 512) (s : Fin 1024), (y : S512x1024.Idx) = ix2 r s := ⟨y 0, y 1, eq_ix2 y⟩
  exact row_h m c t ht r s

/-- What a point writes back to result 4 is its block of `G9`. -/
theorem flush9_eq (c : Dev nD) (t : Fin cfg0.N) :
    (dats m 0 c).flushed 9 t = ((cfg0.win 9).blk t).view.read (Elt Ideal) (G9 (V m c main_arg0) (V m c main_arg1)) := by
  have e : (dats m 0 c).flushed 9 t = (cfg0.win 9).cut (grid0.coords t) ((outsAt0 m c t.val t.isLt).2.2.2.1) := by
    show (cfg0.win 9).cut (grid0.coords t) ((dats m 0 c).after 9 t) = _
    rw [after0_9]
  rw [e]
  rcases Nat.mod_two_eq_zero_or_one t.val with ht | ht
  · rw [outsAt0_A m c t ht (by omega) (by omega)]
    dsimp only
    rw [gate_A]
    funext y
    exact row_m m c t y
  · rw [outsAt0_B m c t (by omega) ht ht]
    dsimp only
    rw [gate_B]
    funext y
    exact row_m m c t y

/-- An index is in a point's block when each of its coordinates is in the block's range. -/
theorem mem_blk6 (t : Fin cfg0.N) (i : S4096x1024.Idx) :
    i ∈ ((cfg0.win 6).blk t).view.set
      ↔ ∀ a : Fin 2, win0_6.index t a * S512x1024.size a ≤ (i a).val ∧ (i a).val < win0_6.index t a * S512x1024.size a + S512x1024.size a := by
  show i ∈ ((View.whole main_v0_0).slice (win0_6.rect t)).set ↔ _
  rw [View.set_slice_whole, Rect.mem_set_unit]
  exact Iff.rfl

/-- Every index lies in the block of a last point. -/
theorem covered6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  refine ⟨⟨2 * ((i 0).val / 512) + 1, Nat.lt_of_lt_of_eq (by omega) N_0.symm⟩, (flush0_6 _).mpr (by show (2 * ((i 0).val / 512) + 1) % 2 = 1; omega), ?_⟩
  rw [mem_blk6, index6]
  intro a
  fin_cases a
  · show (2 * ((i 0).val / 512) + 1) / 2 * 512 ≤ (i 0).val ∧ (i 0).val < (2 * ((i 0).val / 512) + 1) / 2 * 512 + 512
    omega
  · show 0 * 1024 ≤ (i 1).val ∧ (i 1).val < 0 * 1024 + 1024
    omega

/-- The array after the run is `G6` of the arguments. -/
theorem final6 (c : Dev nD) : (dats m 0 c).arrAt 6 cfg0.N = G6 (V m c main_arg0) (V m c main_arg1) (V m c main_arg2) :=
  (dats m 0 c).arrAt_eq_of_cover 6 _ (fun t ht => flush6_eq m c t ht) covered6

/-- An index is in a point's block when each of its coordinates is in the block's range. -/
theorem mem_blk7 (t : Fin cfg0.N) (i : S4096x1024.Idx) :
    i ∈ ((cfg0.win 7).blk t).view.set
      ↔ ∀ a : Fin 2, win0_7.index t a * S512x1024.size a ≤ (i a).val ∧ (i a).val < win0_7.index t a * S512x1024.size a + S512x1024.size a := by
  show i ∈ ((View.whole main_v0_1).slice (win0_7.rect t)).set ↔ _
  rw [View.set_slice_whole, Rect.mem_set_unit]
  exact Iff.rfl

/-- Every index lies in the block of a last point. -/
theorem covered7 (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  refine ⟨⟨2 * ((i 0).val / 512) + 1, Nat.lt_of_lt_of_eq (by omega) N_0.symm⟩, (flush0_7 _).mpr (by show (2 * ((i 0).val / 512) + 1) % 2 = 1; omega), ?_⟩
  rw [mem_blk7, index7]
  intro a
  fin_cases a
  · show (2 * ((i 0).val / 512) + 1) / 2 * 512 ≤ (i 0).val ∧ (i 0).val < (2 * ((i 0).val / 512) + 1) / 2 * 512 + 512
    omega
  · show 0 * 1024 ≤ (i 1).val ∧ (i 1).val < 0 * 1024 + 1024
    omega

/-- The array after the run is `G7` of the arguments. -/
theorem final7 (c : Dev nD) : (dats m 0 c).arrAt 7 cfg0.N = G7 (V m c main_arg0) (V m c main_arg1) (V m c main_arg2) (V m c main_arg3) (V m c main_arg4) :=
  (dats m 0 c).arrAt_eq_of_cover 7 _ (fun t ht => flush7_eq m c t ht) covered7

/-- An index is in a point's block when each of its coordinates is in the block's range. -/
theorem mem_blk8 (t : Fin cfg0.N) (i : S4096x1024.Idx) :
    i ∈ ((cfg0.win 8).blk t).view.set
      ↔ ∀ a : Fin 2, win0_8.index t a * S512x1024.size a ≤ (i a).val ∧ (i a).val < win0_8.index t a * S512x1024.size a + S512x1024.size a := by
  show i ∈ ((View.whole main_v0_2).slice (win0_8.rect t)).set ↔ _
  rw [View.set_slice_whole, Rect.mem_set_unit]
  exact Iff.rfl

/-- Every index lies in the block of a last point. -/
theorem covered8 (i : S4096x1024.Idx) : ∃ t : Fin cfg0.N, (cfg0.win 8).flush t = true ∧ i ∈ ((cfg0.win 8).blk t).view.set := by
  have h0 : (i 0).val < 4096 := (i 0).isLt
  have h1 : (i 1).val < 1024 := (i 1).isLt
  refine ⟨⟨2 * ((i 0).val / 512) + 1, Nat.lt_of_lt_of_eq (by omega) N_0.symm⟩, (flush0_8 _).mpr (by show (2 * ((i 0).val / 512) + 1) % 2 = 1; omega), ?_⟩
  rw [mem_blk8, index8]
  intro a
  fin_cases a
  · show (2 * ((i 0).val / 512) + 1) / 2 * 512 ≤ (i 0).val ∧ (i 0).val < (2 * ((i 0).val / 512) + 1) / 2 * 512 + 512
    omega
  · show 0 * 1024 ≤ (i 1).val ∧ (i 1).val < 0 * 1024 + 1024
    omega

/-- The array after the run is `G8` of the arguments. -/
theorem final8 (c : Dev nD) : (dats m 0 c).arrAt 8 cfg0.N = G8 (V m c main_arg0) (V m c main_arg1) (V m c main_arg2) (V m c main_arg3) (V m c main_arg4) (V m c main_arg5) :=
  (dats m 0 c).arrAt_eq_of_cover 8 _ (fun t ht => flush8_eq m c t ht) covered8

theorem mem_blk9 (t : Fin cfg0.N) (i : S4096x2816.Idx) :
    i ∈ ((cfg0.win 9).blk t).view.set
      ↔ ∀ a : Fin 2, win0_9.index t a * S512x1408.size a ≤ (i a).val ∧ (i a).val < win0_9.index t a * S512x1408.size a + S512x1408.size a := by
  show i ∈ ((View.whole main_v0_3).slice (win0_9.rect t)).set ↔ _
  rw [View.set_slice_whole, Rect.mem_set_unit]
  exact Iff.rfl

/-- Every index lies in the block of a point. -/
theorem covered9 (i : S4096x2816.Idx) : ∃ t : Fin cfg0.N, (cfg0.win 9).flush t = true ∧ i ∈ ((cfg0.win 9).blk t).view.set := by
  have h0 : (i 0).val < 4096 := (i 0).isLt
  have h1 : (i 1).val < 2816 := (i 1).isLt
  refine ⟨⟨2 * ((i 0).val / 512) + (i 1).val / 1408, Nat.lt_of_lt_of_eq (by omega) N_0.symm⟩, flush0_9 _, ?_⟩
  rw [mem_blk9, index9]
  intro a
  fin_cases a
  · show (2 * ((i 0).val / 512) + (i 1).val / 1408) / 2 * 512 ≤ (i 0).val ∧ (i 0).val < (2 * ((i 0).val / 512) + (i 1).val / 1408) / 2 * 512 + 512
    omega
  · show (2 * ((i 0).val / 512) + (i 1).val / 1408) % 2 * 1408 ≤ (i 1).val ∧ (i 1).val < (2 * ((i 0).val / 512) + (i 1).val / 1408) % 2 * 1408 + 1408
    omega

/-- The array after the run is `G9` of the arguments. -/
theorem final9 (c : Dev nD) : (dats m 0 c).arrAt 9 cfg0.N = G9 (V m c main_arg0) (V m c main_arg1) :=
  (dats m 0 c).arrAt_eq_of_cover 9 _ (fun t _ => flush9_eq m c t) covered9

/-- The run, its results read. -/
theorem run : θ_run defs (onTc (τ := τ) (main (F := Ideal))) ⟨m, fun _ => 0, ρ⟩ fun r => ∀ c : Dev nD,
    r.2.mem ((c : Thread nD τ).loc main_v0_0) = G6 (m ((c : Thread nD τ).loc main_arg0)) (m ((c : Thread nD τ).loc main_arg1)) (m ((c : Thread nD τ).loc main_arg2))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2.1.trans (final8 m c), (h c).2.2.2.1.trans (final9 m c), (h c).2.2.2.2⟩)
    (run_blocks m ρ)

/-- The reference's gated factor at an index. -/
theorem ref_m (B A : Vec Ideal S4096x2816 .bf16) (i : S4096x2816.Idx) :
    Cert.Reference11Ideal.Read.val_main_v3 (F := Ideal) B A i = gate (B i) (A i) := by
  rw [Cert.Reference11Ideal.Read.val_main_v3_apply, Cert.Reference11Ideal.Read.val_main_v1_apply, Cert.Reference11Ideal.Read.val_main_v2_apply, Cert.Reference11Ideal.Read.val_main_call0_v5_apply,
    Cert.Reference11Ideal.Read.val_main_call0_v4_apply, Cert.Reference11Ideal.Read.val_main_call0_v3_apply, Cert.Reference11Ideal.Read.val_main_call0_v2_apply,
    Cert.Reference11Ideal.Read.val_main_call0_v1_apply, Cert.Reference11Ideal.Read.val_main_call0_v0_apply, Cert.Reference11Ideal.Read.val_main_v0_apply,
    Cert.Reference11Ideal.Read.val_main_call0_cst_apply, Cert.Reference11Ideal.Read.val_main_call0_cst_0_apply]
  rfl

/-- The reference's product at an index. -/
theorem ref_z (B A : Vec Ideal S4096x2816 .bf16) (W : Vec Ideal S2816x1024 .bf16) (R : Fin 4096) (s : Fin 1024) :
    Cert.Reference11Ideal.Read.val_main_v5 (F := Ideal) B A W (ix2 R s) = rowZ B A W R s := by
  rw [Cert.Reference11Ideal.Read.val_main_v5_apply]
  refine Finset.sum_congr rfl fun k _ => ?_
  refine congrArg₂ (· * ·) ((ref_m B A _).trans (congrArg (fun j => gate (B j) (A j)) ?_)) (congrArg W ?_) <;> funext a <;> fin_cases a <;> rfl

/-- The reference's sums of the squares of a row, and its second result at an index. -/
theorem ref_sum (B A : Vec Ideal S4096x2816 .bf16) (W : Vec Ideal S2816x1024 .bf16) (R : Fin 4096) (j : Cert.Reference11Ideal.S4096.Idx) (hj : (j 0).val = R.val) :
    Cert.Reference11Ideal.Read.val_main_v7 (F := Ideal) B A W j = (∑ k : Fin 1024, rowZ B A W R k * rowZ B A W R k : EReal) := by
  rw [Cert.Reference11Ideal.Read.val_main_v7_apply, Cert.Reference11Ideal.Read.val_main_cst_apply]
  refine (congrArg (· + _) Ideal.ofBits_zero_f32).trans ((zero_add _).trans ?_)
  refine Finset.sum_congr rfl fun k _ => ?_
  have hk : Cert.Reference11Ideal.Read.idx_main_v7 j k = ix2 R k := by
    funext a
    fin_cases a
    · exact Fin.ext hj
    · rfl
  rw [hk, Cert.Reference11Ideal.Read.val_main_v6_apply, ref_z]
  rfl

theorem ref_x (B A : Vec Ideal S4096x2816 .bf16) (W : Vec Ideal S2816x1024 .bf16) (X : Vec Ideal S4096x1024 .f32)
    (g : Vec Ideal S1x1024 .f32) (R : Fin 4096) (s : Fin 1024) :
    Cert.Reference11Ideal.Read.val_main_v18 (F := Ideal) B A W X g (ix2 R s) = rowX B A W X g R s := by
  rw [Cert.Reference11Ideal.Read.val_main_v18_apply, Cert.Reference11Ideal.Read.val_main_v17_apply, Cert.Reference11Ideal.Read.val_main_v15_apply, Cert.Reference11Ideal.Read.val_main_v16_apply, Cert.Reference11Ideal.Read.val_main_v14_apply, Cert.Reference11Ideal.Read.val_main_v13_apply, Cert.Reference11Ideal.Read.val_main_v12_apply, Cert.Reference11Ideal.Read.val_main_v11_apply, Cert.Reference11Ideal.Read.val_main_v10_apply, Cert.Reference11Ideal.Read.val_main_v9_apply, Cert.Reference11Ideal.Read.val_main_v8_apply, Cert.Reference11Ideal.Read.val_main_cst_0_apply, Cert.Reference11Ideal.Read.val_main_cst_1_apply,
    ref_z, ref_sum B A W R _ rfl]
  have hg : Cert.Reference11Ideal.Read.idx_main_v16 (ix2 R s) = ix2 0 s := by
    funext a
    fin_cases a <;> rfl
  rw [hg]
  rfl

theorem ref_sum' (B A : Vec Ideal S4096x2816 .bf16) (W : Vec Ideal S2816x1024 .bf16) (X : Vec Ideal S4096x1024 .f32)
    (g : Vec Ideal S1x1024 .f32) (R : Fin 4096) (j : Cert.Reference11Ideal.S4096.Idx) (hj : (j 0).val = R.val) :
    Cert.Reference11Ideal.Read.val_main_v20 (F := Ideal) B A W X g j = (∑ k : Fin 1024, rowX B A W X g R k * rowX B A W X g R k : EReal) := by
  rw [Cert.Reference11Ideal.Read.val_main_v20_apply, Cert.Reference11Ideal.Read.val_main_cst_2_apply]
  refine (congrArg (· + _) Ideal.ofBits_zero_f32).trans ((zero_add _).trans ?_)
  refine Finset.sum_congr rfl fun k _ => ?_
  have hk : Cert.Reference11Ideal.Read.idx_main_v20 j k = ix2 R k := by
    funext a
    fin_cases a
    · exact Fin.ext hj
    · rfl
  rw [hk, Cert.Reference11Ideal.Read.val_main_v19_apply, ref_x]
  rfl

/-- The reference's results are `G6`, `G7`, `G8` and `G9` of the same arrays. -/
theorem reference6_eq (B A : Vec Ideal S4096x2816 .bf16) (W : Vec Ideal S2816x1024 .bf16) :
    Cert.Reference11Ideal.Read.val_main_v5 (F := Ideal) B A W = G6 B A W := by
  funext i
  obtain ⟨R, s, rfl⟩ : ∃ (R : Fin 4096) (s : Fin 1024), i = ix2 R s := ⟨i 0, i 1, eq_ix2 i⟩
  exact ref_z B A W R s

theorem reference7_eq (B A : Vec Ideal S4096x2816 .bf16) (W : Vec Ideal S2816x1024 .bf16) (X : Vec Ideal S4096x1024 .f32)
    (g : Vec Ideal S1x1024 .f32) : Cert.Reference11Ideal.Read.val_main_v18 (F := Ideal) B A W X g = G7 B A W X g := by
  funext i
  obtain ⟨R, s, rfl⟩ : ∃ (R : Fin 4096) (s : Fin 1024), i = ix2 R s := ⟨i 0, i 1, eq_ix2 i⟩
  exact ref_x B A W X g R s

theorem reference8_eq (B A : Vec Ideal S4096x2816 .bf16) (W : Vec Ideal S2816x1024 .bf16) (X : Vec Ideal S4096x1024 .f32)
    (g g' : Vec Ideal S1x1024 .f32) : Cert.Reference11Ideal.Read.val_main_v31 (F := Ideal) B A W X g g' = G8 B A W X g g' := by
  funext i
  obtain ⟨R, s, rfl⟩ : ∃ (R : Fin 4096) (s : Fin 1024), i = ix2 R s := ⟨i 0, i 1, eq_ix2 i⟩
  rw [Cert.Reference11Ideal.Read.val_main_v31_apply, Cert.Reference11Ideal.Read.val_main_v30_apply, Cert.Reference11Ideal.Read.val_main_v29_apply, Cert.Reference11Ideal.Read.val_main_v28_apply, Cert.Reference11Ideal.Read.val_main_v27_apply, Cert.Reference11Ideal.Read.val_main_v26_apply, Cert.Reference11Ideal.Read.val_main_v25_apply, Cert.Reference11Ideal.Read.val_main_v24_apply, Cert.Reference11Ideal.Read.val_main_v23_apply, Cert.Reference11Ideal.Read.val_main_v22_apply, Cert.Reference11Ideal.Read.val_main_v21_apply, Cert.Reference11Ideal.Read.val_main_cst_3_apply, Cert.Reference11Ideal.Read.val_main_cst_4_apply,
    ref_x, ref_sum' B A W X g R _ rfl]
  have hg : Cert.Reference11Ideal.Read.idx_main_v29 (ix2 R s) = ix2 0 s := by
    funext a
    fin_cases a <;> rfl
  rw [hg]
  rfl

theorem reference9_eq (B A : Vec Ideal S4096x2816 .bf16) : Cert.Reference11Ideal.Read.val_main_v32 (F := Ideal) B A = G9 B A := by
  funext i
  rw [Cert.Reference11Ideal.Read.val_main_v32_apply, ref_m]
  rfl

end Cert.Kernel11Ideal.DownNorm

end
-- ==== Proof.FirstNorm.lean ====
module

public import Idealize.ShloMosaic.Lib.Pipeline.ValueKit
public import Idealize.ShloMosaic.Lib.Pointwise
public import proofs.«01_k».proof.Proof.Gen.Kernel12Ideal.Value
public import proofs.«01_k».proof.Proof.Gen.Reference12Ideal.Read

/-! # The step's first norm

One block of 512 whole rows for each grid point. -/

@[expose] public section

set_option maxRecDepth 16384
set_option maxHeartbeats 4000000

noncomputable section

namespace Cert.Kernel12Ideal.FirstNorm

open Idealize.ShloMosaic Idealize.ShloMosaic.TcCoe Idealize.ShloMosaic.Tactic
open Cert.Kernel12Ideal.Gen Cert.Kernel12Ideal.Value
open Idealize.ShloMosaic.Pipeline (Dat)

/-- Entry `s` of a row over the root of the mean of its squares, times the gain. -/
def norm (f g : Fin 1024 → EReal) (s : Fin 1024) : EReal :=
  f s * Ideal.rsqrt (Ideal.div (∑ k : Fin 1024, f k * f k) (Ideal.ofBits .f32 0x44800000#32) + Ideal.ofBits .f32 0x358637BD#32) * g s

/-- The result at an index: the norm of row `i 0`. -/
def G (X : Vec Ideal S4096x1024 .f32) (g : Vec Ideal S1x1024 .f32) : Vec Ideal S4096x1024 .bf16 := fun i =>
  norm (fun k => X (ix2 (i 0) k)) (fun k => g (ix2 0 k)) (i 1)

theorem point_lt (t : Fin cfg0.N) : t.val < 8 := Nat.lt_of_lt_of_eq t.isLt N_0

/-- The blocks of a grid point. -/
theorem index0 : ∀ t : Fin cfg0.N, win0_0.index t = ![t.val % 8, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val % 8, 0] := (by decide +kernel : ∀ t : Fin grid0.N, _)

theorem blk0_apply (A : Vec Ideal S4096x1024 .f32) (t : Fin cfg0.N) (y : S512x1024.Idx) :
    ((cfg0.win 0).blk t).view.read (Elt Ideal) A y
      = A (ix2 ⟨512 * (t.val % 8) + (y 0).val, by have := (y 0).isLt; simp at this; omega⟩ (y 1)) := by
  rw [View.read_apply, cast_eq]
  apply congrArg A
  funext a
  apply Fin.ext
  refine (Pipeline.Window.rect_emb_val win0_0 t y a rfl).trans ?_
  rw [index0 t]
  fin_cases a
  · simp [Nat.mul_comm]
  · simp

theorem blk1_apply (A : Vec Ideal S1x1024 .f32) (t : Fin cfg0.N) (y : S1x1024.Idx) :
    ((cfg0.win 1).blk t).view.read (Elt Ideal) A y
      = A (ix2 (y 0) (y 1)) := by
  rw [View.read_apply, cast_eq]
  apply congrArg A
  funext a
  apply Fin.ext
  refine (Pipeline.Window.rect_emb_val win0_1 t y a rfl).trans ?_
  rw [index1 t]
  fin_cases a
  · simp
  · simp

theorem blk2_apply (A : Vec Ideal S4096x1024 .bf16) (t : Fin cfg0.N) (y : S512x1024.Idx) :
    ((cfg0.win 2).blk t).view.read (Elt Ideal) A y
      = A (ix2 ⟨512 * (t.val % 8) + (y 0).val, by have := (y 0).isLt; simp at this; omega⟩ (y 1)) := by
  rw [View.read_apply, cast_eq]
  apply congrArg A
  funext a
  apply Fin.ext
  refine (Pipeline.Window.rect_emb_val win0_2 t y a rfl).trans ?_
  rw [index2 t]
  fin_cases a
  · simp [Nat.mul_comm]
  · simp

/-- What a point stores, at an index of its block. -/
theorem pay_apply (v0 : Vec Ideal S512x1024 .f32) (v1 : Vec Ideal S1x1024 .f32) (r : Fin 512) (s : Fin 1024) :
    k0_pay1 v0 v1 (ix2 r s) = norm (fun k => v0 (ix2 r k)) (fun k => v1 (ix2 0 k)) s := by
  unfold norm
  pointwise [k0_pay1]

variable (m : (ℓ : Loc nD τ sig) → Buf (Elt Ideal) ℓ) (ρ : Dev nD → PrngReg)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [flushed2]
  unfold out0_2
  rw [View.canon_unit_zero (by funext a; fin_cases a <;> rfl), View.ld_unit_zero (S := S512x1024) (by funext a; fin_cases a <;> rfl),
    View.ld_unit_zero (S := S1x1024) (by funext a; fin_cases a <;> rfl)]
  funext y
  change k0_pay1 _ _ (y : S512x1024.Idx) = _
  rw [blk2_apply]
  obtain ⟨r, s, rfl⟩ : ∃ (r : Fin 512) (s : Fin 1024), (y : S512x1024.Idx) = ix2 r s := ⟨y 0, y 1, eq_ix2 y⟩
  rw [pay_apply]
  have h0 : (fun k : Fin 1024 => (iblk m c 0 t : Vec Ideal S512x1024 .f32) (ix2 r k))
      = fun k => (V m c main_arg0 : Vec Ideal S4096x1024 .f32) (ix2 ⟨512 * (t.val % 8) + r.val, by omega⟩ k) :=
    funext fun k => blk0_apply (V m c main_arg0) t (ix2 r k)
  have h1 : (fun k : Fin 1024 => (iblk m c 1 t : Vec Ideal S1x1024 .f32) (ix2 0 k)) = fun k => (V m c main_arg1 : Vec Ideal S1x1024 .f32) (ix2 0 k) :=
    funext fun k => blk1_apply (V m c main_arg1) t (ix2 0 k)
  exact congrArg₂ (fun f g => norm f g s) h0 h1

/-- An index is in a point's block when each of its coordinates is in the block's range. -/
theorem mem_blk (t : Fin cfg0.N) (i : S4096x1024.Idx) :
    i ∈ ((cfg0.win 2).blk t).view.set
      ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- Every index lies in the block of a point. -/
theorem covered (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  refine ⟨⟨(i 0).val / 512, Nat.lt_of_lt_of_eq (by omega) N_0.symm⟩, flush0_2 _, ?_⟩
  rw [mem_blk, index2]
  intro a
  fin_cases a
  · show (i 0).val / 512 % 8 * 512 ≤ (i 0).val ∧ (i 0).val < (i 0).val / 512 % 8 * 512 + 512
    omega
  · show 0 * 1024 ≤ (i 1).val ∧ (i 1).val < 0 * 1024 + 1024
    omega

/-- The array after the run is `G` of the arguments. -/
theorem final (c : Dev nD) : (dats m 0 c).arrAt 2 cfg0.N = G (V m c main_arg0) (V m c main_arg1) :=
  (dats m 0 c).arrAt_eq_of_cover 2 _ (fun t _ => flushed_eq m c t) covered

/-- The run, its result read. -/
theorem run : θ_run defs (onTc (τ := τ) (main (F := Ideal))) ⟨m, fun _ => 0, ρ⟩ fun r => ∀ c : Dev nD,
    r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

/-- The reference's sum of the squares of a row. -/
theorem ref_sum (X : Vec Ideal S4096x1024 .f32) (R : Fin 4096) (j : Cert.Reference12Ideal.S4096.Idx) (hj : (j 0).val = R.val) :
    Cert.Reference12Ideal.Read.val_main_v1 (F := Ideal) X j = (∑ k : Fin 1024, (X (ix2 R k) : EReal) * X (ix2 R k) : EReal) := by
  rw [Cert.Reference12Ideal.Read.val_main_v1_apply, Cert.Reference12Ideal.Read.val_main_cst_apply]
  refine (congrArg (· + _) Ideal.ofBits_zero_f32).trans ((zero_add _).trans ?_)
  refine Finset.sum_congr rfl fun k _ => ?_
  have hk : Cert.Reference12Ideal.Read.idx_main_v1 j k = ix2 R k := by
    funext a
    fin_cases a
    · exact Fin.ext hj
    · rfl
  rw [hk, Cert.Reference12Ideal.Read.val_main_v0_apply]
  rfl

/-- The reference's result is `G` of the same arrays. -/
theorem reference_eq (X : Vec Ideal S4096x1024 .f32) (g : Vec Ideal S1x1024 .f32) :
    Cert.Reference12Ideal.Read.val_main_v12 (F := Ideal) X g = G X g := by
  funext i
  obtain ⟨R, s, rfl⟩ : ∃ (R : Fin 4096) (s : Fin 1024), i = ix2 R s := ⟨i 0, i 1, eq_ix2 i⟩
  rw [Cert.Reference12Ideal.Read.val_main_v12_apply, Cert.Reference12Ideal.Read.val_main_v11_apply, Cert.Reference12Ideal.Read.val_main_v9_apply,
    Cert.Reference12Ideal.Read.val_main_v10_apply, Cert.Reference12Ideal.Read.val_main_v8_apply, Cert.Reference12Ideal.Read.val_main_v7_apply,
    Cert.Reference12Ideal.Read.val_main_v6_apply, Cert.Reference12Ideal.Read.val_main_v5_apply, Cert.Reference12Ideal.Read.val_main_v4_apply, Cert.Reference12Ideal.Read.val_main_v3_apply,
    Cert.Reference12Ideal.Read.val_main_v2_apply, Cert.Reference12Ideal.Read.val_main_cst_0_apply, Cert.Reference12Ideal.Read.val_main_cst_1_apply, ref_sum X R _ rfl]
  have hg : Cert.Reference12Ideal.Read.idx_main_v10 (ix2 R s) = ix2 0 s := by
    funext a
    fin_cases a <;> rfl
  rw [hg]
  rfl

end Cert.Kernel12Ideal.FirstNorm

end
-- ==== Proof.ForgetFwd.lean ====
module

public import Idealize.ShloMosaic.Lib.Pipeline.ValueKit
public import Idealize.ShloMosaic.Lib.Pointwise
public import proofs.«01_k».proof.Proof.Gen.Kernel13Ideal.Value
public import proofs.«01_k».proof.Proof.Gen.Reference13Ideal.Read

/-! # The forget gates' columns of the input projection

The gates' columns of the weights, turned over, times the rows of the left factor: one block of 1024 positions for each grid
point, each a product over the whole contraction of length 1024. -/

@[expose] public section

set_option maxRecDepth 16384
set_option maxHeartbeats 4000000

noncomputable section

namespace Cert.Kernel13Ideal.ForgetFwd

open Idealize.ShloMosaic Idealize.ShloMosaic.TcCoe Idealize.ShloMosaic.Tactic
open Cert.Kernel13Ideal.Gen Cert.Kernel13Ideal.Value
open Idealize.ShloMosaic.Pipeline (Dat)

/-- The result at an index: row `i 1` of the left factor times the column of gate `i 0`. -/
def G (A : Vec Ideal S4096x1024 .bf16) (B : Vec Ideal S1024x7176 .f32) : Vec Ideal S8x4096 .f32 := fun i =>
  (∑ k : Fin 1024, (A (ix2 (i 1) k) : EReal) * B (ix2 k ⟨7168 + (i 0).val, by have := (i 0).isLt; simp at this; omega⟩) : EReal)

theorem point_lt (t : Fin cfg0.N) : t.val < 4 := Nat.lt_of_lt_of_eq t.isLt N_0

/-- The blocks of a grid point. -/
theorem index0 : ∀ t : Fin cfg0.N, win0_0.index t = ![0, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![0, t.val % 4] := (by decide +kernel : ∀ t : Fin grid0.N, _)

theorem blk0_apply (A : Vec Ideal S8x1024 .bf16) (t : Fin cfg0.N) (y : S8x1024.Idx) :
    ((cfg0.win 0).blk t).view.read (Elt Ideal) A y
      = A (ix2 (y 0) (y 1)) := by
  rw [View.read_apply, cast_eq]
  apply congrArg A
  funext a
  apply Fin.ext
  refine (Pipeline.Window.rect_emb_val win0_0 t y a rfl).trans ?_
  rw [index0 t]
  fin_cases a
  · simp
  · simp

theorem blk1_apply (A : Vec Ideal S4096x1024 .bf16) (t : Fin cfg0.N) (y : S1024x1024.Idx) :
    ((cfg0.win 1).blk t).view.read (Elt Ideal) A y
      = A (ix2 ⟨1024 * (t.val % 4) + (y 0).val, by have := (y 0).isLt; simp at this; omega⟩ (y 1)) := by
  rw [View.read_apply, cast_eq]
  apply congrArg A
  funext a
  apply Fin.ext
  refine (Pipeline.Window.rect_emb_val win0_1 t y a rfl).trans ?_
  rw [index1 t]
  fin_cases a
  · simp [Nat.mul_comm]
  · simp

theorem blk2_apply (A : Vec Ideal S8x4096 .f32) (t : Fin cfg0.N) (y : S8x1024.Idx) :
    ((cfg0.win 2).blk t).view.read (Elt Ideal) A y
      = A (ix2 (y 0) ⟨1024 * (t.val % 4) + (y 1).val, by have := (y 1).isLt; simp at this; omega⟩) := by
  rw [View.read_apply, cast_eq]
  apply congrArg A
  funext a
  apply Fin.ext
  refine (Pipeline.Window.rect_emb_val win0_2 t y a rfl).trans ?_
  rw [index2 t]
  fin_cases a
  · simp
  · simp [Nat.mul_comm]

/-- The product that a point stores, at an index of its block. -/
theorem pay_apply (v0 : Vec Ideal S8x1024 .bf16) (v1 : Vec Ideal S1024x1024 .bf16) (r : Fin 8) (s : Fin 1024) :
    k0_pay1 v0 v1 (ix2 r s) = (∑ k : Fin 1024, (v0 (ix2 r k) : EReal) * v1 (ix2 s k) : EReal) := by
  pointwise [k0_pay1]

variable (m : (ℓ : Loc nD τ sig) → Buf (Elt Ideal) ℓ) (ρ : Dev nD → PrngReg)

/-- The gates' columns of the weights, turned over, as the products find them. -/
theorem V_weights (c : Dev nD) (k : Fin 8) (l : Fin 1024) :
    (V m c main_v2 : Vec Ideal S8x1024 .bf16) (ix2 k l)
      = (m ((c : Thread nD τ).loc main_arg1) : Vec Ideal S1024x7176 .f32) (ix2 l ⟨7168 + k.val, by omega⟩) := by
  have h : @Eq (Vec Ideal S8x1024 .bf16) (V m c main_v2)
      (extractStridedSlice S8x1024 ![7168, 0] (truncf (F := Ideal) (s := S7176x1024) (φ := .f32) .bf16 (transpose S7176x1024 [1, 0] (m ((c : Thread nD τ).loc main_arg1) : Vec Ideal S1024x7176 .f32) transposes_S1024x7176_S7176x1024_1_0)
        bitsLt_bf16_f32) slices_S7176x1024_S8x1024_7168_0) := by
    show StableHlo.after hostOps0 (fun b => m (c, b)) (Proc.devRef .tc main_v2) = _
    after_results
  refine (congrFun h (ix2 k l)).trans ?_
  pointwise

/-- What a point writes back is its block of `G`. -/
theorem flushed_eq (c : Dev nD) (t : Fin cfg0.N) :
    (dats m 0 c).flushed 2 t
      = ((cfg0.win 2).blk t).view.read (Elt Ideal) (G (V m c main_arg0) (m ((c : Thread nD τ).loc main_arg1))) := by
  rw [flushed2]
  unfold out0_2
  rw [View.canon_unit_zero (by funext a; fin_cases a <;> rfl), View.ld_unit_zero (S := S8x1024) (by funext a; fin_cases a <;> rfl),
    View.ld_unit_zero (S := S1024x1024) (by funext a; fin_cases a <;> rfl)]
  funext y
  change k0_pay1 _ _ (y : S8x1024.Idx) = _
  rw [blk2_apply]
  obtain ⟨r, s, rfl⟩ : ∃ (r : Fin 8) (s : Fin 1024), (y : S8x1024.Idx) = ix2 r s := ⟨y 0, y 1, eq_ix2 y⟩
  rw [pay_apply]
  refine Finset.sum_congr rfl fun k _ => ?_
  refine (mul_comm _ _).trans ?_
  exact congrArg₂ (· * ·) (blk1_apply (V m c main_arg0) t (ix2 s k)) ((blk0_apply (V m c main_v2) t (ix2 r k)).trans (V_weights m c r k))

/-- An index is in a point's block when each of its coordinates is in the block's range. -/
theorem mem_blk (t : Fin cfg0.N) (i : S8x4096.Idx) :
    i ∈ ((cfg0.win 2).blk t).view.set
      ↔ ∀ a : Fin 2, win0_2.index t a * S8x1024.size a ≤ (i a).val ∧ (i a).val < win0_2.index t a * S8x1024.size a + S8x1024.size a := by
  show i ∈ ((View.whole main_v3).slice (win0_2.rect t)).set ↔ _
  rw [View.set_slice_whole, Rect.mem_set_unit]
  exact Iff.rfl

/-- Every index lies in the block of a point. -/
theorem covered (i : S8x4096.Idx) : ∃ t : Fin cfg0.N, (cfg0.win 2).flush t = true ∧ i ∈ ((cfg0.win 2).blk t).view.set := by
  have h0 : (i 0).val < 8 := (i 0).isLt
  have h1 : (i 1).val < 4096 := (i 1).isLt
  refine ⟨⟨(i 1).val / 1024, Nat.lt_of_lt_of_eq (by omega) N_0.symm⟩, flush0_2 _, ?_⟩
  rw [mem_blk, index2]
  intro a
  fin_cases a
  · show 0 * 8 ≤ (i 0).val ∧ (i 0).val < 0 * 8 + 8
    omega
  · show (i 1).val / 1024 % 4 * 1024 ≤ (i 1).val ∧ (i 1).val < (i 1).val / 1024 % 4 * 1024 + 1024
    omega

/-- The array after the run is `G` of the arguments. -/
theorem final (c : Dev nD) :
    (dats m 0 c).arrAt 2 cfg0.N = G (m ((c : Thread nD τ).loc main_arg0)) (m ((c : Thread nD τ).loc main_arg1)) :=
  ((dats m 0 c).arrAt_eq_of_cover 2 _ (fun t _ => flushed_eq m c t) covered).trans
    (congrArg (G · (m ((c : Thread nD τ).loc main_arg1))) (V_main_arg0 m c))

/-- The run, its result read. -/
theorem run : θ_run defs (onTc (τ := τ) (main (F := Ideal))) ⟨m, fun _ => 0, ρ⟩ fun r => ∀ c : Dev nD,
    r.2.mem ((c : Thread nD τ).loc main_v3)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

/-- The reference's result is `G` of the same arrays. -/
theorem reference_eq (A : Vec Ideal S4096x1024 .bf16) (B : Vec Ideal S1024x7176 .f32) :
    Cert.Reference13Ideal.Read.val_main_v3 (F := Ideal) A B = G A B := by
  funext i
  rw [Cert.Reference13Ideal.Read.val_main_v3_apply, Cert.Reference13Ideal.Read.val_main_v2_apply, Cert.Reference13Ideal.Read.val_main_v1_apply]
  refine Finset.sum_congr rfl fun k _ => ?_
  refine congrArg₂ (· * ·) (congrArg A ?_) (congrArg B ?_) <;> funext a <;> fin_cases a <;> rfl

end Cert.Kernel13Ideal.ForgetFwd

end
-- ==== Proof.ForgetW.lean ====
module

public import Idealize.ShloMosaic.Lib.Pipeline.ValueKit
public import Idealize.ShloMosaic.Lib.Pointwise
public import Idealize.ShloMosaic.Lib.VecWindow
public import proofs.«01_k».proof.Proof.Gen.Kernel14Ideal.Value
public import proofs.«01_k».proof.Proof.Gen.Reference14Ideal.Read

/-! # The gradient of the forget gates' product for its weights

The contraction runs over 4096 positions, in 4 pieces of 1024: grid point `k` adds the product of piece `k` to a
buffer, and the last of the 4 points writes the buffer to the result. -/

@[expose] public section

set_option maxRecDepth 16384
set_option maxHeartbeats 4000000

noncomputable section

namespace Cert.Kernel14Ideal.ForgetW

open Idealize.ShloMosaic Idealize.ShloMosaic.TcCoe Idealize.ShloMosaic.Tactic
open Cert.Kernel14Ideal.Gen Cert.Kernel14Ideal.Value

/-- The result at an index: row `i 0` of the left factor times column `i 1` of the right one. -/
def G (A : Vec Ideal S8x4096 .bf16) (B : Vec Ideal S4096x1024 .bf16) : Vec Ideal S8x1024 .bf16 := fun i =>
  (∑ k : Fin 4096, (A (ix2 (i 0) k) : EReal) * B (ix2 k (i 1)) : EReal)

theorem point_lt (t : Fin cfg0.N) : t.val < 4 := Nat.lt_of_lt_of_eq t.isLt N_0

/-- The blocks of a grid point. -/
theorem index0 : ∀ t : Fin cfg0.N, win0_0.index t = ![0, t.val % 4] := (by decide +kernel : ∀ t : Fin grid0.N, _)
theorem index1 : ∀ t : Fin cfg0.N, win0_1.index t = ![t.val % 4, 0] := (by decide +kernel : ∀ t : Fin grid0.N, _)

theorem blk0_apply (A : Vec Ideal S8x4096 .bf16) (t : Fin cfg0.N) (y : S8x1024.Idx) :
    ((cfg0.win 0).blk t).view.read (Elt Ideal) A y
      = A (ix2 (y 0) ⟨t.val % 4 * 1024 + (y 1).val, by have := (y 1).isLt; simp at this; omega⟩) := by
  rw [View.read_apply, cast_eq]
  apply congrArg A
  funext a
  apply Fin.ext
  refine (Pipeline.Window.rect_emb_val win0_0 t y a rfl).trans ?_
  rw [index0 t]
  fin_cases a
  · simp
  · simp

theorem blk1_apply (A : Vec Ideal S4096x1024 .bf16) (t : Fin cfg0.N) (y : S1024x1024.Idx) :
    ((cfg0.win 1).blk t).view.read (Elt Ideal) A y
      = A (ix2 ⟨t.val % 4 * 1024 + (y 0).val, by have := (y 0).isLt; simp at this; omega⟩ (y 1)) := by
  rw [View.read_apply, cast_eq]
  apply congrArg A
  funext a
  apply Fin.ext
  refine (Pipeline.Window.rect_emb_val win0_1 t y a rfl).trans ?_
  rw [index1 t]
  fin_cases a
  · simp
  · simp

/-- Row `r` of one block times column `s` of another. -/
def dotAt (v0 : Vec Ideal S8x1024 .bf16) (v1 : Vec Ideal S1024x1024 .bf16) (r : Fin 8) (s : Fin 1024) : EReal :=
  ∑ k : Fin 1024, (v0 (ix2 r k) : EReal) * v1 (ix2 k s)

/-- The product of a piece, at an index. -/
theorem pay2_apply (v0 : Vec Ideal S8x1024 .bf16) (v1 : Vec Ideal S1024x1024 .bf16) (r : Fin 8) (s : Fin 1024) :
    k0_pay2 v0 v1 (ix2 r s) = dotAt v0 v1 r s := by
  unfold dotAt
  pointwise [k0_pay2, k0_pay1]

/-- The product of a piece added to what the buffer held. -/
theorem pay3_apply (v0 : Vec Ideal S8x1024 .bf16) (v1 : Vec Ideal S1024x1024 .bf16) (acc : Vec Ideal S8x1024 .f32)
    (r : Fin 8) (s : Fin 1024) :
    k0_pay3 v0 v1 acc (ix2 r s) = ((acc (ix2 r s) : EReal) + dotAt v0 v1 r s : EReal) := by
  unfold dotAt
  pointwise [k0_pay3, k0_pay1]

/-- The buffer as it is written to the result. -/
theorem pay4_apply (acc : Vec Ideal S8x1024 .f32) (r : Fin 8) (s : Fin 1024) :
    k0_pay4 acc (ix2 r s) = (acc (ix2 r s) : EReal) := by
  pointwise [k0_pay4]

section Cases

variable (c : Dev nD) (i : grid0.Coords) (arg3 : Memref sig .tc .vmem S8x1024 .bf16) (harg3 : arg3.IsWhole) (arg4 : Memref sig .tc .vmem S1024x1024 .bf16) (harg4 : arg4.IsWhole) (arg5 : Memref sig .tc .vmem S8x1024 .bf16) (harg5 : arg5.IsWhole) (arg6 : Memref sig .tc .vmem S8x1024 .f32) (harg6 : arg6.IsWhole)
  (x0 : Vec Ideal S8x1024 .bf16) (x1 : Vec Ideal S1024x1024 .bf16) (acc : Vec Ideal S8x1024 .f32)

/-- At a first point the buffer ends with the product. -/
theorem buf_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  exact (View.read_writes_full _ _ _ _ _).trans
    (congrArg₂ k0_pay2 ((View.readAt_full _ _ _).trans (harg3.read_unread _)) ((View.readAt_full _ _ _).trans (harg4.read_unread _)))

theorem pay3_congr {a a' : Vec Ideal S8x1024 .bf16} {b b' : Vec Ideal S1024x1024 .bf16} {d d' : Vec Ideal S8x1024 .f32}
    (ha : a = a') (hb : b = b') (hd : d = d') : k0_pay3 a b d = k0_pay3 a' b' d' := by rw [ha, hb, hd]

/-- At a middle point the product is added. -/
theorem buf_B (hc0 : ¬cond0_0 i) (hc1 : cond0_1 i) (hc2 : ¬cond0_2 i) :
    sout0_B_0 c i arg3 harg3 arg4 harg4 arg5 harg5 arg6 harg6 hc0 hc1 hc2 x0 x1 acc = k0_pay3 x0 x1 acc := by
  unfold sout0_B_0
  exact (View.read_writes_full _ _ _ _ _).trans
    (pay3_congr ((View.readAt_full _ _ _).trans (harg3.read_unread _)) ((View.readAt_full _ _ _).trans (harg4.read_unread _))
      ((View.readAt_full _ _ _).trans (harg6.read_unread _)))

/-- At a last point the product is added and the buffer is written to the result. -/
theorem out_C (hc0 : ¬cond0_0 i) (hc1 : cond0_1 i) (hc2 : cond0_2 i) :
    out0_C_2 c i arg3 harg3 arg4 harg4 arg5 harg5 arg6 harg6 hc0 hc1 hc2 x0 x1 acc = k0_pay4 (k0_pay3 x0 x1 acc) := by
  unfold out0_C_2
  exact (View.read_writes_full _ _ _ _ _).trans (congrArg k0_pay4
    ((View.readAt_full _ _ _).trans ((View.read_writes_full _ _ _ _ _).trans
      (pay3_congr ((View.readAt_full _ _ _).trans (harg3.read_unread _)) ((View.readAt_full _ _ _).trans (harg4.read_unread _))
        ((View.readAt_full _ _ _).trans (harg6.read_unread _))))))

end Cases

variable (m : (ℓ : Loc nD τ sig) → Buf (Elt Ideal) ℓ) (ρ : Dev nD → PrngReg)

/-- The product of piece `k` for row `r`. -/
def piece (A : Vec Ideal S8x4096 .bf16) (B : Vec Ideal S4096x1024 .bf16) (k : Fin 4) (r : Fin 8) (s : Fin 1024) : EReal :=
  ∑ l : Fin 1024, (A (ix2 r ⟨k.val * 1024 + l.val, by omega⟩) : EReal) * B (ix2 ⟨k.val * 1024 + l.val, by omega⟩ s)

/-- The product of a point's blocks is its piece. -/
theorem sum_blocks (c : Dev nD) (t : Fin cfg0.N) (k : Fin 4) (hk : t.val % 4 = k.val) (r : Fin 8) (s : Fin 1024) :
    dotAt (iblk m c 0 t) (iblk m c 1 t) r s
      = piece (V m c main_arg0) (V m c main_arg1) k r s := by
  refine Finset.sum_congr rfl fun l _ => ?_
  refine congrArg₂ (· * ·) ((blk0_apply (V m c main_arg0) t (ix2 r l)).trans (congrArg (V m c main_arg0 : Vec Ideal S8x4096 .bf16) ?_))
    ((blk1_apply (V m c main_arg1) t (ix2 l s)).trans (congrArg (V m c main_arg1 : Vec Ideal S4096x1024 .bf16) ?_))
  · exact congrArg₂ ix2 rfl (Fin.ext (by show t.val % 4 * 1024 + l.val = k.val * 1024 + l.val; rw [hk]))
  · exact congrArg₂ ix2 (Fin.ext (by show t.val % 4 * 1024 + l.val = k.val * 1024 + l.val; rw [hk])) rfl

/-- The buffer after the first point. -/
theorem buf_first (c : Dev nD) (r : Fin 8) (s : Fin 1024) (h : 0 < cfg0.N) :
    ((outsAt0 m c 0 h).2 (ix2 r s) : EReal) = piece (V m c main_arg0) (V m c main_arg1) 0 r s := by
  refine (congrFun (congrArg Prod.snd (outsAt0_A m c ⟨0, h⟩ (by show 0 % 4 = 0; omega) (by show ¬1 ≤ 0; omega) (by show ¬0 % 4 = 3; omega))) _).trans ?_
  dsimp only
  rw [buf_A, pay2_apply]
  exact sum_blocks m c ⟨0, h⟩ 0 rfl r s

/-- The buffer after a middle point. -/
theorem buf_middle (c : Dev nD) (r : Fin 8) (s : Fin 1024) (k : Fin 4) (n : ℕ) (hn : n + 1 = k.val) (h2 : k.val < 3) (h : n + 1 < cfg0.N) :
    ((outsAt0 m c (n + 1) h).2 (ix2 r s) : EReal)
      = (outsAt0 m c n (Nat.lt_of_succ_lt h)).2 (ix2 r s) + piece (V m c main_arg0) (V m c main_arg1) k r s := by
  refine (congrFun (congrArg Prod.snd (outsAt0_B m c ⟨n + 1, h⟩ (by show ¬(n + 1) % 4 = 0; omega) (by show 1 ≤ n + 1; omega) (by show ¬(n + 1) % 4 = 3; omega))) _).trans ?_
  dsimp only
  rw [buf_B, pay3_apply]
  exact congrArg₂ (· + ·) rfl (sum_blocks m c ⟨n + 1, h⟩ k (by show (n + 1) % 4 = k.val; omega) r s)

/-- The block that the last point leaves. -/
theorem out_last (c : Dev nD) (r : Fin 8) (s : Fin 1024) (h : 2 + 1 < cfg0.N) :
    ((outsAt0 m c (2 + 1) h).1 (ix2 r s) : EReal)
      = (outsAt0 m c 2 (Nat.lt_of_succ_lt h)).2 (ix2 r s) + piece (V m c main_arg0) (V m c main_arg1) 3 r s := by
  refine (congrFun (congrArg Prod.fst (outsAt0_C m c ⟨2 + 1, h⟩ (by show ¬(2 + 1) % 4 = 0; omega) (by show 1 ≤ 2 + 1; omega) (by show (2 + 1) % 4 = 3; omega))) _).trans ?_
  dsimp only
  rw [out_C, pay4_apply, pay3_apply]
  exact congrArg₂ (· + ·) rfl (sum_blocks m c ⟨2 + 1, h⟩ 3 rfl r s)

/-- The four pieces are the whole contraction. -/
theorem pieces (A : Vec Ideal S8x4096 .bf16) (B : Vec Ideal S4096x1024 .bf16) (R : Fin 8) (s : Fin 1024) :
    piece A B 0 R s + piece A B 1 R s + piece A B 2 R s + piece A B 3 R s
      = (∑ k : Fin 4096, (A (ix2 R k) : EReal) * B (ix2 k s) : EReal) := by
  rw [Fin.sum_univ_tiles 4 1024 (by decide) (fun k : Fin 4096 => (A (ix2 R k) : EReal) * B (ix2 k s)), Fin.sum_univ_four]
  rfl

/-- What the array of the result holds at an index: its block's contents at the point that writes the block. -/
theorem G2_of (c : Dev nD) (i : S8x1024.Idx) (n : ℕ) (hn : n < cfg0.N) (y : S8x1024.Idx) (hp : pt2Of i = n) (hl : loc2Of i = y) :
    (G2 m c : Vec Ideal S8x1024 .bf16) i = (outsAt0 m c n hn).1 y := by
  subst hp hl
  exact (dif_pos hn).trans (congrFun (congrArg Prod.fst (outsAt0_sweep m c _ hn)) _).symm

/-- The array after the run is `G` of the arguments. -/
theorem G2_eq (c : Dev nD) : (G2 m c : Vec Ideal S8x1024 .bf16) = G (V m c main_arg0) (V m c main_arg1) := by
  funext i
  have h0 : (i 0).val < 8 := (i 0).isLt
  have h1 : (i 1).val < 1024 := (i 1).isLt
  have hN : 2 + 1 < cfg0.N := Nat.lt_of_lt_of_eq (by omega) N_0.symm
  refine (G2_of m c i (2 + 1) hN (ix2 (i 0) (i 1)) ?_ ?_).trans ?_
  · show 4 * (1 * ((i 0).val / 8 - 0) + 1 * ((i 1).val / 1024 - 0)) + 3 = _
    omega
  · funext a; match a with
    | ⟨0, _⟩ => exact Fin.ext (by show (i 0).val % 8 = (i 0).val; omega)
    | ⟨1, _⟩ => exact Fin.ext (by show (i 1).val % 1024 = (i 1).val; omega)
  · rw [out_last m c (i 0) (i 1) hN, buf_middle m c (i 0) (i 1) 2 1 rfl (by decide), buf_middle m c (i 0) (i 1) 1 0 rfl (by decide),
      buf_first m c (i 0) (i 1)]
    exact pieces _ _ _ _

/-- The run, its result read. -/
theorem run_read : θ_run defs (onTc (τ := τ) (main (F := Ideal))) ⟨m, fun _ => 0, ρ⟩ fun r => ∀ c : Dev nD,
    r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (G2_eq m c), (h c).2⟩) (Value.run m ρ)

/-- The reference's result is `G` of the same arrays. -/
theorem reference_eq (A : Vec Ideal S8x4096 .bf16) (B : Vec Ideal S4096x1024 .bf16) :
    Cert.Reference14Ideal.Read.val_main_v8 (F := Ideal) A B = G A B := by
  funext i
  refine (Cert.Reference14Ideal.Read.val_main_v8_apply A B i).trans ?_
  show Cert.Reference14Ideal.Read.val_main_v7 (F := Ideal) A B i = _
  rw [Cert.Reference14Ideal.Read.val_main_v7_apply, Cert.Reference14Ideal.Read.val_main_v6_apply, Cert.Reference14Ideal.Read.val_main_v5_apply]
  refine Finset.sum_congr rfl fun k _ => ?_
  refine congrArg₂ (· * ·) ((Cert.Reference14Ideal.Read.val_main_v4_apply A _).trans (congrArg A ?_)) (congrArg B ?_) <;> funext a <;> fin_cases a <;> rfl

end Cert.Kernel14Ideal.ForgetW

end
-- ==== Proof.ForgetX.lean ====
module

public import Idealize.ShloMosaic.Lib.Pipeline.ValueKit
public import Idealize.ShloMosaic.Lib.Pointwise
public import proofs.«01_k».proof.Proof.Gen.Kernel15Ideal.Value
public import proofs.«01_k».proof.Proof.Gen.Reference15Ideal.Read

/-! # The gradient of the forget gates' product for its input

One block of 512 rows and all 1024 columns for each grid point, each a product over the 8 heads. -/

@[expose] public section

set_option maxRecDepth 16384
set_option maxHeartbeats 4000000

noncomputable section

namespace Cert.Kernel15Ideal.ForgetX

open Idealize.ShloMosaic Idealize.ShloMosaic.TcCoe Idealize.ShloMosaic.Tactic
open Cert.Kernel15Ideal.Gen Cert.Kernel15Ideal.Value
open Idealize.ShloMosaic.Pipeline (Dat)

/-- The result at an index: column `i 0` of the left factor times column `i 1` of the right one. -/
def G (A : Vec Ideal S8x4096 .bf16) (B : Vec Ideal S8x1024 .bf16) : Vec Ideal S4096x1024 .f32 := fun i =>
  (∑ k : Fin 8, (A (ix2 k (i 0)) : EReal) * B (ix2 k (i 1)) : EReal)

theorem point_lt (t : Fin cfg0.N) : t.val < 8 := Nat.lt_of_lt_of_eq t.isLt N_0

/-- The blocks of a grid point. -/
theorem index0 : ∀ t : Fin cfg0.N, win0_0.index t = ![0, t.val % 8] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val % 8, 0] := (by decide +kernel : ∀ t : Fin grid0.N, _)

theorem blk0_apply (A : Vec Ideal S8x4096 .bf16) (t : Fin cfg0.N) (y : S8x512.Idx) :
    ((cfg0.win 0).blk t).view.read (Elt Ideal) A y
      = A (ix2 (y 0) ⟨512 * (t.val % 8) + (y 1).val, by have := (y 1).isLt; simp at this; omega⟩) := by
  rw [View.read_apply, cast_eq]
  apply congrArg A
  funext a
  apply Fin.ext
  refine (Pipeline.Window.rect_emb_val win0_0 t y a rfl).trans ?_
  rw [index0 t]
  fin_cases a
  · simp
  · simp [Nat.mul_comm]

theorem blk1_apply (A : Vec Ideal S8x1024 .bf16) (t : Fin cfg0.N) (y : S8x1024.Idx) :
    ((cfg0.win 1).blk t).view.read (Elt Ideal) A y
      = A (ix2 (y 0) (y 1)) := by
  rw [View.read_apply, cast_eq]
  apply congrArg A
  funext a
  apply Fin.ext
  refine (Pipeline.Window.rect_emb_val win0_1 t y a rfl).trans ?_
  rw [index1 t]
  fin_cases a
  · simp
  · simp

theorem blk2_apply (A : Vec Ideal S4096x1024 .f32) (t : Fin cfg0.N) (y : S512x1024.Idx) :
    ((cfg0.win 2).blk t).view.read (Elt Ideal) A y
      = A (ix2 ⟨512 * (t.val % 8) + (y 0).val, by have := (y 0).isLt; simp at this; omega⟩ (y 1)) := by
  rw [View.read_apply, cast_eq]
  apply congrArg A
  funext a
  apply Fin.ext
  refine (Pipeline.Window.rect_emb_val win0_2 t y a rfl).trans ?_
  rw [index2 t]
  fin_cases a
  · simp [Nat.mul_comm]
  · simp

/-- The product that a point stores, at an index of its block. -/
theorem pay_apply (v0 : Vec Ideal S8x512 .bf16) (v1 : Vec Ideal S8x1024 .bf16) (r : Fin 512) (s : Fin 1024) :
    k0_pay1 v0 v1 (ix2 r s) = (∑ k : Fin 8, (v0 (ix2 k r) : EReal) * v1 (ix2 k s) : EReal) := by
  pointwise [k0_pay1]

variable (m : (ℓ : Loc nD τ sig) → Buf (Elt Ideal) ℓ) (ρ : Dev nD → PrngReg)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [flushed2]
  unfold out0_2
  rw [View.canon_unit_zero (by funext a; fin_cases a <;> rfl), View.ld_unit_zero (S := S8x512) (by funext a; fin_cases a <;> rfl),
    View.ld_unit_zero (S := S8x1024) (by funext a; fin_cases a <;> rfl)]
  funext y
  change k0_pay1 _ _ (y : S512x1024.Idx) = _
  rw [blk2_apply]
  obtain ⟨r, s, rfl⟩ : ∃ (r : Fin 512) (s : Fin 1024), (y : S512x1024.Idx) = ix2 r s := ⟨y 0, y 1, eq_ix2 y⟩
  rw [pay_apply]
  refine Finset.sum_congr rfl fun k _ => ?_
  exact congrArg₂ (· * ·) (blk0_apply (V m c main_arg0) t (ix2 k r)) (blk1_apply (V m c main_arg1) t (ix2 k s))

/-- An index is in a point's block when each of its coordinates is in the block's range. -/
theorem mem_blk (t : Fin cfg0.N) (i : S4096x1024.Idx) :
    i ∈ ((cfg0.win 2).blk t).view.set
      ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- Every index lies in the block of a point. -/
theorem covered (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  refine ⟨⟨(i 0).val / 512, Nat.lt_of_lt_of_eq (by omega) N_0.symm⟩, flush0_2 _, ?_⟩
  rw [mem_blk, index2]
  intro a
  fin_cases a
  · show (i 0).val / 512 % 8 * 512 ≤ (i 0).val ∧ (i 0).val < (i 0).val / 512 % 8 * 512 + 512
    omega
  · show 0 * 1024 ≤ (i 1).val ∧ (i 1).val < 0 * 1024 + 1024
    omega

/-- The array after the run is `G` of the arguments. -/
theorem final (c : Dev nD) : (dats m 0 c).arrAt 2 cfg0.N = G (V m c main_arg0) (V m c main_arg1) :=
  (dats m 0 c).arrAt_eq_of_cover 2 _ (fun t _ => flushed_eq m c t) covered

/-- The run, its result read. -/
theorem run : θ_run defs (onTc (τ := τ) (main (F := Ideal))) ⟨m, fun _ => 0, ρ⟩ fun r => ∀ c : Dev nD,
    r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

/-- The reference's result is `G` of the same arrays. -/
theorem reference_eq (A : Vec Ideal S8x4096 .bf16) (B : Vec Ideal S8x1024 .bf16) :
    Cert.Reference15Ideal.Read.val_main_v6 (F := Ideal) A B = G A B := by
  funext i
  rw [Cert.Reference15Ideal.Read.val_main_v6_apply]
  refine Finset.sum_congr rfl fun k _ => ?_
  refine congrArg₂ (· * ·) ((Cert.Reference15Ideal.Read.val_main_v5_apply A _).trans (congrArg A ?_)) ((Cert.Reference15Ideal.Read.val_main_v1_apply B _).trans (congrArg B ?_)) <;> funext a <;> fin_cases a <;> rfl

end Cert.Kernel15Ideal.ForgetX

end
-- ==== Proof.SwigluBwd.lean ====
module

public import Idealize.ShloMosaic.Lib.IdealHost
public import Idealize.ShloMosaic.Lib.Pointwise
public import Idealize.ShloMosaic.Lib.ReduceAll
public import proofs.«01_k».proof.Proof.Finite
public import proofs.«01_k».proof.Proof.Gen.Kernel16Ideal.Value
public import proofs.«01_k».proof.Proof.Gen.Reference16Ideal.Read
public import proofs.«01_k».proof.Proof.Gen.Pre_finite16

/-! # The gradient of the feed-forward layer's gated factor

With `s` the gate of `a` and `p` the gradient times the second product, the kernel computes `p * s * (1 + a * (1 - s))` and the
reference `p * s + a * p * (s * (1 - s))`. The two agree when `p` is a real; where `a` is infinite, `1 - s` or `s` is zero. -/

@[expose] public section

set_option maxRecDepth 16384
set_option maxHeartbeats 4000000

noncomputable section

namespace Cert.Kernel16Ideal.SwigluBwd

open Idealize.ShloMosaic Idealize.ShloMosaic.TcCoe Idealize.ShloMosaic.Tactic
open Cert.Kernel16Ideal Cert.Kernel16Ideal.Gen Cert.Kernel16Ideal.Value

/-- The gate of a number. -/
def gate (a : EReal) : EReal := Ideal.div 1 (1 + Ideal.exp (-a))

theorem gate_bot : gate ⊥ = 0 := Ideal.logistic_bot

theorem gate_top : gate ⊤ = 1 := Ideal.logistic_top

theorem gate_coe (r : ℝ) : ∃ s : ℝ, gate (r : EReal) = (s : EReal) := by
  refine ⟨1 / (1 + Real.exp (-r)), ?_⟩
  have h : (1 + Real.exp (-r)) ≠ 0 := (by positivity : (0 : ℝ) < 1 + Real.exp (-r)).ne'
  have e : (1 : EReal) + ((Real.exp (-r) : ℝ) : EReal) = ((1 + Real.exp (-r) : ℝ) : EReal) := by push_cast; rfl
  rw [gate, ← EReal.coe_neg, Ideal.exp_coe, e, Ideal.div_coe h, one_mul]

/-- The two ways of writing the gradient for the first product agree. -/
theorem grad_eq (a : EReal) (b d : ℝ) :
    (d : EReal) * b * gate a * (1 + a * (1 - gate a)) = (d : EReal) * b * gate a + a * ((d : EReal) * b) * (gate a * (1 - gate a)) := by
  induction a with
  | bot => rw [gate_bot]; simp
  | top =>
    have h : (1 : EReal) - 1 = 0 := by
      rw [show (1 : EReal) = ((1 : ℝ) : EReal) from rfl, ← EReal.coe_sub, sub_self, EReal.coe_zero]
    rw [gate_top, h]; simp
  | coe r =>
    obtain ⟨s, hs⟩ := gate_coe r
    rw [hs]
    norm_cast
    push_cast
    ring

/-- The kernel's two results at an index. -/
theorem kernel3_at (A B D : Vec Ideal S4096x2816 .bf16) (i : S4096x2816.Idx) :
    (G3 (F := Ideal) A D B i : EReal) = (D i : EReal) * B i * gate (A i) * (1 + (A i : EReal) * (1 - gate (A i))) := by
  show (D i : EReal) * B i * Ideal.div (Ideal.ofBits .f32 0x3F800000#32) (Ideal.ofBits .f32 0x3F800000#32 + Ideal.exp (Ideal.ofBits .f32 0x00000000#32 - (A i : EReal))) * (Ideal.ofBits .f32 0x3F800000#32 + (A i : EReal) * (Ideal.ofBits .f32 0x3F800000#32 - Ideal.div (Ideal.ofBits .f32 0x3F800000#32) (Ideal.ofBits .f32 0x3F800000#32 + Ideal.exp (Ideal.ofBits .f32 0x00000000#32 - (A i : EReal))))) = _
  rw [Ideal.ofBits_one_f32, Ideal.ofBits_zero_f32, zero_sub]
  rfl

theorem kernel4_at (A B D : Vec Ideal S4096x2816 .bf16) (i : S4096x2816.Idx) :
    (G4 (F := Ideal) A D i : EReal) = (D i : EReal) * A i * gate (A i) := by
  show (D i : EReal) * A i * Ideal.div (Ideal.ofBits .f32 0x3F800000#32) (Ideal.ofBits .f32 0x3F800000#32 + Ideal.exp (Ideal.ofBits .f32 0x00000000#32 - (A i : EReal))) = _
  rw [Ideal.ofBits_one_f32, Ideal.ofBits_zero_f32, zero_sub]
  rfl

/-- The reference's gate at an index. -/
theorem ref_gate (A : Vec Ideal S4096x2816 .bf16) (i : S4096x2816.Idx) :
    Cert.Reference16Ideal.Read.val_main_v2_2 (F := Ideal) A i = gate (A i) := by
  rw [Cert.Reference16Ideal.Read.val_main_v2_2_apply, Cert.Reference16Ideal.Read.val_main_call0_v4_apply, Cert.Reference16Ideal.Read.val_main_call0_v3_apply, Cert.Reference16Ideal.Read.val_main_call0_cst_0_apply, Cert.Reference16Ideal.Read.val_main_call0_v2_apply, Cert.Reference16Ideal.Read.val_main_call0_cst_apply, Cert.Reference16Ideal.Read.val_main_call0_v1_apply, Cert.Reference16Ideal.Read.val_main_call0_v0_apply, Cert.Reference16Ideal.Read.val_main_v0_apply]
  show Ideal.div (Ideal.ofBits .f32 0x3F800000#32) (Ideal.ofBits .f32 0x3F800000#32 + Ideal.exp (-(A i : EReal))) = _
  rw [Ideal.ofBits_one_f32]
  rfl

/-- The reference's two results at an index. -/
theorem ref8_at (A B D : Vec Ideal S4096x2816 .bf16) (i : S4096x2816.Idx) :
    (Cert.Reference16Ideal.Read.val_main_v8 (F := Ideal) A B D i : EReal)
      = (D i : EReal) * B i * gate (A i) + (A i : EReal) * ((D i : EReal) * B i) * (gate (A i) * (1 - gate (A i))) := by
  rw [Cert.Reference16Ideal.Read.val_main_v8_apply, Cert.Reference16Ideal.Read.val_main_v7_apply, Cert.Reference16Ideal.Read.val_main_call1_v1_apply, Cert.Reference16Ideal.Read.val_main_call1_v2_apply, Cert.Reference16Ideal.Read.val_main_call1_v0_apply, Cert.Reference16Ideal.Read.val_main_v2_1_apply, Cert.Reference16Ideal.Read.val_main_call0_v7_apply, Cert.Reference16Ideal.Read.val_main_call0_v6_apply, Cert.Reference16Ideal.Read.val_main_call0_cst_1_apply, Cert.Reference16Ideal.Read.val_main_v6_apply, Cert.Reference16Ideal.Read.val_main_v4_apply, Cert.Reference16Ideal.Read.val_main_v1_apply, Cert.Reference16Ideal.Read.val_main_v0_apply, ref_gate]
  show (D i : EReal) * B i * gate (A i) + (A i : EReal) * ((D i : EReal) * B i) * (gate (A i) * (Ideal.ofBits .f32 0x3F800000#32 - gate (A i))) = _
  rw [Ideal.ofBits_one_f32]

theorem ref9_at (A D : Vec Ideal S4096x2816 .bf16) (i : S4096x2816.Idx) :
    (Cert.Reference16Ideal.Read.val_main_v9 (F := Ideal) A D i : EReal) = (A i : EReal) * gate (A i) * D i := by
  rw [Cert.Reference16Ideal.Read.val_main_v9_apply, Cert.Reference16Ideal.Read.val_main_v5_apply, Cert.Reference16Ideal.Read.val_main_v2_0_apply, Cert.Reference16Ideal.Read.val_main_v4_apply, Cert.Reference16Ideal.Read.val_main_v0_apply, ref_gate]
  rfl

instance : Subsingleton Cert.Pre_finite16.S_.Idx := ⟨fun a b => funext fun i => i.elim0⟩

/-- Every number that the precondition looks at is a real. -/
theorem reals (A B D : Vec Ideal S4096x2816 .bf16) (h : Cert.Pre_finite16.fn (F := Ideal) A B D = fun _ => 1#1) (i : S4096x2816.Idx) :
    B i = (((B i : EReal).toReal : ℝ) : EReal) ∧ D i = (((D i : EReal).toReal : ℝ) : EReal) := by
  have h0 := congrFun h ix0
  dsimp only [Cert.Pre_finite16.fn] at h0
  have a1 := Cert.Pre_finite.Real.and_one (Host.reduce_andi_all _ _ _ _ _ h0 i)
  refine ⟨Cert.Pre_finite.Real.real_of_lt _ (Eq.trans ?_ a1.1), Cert.Pre_finite.Real.real_of_lt _ (Eq.trans ?_ a1.2)⟩
  · obtain ⟨r, s, rfl⟩ : ∃ (r : Fin 4096) (s : Fin 2816), i = ix2 r s := ⟨i 0, i 1, eq_ix2 i⟩
    pointwise
    rfl
  · obtain ⟨r, s, rfl⟩ : ∃ (r : Fin 4096) (s : Fin 2816), i = ix2 r s := ⟨i 0, i 1, eq_ix2 i⟩
    pointwise
    rfl

/-- Under the precondition the reference's first result is the kernel's. -/
theorem reference8_eq (A B D : Vec Ideal S4096x2816 .bf16) (h : Cert.Pre_finite16.fn (F := Ideal) A B D = fun _ => 1#1) :
    Cert.Reference16Ideal.Read.val_main_v8 (F := Ideal) A B D = G3 (F := Ideal) A D B := by
  funext i
  refine (ref8_at A B D i).trans (Eq.trans ?_ (kernel3_at A B D i).symm)
  obtain ⟨hB, hD⟩ := reals A B D h i
  rw [hB, hD]
  exact (grad_eq _ _ _).symm

/-- The reference's second result is the kernel's. -/
theorem reference9_eq (A D : Vec Ideal S4096x2816 .bf16) :
    Cert.Reference16Ideal.Read.val_main_v9 (F := Ideal) A D = G4 (F := Ideal) A D := by
  funext i
  refine (ref9_at A D i).trans (Eq.trans ?_ (kernel4_at A D D i).symm)
  rw [mul_comm, mul_assoc]

end Cert.Kernel16Ideal.SwigluBwd

end
-- ==== Proof.AdamMath.lean ====
module

public import Idealize.ShloMosaic.Lib.IdealHost
public import Idealize.ShloMosaic.Lib.Pointwise

/-! # The optimiser's step for one entry

The kernel multiplies by the reciprocal of a correction where the reference divides by the correction. -/

@[expose] public section

set_option maxRecDepth 16384
set_option maxHeartbeats 4000000

noncomputable section

namespace Cert.Adam

open Idealize.ShloMosaic

/-- The reciprocals of the two corrections. -/
def c1 : EReal := (((5463681 / 8388608)⁻¹ : ℝ) : EReal)
def c2 : EReal := (((2672307 / 268435456)⁻¹ : ℝ) : EReal)

/-- The two moments from the old ones and the gradient, and the change of the weight from the moments. -/
def first (m g : EReal) : EReal := Ideal.ofBits .f32 0x3F666666#32 * m + Ideal.ofBits .f32 0x3DCCCCCD#32 * g
def second (v g : EReal) : EReal := Ideal.ofBits .f32 0x3F7FBE77#32 * v + Ideal.ofBits .f32 0x3A83126F#32 * (g * g)
def change (w p q : EReal) : EReal :=
  Ideal.ofBits .f32 0xBA83126F#32 * (Ideal.div (p * c1) (Ideal.sqrt (q * c2) + Ideal.ofBits .f32 0x322BCC77#32) + Ideal.ofBits .f32 0x3C23D70A#32 * w)

/-- The words of the two corrections. -/
theorem bits_first : Ideal.ofBits .f32 0x3F26BD02#32 = ((5463681 / 8388608 : ℝ) : EReal) := by
  simp [Ideal.ofBits, Ideal.ieee, -EReal.coe_mul]; norm_num

theorem bits_second : Ideal.ofBits .f32 0x3C231ACC#32 = ((2672307 / 268435456 : ℝ) : EReal) := by
  simp [Ideal.ofBits, Ideal.ieee, -EReal.coe_mul]; norm_num

theorem div_first (x : EReal) : Ideal.div x (Ideal.ofBits .f32 0x3F26BD02#32) = x * c1 := by
  rw [bits_first, Ideal.div_coe (by norm_num), one_div]
  rfl

theorem div_second (x : EReal) : Ideal.div x (Ideal.ofBits .f32 0x3C231ACC#32) = x * c2 := by
  rw [bits_second, Ideal.div_coe (by norm_num), one_div]
  rfl

/-- The change of the weight with the corrections divided by. -/
theorem change_div (w p q : EReal) :
    Ideal.ofBits .f32 0xBA83126F#32 * (Ideal.div (Ideal.div p (Ideal.ofBits .f32 0x3F26BD02#32)) (Ideal.sqrt (Ideal.div q (Ideal.ofBits .f32 0x3C231ACC#32)) + Ideal.ofBits .f32 0x322BCC77#32) + Ideal.ofBits .f32 0x3C23D70A#32 * w)
      = change w p q := by
  rw [div_first, div_second]
  rfl

end Cert.Adam

end
-- ==== Proof.AdamLayers.lean ====
module

public import Idealize.ShloMosaic.Lib.Pipeline.ValueKit
public import proofs.«01_k».proof.Proof.AdamMath
public import proofs.«01_k».proof.Proof.Gen.Kernel17Ideal.Value
public import proofs.«01_k».proof.Proof.Gen.Reference17Ideal.Read

/-! # The optimiser's step for the weights of a product, of both layers

The grid's first coordinate is the layer and picks the gradient; the second is a block of 176 rows. -/

@[expose] public section

set_option maxRecDepth 16384
set_option maxHeartbeats 4000000

noncomputable section

namespace Cert.Kernel17Ideal.AdamLayers

open Idealize.ShloMosaic Idealize.ShloMosaic.TcCoe Idealize.ShloMosaic.Tactic
open Cert.Kernel17Ideal Cert.Kernel17Ideal.Gen Cert.Kernel17Ideal.Value Cert.Adam
open Idealize.ShloMosaic.Pipeline (Dat)

theorem c1_eq : (Named.named κ "c1" 0x3FC48605#32 : Ideal .f32) = c1 := IdealRules.named_const.ideal_named_scalar _ _ _ _ rfl
theorem c2_eq : (Named.named κ "c2" 0x42C8E6D3#32 : Ideal .f32) = c2 := IdealRules.named_const.ideal_named_scalar _ _ _ _ rfl

/-- The gradient of layer `l`, at a row and a column. -/
def grad (A B : Vec Ideal S704x1024 .f32) (l : Fin 2) (r : Fin 704) (s : Fin 1024) : EReal := if l.val < 1 then A (ix2 r s) else B (ix2 r s)

/-- The four results. -/
def G5 (A B : Vec Ideal S704x1024 .f32) : Vec Ideal S2x704x1024 .f32 := fun i => grad A B (i 0) (i 1) (i 2)
def G7 (A B : Vec Ideal S704x1024 .f32) (M : Vec Ideal S2x704x1024 .f32) : Vec Ideal S2x704x1024 .f32 := fun i => first (M i) (grad A B (i 0) (i 1) (i 2))
def G8 (A B : Vec Ideal S704x1024 .f32) (V : Vec Ideal S2x704x1024 .f32) : Vec Ideal S2x704x1024 .f32 := fun i => second (V i) (grad A B (i 0) (i 1) (i 2))
def G6 (W : Vec Ideal S2x704x1024 .f32) (A B : Vec Ideal S704x1024 .f32) (M V : Vec Ideal S2x704x1024 .f32) : Vec Ideal S2x704x1024 .f32 := fun i => change (W i) (G7 A B M i) (G8 A B V i)

theorem point_lt (t : Fin cfg0.N) : t.val < 8 := Nat.lt_of_lt_of_eq t.isLt N_0

/-- Where the windows are at a point. -/
theorem index1 : ∀ t : Fin cfg0.N, win0_1.index t = ![if t.val < 4 then t.val % 4 else 0, 0] := (by decide +kernel : ∀ t : Fin grid0.N, _)
theorem index2 : ∀ t : Fin cfg0.N, win0_2.index t = ![if t.val < 4 then 0 else t.val % 4, 0] := (by decide +kernel : ∀ t : Fin grid0.N, _)
theorem index0 : ∀ t : Fin cfg0.N, win0_0.index t = ![t.val / 4, t.val % 4, 0] := (by decide +kernel : ∀ t : Fin grid0.N, _)
theorem index3 : ∀ t : Fin cfg0.N, win0_3.index t = ![t.val / 4, t.val % 4, 0] := (by decide +kernel : ∀ t : Fin grid0.N, _)
theorem index4 : ∀ t : Fin cfg0.N, win0_4.index t = ![t.val / 4, t.val % 4, 0] := (by decide +kernel : ∀ t : Fin grid0.N, _)
theorem index5 : ∀ t : Fin cfg0.N, win0_5.index t = ![t.val / 4, t.val % 4, 0] := (by decide +kernel : ∀ t : Fin grid0.N, _)
theorem index6 : ∀ t : Fin cfg0.N, win0_6.index t = ![t.val / 4, t.val % 4, 0] := (by decide +kernel : ∀ t : Fin grid0.N, _)
theorem index7 : ∀ t : Fin cfg0.N, win0_7.index t = ![t.val / 4, t.val % 4, 0] := (by decide +kernel : ∀ t : Fin grid0.N, _)
theorem index8 : ∀ t : Fin cfg0.N, win0_8.index t = ![t.val / 4, t.val % 4, 0] := (by decide +kernel : ∀ t : Fin grid0.N, _)

/-- The layer of a point, and the row of the arrays that row `r` of its block is. -/
def layer (t : Fin cfg0.N) : Fin 2 := ⟨t.val / 4, by have := point_lt t; omega⟩
def row (t : Fin cfg0.N) (r : Fin 176) : Fin 704 := ⟨176 * (t.val % 4) + r.val, by omega⟩

theorem blk0_apply (A : Vec Ideal S2x704x1024 .f32) (t : Fin cfg0.N) (r : Fin 176) (s : Fin 1024) :
    ((cfg0.win 0).blk t).view.read (Elt Ideal) A (ix3 0 r s : S1x176x1024.Idx) = A (ix3 (layer t) (row t r) s) := by
  rw [View.read_apply, cast_eq]
  apply congrArg A
  funext a
  apply Fin.ext
  refine (Pipeline.Window.rect_emb_val win0_0 t (ix3 0 r s : S1x176x1024.Idx) a rfl).trans ?_
  rw [index0 t]
  fin_cases a
  · simp [layer]
  · simp [row, Nat.mul_comm]
  · simp

theorem blk3_apply (A : Vec Ideal S2x704x1024 .f32) (t : Fin cfg0.N) (r : Fin 176) (s : Fin 1024) :
    ((cfg0.win 3).blk t).view.read (Elt Ideal) A (ix3 0 r s : S1x176x1024.Idx) = A (ix3 (layer t) (row t r) s) := by
  rw [View.read_apply, cast_eq]
  apply congrArg A
  funext a
  apply Fin.ext
  refine (Pipeline.Window.rect_emb_val win0_3 t (ix3 0 r s : S1x176x1024.Idx) a rfl).trans ?_
  rw [index3 t]
  fin_cases a
  · simp [layer]
  · simp [row, Nat.mul_comm]
  · simp

theorem blk4_apply (A : Vec Ideal S2x704x1024 .f32) (t : Fin cfg0.N) (r : Fin 176) (s : Fin 1024) :
    ((cfg0.win 4).blk t).view.read (Elt Ideal) A (ix3 0 r s : S1x176x1024.Idx) = A (ix3 (layer t) (row t r) s) := by
  rw [View.read_apply, cast_eq]
  apply congrArg A
  funext a
  apply Fin.ext
  refine (Pipeline.Window.rect_emb_val win0_4 t (ix3 0 r s : S1x176x1024.Idx) a rfl).trans ?_
  rw [index4 t]
  fin_cases a
  · simp [layer]
  · simp [row, Nat.mul_comm]
  · simp

theorem blk5_apply (A : Vec Ideal S2x704x1024 .f32) (t : Fin cfg0.N) (r : Fin 176) (s : Fin 1024) :
    ((cfg0.win 5).blk t).view.read (Elt Ideal) A (ix3 0 r s : S1x176x1024.Idx) = A (ix3 (layer t) (row t r) s) := by
  rw [View.read_apply, cast_eq]
  apply congrArg A
  funext a
  apply Fin.ext
  refine (Pipeline.Window.rect_emb_val win0_5 t (ix3 0 r s : S1x176x1024.Idx) a rfl).trans ?_
  rw [index5 t]
  fin_cases a
  · simp [layer]
  · simp [row, Nat.mul_comm]
  · simp

theorem blk6_apply (A : Vec Ideal S2x704x1024 .f32) (t : Fin cfg0.N) (r : Fin 176) (s : Fin 1024) :
    ((cfg0.win 6).blk t).view.read (Elt Ideal) A (ix3 0 r s : S1x176x1024.Idx) = A (ix3 (layer t) (row t r) s) := by
  rw [View.read_apply, cast_eq]
  apply congrArg A
  funext a
  apply Fin.ext
  refine (Pipeline.Window.rect_emb_val win0_6 t (ix3 0 r s : S1x176x1024.Idx) a rfl).trans ?_
  rw [index6 t]
  fin_cases a
  · simp [layer]
  · simp [row, Nat.mul_comm]
  · simp

theorem blk7_apply (A : Vec Ideal S2x704x1024 .f32) (t : Fin cfg0.N) (r : Fin 176) (s : Fin 1024) :
    ((cfg0.win 7).blk t).view.read (Elt Ideal) A (ix3 0 r s : S1x176x1024.Idx) = A (ix3 (layer t) (row t r) s) := by
  rw [View.read_apply, cast_eq]
  apply congrArg A
  funext a
  apply Fin.ext
  refine (Pipeline.Window.rect_emb_val win0_7 t (ix3 0 r s : S1x176x1024.Idx) a rfl).trans ?_
  rw [index7 t]
  fin_cases a
  · simp [layer]
  · simp [row, Nat.mul_comm]
  · simp

theorem blk8_apply (A : Vec Ideal S2x704x1024 .f32) (t : Fin cfg0.N) (r : Fin 176) (s : Fin 1024) :
    ((cfg0.win 8).blk t).view.read (Elt Ideal) A (ix3 0 r s : S1x176x1024.Idx) = A (ix3 (layer t) (row t r) s) := by
  rw [View.read_apply, cast_eq]
  apply congrArg A
  funext a
  apply Fin.ext
  refine (Pipeline.Window.rect_emb_val win0_8 t (ix3 0 r s : S1x176x1024.Idx) a rfl).trans ?_
  rw [index8 t]
  fin_cases a
  · simp [layer]
  · simp [row, Nat.mul_comm]
  · simp

theorem blk1_apply (A : Vec Ideal S704x1024 .f32) (t : Fin cfg0.N) (h : t.val < 4) (r : Fin 176) (s : Fin 1024) :
    ((cfg0.win 1).blk t).view.read (Elt Ideal) A (ix2 r s : S176x1024.Idx) = A (ix2 (row t r) s) := by
  rw [View.read_apply, cast_eq]
  apply congrArg A
  funext a
  apply Fin.ext
  refine (Pipeline.Window.rect_emb_val win0_1 t (ix2 r s : S176x1024.Idx) a rfl).trans ?_
  rw [index1 t, if_pos h]
  fin_cases a
  · simp [row, Nat.mul_comm]
  · simp

theorem blk2_apply (A : Vec Ideal S704x1024 .f32) (t : Fin cfg0.N) (h : ¬ t.val < 4) (r : Fin 176) (s : Fin 1024) :
    ((cfg0.win 2).blk t).view.read (Elt Ideal) A (ix2 r s : S176x1024.Idx) = A (ix2 (row t r) s) := by
  rw [View.read_apply, cast_eq]
  apply congrArg A
  funext a
  apply Fin.ext
  refine (Pipeline.Window.rect_emb_val win0_2 t (ix2 r s : S176x1024.Idx) a rfl).trans ?_
  rw [index2 t, if_neg h]
  fin_cases a
  · simp [row, Nat.mul_comm]
  · simp

/-- The first coordinate picks the gradient. -/
theorem cond_first : ∀ t : Fin cfg0.N, t.val < 4 → Scalar.cmpi .eq (BitVec.ofNat 32 (grid0.coords t 0).val) 0#32 = 1#1 :=
  (by decide +kernel : ∀ t : Fin grid0.N, t.val < 4 → Scalar.cmpi .eq (BitVec.ofNat 32 (grid0.coords t 0).val) 0#32 = 1#1)
theorem cond_second : ∀ t : Fin cfg0.N, ¬ t.val < 4 → Scalar.cmpi .eq (BitVec.ofNat 32 (grid0.coords t 0).val) 0#32 = 0#1 :=
  (by decide +kernel : ∀ t : Fin grid0.N, ¬ t.val < 4 → Scalar.cmpi .eq (BitVec.ofNat 32 (grid0.coords t 0).val) 0#32 = 0#1)

theorem pay4_first (t : Fin cfg0.N) (h : t.val < 4) (x y : Vec Ideal S176x1024 .f32) : k0_pay4 (grid0.coords t) x y = x := by
  show Scalar.select (Scalar.cmpi .eq (BitVec.ofNat 32 (grid0.coords t 0).val) 0#32) x y = x
  rw [cond_first t h]
  rfl

theorem pay4_second (t : Fin cfg0.N) (h : ¬ t.val < 4) (x y : Vec Ideal S176x1024 .f32) : k0_pay4 (grid0.coords t) x y = y := by
  show Scalar.select (Scalar.cmpi .eq (BitVec.ofNat 32 (grid0.coords t 0).val) 0#32) x y = y
  rw [cond_second t h]
  rfl

/-- What a point stores, at an index of its block. -/
theorem pay5_apply (i : grid0.Coords) (x y : Vec Ideal S176x1024 .f32) (r : Fin 176) (s : Fin 1024) :
    k0_pay5 i x y (ix3 0 r s) = k0_pay4 i x y (ix2 r s) := by
  pointwise [k0_pay5]

theorem pay2_apply (x : Vec Ideal S176x1024 .f32) (r : Fin 176) (s : Fin 1024) : k0_pay2 (F := Ideal) x (ix3 0 r s) = x (ix2 r s) := by
  pointwise [k0_pay2]

theorem pay3_apply (x : Vec Ideal S176x1024 .f32) (r : Fin 176) (s : Fin 1024) : k0_pay3 (F := Ideal) x (ix3 0 r s) = x (ix2 r s) := by
  pointwise [k0_pay3]

theorem pay6_apply (x : Vec Ideal S1x176x1024 .f32) (r : Fin 176) (s : Fin 1024) : k0_pay6 x (ix2 r s) = x (ix3 0 r s) := by
  pointwise [k0_pay6]

theorem pay7_apply (i : grid0.Coords) (x y : Vec Ideal S176x1024 .f32) (m : Vec Ideal S1x176x1024 .f32) (r : Fin 176) (s : Fin 1024) :
    k0_pay7 i x y m (ix2 r s) = first (m (ix3 0 r s)) (k0_pay4 i x y (ix2 r s)) := by
  unfold first
  pointwise [k0_pay7]

theorem pay8_apply (i : grid0.Coords) (x y : Vec Ideal S176x1024 .f32) (v : Vec Ideal S1x176x1024 .f32) (r : Fin 176) (s : Fin 1024) :
    k0_pay8 i x y v (ix2 r s) = second (v (ix3 0 r s)) (k0_pay4 i x y (ix2 r s)) := by
  unfold second
  pointwise [k0_pay8]

theorem pay1_apply (i : grid0.Coords) (w : Vec Ideal S1x176x1024 .f32) (x y : Vec Ideal S176x1024 .f32) (m v : Vec Ideal S1x176x1024 .f32)
    (r : Fin 176) (s : Fin 1024) :
    k0_pay1 (k0_pay6 w) (k0_pay9 i x y m v) (Scalar.ofBits .f32 0x3C23D70A#32) (ix3 0 r s)
      = change (w (ix3 0 r s)) (k0_pay7 i x y m (ix2 r s)) (k0_pay8 i x y v (ix2 r s)) := by
  have h : ∀ u z : Vec Ideal S176x1024 .f32, k0_pay1 u z (Scalar.ofBits .f32 0x3C23D70A#32) (ix3 0 r s)
      = (Ideal.ofBits .f32 0xBA83126F#32 * ((z (ix2 r s) : EReal) + Ideal.ofBits .f32 0x3C23D70A#32 * u (ix2 r s)) : EReal) := by
    intro u z
    pointwise [k0_pay1]
  rw [h, pay6_apply]
  unfold change
  rw [← c1_eq, ← c2_eq]
  rfl

variable (m : (ℓ : Loc nD τ sig) → Buf (Elt Ideal) ℓ) (ρ : Dev nD → PrngReg)

theorem grad_at (c : Dev nD) (t : Fin cfg0.N) (r : Fin 176) (s : Fin 1024) :
    k0_pay4 (grid0.coords t) (iblk m c 1 t) (iblk m c 2 t) (ix2 r s) = grad (V m c main_arg1) (V m c main_arg2) (layer t) (row t r) s := by
  have ht := point_lt t
  by_cases h : t.val < 4
  · rw [pay4_first t h]
    refine (blk1_apply (V m c main_arg1) t h r s).trans ?_
    rw [grad, if_pos (show (layer t).val < 1 by show t.val / 4 < 1; omega)]
  · rw [pay4_second t h]
    refine (blk2_apply (V m c main_arg2) t h r s).trans ?_
    rw [grad, if_neg (show ¬ (layer t).val < 1 by show ¬ t.val / 4 < 1; omega)]

theorem first_at (c : Dev nD) (t : Fin cfg0.N) (r : Fin 176) (s : Fin 1024) :
    k0_pay7 (grid0.coords t) (iblk m c 1 t) (iblk m c 2 t) (iblk m c 3 t) (ix2 r s)
      = G7 (V m c main_arg1) (V m c main_arg2) (V m c main_arg3) (ix3 (layer t) (row t r) s) := by
  rw [pay7_apply]
  exact congrArg₂ first (blk3_apply (V m c main_arg3) t r s) (grad_at m c t r s)

theorem second_at (c : Dev nD) (t : Fin cfg0.N) (r : Fin 176) (s : Fin 1024) :
    k0_pay8 (grid0.coords t) (iblk m c 1 t) (iblk m c 2 t) (iblk m c 4 t) (ix2 r s)
      = G8 (V m c main_arg1) (V m c main_arg2) (V m c main_arg4) (ix3 (layer t) (row t r) s) := by
  rw [pay8_apply]
  exact congrArg₂ second (blk4_apply (V m c main_arg4) t r s) (grad_at m c t r s)

/-- What a point writes back to result 1 is its block of `G5`. -/
theorem flushed5_eq (c : Dev nD) (t : Fin cfg0.N) :
    (dats m 0 c).flushed 5 t = ((cfg0.win 5).blk t).view.read (Elt Ideal) (G5 (V m c main_arg1) (V m c main_arg2)) := by
  rw [flushed5]
  unfold out0_5
  rw [View.canon_unit_zero (by funext a; fin_cases a <;> rfl)]
  simp only [View.ld_unit_zero (S := S176x1024) (show (![0, 0] : Fin 2 → Nat) = 0 by funext a; fin_cases a <;> rfl),
    View.ld_unit_zero (S := S1x176x1024) (show (![0, 0, 0] : Fin 3 → Nat) = 0 by funext a; fin_cases a <;> rfl)]
  funext y
  obtain ⟨r, s, rfl⟩ : ∃ (r : Fin 176) (s : Fin 1024), (y : S1x176x1024.Idx) = ix3 0 r s :=
    ⟨y 1, y 2, (eq_ix3 y).trans (by rw [show y 0 = (0 : Fin 1) from Subsingleton.elim (α := Fin 1) _ _])⟩
  refine Eq.trans ?_ (blk5_apply _ t r s).symm
  exact (pay5_apply _ _ _ r s).trans (grad_at m c t r s)

/-- An index is in a point's block when each of its coordinates is in the block's range. -/
theorem mem_blk5 (t : Fin cfg0.N) (i : S2x704x1024.Idx) :
    i ∈ ((cfg0.win 5).blk t).view.set
      ↔ ∀ a : Fin 3, win0_5.index t a * S1x176x1024.size a ≤ (i a).val ∧ (i a).val < win0_5.index t a * S1x176x1024.size a + S1x176x1024.size a := by
  show i ∈ ((View.whole main_v0_0).slice (win0_5.rect t)).set ↔ _
  rw [View.set_slice_whole, Rect.mem_set_unit]
  exact Iff.rfl

/-- Every index lies in the block of a point. -/
theorem covered5 (i : S2x704x1024.Idx) : ∃ t : Fin cfg0.N, (cfg0.win 5).flush t = true ∧ i ∈ ((cfg0.win 5).blk t).view.set := by
  have h0 : (i 0).val < 2 := (i 0).isLt
  have h1 : (i 1).val < 704 := (i 1).isLt
  have h2 : (i 2).val < 1024 := (i 2).isLt
  refine ⟨⟨4 * (i 0).val + (i 1).val / 176, Nat.lt_of_lt_of_eq (by omega) N_0.symm⟩, flush0_5 _, ?_⟩
  rw [mem_blk5, index5]
  intro a
  fin_cases a
  · show (4 * (i 0).val + (i 1).val / 176) / 4 * 1 ≤ (i 0).val ∧ (i 0).val < (4 * (i 0).val + (i 1).val / 176) / 4 * 1 + 1
    omega
  · show (4 * (i 0).val + (i 1).val / 176) % 4 * 176 ≤ (i 1).val ∧ (i 1).val < (4 * (i 0).val + (i 1).val / 176) % 4 * 176 + 176
    omega
  · show 0 * 1024 ≤ (i 2).val ∧ (i 2).val < 0 * 1024 + 1024
    omega

/-- The array after the run is `G5` of the arguments. -/
theorem final5 (c : Dev nD) : (dats m 0 c).arrAt 5 cfg0.N = G5 (V m c main_arg1) (V m c main_arg2) :=
  (dats m 0 c).arrAt_eq_of_cover 5 _ (fun t _ => flushed5_eq m c t) covered5

/-- What a point writes back to result 2 is its block of `G6`. -/
theorem flushed6_eq (c : Dev nD) (t : Fin cfg0.N) :
    (dats m 0 c).flushed 6 t = ((cfg0.win 6).blk t).view.read (Elt Ideal) (G6 (V m c main_arg0) (V m c main_arg1) (V m c main_arg2) (V m c main_arg3) (V m c main_arg4)) := by
  rw [flushed6]
  unfold out0_6
  rw [View.canon_unit_zero (by funext a; fin_cases a <;> rfl)]
  simp only [View.ld_unit_zero (S := S176x1024) (show (![0, 0] : Fin 2 → Nat) = 0 by funext a; fin_cases a <;> rfl),
    View.ld_unit_zero (S := S1x176x1024) (show (![0, 0, 0] : Fin 3 → Nat) = 0 by funext a; fin_cases a <;> rfl)]
  funext y
  obtain ⟨r, s, rfl⟩ : ∃ (r : Fin 176) (s : Fin 1024), (y : S1x176x1024.Idx) = ix3 0 r s :=
    ⟨y 1, y 2, (eq_ix3 y).trans (by rw [show y 0 = (0 : Fin 1) from Subsingleton.elim (α := Fin 1) _ _])⟩
  refine Eq.trans ?_ (blk6_apply _ t r s).symm
  exact ((pay1_apply _ _ _ _ _ _ r s).trans (by rw [first_at, second_at]; rfl)).trans
    (congrArg (fun z => change z _ _) (blk0_apply (V m c main_arg0) t r s))

/-- An index is in a point's block when each of its coordinates is in the block's range. -/
theorem mem_blk6 (t : Fin cfg0.N) (i : S2x704x1024.Idx) :
    i ∈ ((cfg0.win 6).blk t).view.set
      ↔ ∀ a : Fin 3, win0_6.index t a * S1x176x1024.size a ≤ (i a).val ∧ (i a).val < win0_6.index t a * S1x176x1024.size a + S1x176x1024.size a := by
  show i ∈ ((View.whole main_v0_1).slice (win0_6.rect t)).set ↔ _
  rw [View.set_slice_whole, Rect.mem_set_unit]
  exact Iff.rfl

/-- Every index lies in the block of a point. -/
theorem covered6 (i : S2x704x1024.Idx) : ∃ t : Fin cfg0.N, (cfg0.win 6).flush t = true ∧ i ∈ ((cfg0.win 6).blk t).view.set := by
  have h0 : (i 0).val < 2 := (i 0).isLt
  have h1 : (i 1).val < 704 := (i 1).isLt
  have h2 : (i 2).val < 1024 := (i 2).isLt
  refine ⟨⟨4 * (i 0).val + (i 1).val / 176, Nat.lt_of_lt_of_eq (by omega) N_0.symm⟩, flush0_6 _, ?_⟩
  rw [mem_blk6, index6]
  intro a
  fin_cases a
  · show (4 * (i 0).val + (i 1).val / 176) / 4 * 1 ≤ (i 0).val ∧ (i 0).val < (4 * (i 0).val + (i 1).val / 176) / 4 * 1 + 1
    omega
  · show (4 * (i 0).val + (i 1).val / 176) % 4 * 176 ≤ (i 1).val ∧ (i 1).val < (4 * (i 0).val + (i 1).val / 176) % 4 * 176 + 176
    omega
  · show 0 * 1024 ≤ (i 2).val ∧ (i 2).val < 0 * 1024 + 1024
    omega

/-- The array after the run is `G6` of the arguments. -/
theorem final6 (c : Dev nD) : (dats m 0 c).arrAt 6 cfg0.N = G6 (V m c main_arg0) (V m c main_arg1) (V m c main_arg2) (V m c main_arg3) (V m c main_arg4) :=
  (dats m 0 c).arrAt_eq_of_cover 6 _ (fun t _ => flushed6_eq m c t) covered6

/-- What a point writes back to result 3 is its block of `G7`. -/
theorem flushed7_eq (c : Dev nD) (t : Fin cfg0.N) :
    (dats m 0 c).flushed 7 t = ((cfg0.win 7).blk t).view.read (Elt Ideal) (G7 (V m c main_arg1) (V m c main_arg2) (V m c main_arg3)) := by
  rw [flushed7]
  unfold out0_7
  rw [View.canon_unit_zero (by funext a; fin_cases a <;> rfl)]
  simp only [View.ld_unit_zero (S := S176x1024) (show (![0, 0] : Fin 2 → Nat) = 0 by funext a; fin_cases a <;> rfl),
    View.ld_unit_zero (S := S1x176x1024) (show (![0, 0, 0] : Fin 3 → Nat) = 0 by funext a; fin_cases a <;> rfl)]
  funext y
  obtain ⟨r, s, rfl⟩ : ∃ (r : Fin 176) (s : Fin 1024), (y : S1x176x1024.Idx) = ix3 0 r s :=
    ⟨y 1, y 2, (eq_ix3 y).trans (by rw [show y 0 = (0 : Fin 1) from Subsingleton.elim (α := Fin 1) _ _])⟩
  refine Eq.trans ?_ (blk7_apply _ t r s).symm
  exact (pay2_apply _ r s).trans (first_at m c t r s)

/-- An index is in a point's block when each of its coordinates is in the block's range. -/
theorem mem_blk7 (t : Fin cfg0.N) (i : S2x704x1024.Idx) :
    i ∈ ((cfg0.win 7).blk t).view.set
      ↔ ∀ a : Fin 3, win0_7.index t a * S1x176x1024.size a ≤ (i a).val ∧ (i a).val < win0_7.index t a * S1x176x1024.size a + S1x176x1024.size a := by
  show i ∈ ((View.whole main_v0_2).slice (win0_7.rect t)).set ↔ _
  rw [View.set_slice_whole, Rect.mem_set_unit]
  exact Iff.rfl

/-- Every index lies in the block of a point. -/
theorem covered7 (i : S2x704x1024.Idx) : ∃ t : Fin cfg0.N, (cfg0.win 7).flush t = true ∧ i ∈ ((cfg0.win 7).blk t).view.set := by
  have h0 : (i 0).val < 2 := (i 0).isLt
  have h1 : (i 1).val < 704 := (i 1).isLt
  have h2 : (i 2).val < 1024 := (i 2).isLt
  refine ⟨⟨4 * (i 0).val + (i 1).val / 176, Nat.lt_of_lt_of_eq (by omega) N_0.symm⟩, flush0_7 _, ?_⟩
  rw [mem_blk7, index7]
  intro a
  fin_cases a
  · show (4 * (i 0).val + (i 1).val / 176) / 4 * 1 ≤ (i 0).val ∧ (i 0).val < (4 * (i 0).val + (i 1).val / 176) / 4 * 1 + 1
    omega
  · show (4 * (i 0).val + (i 1).val / 176) % 4 * 176 ≤ (i 1).val ∧ (i 1).val < (4 * (i 0).val + (i 1).val / 176) % 4 * 176 + 176
    omega
  · show 0 * 1024 ≤ (i 2).val ∧ (i 2).val < 0 * 1024 + 1024
    omega

/-- The array after the run is `G7` of the arguments. -/
theorem final7 (c : Dev nD) : (dats m 0 c).arrAt 7 cfg0.N = G7 (V m c main_arg1) (V m c main_arg2) (V m c main_arg3) :=
  (dats m 0 c).arrAt_eq_of_cover 7 _ (fun t _ => flushed7_eq m c t) covered7

/-- What a point writes back to result 4 is its block of `G8`. -/
theorem flushed8_eq (c : Dev nD) (t : Fin cfg0.N) :
    (dats m 0 c).flushed 8 t = ((cfg0.win 8).blk t).view.read (Elt Ideal) (G8 (V m c main_arg1) (V m c main_arg2) (V m c main_arg4)) := by
  rw [flushed8]
  unfold out0_8
  rw [View.canon_unit_zero (by funext a; fin_cases a <;> rfl)]
  simp only [View.ld_unit_zero (S := S176x1024) (show (![0, 0] : Fin 2 → Nat) = 0 by funext a; fin_cases a <;> rfl),
    View.ld_unit_zero (S := S1x176x1024) (show (![0, 0, 0] : Fin 3 → Nat) = 0 by funext a; fin_cases a <;> rfl)]
  funext y
  obtain ⟨r, s, rfl⟩ : ∃ (r : Fin 176) (s : Fin 1024), (y : S1x176x1024.Idx) = ix3 0 r s :=
    ⟨y 1, y 2, (eq_ix3 y).trans (by rw [show y 0 = (0 : Fin 1) from Subsingleton.elim (α := Fin 1) _ _])⟩
  refine Eq.trans ?_ (blk8_apply _ t r s).symm
  exact (pay3_apply _ r s).trans (second_at m c t r s)

/-- An index is in a point's block when each of its coordinates is in the block's range. -/
theorem mem_blk8 (t : Fin cfg0.N) (i : S2x704x1024.Idx) :
    i ∈ ((cfg0.win 8).blk t).view.set
      ↔ ∀ a : Fin 3, win0_8.index t a * S1x176x1024.size a ≤ (i a).val ∧ (i a).val < win0_8.index t a * S1x176x1024.size a + S1x176x1024.size a := by
  show i ∈ ((View.whole main_v0_3).slice (win0_8.rect t)).set ↔ _
  rw [View.set_slice_whole, Rect.mem_set_unit]
  exact Iff.rfl

/-- Every index lies in the block of a point. -/
theorem covered8 (i : S2x704x1024.Idx) : ∃ t : Fin cfg0.N, (cfg0.win 8).flush t = true ∧ i ∈ ((cfg0.win 8).blk t).view.set := by
  have h0 : (i 0).val < 2 := (i 0).isLt
  have h1 : (i 1).val < 704 := (i 1).isLt
  have h2 : (i 2).val < 1024 := (i 2).isLt
  refine ⟨⟨4 * (i 0).val + (i 1).val / 176, Nat.lt_of_lt_of_eq (by omega) N_0.symm⟩, flush0_8 _, ?_⟩
  rw [mem_blk8, index8]
  intro a
  fin_cases a
  · show (4 * (i 0).val + (i 1).val / 176) / 4 * 1 ≤ (i 0).val ∧ (i 0).val < (4 * (i 0).val + (i 1).val / 176) / 4 * 1 + 1
    omega
  · show (4 * (i 0).val + (i 1).val / 176) % 4 * 176 ≤ (i 1).val ∧ (i 1).val < (4 * (i 0).val + (i 1).val / 176) % 4 * 176 + 176
    omega
  · show 0 * 1024 ≤ (i 2).val ∧ (i 2).val < 0 * 1024 + 1024
    omega

/-- The array after the run is `G8` of the arguments. -/
theorem final8 (c : Dev nD) : (dats m 0 c).arrAt 8 cfg0.N = G8 (V m c main_arg1) (V m c main_arg2) (V m c main_arg4) :=
  (dats m 0 c).arrAt_eq_of_cover 8 _ (fun t _ => flushed8_eq m c t) covered8

/-- The run with the four results by their functions of the arguments. -/
theorem run : θ_run defs (onTc (τ := τ) (main (F := Ideal))) ⟨m, fun _ => 0, ρ⟩ fun r => ∀ c : Dev nD,
      r.2.mem ((c : Thread nD τ).loc main_v0_0) = G5 (m ((c : Thread nD τ).loc main_arg1)) (m ((c : Thread nD τ).loc main_arg2))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G7 (m ((c : Thread nD τ).loc main_arg1)) (m ((c : Thread nD τ).loc main_arg2)) (m ((c : Thread nD τ).loc main_arg3))
      ∧ r.2.mem ((c : Thread nD τ).loc main_v0_3) = G8 (m ((c : Thread nD τ).loc main_arg1)) (m ((c : Thread nD τ).loc main_arg2)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h0, h1, h2, h3, hargs⟩ := h c
    have k0 := h0.trans (final5 m c)
    have k1 := h1.trans (final6 m c)
    have k2 := h2.trans (final7 m c)
    have k3 := h3.trans (final8 m c)
    rw [V_main_arg1 m c, V_main_arg2 m c] at k0 k1 k2 k3
    rw [V_main_arg0 m c, V_main_arg3 m c, V_main_arg4 m c] at k1
    rw [V_main_arg3 m c] at k2
    rw [V_main_arg4 m c] at k3
    exact ⟨k0, k1, k2, k3, hargs⟩) (run_blocks m ρ)

/-- The reference's stacked gradients. -/
theorem reference2_eq (A B : Vec Ideal S704x1024 .f32) : Cert.Reference17Ideal.Read.val_main_v2 (F := Ideal) A B = G5 A B := by
  funext i
  obtain ⟨l, r, s, rfl⟩ : ∃ (l : Fin 2) (r : Fin 704) (s : Fin 1024), i = ix3 l r s := ⟨i 0, i 1, i 2, eq_ix3 i⟩
  show _ = grad A B l r s
  unfold grad
  fin_cases l
  · pointwise [Cert.Reference17Ideal.Read.val_main_v2, Cert.Reference17Ideal.Read.val_main_v0, Cert.Reference17Ideal.Read.val_main_v1]
  · pointwise [Cert.Reference17Ideal.Read.val_main_v2, Cert.Reference17Ideal.Read.val_main_v0, Cert.Reference17Ideal.Read.val_main_v1]

theorem reference7_eq (A B : Vec Ideal S704x1024 .f32) (M : Vec Ideal S2x704x1024 .f32) : Cert.Reference17Ideal.Read.val_main_v7 (F := Ideal) A B M = G7 A B M := by
  funext i
  rw [Cert.Reference17Ideal.Read.val_main_v7_apply, Cert.Reference17Ideal.Read.val_main_v4_apply, Cert.Reference17Ideal.Read.val_main_v6_apply, Cert.Reference17Ideal.Read.val_main_v3_apply, Cert.Reference17Ideal.Read.val_main_v5_apply, Cert.Reference17Ideal.Read.val_main_cst_apply, Cert.Reference17Ideal.Read.val_main_cst_0_apply, reference2_eq]
  rfl

theorem reference13_eq (A B : Vec Ideal S704x1024 .f32) (V : Vec Ideal S2x704x1024 .f32) : Cert.Reference17Ideal.Read.val_main_v13 (F := Ideal) A B V = G8 A B V := by
  funext i
  rw [Cert.Reference17Ideal.Read.val_main_v13_apply, Cert.Reference17Ideal.Read.val_main_v9_apply, Cert.Reference17Ideal.Read.val_main_v12_apply, Cert.Reference17Ideal.Read.val_main_v8_apply, Cert.Reference17Ideal.Read.val_main_v11_apply, Cert.Reference17Ideal.Read.val_main_v10_apply, Cert.Reference17Ideal.Read.val_main_cst_1_apply, Cert.Reference17Ideal.Read.val_main_cst_2_apply, reference2_eq]
  rfl

theorem reference26_eq (W : Vec Ideal S2x704x1024 .f32) (A B : Vec Ideal S704x1024 .f32) (M V : Vec Ideal S2x704x1024 .f32) : Cert.Reference17Ideal.Read.val_main_v26 (F := Ideal) W A B M V = G6 W A B M V := by
  funext i
  rw [Cert.Reference17Ideal.Read.val_main_v26_apply, Cert.Reference17Ideal.Read.val_main_v25_apply, Cert.Reference17Ideal.Read.val_main_v24_apply, Cert.Reference17Ideal.Read.val_main_v21_apply, Cert.Reference17Ideal.Read.val_main_v23_apply, Cert.Reference17Ideal.Read.val_main_v15_apply, Cert.Reference17Ideal.Read.val_main_v14_apply, Cert.Reference17Ideal.Read.val_main_v20_apply, Cert.Reference17Ideal.Read.val_main_v18_apply, Cert.Reference17Ideal.Read.val_main_v17_apply, Cert.Reference17Ideal.Read.val_main_v16_apply, Cert.Reference17Ideal.Read.val_main_v19_apply, Cert.Reference17Ideal.Read.val_main_v22_apply, Cert.Reference17Ideal.Read.val_main_cst_3_apply, Cert.Reference17Ideal.Read.val_main_cst_4_apply, Cert.Reference17Ideal.Read.val_main_cst_5_apply, Cert.Reference17Ideal.Read.val_main_cst_6_apply, Cert.Reference17Ideal.Read.val_main_cst_7_apply, reference7_eq, reference13_eq]
  exact change_div (W i) (G7 A B M i) (G8 A B V i)

end Cert.Kernel17Ideal.AdamLayers

end
-- ==== Proof.AdamSmall.lean ====
module

public import proofs.«01_k».proof.Proof.AdamMath
public import proofs.«01_k».proof.Proof.Gen.Kernel18Ideal.Value
public import proofs.«01_k».proof.Proof.Gen.Reference18Ideal.Read

/-! # The optimiser's step for the spatial gating's weights -/

@[expose] public section

set_option maxRecDepth 16384
set_option maxHeartbeats 4000000

noncomputable section

namespace Cert.Kernel18Ideal.AdamSmall

open Idealize.ShloMosaic Idealize.ShloMosaic.TcCoe Idealize.ShloMosaic.Tactic
open Cert.Kernel18Ideal Cert.Kernel18Ideal.Gen Cert.Kernel18Ideal.Value Cert.Adam

theorem c1_eq : (Named.named κ "c1" 0x3FC48605#32 : Ideal .f32) = c1 := IdealRules.named_const.ideal_named_scalar _ _ _ _ rfl
theorem c2_eq : (Named.named κ "c2" 0x42C8E6D3#32 : Ideal .f32) = c2 := IdealRules.named_const.ideal_named_scalar _ _ _ _ rfl

/-- The reference's new moments are the kernel's. -/
theorem reference4_eq (G M : Vec Ideal S2048x128 .f32) : Cert.Reference18Ideal.Read.val_main_v4 (F := Ideal) G M = G5 (F := Ideal) G M := by
  funext i
  rw [Cert.Reference18Ideal.Read.val_main_v4_apply, Cert.Reference18Ideal.Read.val_main_v1_apply, Cert.Reference18Ideal.Read.val_main_v3_apply, Cert.Reference18Ideal.Read.val_main_v0_apply, Cert.Reference18Ideal.Read.val_main_v2_apply, Cert.Reference18Ideal.Read.val_main_cst_apply, Cert.Reference18Ideal.Read.val_main_cst_0_apply]

theorem reference10_eq (G V : Vec Ideal S2048x128 .f32) : Cert.Reference18Ideal.Read.val_main_v10 (F := Ideal) G V = G6 (F := Ideal) G V := by
  funext i
  rw [Cert.Reference18Ideal.Read.val_main_v10_apply, Cert.Reference18Ideal.Read.val_main_v6_apply, Cert.Reference18Ideal.Read.val_main_v9_apply, Cert.Reference18Ideal.Read.val_main_v5_apply, Cert.Reference18Ideal.Read.val_main_v8_apply, Cert.Reference18Ideal.Read.val_main_v7_apply, Cert.Reference18Ideal.Read.val_main_cst_1_apply, Cert.Reference18Ideal.Read.val_main_cst_2_apply]

/-- The reference's change of the weights is the kernel's. -/
theorem reference23_eq (W G M V : Vec Ideal S2048x128 .f32) :
    Cert.Reference18Ideal.Read.val_main_v23 (F := Ideal) W G M V = G4 (F := Ideal) W G M V := by
  funext i
  rw [Cert.Reference18Ideal.Read.val_main_v23_apply, Cert.Reference18Ideal.Read.val_main_v22_apply, Cert.Reference18Ideal.Read.val_main_v21_apply, Cert.Reference18Ideal.Read.val_main_v18_apply, Cert.Reference18Ideal.Read.val_main_v20_apply, Cert.Reference18Ideal.Read.val_main_v12_apply, Cert.Reference18Ideal.Read.val_main_v11_apply, Cert.Reference18Ideal.Read.val_main_v17_apply, Cert.Reference18Ideal.Read.val_main_v15_apply, Cert.Reference18Ideal.Read.val_main_v14_apply, Cert.Reference18Ideal.Read.val_main_v13_apply, Cert.Reference18Ideal.Read.val_main_v16_apply, Cert.Reference18Ideal.Read.val_main_v19_apply, Cert.Reference18Ideal.Read.val_main_cst_3_apply, Cert.Reference18Ideal.Read.val_main_cst_4_apply, Cert.Reference18Ideal.Read.val_main_cst_5_apply, Cert.Reference18Ideal.Read.val_main_cst_6_apply, Cert.Reference18Ideal.Read.val_main_cst_7_apply, reference4_eq, reference10_eq]
  refine (change_div (W i) (G5 (F := Ideal) G M i) (G6 (F := Ideal) G V i)).trans ?_
  dsimp only [G4]
  rw [c1_eq, c2_eq]
  rfl

end Cert.Kernel18Ideal.AdamSmall

end
-- ==== Proof.Products.lean ====
module

public import proofs.«01_k».proof.Defs
public import proofs.«01_k».proof.Proof.DownX
public import proofs.«01_k».proof.Proof.DownW
public import proofs.«01_k».proof.Proof.ProjFwd
public import proofs.«01_k».proof.Proof.ProjW
public import proofs.«01_k».proof.Proof.OutX
public import proofs.«01_k».proof.Proof.OutW
public import proofs.«01_k».proof.Proof.GateW
public import proofs.«01_k».proof.Proof.GateFwd
public import proofs.«01_k».proof.Proof.OutNorm
public import proofs.«01_k».proof.Proof.DownNorm
public import proofs.«01_k».proof.Proof.FirstNorm
public import proofs.«01_k».proof.Proof.ForgetFwd
public import proofs.«01_k».proof.Proof.ForgetW
public import proofs.«01_k».proof.Proof.ForgetX
public import proofs.«01_k».proof.Proof.SwigluBwd
public import proofs.«01_k».proof.Proof.AdamLayers
public import proofs.«01_k».proof.Proof.AdamSmall
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Pre_finite16
public import Idealize.ShloMosaic.Lib.Quiescent

@[expose] public section

/-! # The claims about the matrix products -/

noncomputable section

namespace Cert.ProductClaims

open Idealize.ShloMosaic Idealize.SL.Sem

/-- The gradient of the feed-forward layer's last product for its left factor: the kernel ends, keeps its arguments and leaves every counter at zero. -/
theorem frame_kernel2 : Cert.quiescent_Kernel2 := fun m ρ _ => Cert.Kernel2.Gen.frame m ρ

/-- The same of the kernel over the reals. -/
theorem frame_ideal2 : Cert.quiescent_Kernel2Ideal := fun m ρ _ => Cert.Kernel2Ideal.Gen.frame m ρ

/-- The same of the reference. -/
theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- No constant of the kernel is named. -/
theorem preserves2 : Cert.preserves_Kernel2_Kernel2Ideal := trivial

/-- Over the reals the kernel's result is the reference's. -/
theorem algebraic2 : Cert.algebraic_Kernel2Ideal_Reference2Ideal := by
  intro m ρ m' ρ' hpre hagree
  refine ⟨_, Cert.Kernel2Ideal.DownX.run m ρ, ?_⟩
  refine (θ_run Cert.Reference2Ideal.defs _ _).mono (fun _ h c => ?_) (Cert.Reference2Ideal.Value.run (F := Ideal) m' ρ')
  obtain ⟨h0, hargs⟩ := h c
  obtain ⟨a0, a1⟩ := hagree c
  refine ⟨h0.trans ?_, hargs⟩
  rw [Cert.Reference2Ideal.Read.val_main_v5_eq, a0, a1]
  exact Cert.Kernel2Ideal.DownX.reference_eq _ _

/-- The gradient of the feed-forward layer's last product for its weights: the kernel ends, keeps its arguments and leaves every counter at zero. -/
theorem frame_kernel3 : Cert.quiescent_Kernel3 := fun m ρ _ => Cert.Kernel3.Gen.frame m ρ

/-- The same of the kernel over the reals. -/
theorem frame_ideal3 : Cert.quiescent_Kernel3Ideal := fun m ρ _ => Cert.Kernel3Ideal.Gen.frame m ρ

/-- The same of the reference. -/
theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- No constant of the kernel is named. -/
theorem preserves3 : Cert.preserves_Kernel3_Kernel3Ideal := trivial

/-- Over the reals the kernel's result is the reference's. -/
theorem algebraic3 : Cert.algebraic_Kernel3Ideal_Reference3Ideal := by
  intro m ρ m' ρ' hpre hagree
  refine ⟨_, Cert.Kernel3Ideal.DownW.run_read m ρ, ?_⟩
  refine (θ_run Cert.Reference3Ideal.defs _ _).mono (fun _ h c => ?_) (Cert.Reference3Ideal.Value.run (F := Ideal) m' ρ')
  obtain ⟨h0, hargs⟩ := h c
  obtain ⟨a0, a1⟩ := hagree c
  refine ⟨h0.trans ?_, hargs⟩
  rw [Cert.Reference3Ideal.Read.val_main_v7_eq, a0, a1]
  exact Cert.Kernel3Ideal.DownW.reference_eq _ _

/-- The fused input projection: the kernel ends, keeps its arguments and leaves every counter at zero. -/
theorem frame_kernel4 : Cert.quiescent_Kernel4 := fun m ρ _ => Cert.Kernel4.Gen.frame m ρ

/-- The same of the kernel over the reals. -/
theorem frame_ideal4 : Cert.quiescent_Kernel4Ideal := fun m ρ _ => Cert.Kernel4Ideal.Gen.frame m ρ

/-- The same of the reference. -/
theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- No constant of the kernel is named. -/
theorem preserves4 : Cert.preserves_Kernel4_Kernel4Ideal := trivial

/-- Over the reals the kernel's result is the reference's. -/
theorem algebraic4 : Cert.algebraic_Kernel4Ideal_Reference4Ideal := by
  intro m ρ m' ρ' hpre hagree
  refine ⟨_, Cert.Kernel4Ideal.ProjFwd.run m ρ, ?_⟩
  refine (θ_run Cert.Reference4Ideal.defs _ _).mono (fun _ h c => ?_) (Cert.Reference4Ideal.Value.run (F := Ideal) m' ρ')
  obtain ⟨h0, hargs⟩ := h c
  obtain ⟨a0, a1⟩ := hagree c
  refine ⟨h0.trans ?_, hargs⟩
  rw [Cert.Reference4Ideal.Read.val_main_v3_eq, a0, a1]
  exact Cert.Kernel4Ideal.ProjFwd.reference_eq _ _

/-- The gradient of the input projection for its weights: the kernel ends, keeps its arguments and leaves every counter at zero. -/
theorem frame_kernel5 : Cert.quiescent_Kernel5 := fun m ρ _ => Cert.Kernel5.Gen.frame m ρ

/-- The same of the kernel over the reals. -/
theorem frame_ideal5 : Cert.quiescent_Kernel5Ideal := fun m ρ _ => Cert.Kernel5Ideal.Gen.frame m ρ

/-- The same of the reference. -/
theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- No constant of the kernel is named. -/
theorem preserves5 : Cert.preserves_Kernel5_Kernel5Ideal := trivial

/-- Over the reals the kernel's result is the reference's. -/
theorem algebraic5 : Cert.algebraic_Kernel5Ideal_Reference5Ideal := by
  intro m ρ m' ρ' hpre hagree
  refine ⟨_, Cert.Kernel5Ideal.ProjW.run m ρ, ?_⟩
  refine (θ_run Cert.Reference5Ideal.defs _ _).mono (fun _ h c => ?_) (Cert.Reference5Ideal.Value.run (F := Ideal) m' ρ')
  obtain ⟨h0, hargs⟩ := h c
  obtain ⟨a0, a1, a2, a3, a4, a5⟩ := hagree c
  refine ⟨h0.trans ?_, hargs⟩
  rw [Cert.Reference5Ideal.Read.val_main_v26_eq, a0, a1, a2, a3, a4, a5]
  exact Cert.Kernel5Ideal.ProjW.reference_eq _ _ _ _ _ _

/-- The gradient of the output's product for its left factor: the kernel ends, keeps its arguments and leaves every counter at zero. -/
theorem frame_kernel6 : Cert.quiescent_Kernel6 := fun m ρ _ => Cert.Kernel6.Gen.frame m ρ

/-- The same of the kernel over the reals. -/
theorem frame_ideal6 : Cert.quiescent_Kernel6Ideal := fun m ρ _ => Cert.Kernel6Ideal.Gen.frame m ρ

/-- The same of the reference. -/
theorem frame_reference6 : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- No constant of the kernel is named. -/
theorem preserves6 : Cert.preserves_Kernel6_Kernel6Ideal := trivial

/-- Over the reals the kernel's result is the reference's. -/
theorem algebraic6 : Cert.algebraic_Kernel6Ideal_Reference6Ideal := by
  intro m ρ m' ρ' hpre hagree
  refine ⟨_, Cert.Kernel6Ideal.OutX.run m ρ, ?_⟩
  refine (θ_run Cert.Reference6Ideal.defs _ _).mono (fun _ h c => ?_) (Cert.Reference6Ideal.Value.run (F := Ideal) m' ρ')
  obtain ⟨h0, hargs⟩ := h c
  obtain ⟨a0, a1⟩ := hagree c
  refine ⟨h0.trans ?_, hargs⟩
  rw [Cert.Reference6Ideal.Read.val_main_v4_eq, a0, a1]
  exact Cert.Kernel6Ideal.OutX.reference_eq _ _

/-- The gradient of the output's product for its weights: the kernel ends, keeps its arguments and leaves every counter at zero. -/
theorem frame_kernel7 : Cert.quiescent_Kernel7 := fun m ρ _ => Cert.Kernel7.Gen.frame m ρ

/-- The same of the kernel over the reals. -/
theorem frame_ideal7 : Cert.quiescent_Kernel7Ideal := fun m ρ _ => Cert.Kernel7Ideal.Gen.frame m ρ

/-- The same of the reference. -/
theorem frame_reference7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- No constant of the kernel is named. -/
theorem preserves7 : Cert.preserves_Kernel7_Kernel7Ideal := trivial

/-- Over the reals the kernel's result is the reference's. -/
theorem algebraic7 : Cert.algebraic_Kernel7Ideal_Reference7Ideal := by
  intro m ρ m' ρ' hpre hagree
  refine ⟨_, Cert.Kernel7Ideal.OutW.run_read m ρ, ?_⟩
  refine (θ_run Cert.Reference7Ideal.defs _ _).mono (fun _ h c => ?_) (Cert.Reference7Ideal.Value.run (F := Ideal) m' ρ')
  obtain ⟨h0, hargs⟩ := h c
  obtain ⟨a0, a1⟩ := hagree c
  refine ⟨h0.trans ?_, hargs⟩
  rw [Cert.Reference7Ideal.Read.val_main_v7_eq, a0, a1]
  exact Cert.Kernel7Ideal.OutW.reference_eq _ _

/-- The gradient of the feed-forward layer's first product for its turned-over weights: the kernel ends, keeps its arguments and leaves every counter at zero. -/
theorem frame_kernel8 : Cert.quiescent_Kernel8 := fun m ρ _ => Cert.Kernel8.Gen.frame m ρ

/-- The same of the kernel over the reals. -/
theorem frame_ideal8 : Cert.quiescent_Kernel8Ideal := fun m ρ _ => Cert.Kernel8Ideal.Gen.frame m ρ

/-- The same of the reference. -/
theorem frame_reference8 : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- No constant of the kernel is named. -/
theorem preserves8 : Cert.preserves_Kernel8_Kernel8Ideal := trivial

/-- Over the reals the kernel's result is the reference's. -/
theorem algebraic8 : Cert.algebraic_Kernel8Ideal_Reference8Ideal := by
  intro m ρ m' ρ' hpre hagree
  refine ⟨_, Cert.Kernel8Ideal.GateW.run_read m ρ, ?_⟩
  refine (θ_run Cert.Reference8Ideal.defs _ _).mono (fun _ h c => ?_) (Cert.Reference8Ideal.Value.run (F := Ideal) m' ρ')
  obtain ⟨h0, hargs⟩ := h c
  obtain ⟨a0, a1⟩ := hagree c
  refine ⟨h0.trans ?_, hargs⟩
  rw [Cert.Reference8Ideal.Read.val_main_v8_eq, a0, a1]
  exact Cert.Kernel8Ideal.GateW.reference_eq _ _

/-- The feed-forward layer's first product, by the turned-over weights: the kernel ends, keeps its arguments and leaves every counter at zero. -/
theorem frame_kernel9 : Cert.quiescent_Kernel9 := fun m ρ _ => Cert.Kernel9.Gen.frame m ρ

/-- The same of the kernel over the reals. -/
theorem frame_ideal9 : Cert.quiescent_Kernel9Ideal := fun m ρ _ => Cert.Kernel9Ideal.Gen.frame m ρ

/-- The same of the reference. -/
theorem frame_reference9 : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- No constant of the kernel is named. -/
theorem preserves9 : Cert.preserves_Kernel9_Kernel9Ideal := trivial

/-- Over the reals the kernel's result is the reference's. -/
theorem algebraic9 : Cert.algebraic_Kernel9Ideal_Reference9Ideal := by
  intro m ρ m' ρ' hpre hagree
  refine ⟨_, Cert.Kernel9Ideal.GateFwd.run m ρ, ?_⟩
  refine (θ_run Cert.Reference9Ideal.defs _ _).mono (fun _ h c => ?_) (Cert.Reference9Ideal.Value.run (F := Ideal) m' ρ')
  obtain ⟨h0, hargs⟩ := h c
  obtain ⟨a0, a1⟩ := hagree c
  refine ⟨h0.trans ?_, hargs⟩
  rw [Cert.Reference9Ideal.Read.val_main_v4_eq, a0, a1]
  exact Cert.Kernel9Ideal.GateFwd.reference_eq _ _

/-- The output's product with its norms: the kernel ends, keeps its arguments and leaves every counter at zero. -/
theorem frame_kernel10 : Cert.quiescent_Kernel10 := fun m ρ _ => Cert.Kernel10.Gen.frame m ρ

/-- The same of the kernel over the reals. -/
theorem frame_ideal10 : Cert.quiescent_Kernel10Ideal := fun m ρ _ => Cert.Kernel10Ideal.Gen.frame m ρ

/-- The same of the reference. -/
theorem frame_reference10 : Cert.quiescent_Reference10Ideal := fun m ρ _ =>
  (θ_run Cert.Reference10Ideal.defs _ _).mono
    (fun r h => ⟨fun c => (h c).2.2.2, Idealize.ShloMosaic.sem_eq_zero_of_no_sems (by decide) r.2⟩)
    (Cert.Reference10Ideal.Value.run (F := Ideal) m ρ)

/-- No constant of the kernel is named. -/
theorem preserves10 : Cert.preserves_Kernel10_Kernel10Ideal := trivial

/-- Over the reals the kernel's result is the reference's. -/
theorem algebraic10 : Cert.algebraic_Kernel10Ideal_Reference10Ideal := by
  intro m ρ m' ρ' hpre hagree
  refine ⟨_, _, _, Cert.Kernel10Ideal.OutNorm.run m ρ, ?_⟩
  refine (θ_run Cert.Reference10Ideal.defs _ _).mono (fun _ h c => ?_) (Cert.Reference10Ideal.Value.run (F := Ideal) m' ρ')
  obtain ⟨h0, h1, h2, hargs⟩ := h c
  obtain ⟨a0, a1, a2, a3, a4⟩ := hagree c
  refine ⟨h0.trans ?_, h1.trans ?_, h2.trans ?_, hargs⟩
  · rw [Cert.Reference10Ideal.Read.val_main_v2_eq, a0, a1]
    exact Cert.Kernel10Ideal.OutNorm.reference5_eq _ _
  · rw [Cert.Reference10Ideal.Read.val_main_v15_eq, a0, a1, a2, a3]
    exact Cert.Kernel10Ideal.OutNorm.reference6_eq _ _ _ _
  · rw [Cert.Reference10Ideal.Read.val_main_v28_eq, a0, a1, a2, a3, a4]
    exact Cert.Kernel10Ideal.OutNorm.reference7_eq _ _ _ _ _

/-- The feed-forward layer's last product with its gated factor and its norms: the kernel ends, keeps its arguments and leaves every counter at zero. -/
theorem frame_kernel11 : Cert.quiescent_Kernel11 := fun m ρ _ => Cert.Kernel11.Gen.frame m ρ

/-- The same of the kernel over the reals. -/
theorem frame_ideal11 : Cert.quiescent_Kernel11Ideal := fun m ρ _ => Cert.Kernel11Ideal.Gen.frame m ρ

/-- The same of the reference. -/
theorem frame_reference11 : Cert.quiescent_Reference11Ideal := fun m ρ _ =>
  (θ_run Cert.Reference11Ideal.defs _ _).mono
    (fun r h => ⟨fun c => (h c).2.2.2.2, Idealize.ShloMosaic.sem_eq_zero_of_no_sems (by decide) r.2⟩)
    (Cert.Reference11Ideal.Value.run (F := Ideal) m ρ)

/-- No constant of the kernel is named. -/
theorem preserves11 : Cert.preserves_Kernel11_Kernel11Ideal := trivial

/-- Over the reals the kernel's result is the reference's. -/
theorem algebraic11 : Cert.algebraic_Kernel11Ideal_Reference11Ideal := by
  intro m ρ m' ρ' hpre hagree
  refine ⟨_, _, _, _, Cert.Kernel11Ideal.DownNorm.run m ρ, ?_⟩
  refine (θ_run Cert.Reference11Ideal.defs _ _).mono (fun _ h c => ?_) (Cert.Reference11Ideal.Value.run (F := Ideal) m' ρ')
  obtain ⟨h0, h1, h2, h3, hargs⟩ := h c
  obtain ⟨a0, a1, a2, a3, a4, a5⟩ := hagree c
  refine ⟨h0.trans ?_, h1.trans ?_, h2.trans ?_, h3.trans ?_, hargs⟩
  · rw [Cert.Reference11Ideal.Read.val_main_v5_eq, a0, a1, a2]
    exact Cert.Kernel11Ideal.DownNorm.reference6_eq _ _ _
  · rw [Cert.Reference11Ideal.Read.val_main_v18_eq, a0, a1, a2, a3, a4]
    exact Cert.Kernel11Ideal.DownNorm.reference7_eq _ _ _ _ _
  · rw [Cert.Reference11Ideal.Read.val_main_v31_eq, a0, a1, a2, a3, a4, a5]
    exact Cert.Kernel11Ideal.DownNorm.reference8_eq _ _ _ _ _ _
  · rw [Cert.Reference11Ideal.Read.val_main_v32_eq, a0, a1]
    exact Cert.Kernel11Ideal.DownNorm.reference9_eq _ _

/-- The step's first norm: the kernel ends, keeps its arguments and leaves every counter at zero. -/
theorem frame_kernel12 : Cert.quiescent_Kernel12 := fun m ρ _ => Cert.Kernel12.Gen.frame m ρ

/-- The same of the kernel over the reals. -/
theorem frame_ideal12 : Cert.quiescent_Kernel12Ideal := fun m ρ _ => Cert.Kernel12Ideal.Gen.frame m ρ

/-- The same of the reference. -/
theorem frame_reference12 : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

/-- No constant of the kernel is named. -/
theorem preserves12 : Cert.preserves_Kernel12_Kernel12Ideal := trivial

/-- Over the reals the kernel's result is the reference's. -/
theorem algebraic12 : Cert.algebraic_Kernel12Ideal_Reference12Ideal := by
  intro m ρ m' ρ' hpre hagree
  refine ⟨_, Cert.Kernel12Ideal.FirstNorm.run m ρ, ?_⟩
  refine (θ_run Cert.Reference12Ideal.defs _ _).mono (fun _ h c => ?_) (Cert.Reference12Ideal.Value.run (F := Ideal) m' ρ')
  obtain ⟨h0, hargs⟩ := h c
  obtain ⟨a0, a1⟩ := hagree c
  refine ⟨h0.trans ?_, hargs⟩
  rw [Cert.Reference12Ideal.Read.val_main_v12_eq, a0, a1]
  exact Cert.Kernel12Ideal.FirstNorm.reference_eq _ _

/-- The forget gates' columns of the input projection: the kernel ends, keeps its arguments and leaves every counter at zero. -/
theorem frame_kernel13 : Cert.quiescent_Kernel13 := fun m ρ _ => Cert.Kernel13.Gen.frame m ρ

/-- The same of the kernel over the reals. -/
theorem frame_ideal13 : Cert.quiescent_Kernel13Ideal := fun m ρ _ => Cert.Kernel13Ideal.Gen.frame m ρ

/-- The same of the reference. -/
theorem frame_reference13 : Cert.quiescent_Reference13Ideal := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

/-- No constant of the kernel is named. -/
theorem preserves13 : Cert.preserves_Kernel13_Kernel13Ideal := trivial

/-- Over the reals the kernel's result is the reference's. -/
theorem algebraic13 : Cert.algebraic_Kernel13Ideal_Reference13Ideal := by
  intro m ρ m' ρ' hpre hagree
  refine ⟨_, Cert.Kernel13Ideal.ForgetFwd.run m ρ, ?_⟩
  refine (θ_run Cert.Reference13Ideal.defs _ _).mono (fun _ h c => ?_) (Cert.Reference13Ideal.Value.run (F := Ideal) m' ρ')
  obtain ⟨h0, hargs⟩ := h c
  obtain ⟨a0, a1⟩ := hagree c
  refine ⟨h0.trans ?_, hargs⟩
  rw [Cert.Reference13Ideal.Read.val_main_v3_eq, a0, a1]
  exact Cert.Kernel13Ideal.ForgetFwd.reference_eq _ _

/-- The gradient of the forget gates' product for its weights: the kernel ends, keeps its arguments and leaves every counter at zero. -/
theorem frame_kernel14 : Cert.quiescent_Kernel14 := fun m ρ _ => Cert.Kernel14.Gen.frame m ρ

/-- The same of the kernel over the reals. -/
theorem frame_ideal14 : Cert.quiescent_Kernel14Ideal := fun m ρ _ => Cert.Kernel14Ideal.Gen.frame m ρ

/-- The same of the reference. -/
theorem frame_reference14 : Cert.quiescent_Reference14Ideal := fun m ρ _ =>
  (θ_run Cert.Reference14Ideal.defs _ _).mono
    (fun r h => ⟨fun c => (h c).2, Idealize.ShloMosaic.sem_eq_zero_of_no_sems (by decide) r.2⟩)
    (Cert.Reference14Ideal.Value.run (F := Ideal) m ρ)

/-- No constant of the kernel is named. -/
theorem preserves14 : Cert.preserves_Kernel14_Kernel14Ideal := trivial

/-- Over the reals the kernel's result is the reference's. -/
theorem algebraic14 : Cert.algebraic_Kernel14Ideal_Reference14Ideal := by
  intro m ρ m' ρ' hpre hagree
  refine ⟨_, Cert.Kernel14Ideal.ForgetW.run_read m ρ, ?_⟩
  refine (θ_run Cert.Reference14Ideal.defs _ _).mono (fun _ h c => ?_) (Cert.Reference14Ideal.Value.run (F := Ideal) m' ρ')
  obtain ⟨h0, hargs⟩ := h c
  obtain ⟨a0, a1⟩ := hagree c
  refine ⟨h0.trans ?_, hargs⟩
  rw [Cert.Reference14Ideal.Read.val_main_v8_eq, a0, a1]
  exact Cert.Kernel14Ideal.ForgetW.reference_eq _ _

/-- The gradient of the forget gates' product for its input: the kernel ends, keeps its arguments and leaves every counter at zero. -/
theorem frame_kernel15 : Cert.quiescent_Kernel15 := fun m ρ _ => Cert.Kernel15.Gen.frame m ρ

/-- The same of the kernel over the reals. -/
theorem frame_ideal15 : Cert.quiescent_Kernel15Ideal := fun m ρ _ => Cert.Kernel15Ideal.Gen.frame m ρ

/-- The same of the reference. -/
theorem frame_reference15 : Cert.quiescent_Reference15Ideal := fun m ρ _ =>
  (θ_run Cert.Reference15Ideal.defs _ _).mono
    (fun r h => ⟨fun c => (h c).2, Idealize.ShloMosaic.sem_eq_zero_of_no_sems (by decide) r.2⟩)
    (Cert.Reference15Ideal.Value.run (F := Ideal) m ρ)

/-- No constant of the kernel is named. -/
theorem preserves15 : Cert.preserves_Kernel15_Kernel15Ideal := trivial

/-- Over the reals the kernel's result is the reference's. -/
theorem algebraic15 : Cert.algebraic_Kernel15Ideal_Reference15Ideal := by
  intro m ρ m' ρ' hpre hagree
  refine ⟨_, Cert.Kernel15Ideal.ForgetX.run m ρ, ?_⟩
  refine (θ_run Cert.Reference15Ideal.defs _ _).mono (fun _ h c => ?_) (Cert.Reference15Ideal.Value.run (F := Ideal) m' ρ')
  obtain ⟨h0, hargs⟩ := h c
  obtain ⟨a0, a1⟩ := hagree c
  refine ⟨h0.trans ?_, hargs⟩
  rw [Cert.Reference15Ideal.Read.val_main_v6_eq, a0, a1]
  exact Cert.Kernel15Ideal.ForgetX.reference_eq _ _

/-- The gradient of the gated factor for the feed-forward layer's first two products: the kernel ends, keeps its arguments and leaves every counter at zero. -/
theorem frame_kernel16 : Cert.quiescent_Kernel16 := fun m ρ _ => Cert.Kernel16.Gen.frame m ρ

/-- The same of the kernel over the reals. -/
theorem frame_ideal16 : Cert.quiescent_Kernel16Ideal := fun m ρ _ => Cert.Kernel16Ideal.Gen.frame m ρ

/-- The same of the reference. -/
theorem frame_reference16 : Cert.quiescent_Reference16Ideal := fun m ρ _ =>
  (θ_run Cert.Reference16Ideal.defs _ _).mono
    (fun r h => ⟨fun c => (h c).2.2, Idealize.ShloMosaic.sem_eq_zero_of_no_sems (by decide) r.2⟩)
    (Cert.Reference16Ideal.Value.run (F := Ideal) m ρ)

/-- No constant of the kernel is named. -/
theorem preserves16 : Cert.preserves_Kernel16_Kernel16Ideal := trivial

/-- The frame of the kernel over the reals on the arguments that the claim about the values takes. -/
theorem frame_ideal16_finite : Cert.quiescent_Kernel16Ideal_pre_finite16 := fun m ρ _ => Cert.Kernel16Ideal.Gen.frame m ρ

/-- The reference's frame on these arguments. -/
theorem frame_reference16_finite : Cert.quiescent_Reference16Ideal_pre_finite16 := fun m ρ _ => frame_reference16 m ρ trivial

/-- Over the reals the kernel's two results are the reference's, when the second product and the gradient are finite. -/
theorem algebraic16 : Cert.algebraic_Kernel16Ideal_Reference16Ideal_pre_finite16 := by
  intro m ρ m' ρ' hpre hagree
  refine ⟨_, _, Cert.Kernel16Ideal.Value.run (F := Ideal) m ρ, ?_⟩
  refine (θ_run Cert.Reference16Ideal.defs _ _).mono (fun _ h c => ?_) (Cert.Reference16Ideal.Value.run (F := Ideal) m' ρ')
  obtain ⟨h0, h1, hargs⟩ := h c
  obtain ⟨a0, a1, a2⟩ := hagree c
  refine ⟨h0.trans ?_, h1.trans ?_, hargs⟩
  · rw [Cert.Reference16Ideal.Read.val_main_v8_eq, a0, a1, a2]
    exact Cert.Kernel16Ideal.SwigluBwd.reference8_eq _ _ _ (hpre c)
  · rw [Cert.Reference16Ideal.Read.val_main_v9_eq, a0, a2]
    exact Cert.Kernel16Ideal.SwigluBwd.reference9_eq _ _

/-- The optimiser's step for the weights of one product, of both layers: the kernel ends, keeps its arguments and leaves every counter at zero. -/
theorem frame_kernel17 : Cert.quiescent_Kernel17 := fun m ρ _ => Cert.Kernel17.Gen.frame m ρ

/-- The same of the kernel over the reals. -/
theorem frame_ideal17 : Cert.quiescent_Kernel17Ideal := fun m ρ _ => Cert.Kernel17Ideal.Gen.frame m ρ

/-- The same of the reference. -/
theorem frame_reference17 : Cert.quiescent_Reference17Ideal := fun m ρ _ =>
  (θ_run Cert.Reference17Ideal.defs _ _).mono
    (fun r h => ⟨fun c => (h c).2.2.2.2, Idealize.ShloMosaic.sem_eq_zero_of_no_sems (by decide) r.2⟩)
    (Cert.Reference17Ideal.Value.run (F := Ideal) m ρ)

/-- The two named constants have the values the kernel over the reals gives them. -/
theorem preserves17 : Cert.preserves_Kernel17_Kernel17Ideal :=
  ⟨IdealRules.named_const.statement Cert.Kernel17Ideal.κ "c1" .f32 0x3FC48605#32 (((5463681 / 8388608)⁻¹ : ℝ) : EReal) rfl,
    IdealRules.named_const.statement Cert.Kernel17Ideal.κ "c2" .f32 0x42C8E6D3#32 (((2672307 / 268435456)⁻¹ : ℝ) : EReal) rfl⟩

/-- Over the reals the kernel's four results are the reference's. -/
theorem algebraic17 : Cert.algebraic_Kernel17Ideal_Reference17Ideal := by
  intro m ρ m' ρ' hpre hagree
  refine ⟨_, _, _, _, Cert.Kernel17Ideal.AdamLayers.run m ρ, ?_⟩
  refine (θ_run Cert.Reference17Ideal.defs _ _).mono (fun _ h c => ?_) (Cert.Reference17Ideal.Value.run (F := Ideal) m' ρ')
  obtain ⟨h0, h1, h2, h3, hargs⟩ := h c
  obtain ⟨a0, a1, a2, a3, a4⟩ := hagree c
  refine ⟨h0.trans ?_, h1.trans ?_, h2.trans ?_, h3.trans ?_, hargs⟩
  · rw [Cert.Reference17Ideal.Read.val_main_v2_eq, a1, a2]
    exact Cert.Kernel17Ideal.AdamLayers.reference2_eq _ _
  · rw [Cert.Reference17Ideal.Read.val_main_v26_eq, a0, a1, a2, a3, a4]
    exact Cert.Kernel17Ideal.AdamLayers.reference26_eq _ _ _ _ _
  · rw [Cert.Reference17Ideal.Read.val_main_v7_eq, a1, a2, a3]
    exact Cert.Kernel17Ideal.AdamLayers.reference7_eq _ _ _
  · rw [Cert.Reference17Ideal.Read.val_main_v13_eq, a1, a2, a4]
    exact Cert.Kernel17Ideal.AdamLayers.reference13_eq _ _ _

/-- The optimiser's step for the spatial gating's weights: the kernel ends, keeps its arguments and leaves every counter at zero. -/
theorem frame_kernel18 : Cert.quiescent_Kernel18 := fun m ρ _ => Cert.Kernel18.Gen.frame m ρ

/-- The same of the kernel over the reals. -/
theorem frame_ideal18 : Cert.quiescent_Kernel18Ideal := fun m ρ _ => Cert.Kernel18Ideal.Gen.frame m ρ

/-- The same of the reference. -/
theorem frame_reference18 : Cert.quiescent_Reference18Ideal := fun m ρ _ =>
  (θ_run Cert.Reference18Ideal.defs _ _).mono
    (fun r h => ⟨fun c => (h c).2.2.2, Idealize.ShloMosaic.sem_eq_zero_of_no_sems (by decide) r.2⟩)
    (Cert.Reference18Ideal.Value.run (F := Ideal) m ρ)

/-- The two named constants have the values the kernel over the reals gives them. -/
theorem preserves18 : Cert.preserves_Kernel18_Kernel18Ideal :=
  ⟨IdealRules.named_const.statement Cert.Kernel18Ideal.κ "c1" .f32 0x3FC48605#32 (((5463681 / 8388608)⁻¹ : ℝ) : EReal) rfl,
    IdealRules.named_const.statement Cert.Kernel18Ideal.κ "c2" .f32 0x42C8E6D3#32 (((2672307 / 268435456)⁻¹ : ℝ) : EReal) rfl⟩

/-- Over the reals the kernel's three results are the reference's. -/
theorem algebraic18 : Cert.algebraic_Kernel18Ideal_Reference18Ideal := by
  intro m ρ m' ρ' hpre hagree
  refine ⟨_, _, _, Cert.Kernel18Ideal.Value.run (F := Ideal) m ρ, ?_⟩
  refine (θ_run Cert.Reference18Ideal.defs _ _).mono (fun _ h c => ?_) (Cert.Reference18Ideal.Value.run (F := Ideal) m' ρ')
  obtain ⟨h0, h1, h2, hargs⟩ := h c
  obtain ⟨a0, a1, a2, a3⟩ := hagree c
  refine ⟨h0.trans ?_, h1.trans ?_, h2.trans ?_, hargs⟩
  · rw [Cert.Reference18Ideal.Read.val_main_v23_eq, a0, a1, a2, a3]
    exact Cert.Kernel18Ideal.AdamSmall.reference23_eq _ _ _ _
  · rw [Cert.Reference18Ideal.Read.val_main_v4_eq, a1, a2]
    exact Cert.Kernel18Ideal.AdamSmall.reference4_eq _ _
  · rw [Cert.Reference18Ideal.Read.val_main_v10_eq, a1, a3]
    exact Cert.Kernel18Ideal.AdamSmall.reference10_eq _ _

end Cert.ProductClaims

end
-- ==== Proof.lean ====
module

public import proofs.«01_k».proof.Defs
public import proofs.«01_k».proof.Proof.Claims
public import proofs.«01_k».proof.Proof.Products
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Pre_finite16
public import proofs.«01_k».proof.Proof.Gen.Pre_finite
public import Idealize.ShloMosaic.Adequacy
public import Idealize.ShloMosaic.Init

@[expose] public section

noncomputable section

namespace Cert.Proof

open Idealize.ShloMosaic Idealize.SL.Sem

/-- For each program: the frames of the kernel, of the kernel over the reals and of the reference; the constants; the value
    claim. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Pre_finite.Gen.facts,
    Cert.Pre_finite16.Gen.facts,
    AttnClaims.frame_kernel, AttnClaims.frame_ideal, AttnClaims.frame_ideal_finite, AttnClaims.frame_reference,
    AttnClaims.frame_reference_finite,
    ProductClaims.frame_kernel2, ProductClaims.frame_ideal2, ProductClaims.frame_reference2,
    ProductClaims.frame_kernel3, ProductClaims.frame_ideal3, ProductClaims.frame_reference3,
    ProductClaims.frame_kernel4, ProductClaims.frame_ideal4, ProductClaims.frame_reference4,
    ProductClaims.frame_kernel5, ProductClaims.frame_ideal5, ProductClaims.frame_reference5,
    ProductClaims.frame_kernel6, ProductClaims.frame_ideal6, ProductClaims.frame_reference6,
    ProductClaims.frame_kernel7, ProductClaims.frame_ideal7, ProductClaims.frame_reference7,
    ProductClaims.frame_kernel8, ProductClaims.frame_ideal8, ProductClaims.frame_reference8,
    ProductClaims.frame_kernel9, ProductClaims.frame_ideal9, ProductClaims.frame_reference9,
    ProductClaims.frame_kernel10, ProductClaims.frame_ideal10, ProductClaims.frame_reference10,
    ProductClaims.frame_kernel11, ProductClaims.frame_ideal11, ProductClaims.frame_reference11,
    ProductClaims.frame_kernel12, ProductClaims.frame_ideal12, ProductClaims.frame_reference12,
    ProductClaims.frame_kernel13, ProductClaims.frame_ideal13, ProductClaims.frame_reference13,
    ProductClaims.frame_kernel14, ProductClaims.frame_ideal14, ProductClaims.frame_reference14,
    ProductClaims.frame_kernel15, ProductClaims.frame_ideal15, ProductClaims.frame_reference15,
    ProductClaims.frame_kernel16, ProductClaims.frame_ideal16, ProductClaims.frame_ideal16_finite, ProductClaims.frame_reference16,
    ProductClaims.frame_reference16_finite,
    ProductClaims.frame_kernel17, ProductClaims.frame_ideal17, ProductClaims.frame_reference17,
    ProductClaims.frame_kernel18, ProductClaims.frame_ideal18, ProductClaims.frame_reference18,
    AttnClaims.preserves, AttnClaims.algebraic,
    ProductClaims.preserves2, ProductClaims.algebraic2,
    ProductClaims.preserves3, ProductClaims.algebraic3,
    ProductClaims.preserves4, ProductClaims.algebraic4,
    ProductClaims.preserves5, ProductClaims.algebraic5,
    ProductClaims.preserves6, ProductClaims.algebraic6,
    ProductClaims.preserves7, ProductClaims.algebraic7,
    ProductClaims.preserves8, ProductClaims.algebraic8,
    ProductClaims.preserves9, ProductClaims.algebraic9,
    ProductClaims.preserves10, ProductClaims.algebraic10,
    ProductClaims.preserves11, ProductClaims.algebraic11,
    ProductClaims.preserves12, ProductClaims.algebraic12,
    ProductClaims.preserves13, ProductClaims.algebraic13,
    ProductClaims.preserves14, ProductClaims.algebraic14,
    ProductClaims.preserves15, ProductClaims.algebraic15,
    ProductClaims.preserves16, ProductClaims.algebraic16,
    ProductClaims.preserves17, ProductClaims.algebraic17,
    ProductClaims.preserves18, ProductClaims.algebraic18⟩

end Cert.Proof

end
